-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_keys [hPre_finite_keys : Cert.Pre_finite_keys.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_keys.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_keys [hPre_finite_keys : Cert.Pre_finite_keys.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_keys.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Kernel6Ideal_pre_finite_keys [hKernel6Ideal : Cert.Kernel6Ideal.Facts] [hPre_finite_keys : Cert.Pre_finite_keys.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_keys m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Reference6Ideal_pre_finite_keys [hReference6Ideal : Cert.Reference6Ideal.Facts] [hPre_finite_keys : Cert.Pre_finite_keys.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_keys m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def preserves_Kernel_KernelIdeal : Prop :=
  IdealRules.named_const.Statement Cert.KernelIdeal.κ "inv_qk" .f32 0x3C2AAAAB#32 ((1 / 96 : ℝ) : EReal)
  ∧ IdealRules.named_const.Statement Cert.KernelIdeal.κ "qk_scale" .f32 0x3E16C740#32 (((Real.sqrt 96)⁻¹ * (Real.log 2)⁻¹ : ℝ) : EReal)

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v24) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v260) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "norm_floor_sq" .f32 0x179ABE15#32 ((5316911940649 / 5316911983139663491615228241121378304 : ℝ) : EReal)

def algebraic_Kernel6Ideal_Reference6Ideal_pre_finite_keys [hKernel6Ideal : Cert.Kernel6Ideal.Facts] [hReference6Ideal : Cert.Reference6Ideal.Facts] [hPre_finite_keys : Cert.Pre_finite_keys.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_keys m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v41_0)) (v1 : (c : Dev Cert.Kernel6Ideal.nD) → Buf (Elt Ideal) ((c.tc : Thread Cert.Kernel6Ideal.nD Cert.Kernel6Ideal.τ).loc Cert.Kernel6Ideal.main_v41_1)) (v2 : (c : Dev Cert.Kernel6Ideal.nD) → Buf (Elt Ideal) ((c.tc : Thread Cert.Kernel6Ideal.nD Cert.Kernel6Ideal.τ).loc Cert.Kernel6Ideal.main_v41_2)) (v3 : (c : Dev Cert.Kernel6Ideal.nD) → Buf (Elt Ideal) ((c.tc : Thread Cert.Kernel6Ideal.nD Cert.Kernel6Ideal.τ).loc Cert.Kernel6Ideal.main_v41_3)) (v4 : (c : Dev Cert.Kernel6Ideal.nD) → Buf (Elt Ideal) ((c.tc : Thread Cert.Kernel6Ideal.nD Cert.Kernel6Ideal.τ).loc Cert.Kernel6Ideal.main_v41_4)) (v5 : (c : Dev Cert.Kernel6Ideal.nD) → Buf (Elt Ideal) ((c.tc : Thread Cert.Kernel6Ideal.nD Cert.Kernel6Ideal.τ).loc Cert.Kernel6Ideal.main_v41_5)) (v6 : (c : Dev Cert.Kernel6Ideal.nD) → Buf (Elt Ideal) ((c.tc : Thread Cert.Kernel6Ideal.nD Cert.Kernel6Ideal.τ).loc Cert.Kernel6Ideal.main_v41_6)) (v7 : (c : Dev Cert.Kernel6Ideal.nD) → Buf (Elt Ideal) ((c.tc : Thread Cert.Kernel6Ideal.nD Cert.Kernel6Ideal.τ).loc Cert.Kernel6Ideal.main_v41_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41_0) = v0 c
          ∧ r.2.mem ((c.tc : Thread Cert.Kernel6Ideal.nD Cert.Kernel6Ideal.τ).loc Cert.Kernel6Ideal.main_v41_1) = v1 c
          ∧ r.2.mem ((c.tc : Thread Cert.Kernel6Ideal.nD Cert.Kernel6Ideal.τ).loc Cert.Kernel6Ideal.main_v41_2) = v2 c
          ∧ r.2.mem ((c.tc : Thread Cert.Kernel6Ideal.nD Cert.Kernel6Ideal.τ).loc Cert.Kernel6Ideal.main_v41_3) = v3 c
          ∧ r.2.mem ((c.tc : Thread Cert.Kernel6Ideal.nD Cert.Kernel6Ideal.τ).loc Cert.Kernel6Ideal.main_v41_4) = v4 c
          ∧ r.2.mem ((c.tc : Thread Cert.Kernel6Ideal.nD Cert.Kernel6Ideal.τ).loc Cert.Kernel6Ideal.main_v41_5) = v5 c
          ∧ r.2.mem ((c.tc : Thread Cert.Kernel6Ideal.nD Cert.Kernel6Ideal.τ).loc Cert.Kernel6Ideal.main_v41_6) = v6 c
          ∧ r.2.mem ((c.tc : Thread Cert.Kernel6Ideal.nD Cert.Kernel6Ideal.τ).loc Cert.Kernel6Ideal.main_v41_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v160) = v0 c
          ∧ r.2.mem ((c.tc : Thread Cert.Reference6Ideal.nD Cert.Reference6Ideal.τ).loc Cert.Reference6Ideal.main_v161) = v1 c
          ∧ r.2.mem ((c.tc : Thread Cert.Reference6Ideal.nD Cert.Reference6Ideal.τ).loc Cert.Reference6Ideal.main_v162) = v2 c
          ∧ r.2.mem ((c.tc : Thread Cert.Reference6Ideal.nD Cert.Reference6Ideal.τ).loc Cert.Reference6Ideal.main_v165) = v3 c
          ∧ r.2.mem ((c.tc : Thread Cert.Reference6Ideal.nD Cert.Reference6Ideal.τ).loc Cert.Reference6Ideal.main_v169) = v4 c
          ∧ r.2.mem ((c.tc : Thread Cert.Reference6Ideal.nD Cert.Reference6Ideal.τ).loc Cert.Reference6Ideal.main_v175) = v5 c
          ∧ r.2.mem ((c.tc : Thread Cert.Reference6Ideal.nD Cert.Reference6Ideal.τ).loc Cert.Reference6Ideal.main_v176) = v6 c
          ∧ r.2.mem ((c.tc : Thread Cert.Reference6Ideal.nD Cert.Reference6Ideal.τ).loc Cert.Reference6Ideal.main_v178) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_gains : Cert.Pre_finite_gains.Facts) (hPre_finite_keys : Cert.Pre_finite_keys.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_keys (hKernel6Ideal := hKernel6Ideal) (hPre_finite_keys := hPre_finite_keys)
    ∧ quiescent_Reference6Ideal (hReference6Ideal := hReference6Ideal)
    ∧ quiescent_Reference6Ideal_pre_finite_keys (hReference6Ideal := hReference6Ideal) (hPre_finite_keys := hPre_finite_keys)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_keys (hKernel6Ideal := hKernel6Ideal) (hReference6Ideal := hReference6Ideal) (hPre_finite_keys := hPre_finite_keys)
-- ==== Pre_finite_gains.lean ====
abbrev S8x2048x672 : Shape := ⟨3, ![8, 2048, 672]⟩
abbrev S8x2048 : Shape := ⟨2, ![8, 2048]⟩
abbrev S4x384 : Shape := ⟨2, ![4, 384]⟩
abbrev S4x384x768 : Shape := ⟨3, ![4, 384, 768]⟩
abbrev S4x256 : Shape := ⟨2, ![4, 256]⟩
abbrev S4x256x1024 : Shape := ⟨3, ![4, 256, 1024]⟩
abbrev S4x96 : Shape := ⟨2, ![4, 96]⟩
abbrev S_ : Shape := ⟨0, ![]⟩

class Facts : Prop where
  bcast_S_S4x96 : S_.BroadcastsInDim S4x96 (![] : Fin 0 → Fin S4x96.rank)

variable [Facts]

def fn {F : FTy → Type} [FloatOps F] (main_arg0 : FVec F S8x2048x672 .f32) (main_arg1 : IVec S8x2048 32) (main_arg2 : FVec F S4x384 .f32) (main_arg3 : FVec F S4x384x768 .f32) (main_arg4 : FVec F S4x256 .f32) (main_arg5 : FVec F S4x256x1024 .f32) (main_arg6 : FVec F S4x96 .f32) (main_arg7 : FVec F S4x96 .f32) : IVec S4x96 1 :=
  let main_v0 : FVec F S4x96 .f32 := Host.absf main_arg6
  let main_cst : FVec F S_ .f32 := constant S_ .f32 0x7F800000#32
  let main_v1 : FVec F S4x96 .f32 := broadcastInDim S4x96 ![] bcast_S_S4x96 main_cst
  let main_v2 : IVec S4x96 1 := cmpf .olt main_v0 main_v1
  let main_v3 : FVec F S4x96 .f32 := Host.absf main_arg7
  let main_cst_0 : FVec F S_ .f32 := constant S_ .f32 0x7F800000#32
  let main_v4 : FVec F S4x96 .f32 := broadcastInDim S4x96 ![] bcast_S_S4x96 main_cst_0
  let main_v5 : IVec S4x96 1 := cmpf .olt main_v3 main_v4
  let main_v6 : IVec S4x96 1 := andi main_v2 main_v5
  main_v6
-- ==== Pre_finite_keys.lean ====
abbrev S8x2048x1920 : Shape := ⟨3, ![8, 2048, 1920]⟩
abbrev S16384x128 : Shape := ⟨2, ![16384, 128]⟩
abbrev S8x2048x512 : Shape := ⟨3, ![8, 2048, 512]⟩
abbrev S4x1920 : Shape := ⟨2, ![4, 1920]⟩
abbrev S4x2x512 : Shape := ⟨3, ![4, 2, 512]⟩
abbrev S4x2x64x512 : Shape := ⟨4, ![4, 2, 64, 512]⟩
abbrev S4x128x512 : Shape := ⟨3, ![4, 128, 512]⟩
abbrev S4x512 : Shape := ⟨2, ![4, 512]⟩
abbrev S4x8x64 : Shape := ⟨3, ![4, 8, 64]⟩
abbrev S3x512 : Shape := ⟨2, ![3, 512]⟩
abbrev S3x32x512 : Shape := ⟨3, ![3, 32, 512]⟩
abbrev S1x8x64 : Shape := ⟨3, ![1, 8, 64]⟩
abbrev S8x64 : Shape := ⟨2, ![8, 64]⟩
abbrev S512 : Shape := ⟨1, ![512]⟩
abbrev S8x2048x1024 : Shape := ⟨3, ![8, 2048, 1024]⟩
abbrev S_ : Shape := ⟨0, ![]⟩
abbrev S1x1024 : Shape := ⟨2, ![1, 1024]⟩
abbrev S1024 : Shape := ⟨1, ![1024]⟩
abbrev S1x1x1024 : Shape := ⟨3, ![1, 1, 1024]⟩
abbrev S1x512 : Shape := ⟨2, ![1, 512]⟩

class Facts : Prop where
  slices_S4x8x64_S1x8x64_3_0_0 : S4x8x64.Slices ![3, 0, 0] S1x8x64
  shapeCasts_S1x8x64_S8x64 : S1x8x64.ShapeCasts S8x64
  shapeCasts_S8x64_S512 : S8x64.ShapeCasts S512
  slices_S8x2048x1920_S8x2048x1024_0_0_0 : S8x2048x1920.Slices ![0, 0, 0] S8x2048x1024
  bcast_S_S8x2048x1024 : S_.BroadcastsInDim S8x2048x1024 (![] : Fin 0 → Fin S8x2048x1024.rank)
  slices_S4x1920_S1x1024_3_0 : S4x1920.Slices ![3, 0] S1x1024
  shapeCasts_S1x1024_S1024 : S1x1024.ShapeCasts S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  slices_S4x512_S1x512_3_0 : S4x512.Slices ![3, 0] S1x512
  shapeCasts_S1x512_S512 : S1x512.ShapeCasts S512
  concatenates_S512_S512_S1024_d0 : Shape.Concatenates [S512, S512] S1024 0

variable [Facts]

def fn_part1 {F : FTy → Type} [FloatOps F] (main_v2 : FVec F S512 .f32) (main_v14 : IVec S8x2048x1024 1) (main_v20 : FVec F S1024 .f32) (main_cst_1 : FVec F S_ .f32) : IVec S8x2048x1024 1 :=
  let main_v21 : FVec F S1024 .f32 := broadcastInDim S1024 ![] bcast_S_S1024 main_cst_1
  let main_v22 : IVec S1024 1 := cmpf .olt main_v20 main_v21
  let main_v23 : IVec S1x1x1024 1 := broadcastInDim S1x1x1024 ![2] bcast_S1024_S1x1x1024_2 main_v22
  let main_v24 : IVec S8x2048x1024 1 := broadcastInDim S8x2048x1024 ![0, 1, 2] bcast_S1x1x1024_S8x2048x1024_0_1_2 main_v23
  let main_v25 : IVec S8x2048x1024 1 := andi main_v14 main_v24
  let main_v26 : FVec F S1024 .f32 := (fun a b => concatenate S1024 0 [⟨S512, a⟩, ⟨S512, b⟩] concatenates_S512_S512_S1024_d0) main_v2 main_v2
  let main_v27 : FVec F S1024 .f32 := Host.absf main_v26
  let main_cst_2 : FVec F S_ .f32 := constant S_ .f32 0x7F800000#32
  let main_v28 : FVec F S1024 .f32 := broadcastInDim S1024 ![] bcast_S_S1024 main_cst_2
  let main_v29 : IVec S1024 1 := cmpf .olt main_v27 main_v28
  let main_v30 : IVec S1x1x1024 1 := broadcastInDim S1x1x1024 ![2] bcast_S1024_S1x1x1024_2 main_v29
  let main_v31 : IVec S8x2048x1024 1 := broadcastInDim S8x2048x1024 ![0, 1, 2] bcast_S1x1x1024_S8x2048x1024_0_1_2 main_v30
  let main_v32 : IVec S8x2048x1024 1 := andi main_v25 main_v31
  main_v32

def fn {F : FTy → Type} [FloatOps F] (main_arg0 : FVec F S8x2048x1920 .f32) (main_arg1 : FVec F S16384x128 .f32) (main_arg2 : FVec F S8x2048x512 .f32) (main_arg3 : FVec F S4x1920 .f32) (main_arg4 : FVec F S4x2x512 .f32) (main_arg5 : FVec F S4x2x64x512 .f32) (main_arg6 : FVec F S4x2x512 .f32) (main_arg7 : FVec F S4x2x64x512 .f32) (main_arg8 : FVec F S4x128x512 .f32) (main_arg9 : FVec F S4x512 .f32) (main_arg10 : FVec F S4x512 .f32) (main_arg11 : FVec F S4x8x64 .f32) (main_arg12 : FVec F S3x512 .f32) (main_arg13 : FVec F S3x32x512 .f32) : IVec S8x2048x1024 1 :=
  let main_v0 : FVec F S1x8x64 .f32 := (extractStridedSlice S1x8x64 ![3, 0, 0] · slices_S4x8x64_S1x8x64_3_0_0) main_arg11
  let main_v1 : FVec F S8x64 .f32 := shapeCast S8x64 main_v0 shapeCasts_S1x8x64_S8x64
  let main_v2 : FVec F S512 .f32 := shapeCast S512 main_v1 shapeCasts_S8x64_S512
  let main_v3 : FVec F S8x2048x1024 .f32 := (extractStridedSlice S8x2048x1024 ![0, 0, 0] · slices_S8x2048x1920_S8x2048x1024_0_0_0) main_arg0
  let main_v4 : FVec F S8x2048x1024 .f32 := Host.absf main_v3
  let main_cst : FVec F S_ .f32 := constant S_ .f32 0x7F800000#32
  let main_v5 : FVec F S8x2048x1024 .f32 := broadcastInDim S8x2048x1024 ![] bcast_S_S8x2048x1024 main_cst
  let main_v6 : IVec S8x2048x1024 1 := cmpf .olt main_v4 main_v5
  let main_v7 : FVec F S1x1024 .f32 := (extractStridedSlice S1x1024 ![3, 0] · slices_S4x1920_S1x1024_3_0) main_arg3
  let main_v8 : FVec F S1024 .f32 := shapeCast S1024 main_v7 shapeCasts_S1x1024_S1024
  let main_v9 : FVec F S1024 .f32 := Host.absf main_v8
  let main_cst_0 : FVec F S_ .f32 := constant S_ .f32 0x7F800000#32
  let main_v10 : FVec F S1024 .f32 := broadcastInDim S1024 ![] bcast_S_S1024 main_cst_0
  let main_v11 : IVec S1024 1 := cmpf .olt main_v9 main_v10
  let main_v12 : IVec S1x1x1024 1 := broadcastInDim S1x1x1024 ![2] bcast_S1024_S1x1x1024_2 main_v11
  let main_v13 : IVec S8x2048x1024 1 := broadcastInDim S8x2048x1024 ![0, 1, 2] bcast_S1x1x1024_S8x2048x1024_0_1_2 main_v12
  let main_v14 : IVec S8x2048x1024 1 := andi main_v6 main_v13
  let main_v15 : FVec F S1x512 .f32 := (extractStridedSlice S1x512 ![3, 0] · slices_S4x512_S1x512_3_0) main_arg9
  let main_v16 : FVec F S512 .f32 := shapeCast S512 main_v15 shapeCasts_S1x512_S512
  let main_v17 : FVec F S1x512 .f32 := (extractStridedSlice S1x512 ![3, 0] · slices_S4x512_S1x512_3_0) main_arg10
  let main_v18 : FVec F S512 .f32 := shapeCast S512 main_v17 shapeCasts_S1x512_S512
  let main_v19 : FVec F S1024 .f32 := (fun a b => concatenate S1024 0 [⟨S512, a⟩, ⟨S512, b⟩] concatenates_S512_S512_S1024_d0) main_v16 main_v18
  let main_v20 : FVec F S1024 .f32 := Host.absf main_v19
  let main_cst_1 : FVec F S_ .f32 := constant S_ .f32 0x7F800000#32
  fn_part1 (F := F) main_v2 main_v14 main_v20 main_cst_1
-- ==== Kernel.lean ====
abbrev S8x2048x672 : Shape := ⟨3, ![8, 2048, 672]⟩
abbrev S8x2048 : Shape := ⟨2, ![8, 2048]⟩
abbrev S4x384 : Shape := ⟨2, ![4, 384]⟩
abbrev S4x384x768 : Shape := ⟨3, ![4, 384, 768]⟩
abbrev S4x256 : Shape := ⟨2, ![4, 256]⟩
abbrev S4x256x1024 : Shape := ⟨3, ![4, 256, 1024]⟩
abbrev S4x96 : Shape := ⟨2, ![4, 96]⟩
abbrev S16 : Shape := ⟨1, ![16]⟩
abbrev S_ : Shape := ⟨0, ![]⟩
abbrev S8x2048x1 : Shape := ⟨3, ![8, 2048, 1]⟩
abbrev S1x1x16 : Shape := ⟨3, ![1, 1, 16]⟩
abbrev S8x2048x16 : Shape := ⟨3, ![8, 2048, 16]⟩
abbrev S8x2048x64 : Shape := ⟨3, ![8, 2048, 64]⟩
abbrev S8x2048x32 : Shape := ⟨3, ![8, 2048, 32]⟩
abbrev S8x2048x128 : Shape := ⟨3, ![8, 2048, 128]⟩
abbrev S4x384x8x96 : Shape := ⟨4, ![4, 384, 8, 96]⟩
abbrev S4x256x8x128 : Shape := ⟨4, ![4, 256, 8, 128]⟩
abbrev S4x1x384 : Shape := ⟨3, ![4, 1, 384]⟩
abbrev S4x384x8x128 : Shape := ⟨4, ![4, 384, 8, 128]⟩
abbrev S4x384x1024 : Shape := ⟨3, ![4, 384, 1024]⟩
abbrev S4x384x8x64 : Shape := ⟨4, ![4, 384, 8, 64]⟩
abbrev S4x384x8x16 : Shape := ⟨4, ![4, 384, 8, 16]⟩
abbrev S4x1x256 : Shape := ⟨3, ![4, 1, 256]⟩
abbrev S4x256x8x64 : Shape := ⟨4, ![4, 256, 8, 64]⟩
abbrev S4x256x2048 : Shape := ⟨3, ![4, 256, 2048]⟩
abbrev S4x128 : Shape := ⟨2, ![4, 128]⟩
abbrev S4x1x128 : Shape := ⟨3, ![4, 1, 128]⟩
abbrev S4x64 : Shape := ⟨2, ![4, 64]⟩
abbrev S4x16 : Shape := ⟨2, ![4, 16]⟩
abbrev S8x2048x768 : Shape := ⟨3, ![8, 2048, 768]⟩
abbrev S8x8x2048x128 : Shape := ⟨4, ![8, 8, 2048, 128]⟩
abbrev S1x512x768 : Shape := ⟨3, ![1, 512, 768]⟩
abbrev S1x512x128 : Shape := ⟨3, ![1, 512, 128]⟩
abbrev S1x1x384 : Shape := ⟨3, ![1, 1, 384]⟩
abbrev S1x384x1024 : Shape := ⟨3, ![1, 384, 1024]⟩
abbrev S1x1x256 : Shape := ⟨3, ![1, 1, 256]⟩
abbrev S1x256x2048 : Shape := ⟨3, ![1, 256, 2048]⟩
abbrev S1x1x128 : Shape := ⟨3, ![1, 1, 128]⟩
abbrev S1x8x512x128 : Shape := ⟨4, ![1, 8, 512, 128]⟩
abbrev S512x768 : Shape := ⟨2, ![512, 768]⟩
abbrev S512x128 : Shape := ⟨2, ![512, 128]⟩
abbrev S512x384 : Shape := ⟨2, ![512, 384]⟩
abbrev S512x256 : Shape := ⟨2, ![512, 256]⟩
abbrev S1x384 : Shape := ⟨2, ![1, 384]⟩
abbrev S512 : Shape := ⟨1, ![512]⟩
abbrev S512x1 : Shape := ⟨2, ![512, 1]⟩
abbrev S384x1024 : Shape := ⟨2, ![384, 1024]⟩
abbrev S512x1024 : Shape := ⟨2, ![512, 1024]⟩
abbrev S1x256 : Shape := ⟨2, ![1, 256]⟩
abbrev S256x2048 : Shape := ⟨2, ![256, 2048]⟩
abbrev S512x2048 : Shape := ⟨2, ![512, 2048]⟩
abbrev S1x128 : Shape := ⟨2, ![1, 128]⟩
abbrev S1x1x512x128 : Shape := ⟨4, ![1, 1, 512, 128]⟩
abbrev S8x2048x512 : Shape := ⟨3, ![8, 2048, 512]⟩
abbrev S1x2x2048x128 : Shape := ⟨4, ![1, 2, 2048, 128]⟩
abbrev S1x2048x128 : Shape := ⟨3, ![1, 2048, 128]⟩
abbrev S1x1x2048x128 : Shape := ⟨4, ![1, 1, 2048, 128]⟩
abbrev S2048x128 : Shape := ⟨2, ![2048, 128]⟩
abbrev S512x64 : Shape := ⟨2, ![512, 64]⟩

abbrev nBuf : Space → Nat
  | .hbm => 99
  | .vmem => 30
  | .smem => 0
  | _ => 0

abbrev bufTy : (tb : Table) → Fin (tcTables nBuf tb) → BufTy
  | .hbm, ⟨0, _⟩ => ⟨S8x2048x672, .f32⟩
  | .hbm, ⟨1, _⟩ => ⟨S8x2048, .i32⟩
  | .hbm, ⟨2, _⟩ => ⟨S4x384, .f32⟩
  | .hbm, ⟨3, _⟩ => ⟨S4x384x768, .f32⟩
  | .hbm, ⟨4, _⟩ => ⟨S4x256, .f32⟩
  | .hbm, ⟨5, _⟩ => ⟨S4x256x1024, .f32⟩
  | .hbm, ⟨6, _⟩ => ⟨S4x96, .f32⟩
  | .hbm, ⟨7, _⟩ => ⟨S4x96, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S8x2048, .f32⟩
  | .hbm, ⟨23, _⟩ => ⟨S8x2048x1, .f32⟩
  | .hbm, ⟨24, _⟩ => ⟨S1x1x16, .f32⟩
  | .hbm, ⟨25, _⟩ => ⟨S8x2048x16, .f32⟩
  | .hbm, ⟨26, _⟩ => ⟨S8x2048x16, .f32⟩
  | .hbm, ⟨27, _⟩ => ⟨S8x2048x16, .f32⟩
  | .hbm, ⟨28, _⟩ => ⟨S8x2048x16, .f32⟩
  | .hbm, ⟨29, _⟩ => ⟨S8x2048x16, .f32⟩
  | .hbm, ⟨30, _⟩ => ⟨S_, .f32⟩
  | .hbm, ⟨31, _⟩ => ⟨S8x2048x64, .f32⟩
  | .hbm, ⟨32, _⟩ => ⟨S_, .f32⟩
  | .hbm, ⟨33, _⟩ => ⟨S8x2048x64, .f32⟩
  | .hbm, ⟨34, _⟩ => ⟨S_, .f32⟩
  | .hbm, ⟨35, _⟩ => ⟨S8x2048x16, .f32⟩
  | .hbm, ⟨36, _⟩ => ⟨S_, .f32⟩
  | .hbm, ⟨37, _⟩ => ⟨S8x2048x32, .f32⟩
  | .hbm, ⟨38, _⟩ => ⟨S_, .f32⟩
  | .hbm, ⟨39, _⟩ => ⟨S8x2048x32, .f32⟩
  | .hbm, ⟨40, _⟩ => ⟨S8x2048x32, .f32⟩
  | .hbm, ⟨41, _⟩ => ⟨S8x2048x128, .f32⟩
  | .hbm, ⟨42, _⟩ => ⟨S8x2048x16, .f32⟩
  | .hbm, ⟨43, _⟩ => ⟨S8x2048x128, .f32⟩
  | .hbm, ⟨44, _⟩ => ⟨S8x2048x128, .f32⟩
  | .hbm, ⟨45, _⟩ => ⟨S4x384x8x96, .f32⟩
  | .hbm, ⟨46, _⟩ => ⟨S4x256x8x128, .f32⟩
  | .hbm, ⟨47, _⟩ => ⟨S4x1x384, .f32⟩
  | .hbm, ⟨48, _⟩ => ⟨S_, .i32⟩
  | .hbm, ⟨49, _⟩ => ⟨S_, .f32⟩
  | .hbm, ⟨50, _⟩ => ⟨S4x384x8x128, .f32⟩
  | .hbm, ⟨51, _⟩ => ⟨S4x384x1024, .f32⟩
  | .hbm, ⟨52, _⟩ => ⟨S4x384x1024, .bf16⟩
  | .hbm, ⟨53, _⟩ => ⟨S4x384x8x64, .f32⟩
  | .hbm, ⟨54, _⟩ => ⟨S4x384x8x16, .f32⟩
  | .hbm, ⟨55, _⟩ => ⟨S4x384x8x16, .f32⟩
  | .hbm, ⟨56, _⟩ => ⟨S4x384x8x96, .f32⟩
  | .hbm, ⟨57, _⟩ => ⟨S_, .i32⟩
  | .hbm, ⟨58, _⟩ => ⟨S_, .f32⟩
  | .hbm, ⟨59, _⟩ => ⟨S4x384x8x128, .f32⟩
  | .hbm, ⟨60, _⟩ => ⟨S4x384x1024, .f32⟩
  | .hbm, ⟨61, _⟩ => ⟨S4x384x1024, .bf16⟩
  | .hbm, ⟨62, _⟩ => ⟨S4x1x256, .f32⟩
  | .hbm, ⟨63, _⟩ => ⟨S4x256x8x64, .f32⟩
  | .hbm, ⟨64, _⟩ => ⟨S_, .i32⟩
  | .hbm, ⟨65, _⟩ => ⟨S_, .f32⟩
  | .hbm, ⟨66, _⟩ => ⟨S4x256x8x128, .f32⟩
  | .hbm, ⟨67, _⟩ => ⟨S4x256x1024, .f32⟩
  | .hbm, ⟨68, _⟩ => ⟨S4x256x8x64, .f32⟩
  | .hbm, ⟨69, _⟩ => ⟨S_, .i32⟩
  | .hbm, ⟨70, _⟩ => ⟨S_, .f32⟩
  | .hbm, ⟨71, _⟩ => ⟨S4x256x8x128, .f32⟩
  | .hbm, ⟨72, _⟩ => ⟨S4x256x1024, .f32⟩
  | .hbm, ⟨73, _⟩ => ⟨S4x256x2048, .f32⟩
  | .hbm, ⟨74, _⟩ => ⟨S4x256x2048, .bf16⟩
  | .hbm, ⟨75, _⟩ => ⟨S_, .i32⟩
  | .hbm, ⟨76, _⟩ => ⟨S_, .f32⟩
  | .hbm, ⟨77, _⟩ => ⟨S4x128, .f32⟩
  | .hbm, ⟨78, _⟩ => ⟨S4x1x128, .f32⟩
  | .hbm, ⟨79, _⟩ => ⟨S4x64, .f32⟩
  | .hbm, ⟨80, _⟩ => ⟨S4x16, .f32⟩
  | .hbm, ⟨81, _⟩ => ⟨S4x16, .f32⟩
  | .hbm, ⟨82, _⟩ => ⟨S4x96, .f32⟩
  | .hbm, ⟨83, _⟩ => ⟨S_, .i32⟩
  | .hbm, ⟨84, _⟩ => ⟨S_, .f32⟩
  | .hbm, ⟨85, _⟩ => ⟨S4x128, .f32⟩
  | .hbm, ⟨86, _⟩ => ⟨S4x1x128, .f32⟩
  | .hbm, ⟨87, _⟩ => ⟨S_, .i32⟩
  | .hbm, ⟨88, _⟩ => ⟨S_, .f32⟩
  | .hbm, ⟨89, _⟩ => ⟨S4x128, .f32⟩
  | .hbm, ⟨90, _⟩ => ⟨S4x1x128, .f32⟩
  | .hbm, ⟨91, _⟩ => ⟨S_, .i32⟩
  | .hbm, ⟨92, _⟩ => ⟨S_, .f32⟩
  | .hbm, ⟨93, _⟩ => ⟨S8x2048x768, .f32⟩
  | .hbm, ⟨94, _⟩ => ⟨S8x2048x768, .bf16⟩
  | .hbm, ⟨95, _⟩ => ⟨S8x8x2048x128, .bf16⟩
  | .hbm, ⟨96, _⟩ => ⟨S8x8x2048x128, .bf16⟩
  | .hbm, ⟨97, _⟩ => ⟨S8x8x2048x128, .bf16⟩
  | .hbm, ⟨98, _⟩ => ⟨S8x2048x512, .bf16⟩
  | .local _ .vmem, ⟨0, _⟩ => ⟨S1x512x768, .bf16⟩
  | .local _ .vmem, ⟨1, _⟩ => ⟨S1x512x768, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1x384, .f32⟩
  | .local _ .vmem, ⟨9, _⟩ => ⟨S1x384x1024, .bf16⟩
  | .local _ .vmem, ⟨10, _⟩ => ⟨S1x384x1024, .bf16⟩
  | .local _ .vmem, ⟨11, _⟩ => ⟨S1x1x256, .f32⟩
  | .local _ .vmem, ⟨12, _⟩ => ⟨S1x256x2048, .bf16⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S1x8x512x128, .bf16⟩
  | .local _ .vmem, ⟨22, _⟩ => ⟨S1x2x2048x128, .bf16⟩
  | .local _ .vmem, ⟨23, _⟩ => ⟨S1x2x2048x128, .bf16⟩
  | .local _ .vmem, ⟨24, _⟩ => ⟨S1x2x2048x128, .bf16⟩
  | .local _ .vmem, ⟨25, _⟩ => ⟨S1x2x2048x128, .bf16⟩
  | .local _ .vmem, ⟨26, _⟩ => ⟨S1x2x2048x128, .bf16⟩
  | .local _ .vmem, ⟨27, _⟩ => ⟨S1x2x2048x128, .bf16⟩
  | .local _ .vmem, ⟨28, _⟩ => ⟨S1x2048x128, .bf16⟩
  | .local _ .vmem, ⟨29, _⟩ => ⟨S1x2048x128, .bf16⟩
  | _, _ => ⟨S8x2048x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_call2_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_call3_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_call4_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_call5_v0 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_call6_v0 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_call7_v0 : Ref sig .tc := ⟨.hbm, 92, rfl⟩
abbrev main_v60 : Ref sig .tc := ⟨.hbm, 93, rfl⟩
abbrev main_v61 : Ref sig .tc := ⟨.hbm, 94, rfl⟩
abbrev main_v62_0 : Ref sig .tc := ⟨.hbm, 95, rfl⟩
abbrev main_v62_1 : Ref sig .tc := ⟨.hbm, 96, rfl⟩
abbrev main_v62_2 : Ref sig .tc := ⟨.hbm, 97, rfl⟩
abbrev main_v63 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev grid1 : Pipeline.Grid := ⟨3, ![8, 4, 1], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== KernelIdeal.lean ====
variable {F : FTy → Type} [FloatOps F] [Named F]
def κ : String → Option EReal := fun
  | "inv_qk" => some ((1 / 96 : ℝ) : EReal)
  | "qk_scale" => some (((Real.sqrt 96)⁻¹ * (Real.log 2)⁻¹ : ℝ) : EReal)
  | _ => none
-- ==== ReferenceIdeal.lean ====
abbrev S8x2048x672 : Shape := ⟨3, ![8, 2048, 672]⟩
abbrev S8x2048 : Shape := ⟨2, ![8, 2048]⟩
abbrev S4x384 : Shape := ⟨2, ![4, 384]⟩
abbrev S4x384x768 : Shape := ⟨3, ![4, 384, 768]⟩
abbrev S4x256 : Shape := ⟨2, ![4, 256]⟩
abbrev S4x256x1024 : Shape := ⟨3, ![4, 256, 1024]⟩
abbrev S4x96 : Shape := ⟨2, ![4, 96]⟩
abbrev S16 : Shape := ⟨1, ![16]⟩
abbrev S_ : Shape := ⟨0, ![]⟩
abbrev S8x2048x1 : Shape := ⟨3, ![8, 2048, 1]⟩
abbrev S1x1x16 : Shape := ⟨3, ![1, 1, 16]⟩
abbrev S8x2048x16 : Shape := ⟨3, ![8, 2048, 16]⟩
abbrev S8x2048x1x16 : Shape := ⟨4, ![8, 2048, 1, 16]⟩
abbrev S8x2048x384 : Shape := ⟨3, ![8, 2048, 384]⟩
abbrev S8x2048x256 : Shape := ⟨3, ![8, 2048, 256]⟩
abbrev S8x2048x32 : Shape := ⟨3, ![8, 2048, 32]⟩
abbrev S1x384 : Shape := ⟨2, ![1, 384]⟩
abbrev S384 : Shape := ⟨1, ![384]⟩
abbrev S1x1x384 : Shape := ⟨3, ![1, 1, 384]⟩
abbrev S1x384x768 : Shape := ⟨3, ![1, 384, 768]⟩
abbrev S384x768 : Shape := ⟨2, ![384, 768]⟩
abbrev S8x2048x768 : Shape := ⟨3, ![8, 2048, 768]⟩
abbrev S8x2048x8x96 : Shape := ⟨4, ![8, 2048, 8, 96]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S8x2048x1024 : Shape := ⟨3, ![8, 2048, 1024]⟩
abbrev S8x2048x8x128 : Shape := ⟨4, ![8, 2048, 8, 128]⟩
abbrev S8x2048x8x64 : Shape := ⟨4, ![8, 2048, 8, 64]⟩
abbrev S8x2048x1x32 : Shape := ⟨4, ![8, 2048, 1, 32]⟩
abbrev S8x2048x8x32 : Shape := ⟨4, ![8, 2048, 8, 32]⟩
abbrev S1x96 : Shape := ⟨2, ![1, 96]⟩
abbrev S96 : Shape := ⟨1, ![96]⟩
abbrev S8x2048x8 : Shape := ⟨3, ![8, 2048, 8]⟩
abbrev S8x2048x8x1 : Shape := ⟨4, ![8, 2048, 8, 1]⟩
abbrev S1x1x1x96 : Shape := ⟨4, ![1, 1, 1, 96]⟩
abbrev S8x2048x8x16 : Shape := ⟨4, ![8, 2048, 8, 16]⟩
abbrev S8x8x2048x2048 : Shape := ⟨4, ![8, 8, 2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x512 : Shape := ⟨3, ![8, 2048, 512]⟩

abbrev nBuf : Space → Nat
  | .hbm => 168
  | .vmem => 0
  | .smem => 0
  | _ => 0

abbrev hbmTy0_0 (i : Nat) : BufTy := match i % 128 with
  | 0 => ⟨S8x2048x672, .f32⟩
  | 1 => ⟨S8x2048, .i32⟩
  | 2 => ⟨S4x384, .f32⟩
  | 3 => ⟨S4x384x768, .f32⟩
  | 4 => ⟨S4x256, .f32⟩
  | 5 => ⟨S4x256x1024, .f32⟩
  | 6 => ⟨S4x96, .f32⟩
  | 7 => ⟨S4x96, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S8x2048, .f32⟩
  | 23 => ⟨S8x2048x1, .f32⟩
  | 24 => ⟨S1x1x16, .f32⟩
  | 25 => ⟨S8x2048x16, .f32⟩
  | 26 => ⟨S8x2048x16, .f32⟩
  | 27 => ⟨S8x2048x16, .f32⟩
  | 28 => ⟨S8x2048x16, .f32⟩
  | 29 => ⟨S8x2048x1x16, .f32⟩
  | 30 => ⟨S8x2048x16, .f32⟩
  | 31 => ⟨S8x2048x1x16, .f32⟩
  | 32 => ⟨S8x2048x384, .f32⟩
  | 33 => ⟨S8x2048x256, .f32⟩
  | 34 => ⟨S8x2048x32, .f32⟩
  | 35 => ⟨S1x384, .f32⟩
  | 36 => ⟨S384, .f32⟩
  | 37 => ⟨S8x2048x384, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .f32⟩
  | 44 => ⟨S_, .f32⟩
  | 45 => ⟨S8x2048x1, .f32⟩
  | 46 => ⟨S8x2048x1, .f32⟩
  | 47 => ⟨S8x2048x1, .f32⟩
  | 48 => ⟨S8x2048x384, .f32⟩
  | 49 => ⟨S8x2048x384, .f32⟩
  | 50 => ⟨S1x1x384, .f32⟩
  | 51 => ⟨S8x2048x384, .f32⟩
  | 52 => ⟨S8x2048x384, .f32⟩
  | 53 => ⟨S1x384x768, .f32⟩
  | 54 => ⟨S384x768, .f32⟩
  | 55 => ⟨S8x2048x768, .f32⟩
  | 56 => ⟨S8x2048x8x96, .f32⟩
  | 57 => ⟨S1x256, .f32⟩
  | 58 => ⟨S256, .f32⟩
  | 59 => ⟨S8x2048x256, .f32⟩
  | 60 => ⟨S_, .f32⟩
  | 61 => ⟨S8x2048, .f32⟩
  | 62 => ⟨S8x2048x1, .f32⟩
  | 63 => ⟨S_, .f32⟩
  | 64 => ⟨S8x2048x1, .f32⟩
  | 65 => ⟨S8x2048x1, .f32⟩
  | 66 => ⟨S_, .f32⟩
  | 67 => ⟨S8x2048x1, .f32⟩
  | 68 => ⟨S8x2048x1, .f32⟩
  | 69 => ⟨S8x2048x1, .f32⟩
  | 70 => ⟨S8x2048x256, .f32⟩
  | 71 => ⟨S8x2048x256, .f32⟩
  | 72 => ⟨S1x1x256, .f32⟩
  | 73 => ⟨S8x2048x256, .f32⟩
  | 74 => ⟨S8x2048x256, .f32⟩
  | 75 => ⟨S1x256x1024, .f32⟩
  | 76 => ⟨S256x1024, .f32⟩
  | 77 => ⟨S8x2048x1024, .f32⟩
  | 78 => ⟨S8x2048x8x128, .f32⟩
  | 79 => ⟨S8x2048x8x64, .f32⟩
  | 80 => ⟨S8x2048x8x64, .f32⟩
  | 81 => ⟨S8x2048x1x32, .f32⟩
  | 82 => ⟨S8x2048x8x32, .f32⟩
  | 83 => ⟨S8x2048x8x96, .f32⟩
  | 84 => ⟨S1x96, .f32⟩
  | 85 => ⟨S96, .f32⟩
  | 86 => ⟨S8x2048x8x96, .f32⟩
  | 87 => ⟨S_, .f32⟩
  | 88 => ⟨S8x2048x8, .f32⟩
  | 89 => ⟨S8x2048x8x1, .f32⟩
  | 90 => ⟨S_, .f32⟩
  | 91 => ⟨S8x2048x8x1, .f32⟩
  | 92 => ⟨S8x2048x8x1, .f32⟩
  | 93 => ⟨S_, .f32⟩
  | 94 => ⟨S8x2048x8x1, .f32⟩
  | 95 => ⟨S8x2048x8x1, .f32⟩
  | 96 => ⟨S8x2048x8x1, .f32⟩
  | 97 => ⟨S8x2048x8x96, .f32⟩
  | 98 => ⟨S8x2048x8x96, .f32⟩
  | 99 => ⟨S1x1x1x96, .f32⟩
  | 100 => ⟨S8x2048x8x96, .f32⟩
  | 101 => ⟨S8x2048x8x96, .f32⟩
  | 102 => ⟨S8x2048x8x64, .f32⟩
  | 103 => ⟨S8x2048x8x16, .f32⟩
  | 104 => ⟨S8x2048x8x16, .f32⟩
  | 105 => ⟨S8x2048x8x16, .f32⟩
  | 106 => ⟨S8x2048x8x16, .f32⟩
  | 107 => ⟨S8x2048x8x16, .f32⟩
  | 108 => ⟨S8x2048x8x16, .f32⟩
  | 109 => ⟨S8x2048x8x16, .f32⟩
  | 110 => ⟨S8x2048x8x16, .f32⟩
  | 111 => ⟨S8x2048x8x16, .f32⟩
  | 112 => ⟨S8x2048x8x16, .f32⟩
  | 113 => ⟨S8x2048x8x16, .f32⟩
  | 114 => ⟨S8x2048x8x16, .f32⟩
  | 115 => ⟨S8x2048x8x96, .f32⟩
  | 116 => ⟨S1x96, .f32⟩
  | 117 => ⟨S96, .f32⟩
  | 118 => ⟨S8x2048x8x96, .f32⟩
  | 119 => ⟨S_, .f32⟩
  | 120 => ⟨S8x2048x8, .f32⟩
  | 121 => ⟨S8x2048x8x1, .f32⟩
  | 122 => ⟨S_, .f32⟩
  | 123 => ⟨S8x2048x8x1, .f32⟩
  | 124 => ⟨S8x2048x8x1, .f32⟩
  | 125 => ⟨S_, .f32⟩
  | 126 => ⟨S8x2048x8x1, .f32⟩
  | 127 => ⟨S8x2048x8x1, .f32⟩
  | _ => ⟨S8x2048x672, .f32⟩

abbrev hbmTy0_1 (i : Nat) : BufTy := match i % 128 with
  | 0 => ⟨S8x2048x8x1, .f32⟩
  | 1 => ⟨S8x2048x8x96, .f32⟩
  | 2 => ⟨S8x2048x8x96, .f32⟩
  | 3 => ⟨S1x1x1x96, .f32⟩
  | 4 => ⟨S8x2048x8x96, .f32⟩
  | 5 => ⟨S8x2048x8x96, .f32⟩
  | 6 => ⟨S8x2048x8x64, .f32⟩
  | 7 => ⟨S8x2048x8x16, .f32⟩
  | 8 => ⟨S8x2048x8x16, .f32⟩
  | 9 => ⟨S8x2048x8x16, .f32⟩
  | 10 => ⟨S8x2048x8x16, .f32⟩
  | 11 => ⟨S8x2048x8x16, .f32⟩
  | 12 => ⟨S8x2048x8x16, .f32⟩
  | 13 => ⟨S8x2048x8x16, .f32⟩
  | 14 => ⟨S8x2048x8x16, .f32⟩
  | 15 => ⟨S8x2048x8x16, .f32⟩
  | 16 => ⟨S8x2048x8x16, .f32⟩
  | 17 => ⟨S8x2048x8x16, .f32⟩
  | 18 => ⟨S8x2048x8x16, .f32⟩
  | 19 => ⟨S8x2048x8x96, .f32⟩
  | 20 => ⟨S8x8x2048x2048, .f32⟩
  | 21 => ⟨S_, .f32⟩
  | 22 => ⟨S_, .f32⟩
  | 23 => ⟨S8x8x2048x2048, .f32⟩
  | 24 => ⟨S8x8x2048x2048, .f32⟩
  | 25 => ⟨S_, .f32⟩
  | 26 => ⟨S8x8x2048, .f32⟩
  | 27 => ⟨S8x8x2048x1, .f32⟩
  | 28 => ⟨S8x8x2048x2048, .f32⟩
  | 29 => ⟨S8x8x2048x2048, .f32⟩
  | 30 => ⟨S8x8x2048x2048, .f32⟩
  | 31 => ⟨S_, .f32⟩
  | 32 => ⟨S8x8x2048, .f32⟩
  | 33 => ⟨S8x8x2048x1, .f32⟩
  | 34 => ⟨S8x8x2048x2048, .f32⟩
  | 35 => ⟨S8x8x2048x2048, .f32⟩
  | 36 => ⟨S8x8x64x2048, .f32⟩
  | 37 => ⟨S8x2048x8x64, .f32⟩
  | 38 => ⟨S8x2048x512, .f32⟩
  | 39 => ⟨S8x2048x512, .bf16⟩
  | _ => ⟨S8x2048x672, .f32⟩

abbrev hbmTy (i : Nat) : BufTy := match i / 128 with
  | 0 => hbmTy0_0 i
  | 1 => hbmTy0_1 i
  | _ => ⟨S8x2048x672, .f32⟩

abbrev bufTy : (tb : Table) → Fin (tcTables nBuf tb) → BufTy
  | .hbm, ⟨i, _⟩ => hbmTy i
  | _, _ => ⟨S8x2048x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_12 : Ref sig .tc := ⟨.hbm, 119, rfl⟩
abbrev main_v98 : Ref sig .tc := ⟨.hbm, 120, rfl⟩
abbrev main_v99 : Ref sig .tc := ⟨.hbm, 121, rfl⟩
abbrev main_cst_13 : Ref sig .tc := ⟨.hbm, 122, rfl⟩
abbrev main_v100 : Ref sig .tc := ⟨.hbm, 123, rfl⟩
abbrev main_v101 : Ref sig .tc := ⟨.hbm, 124, rfl⟩
abbrev main_cst_14 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_cst_15 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_16 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_cst_17 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩

abbrev nD : Nat := 1
abbrev τ : Topo := Topo.v7x

variable {F : FTy → Type} [FloatOps F]
-- ==== Kernel2.lean ====
abbrev S8x2048x1024 : Shape := ⟨3, ![8, 2048, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S16384x1024 : Shape := ⟨2, ![16384, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S16384x1024, .f32⟩
  | .hbm, ⟨6, _⟩ => ⟨S4x1x1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c11_i32 : BitVec 32 := 11#32
  let v21 : BitVec 32 := Scalar.addi c0_i32 c11_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v22 : BitVec 32 := Scalar.muli arg8 c256_i32
  v22
def k0_off1 (k0_t1 : Fin k0_t1_loop.trips) : Fin 3 → Nat :=
  let c0_13 : Index := 0#32
  let c0_14 : Index := 0#32
  let c0_i32 : BitVec 32 := 0#32
  let c1_i32 : BitVec 32 := 1#32
  let arg8 : BitVec 32 := Scf.iv c0_i32 c1_i32 k0_t1
  let c256_i32 : BitVec 32 := 256#32
  let v22 : BitVec 32 := Scalar.muli arg8 c256_i32
  let v23 : BitVec 32 := v22
  let v25 : Index := Scalar.indexCast v23
  ![0, 0, v25.toNat]
def k0_off2 (k0_t1 : Fin k0_t1_loop.trips) : Fin 3 → Nat :=
  let c0_24 : Index := 0#32
  let c0_i32 : BitVec 32 := 0#32
  let c1_i32 : BitVec 32 := 1#32
  let arg8 : BitVec 32 := Scf.iv c0_i32 c1_i32 k0_t1
  let c256_i32 : BitVec 32 := 256#32
  let v22 : BitVec 32 := Scalar.muli arg8 c256_i32
  let v23 : BitVec 32 := v22
  let v45 : Index := Scalar.indexCast v23
  let c0_25 : Index := 0#32
  ![0, v45.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x1024x2816, .f32⟩
  | .hbm, ⟨37, _⟩ => ⟨S1024x2816, .f32⟩
  | .hbm, ⟨38, _⟩ => ⟨S16384x2816, .f32⟩
  | .hbm, ⟨39, _⟩ => ⟨S16384x2816, .f32⟩
  | .hbm, ⟨40, _⟩ => ⟨S1x2816x1024, .f32⟩
  | .hbm, ⟨41, _⟩ => ⟨S2816x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel3.lean ====
abbrev S8x2048x1024 : Shape := ⟨3, ![8, 2048, 1024]⟩
abbrev S4x1024 : Shape := ⟨2, ![4, 1024]⟩
abbrev S4x1024x6688 : Shape := ⟨3, ![4, 1024, 6688]⟩
abbrev S3x1024x32 : Shape := ⟨3, ![3, 1024, 32]⟩
abbrev S16384x1024 : Shape := ⟨2, ![16384, 1024]⟩
abbrev S_ : Shape := ⟨0, ![]⟩
abbrev S1x1024x32 : Shape := ⟨3, ![1, 1024, 32]⟩
abbrev S4x1024x32 : Shape := ⟨3, ![4, 1024, 32]⟩
abbrev S4x1024x2944 : Shape := ⟨3, ![4, 1024, 2944]⟩
abbrev S4x1024x672 : Shape := ⟨3, ![4, 1024, 672]⟩
abbrev S4x1024x768 : Shape := ⟨3, ![4, 1024, 768]⟩
abbrev S4x1024x3072 : Shape := ⟨3, ![4, 1024, 3072]⟩
abbrev S4x1024x128 : Shape := ⟨3, ![4, 1024, 128]⟩
abbrev S4x1024x6912 : Shape := ⟨3, ![4, 1024, 6912]⟩
abbrev S4x1x1024 : Shape := ⟨3, ![4, 1, 1024]⟩
abbrev S16384x1920 : Shape := ⟨2, ![16384, 1920]⟩
abbrev S16384x768 : Shape := ⟨2, ![16384, 768]⟩
abbrev S16384x3072 : Shape := ⟨2, ![16384, 3072]⟩
abbrev S16384x128 : Shape := ⟨2, ![16384, 128]⟩
abbrev S512x1024 : Shape := ⟨2, ![512, 1024]⟩
abbrev S1x1x1024 : Shape := ⟨3, ![1, 1, 1024]⟩
abbrev S1x1024x6912 : Shape := ⟨3, ![1, 1024, 6912]⟩
abbrev S512x1920 : Shape := ⟨2, ![512, 1920]⟩
abbrev S512x768 : Shape := ⟨2, ![512, 768]⟩
abbrev S512x3072 : Shape := ⟨2, ![512, 3072]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩
abbrev S1x1024x1920 : Shape := ⟨3, ![1, 1024, 1920]⟩
abbrev S1024x1920 : Shape := ⟨2, ![1024, 1920]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S1x1024x3072 : Shape := ⟨3, ![1, 1024, 3072]⟩
abbrev S1024x3072 : Shape := ⟨2, ![1024, 3072]⟩
abbrev S1x1024x128 : Shape := ⟨3, ![1, 1024, 128]⟩
abbrev S1024x128 : Shape := ⟨2, ![1024, 128]⟩

abbrev nBuf : Space → Nat
  | .hbm => 25
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x6688, .f32⟩
  | .hbm, ⟨3, _⟩ => ⟨S3x1024x32, .f32⟩
  | .hbm, ⟨4, _⟩ => ⟨S16384x1024, .f32⟩
  | .hbm, ⟨5, _⟩ => ⟨S_, .f32⟩
  | .hbm, ⟨6, _⟩ => ⟨S1x1024x32, .f32⟩
  | .hbm, ⟨7, _⟩ => ⟨S4x1024x32, .f32⟩
  | .hbm, ⟨8, _⟩ => ⟨S4x1024x2944, .f32⟩
  | .hbm, ⟨9, _⟩ => ⟨S4x1024x672, .f32⟩
  | .hbm, ⟨10, _⟩ => ⟨S_, .i32⟩
  | .hbm, ⟨11, _⟩ => ⟨S_, .f32⟩
  | .hbm, ⟨12, _⟩ => ⟨S4x1024x768, .f32⟩
  | .hbm, ⟨13, _⟩ => ⟨S4x1024x3072, .f32⟩
  | .hbm, ⟨14, _⟩ => ⟨S_, .i32⟩
  | .hbm, ⟨15, _⟩ => ⟨S_, .f32⟩
  | .hbm, ⟨16, _⟩ => ⟨S4x1024x128, .f32⟩
  | .hbm, ⟨17, _⟩ => ⟨S4x1024x6912, .f32⟩
  | .hbm, ⟨18, _⟩ => ⟨S4x1024x6912, .bf16⟩
  | .hbm, ⟨19, _⟩ => ⟨S4x1x1024, .f32⟩
  | .hbm, ⟨20, _⟩ => ⟨S16384x1920, .f32⟩
  | .hbm, ⟨21, _⟩ => ⟨S16384x1024, .bf16⟩
  | .hbm, ⟨22, _⟩ => ⟨S16384x768, .bf16⟩
  | .hbm, ⟨23, _⟩ => ⟨S16384x3072, .bf16⟩
  | .hbm, ⟨24, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x6912, .bf16⟩
  | .local _ .vmem, ⟨4, _⟩ => ⟨S512x1920, .f32⟩
  | .local _ .vmem, ⟨5, _⟩ => ⟨S512x1920, .f32⟩
  | .local _ .vmem, ⟨6, _⟩ => ⟨S512x1024, .bf16⟩
  | .local _ .vmem, ⟨7, _⟩ => ⟨S512x1024, .bf16⟩
  | .local _ .vmem, ⟨8, _⟩ => ⟨S512x768, .bf16⟩
  | .local _ .vmem, ⟨9, _⟩ => ⟨S512x768, .bf16⟩
  | .local _ .vmem, ⟨10, _⟩ => ⟨S512x3072, .bf16⟩
  | .local _ .vmem, ⟨11, _⟩ => ⟨S512x3072, .bf16⟩
  | .local _ .vmem, ⟨12, _⟩ => ⟨S512x128, .f32⟩
  | .local _ .vmem, ⟨13, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x2048x1024 : Shape := ⟨3, ![8, 2048, 1024]⟩
abbrev S4x1024 : Shape := ⟨2, ![4, 1024]⟩
abbrev S4x1024x6688 : Shape := ⟨3, ![4, 1024, 6688]⟩
abbrev S3x1024x32 : Shape := ⟨3, ![3, 1024, 32]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x6688 : Shape := ⟨3, ![1, 1024, 6688]⟩
abbrev S1024x6688 : Shape := ⟨2, ![1024, 6688]⟩
abbrev S16384x6688 : Shape := ⟨2, ![16384, 6688]⟩
abbrev S16384x672 : Shape := ⟨2, ![16384, 672]⟩
abbrev S16384x768 : Shape := ⟨2, ![16384, 768]⟩
abbrev S1x1024x32 : Shape := ⟨3, ![1, 1024, 32]⟩
abbrev S1024x32 : Shape := ⟨2, ![1024, 32]⟩
abbrev S16384x32 : Shape := ⟨2, ![16384, 32]⟩
abbrev S16384x128 : Shape := ⟨2, ![16384, 128]⟩
abbrev S16384x1920 : Shape := ⟨2, ![16384, 1920]⟩
abbrev S16384x3072 : Shape := ⟨2, ![16384, 3072]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x6688, .f32⟩
  | .hbm, ⟨3, _⟩ => ⟨S3x1024x32, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x6688, .f32⟩
  | .hbm, ⟨24, _⟩ => ⟨S1024x6688, .f32⟩
  | .hbm, ⟨25, _⟩ => ⟨S16384x6688, .f32⟩
  | .hbm, ⟨26, _⟩ => ⟨S16384x672, .f32⟩
  | .hbm, ⟨27, _⟩ => ⟨S_, .i32⟩
  | .hbm, ⟨28, _⟩ => ⟨S_, .f32⟩
  | .hbm, ⟨29, _⟩ => ⟨S16384x768, .f32⟩
  | .hbm, ⟨30, _⟩ => ⟨S1x1024x32, .f32⟩
  | .hbm, ⟨31, _⟩ => ⟨S1024x32, .f32⟩
  | .hbm, ⟨32, _⟩ => ⟨S16384x32, .f32⟩
  | .hbm, ⟨33, _⟩ => ⟨S_, .i32⟩
  | .hbm, ⟨34, _⟩ => ⟨S_, .f32⟩
  | .hbm, ⟨35, _⟩ => ⟨S16384x128, .f32⟩
  | .hbm, ⟨36, _⟩ => ⟨S16384x1920, .f32⟩
  | .hbm, ⟨37, _⟩ => ⟨S16384x1024, .f32⟩
  | .hbm, ⟨38, _⟩ => ⟨S16384x1024, .bf16⟩
  | .hbm, ⟨39, _⟩ => ⟨S16384x768, .bf16⟩
  | .hbm, ⟨40, _⟩ => ⟨S16384x3072, .f32⟩
  | .hbm, ⟨41, _⟩ => ⟨S16384x3072, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x512 : Shape := ⟨3, ![8, 2048, 512]⟩
abbrev S8x2048x3072 : Shape := ⟨3, ![8, 2048, 3072]⟩
abbrev S4x512 : Shape := ⟨2, ![4, 512]⟩
abbrev S4x512x1024 : Shape := ⟨3, ![4, 512, 1024]⟩
abbrev S4x1024x1024 : Shape := ⟨3, ![4, 1024, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S4x1x512 : Shape := ⟨3, ![4, 1, 512]⟩
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S512x3072 : Shape := ⟨2, ![512, 3072]⟩
abbrev S1x1x512 : Shape := ⟨3, ![1, 1, 512]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 61
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x3072, .f32⟩
  | .hbm, ⟨8, _⟩ => ⟨S4x512, .f32⟩
  | .hbm, ⟨9, _⟩ => ⟨S4x512, .f32⟩
  | .hbm, ⟨10, _⟩ => ⟨S4x512x1024, .f32⟩
  | .hbm, ⟨11, _⟩ => ⟨S4x512x1024, .f32⟩
  | .hbm, ⟨12, _⟩ => ⟨S4x512x1024, .f32⟩
  | .hbm, ⟨13, _⟩ => ⟨S4x1024x1024, .f32⟩
  | .hbm, ⟨14, _⟩ => ⟨S512, .i32⟩
  | .hbm, ⟨15, _⟩ => ⟨S_, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S1x512, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S512x512, .bf16⟩
  | .hbm, ⟨39, _⟩ => ⟨S4x1x512, .f32⟩
  | .hbm, ⟨40, _⟩ => ⟨S4x1x512, .f32⟩
  | .hbm, ⟨41, _⟩ => ⟨S4x512x1024, .bf16⟩
  | .hbm, ⟨42, _⟩ => ⟨S4x512x1024, .bf16⟩
  | .hbm, ⟨43, _⟩ => ⟨S4x512x1024, .bf16⟩
  | .hbm, ⟨44, _⟩ => ⟨S4x1024x1024, .bf16⟩
  | .hbm, ⟨45, _⟩ => ⟨S16384x1024, .f32⟩
  | .hbm, ⟨46, _⟩ => ⟨S8x2048x512, .bf16⟩
  | .hbm, ⟨47, _⟩ => ⟨S16384x512, .bf16⟩
  | .hbm, ⟨48, _⟩ => ⟨S8x2048x512, .bf16⟩
  | .hbm, ⟨49, _⟩ => ⟨S16384x512, .bf16⟩
  | .hbm, ⟨50, _⟩ => ⟨S8x2048x512, .bf16⟩
  | .hbm, ⟨51, _⟩ => ⟨S16384x512, .bf16⟩
  | .hbm, ⟨52, _⟩ => ⟨S8x2048x512, .bf16⟩
  | .hbm, ⟨53, _⟩ => ⟨S16384x512, .bf16⟩
  | .hbm, ⟨54, _⟩ => ⟨S8x2048x512, .bf16⟩
  | .hbm, ⟨55, _⟩ => ⟨S16384x512, .bf16⟩
  | .hbm, ⟨56, _⟩ => ⟨S8x2048x512, .bf16⟩
  | .hbm, ⟨57, _⟩ => ⟨S16384x512, .bf16⟩
  | .hbm, ⟨58, _⟩ => ⟨S8x2048x3072, .bf16⟩
  | .hbm, ⟨59, _⟩ => ⟨S16384x3072, .bf16⟩
  | .hbm, ⟨60, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x3072, .bf16⟩
  | .local _ .vmem, ⟨15, _⟩ => ⟨S512x3072, .bf16⟩
  | .local _ .vmem, ⟨16, _⟩ => ⟨S512x512, .bf16⟩
  | .local _ .vmem, ⟨17, _⟩ => ⟨S1x1x512, .f32⟩
  | .local _ .vmem, ⟨18, _⟩ => ⟨S1x1x512, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x1024x1024, .bf16⟩
  | .local _ .vmem, ⟨23, _⟩ => ⟨S512x1024, .f32⟩
  | .local _ .vmem, ⟨24, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8x2048x1024 : Shape := ⟨3, ![8, 2048, 1024]⟩
abbrev S8x2048x512 : Shape := ⟨3, ![8, 2048, 512]⟩
abbrev S8x2048x3072 : Shape := ⟨3, ![8, 2048, 3072]⟩
abbrev S4x512 : Shape := ⟨2, ![4, 512]⟩
abbrev S4x512x1024 : Shape := ⟨3, ![4, 512, 1024]⟩
abbrev S4x1024x1024 : Shape := ⟨3, ![4, 1024, 1024]⟩
abbrev S16384x512 : Shape := ⟨2, ![16384, 512]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S1x512 : Shape := ⟨2, ![1, 512]⟩
abbrev S512 : Shape := ⟨1, ![512]⟩
abbrev S8x64 : Shape := ⟨2, ![8, 64]⟩
abbrev S1x8x64 : Shape := ⟨3, ![1, 8, 64]⟩
abbrev S1x512x1024 : Shape := ⟨3, ![1, 512, 1024]⟩
abbrev S512x1024 : Shape := ⟨2, ![512, 1024]⟩
abbrev S16384x1024 : Shape := ⟨2, ![16384, 1024]⟩
abbrev S16384x3072 : Shape := ⟨2, ![16384, 3072]⟩
abbrev S16384x3x1024 : Shape := ⟨3, ![16384, 3, 1024]⟩
abbrev S16384x1x1024 : Shape := ⟨3, ![16384, 1, 1024]⟩
abbrev S1x1024x1024 : Shape := ⟨3, ![1, 1024, 1024]⟩
abbrev S1024x1024 : Shape := ⟨2, ![1024, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x3072, .f32⟩
  | .hbm, ⟨8, _⟩ => ⟨S4x512, .f32⟩
  | .hbm, ⟨9, _⟩ => ⟨S4x512, .f32⟩
  | .hbm, ⟨10, _⟩ => ⟨S4x512x1024, .f32⟩
  | .hbm, ⟨11, _⟩ => ⟨S4x512x1024, .f32⟩
  | .hbm, ⟨12, _⟩ => ⟨S4x512x1024, .f32⟩
  | .hbm, ⟨13, _⟩ => ⟨S4x1024x1024, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x8x64, .f32⟩
  | .hbm, ⟨18, _⟩ => ⟨S_, .f32⟩
  | .hbm, ⟨19, _⟩ => ⟨S16384x8, .f32⟩
  | .hbm, ⟨20, _⟩ => ⟨S16384x8x1, .f32⟩
  | .hbm, ⟨21, _⟩ => ⟨S_, .f32⟩
  | .hbm, ⟨22, _⟩ => ⟨S16384x8x1, .f32⟩
  | .hbm, ⟨23, _⟩ => ⟨S16384x8x1, .f32⟩
  | .hbm, ⟨24, _⟩ => ⟨S16384x8x64, .f32⟩
  | .hbm, ⟨25, _⟩ => ⟨S16384x8x64, .f32⟩
  | .hbm, ⟨26, _⟩ => ⟨S16384x8x64, .f32⟩
  | .hbm, ⟨27, _⟩ => ⟨S_, .f32⟩
  | .hbm, ⟨28, _⟩ => ⟨S16384x8, .f32⟩
  | .hbm, ⟨29, _⟩ => ⟨S16384x8x1, .f32⟩
  | .hbm, ⟨30, _⟩ => ⟨S_, .f32⟩
  | .hbm, ⟨31, _⟩ => ⟨S16384x8x1, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S16384x8x1, .f32⟩
  | .hbm, ⟨37, _⟩ => ⟨S16384x8x64, .f32⟩
  | .hbm, ⟨38, _⟩ => ⟨S16384x8x64, .f32⟩
  | .hbm, ⟨39, _⟩ => ⟨S1x512, .f32⟩
  | .hbm, ⟨40, _⟩ => ⟨S512, .f32⟩
  | .hbm, ⟨41, _⟩ => ⟨S8x64, .f32⟩
  | .hbm, ⟨42, _⟩ => ⟨S1x8x64, .f32⟩
  | .hbm, ⟨43, _⟩ => ⟨S16384x8x64, .f32⟩
  | .hbm, ⟨44, _⟩ => ⟨S16384x8x64, .f32⟩
  | .hbm, ⟨45, _⟩ => ⟨S1x512, .f32⟩
  | .hbm, ⟨46, _⟩ => ⟨S512, .f32⟩
  | .hbm, ⟨47, _⟩ => ⟨S8x64, .f32⟩
  | .hbm, ⟨48, _⟩ => ⟨S1x8x64, .f32⟩
  | .hbm, ⟨49, _⟩ => ⟨S16384x8x64, .f32⟩
  | .hbm, ⟨50, _⟩ => ⟨S16384x8x64, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S1x512x1024, .f32⟩
  | .hbm, ⟨57, _⟩ => ⟨S512x1024, .f32⟩
  | .hbm, ⟨58, _⟩ => ⟨S16384x1024, .f32⟩
  | .hbm, ⟨59, _⟩ => ⟨S16384x512, .f32⟩
  | .hbm, ⟨60, _⟩ => ⟨S1x512x1024, .f32⟩
  | .hbm, ⟨61, _⟩ => ⟨S512x1024, .f32⟩
  | .hbm, ⟨62, _⟩ => ⟨S16384x1024, .f32⟩
  | .hbm, ⟨63, _⟩ => ⟨S16384x512, .f32⟩
  | .hbm, ⟨64, _⟩ => ⟨S1x512x1024, .f32⟩
  | .hbm, ⟨65, _⟩ => ⟨S512x1024, .f32⟩
  | .hbm, ⟨66, _⟩ => ⟨S16384x1024, .f32⟩
  | .hbm, ⟨67, _⟩ => ⟨S16384x3072, .f32⟩
  | .hbm, ⟨68, _⟩ => ⟨S16384x3072, .f32⟩
  | .hbm, ⟨69, _⟩ => ⟨S16384x3072, .f32⟩
  | .hbm, ⟨70, _⟩ => ⟨S_, .f32⟩
  | .hbm, ⟨71, _⟩ => ⟨S16384x3072, .f32⟩
  | .hbm, ⟨72, _⟩ => ⟨S16384x3072, .f32⟩
  | .hbm, ⟨73, _⟩ => ⟨S_, .f32⟩
  | .hbm, ⟨74, _⟩ => ⟨S16384x3072, .f32⟩
  | .hbm, ⟨75, _⟩ => ⟨S16384x3072, .f32⟩
  | .hbm, ⟨76, _⟩ => ⟨S16384x3x1024, .f32⟩
  | .hbm, ⟨77, _⟩ => ⟨S16384x1x1024, .f32⟩
  | .hbm, ⟨78, _⟩ => ⟨S16384x1024, .f32⟩
  | .hbm, ⟨79, _⟩ => ⟨S16384x1024, .f32⟩
  | .hbm, ⟨80, _⟩ => ⟨S16384x1x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S1x1024x1024, .f32⟩
  | .hbm, ⟨90, _⟩ => ⟨S1024x1024, .f32⟩
  | .hbm, ⟨91, _⟩ => ⟨S16384x1024, .f32⟩
  | .hbm, ⟨92, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel5.lean ====
abbrev S8x2048x1024 : Shape := ⟨3, ![8, 2048, 1024]⟩
abbrev S4x31x512 : Shape := ⟨3, ![4, 31, 512]⟩
abbrev S4x512 : Shape := ⟨2, ![4, 512]⟩
abbrev S4x1x512 : Shape := ⟨3, ![4, 1, 512]⟩
abbrev S8x2048x512 : Shape := ⟨3, ![8, 2048, 512]⟩
abbrev S1x512x1024 : Shape := ⟨3, ![1, 512, 1024]⟩
abbrev S1x16x1024 : Shape := ⟨3, ![1, 16, 1024]⟩
abbrev S1x31x512 : Shape := ⟨3, ![1, 31, 512]⟩
abbrev S1x1x512 : Shape := ⟨3, ![1, 1, 512]⟩
abbrev S1x512x512 : Shape := ⟨3, ![1, 512, 512]⟩
abbrev S544x512 : Shape := ⟨2, ![544, 512]⟩
abbrev S512x1024 : Shape := ⟨2, ![512, 1024]⟩
abbrev S512x512 : Shape := ⟨2, ![512, 512]⟩
abbrev S16x1024 : Shape := ⟨2, ![16, 1024]⟩
abbrev S16x512 : Shape := ⟨2, ![16, 512]⟩
abbrev S520x512 : Shape := ⟨2, ![520, 512]⟩
abbrev S1x512 : Shape := ⟨2, ![1, 512]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S4x31x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x1x512, .f32⟩
  | .hbm, ⟨6, _⟩ => ⟨S4x1x512, .f32⟩
  | .hbm, ⟨7, _⟩ => ⟨S4x1x512, .f32⟩
  | .hbm, ⟨8, _⟩ => ⟨S8x2048x1024, .bf16⟩
  | .hbm, ⟨9, _⟩ => ⟨S8x2048x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x31x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x512, .bf16⟩
  | .local _ .vmem, ⟨11, _⟩ => ⟨S1x512x512, .bf16⟩
  | .local _ .vmem, ⟨12, _⟩ => ⟨S544x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8x2048x1024 : Shape := ⟨3, ![8, 2048, 1024]⟩
abbrev S4x31x512 : Shape := ⟨3, ![4, 31, 512]⟩
abbrev S4x512 : Shape := ⟨2, ![4, 512]⟩
abbrev S8x2048x512 : Shape := ⟨3, ![8, 2048, 512]⟩
abbrev S_ : Shape := ⟨0, ![]⟩
abbrev S8x2078x512 : Shape := ⟨3, ![8, 2078, 512]⟩
abbrev S1x1x512 : Shape := ⟨3, ![1, 1, 512]⟩
abbrev S512 : Shape := ⟨1, ![512]⟩
abbrev S1x512 : Shape := ⟨2, ![1, 512]⟩
abbrev S8x2048 : Shape := ⟨2, ![8, 2048]⟩
abbrev S8x2048x1 : Shape := ⟨3, ![8, 2048, 1]⟩

abbrev nBuf : Space → Nat
  | .hbm => 284
  | .vmem => 0
  | .smem => 0
  | _ => 0

abbrev hbmTy0_0 (i : Nat) : BufTy := match i % 128 with
  | 0 => ⟨S8x2048x1024, .f32⟩
  | 1 => ⟨S4x31x512, .f32⟩
  | 2 => ⟨S4x512, .f32⟩
  | 3 => ⟨S4x512, .f32⟩
  | 4 => ⟨S4x512, .f32⟩
  | 5 => ⟨S8x2048x512, .f32⟩
  | 6 => ⟨S8x2048x512, .f32⟩
  | 7 => ⟨S8x2048x512, .f32⟩
  | 8 => ⟨S8x2048x512, .f32⟩
  | 9 => ⟨S_, .f32⟩
  | 10 => ⟨S8x2048x512, .f32⟩
  | 11 => ⟨S8x2048x512, .f32⟩
  | 12 => ⟨S_, .f32⟩
  | 13 => ⟨S8x2048x512, .f32⟩
  | 14 => ⟨S8x2048x512, .f32⟩
  | 15 => ⟨S8x2048x512, .f32⟩
  | 16 => ⟨S_, .i32⟩
  | 17 => ⟨S_, .f32⟩
  | 18 => ⟨S8x2078x512, .f32⟩
  | 19 => ⟨S8x2048x512, .f32⟩
  | 20 => ⟨S1x1x512, .f32⟩
  | 21 => ⟨S512, .f32⟩
  | 22 => ⟨S1x1x512, .f32⟩
  | 23 => ⟨S8x2048x512, .f32⟩
  | 24 => ⟨S8x2048x512, .f32⟩
  | 25 => ⟨S_, .f32⟩
  | 26 => ⟨S8x2048x512, .f32⟩
  | 27 => ⟨S8x2048x512, .f32⟩
  | 28 => ⟨S8x2048x512, .f32⟩
  | 29 => ⟨S1x1x512, .f32⟩
  | 30 => ⟨S512, .f32⟩
  | 31 => ⟨S1x1x512, .f32⟩
  | 32 => ⟨S8x2048x512, .f32⟩
  | 33 => ⟨S8x2048x512, .f32⟩
  | 34 => ⟨S8x2048x512, .f32⟩
  | 35 => ⟨S8x2048x512, .f32⟩
  | 36 => ⟨S1x1x512, .f32⟩
  | 37 => ⟨S512, .f32⟩
  | 38 => ⟨S1x1x512, .f32⟩
  | 39 => ⟨S8x2048x512, .f32⟩
  | 40 => ⟨S8x2048x512, .f32⟩
  | 41 => ⟨S8x2048x512, .f32⟩
  | 42 => ⟨S8x2048x512, .f32⟩
  | 43 => ⟨S1x1x512, .f32⟩
  | 44 => ⟨S512, .f32⟩
  | 45 => ⟨S1x1x512, .f32⟩
  | 46 => ⟨S8x2048x512, .f32⟩
  | 47 => ⟨S8x2048x512, .f32⟩
  | 48 => ⟨S8x2048x512, .f32⟩
  | 49 => ⟨S8x2048x512, .f32⟩
  | 50 => ⟨S1x1x512, .f32⟩
  | 51 => ⟨S512, .f32⟩
  | 52 => ⟨S1x1x512, .f32⟩
  | 53 => ⟨S8x2048x512, .f32⟩
  | 54 => ⟨S8x2048x512, .f32⟩
  | 55 => ⟨S8x2048x512, .f32⟩
  | 56 => ⟨S8x2048x512, .f32⟩
  | 57 => ⟨S1x1x512, .f32⟩
  | 58 => ⟨S512, .f32⟩
  | 59 => ⟨S1x1x512, .f32⟩
  | 60 => ⟨S8x2048x512, .f32⟩
  | 61 => ⟨S8x2048x512, .f32⟩
  | 62 => ⟨S8x2048x512, .f32⟩
  | 63 => ⟨S8x2048x512, .f32⟩
  | 64 => ⟨S1x1x512, .f32⟩
  | 65 => ⟨S512, .f32⟩
  | 66 => ⟨S1x1x512, .f32⟩
  | 67 => ⟨S8x2048x512, .f32⟩
  | 68 => ⟨S8x2048x512, .f32⟩
  | 69 => ⟨S8x2048x512, .f32⟩
  | 70 => ⟨S8x2048x512, .f32⟩
  | 71 => ⟨S1x1x512, .f32⟩
  | 72 => ⟨S512, .f32⟩
  | 73 => ⟨S1x1x512, .f32⟩
  | 74 => ⟨S8x2048x512, .f32⟩
  | 75 => ⟨S8x2048x512, .f32⟩
  | 76 => ⟨S8x2048x512, .f32⟩
  | 77 => ⟨S8x2048x512, .f32⟩
  | 78 => ⟨S1x1x512, .f32⟩
  | 79 => ⟨S512, .f32⟩
  | 80 => ⟨S1x1x512, .f32⟩
  | 81 => ⟨S8x2048x512, .f32⟩
  | 82 => ⟨S8x2048x512, .f32⟩
  | 83 => ⟨S8x2048x512, .f32⟩
  | 84 => ⟨S8x2048x512, .f32⟩
  | 85 => ⟨S1x1x512, .f32⟩
  | 86 => ⟨S512, .f32⟩
  | 87 => ⟨S1x1x512, .f32⟩
  | 88 => ⟨S8x2048x512, .f32⟩
  | 89 => ⟨S8x2048x512, .f32⟩
  | 90 => ⟨S8x2048x512, .f32⟩
  | 91 => ⟨S8x2048x512, .f32⟩
  | 92 => ⟨S1x1x512, .f32⟩
  | 93 => ⟨S512, .f32⟩
  | 94 => ⟨S1x1x512, .f32⟩
  | 95 => ⟨S8x2048x512, .f32⟩
  | 96 => ⟨S8x2048x512, .f32⟩
  | 97 => ⟨S8x2048x512, .f32⟩
  | 98 => ⟨S8x2048x512, .f32⟩
  | 99 => ⟨S1x1x512, .f32⟩
  | 100 => ⟨S512, .f32⟩
  | 101 => ⟨S1x1x512, .f32⟩
  | 102 => ⟨S8x2048x512, .f32⟩
  | 103 => ⟨S8x2048x512, .f32⟩
  | 104 => ⟨S8x2048x512, .f32⟩
  | 105 => ⟨S8x2048x512, .f32⟩
  | 106 => ⟨S1x1x512, .f32⟩
  | 107 => ⟨S512, .f32⟩
  | 108 => ⟨S1x1x512, .f32⟩
  | 109 => ⟨S8x2048x512, .f32⟩
  | 110 => ⟨S8x2048x512, .f32⟩
  | 111 => ⟨S8x2048x512, .f32⟩
  | 112 => ⟨S8x2048x512, .f32⟩
  | 113 => ⟨S1x1x512, .f32⟩
  | 114 => ⟨S512, .f32⟩
  | 115 => ⟨S1x1x512, .f32⟩
  | 116 => ⟨S8x2048x512, .f32⟩
  | 117 => ⟨S8x2048x512, .f32⟩
  | 118 => ⟨S8x2048x512, .f32⟩
  | 119 => ⟨S8x2048x512, .f32⟩
  | 120 => ⟨S1x1x512, .f32⟩
  | 121 => ⟨S512, .f32⟩
  | 122 => ⟨S1x1x512, .f32⟩
  | 123 => ⟨S8x2048x512, .f32⟩
  | 124 => ⟨S8x2048x512, .f32⟩
  | 125 => ⟨S8x2048x512, .f32⟩
  | 126 => ⟨S8x2048x512, .f32⟩
  | 127 => ⟨S1x1x512, .f32⟩
  | _ => ⟨S8x2048x1024, .f32⟩

abbrev hbmTy0_1 (i : Nat) : BufTy := match i % 128 with
  | 0 => ⟨S512, .f32⟩
  | 1 => ⟨S1x1x512, .f32⟩
  | 2 => ⟨S8x2048x512, .f32⟩
  | 3 => ⟨S8x2048x512, .f32⟩
  | 4 => ⟨S8x2048x512, .f32⟩
  | 5 => ⟨S8x2048x512, .f32⟩
  | 6 => ⟨S1x1x512, .f32⟩
  | 7 => ⟨S512, .f32⟩
  | 8 => ⟨S1x1x512, .f32⟩
  | 9 => ⟨S8x2048x512, .f32⟩
  | 10 => ⟨S8x2048x512, .f32⟩
  | 11 => ⟨S8x2048x512, .f32⟩
  | 12 => ⟨S8x2048x512, .f32⟩
  | 13 => ⟨S1x1x512, .f32⟩
  | 14 => ⟨S512, .f32⟩
  | 15 => ⟨S1x1x512, .f32⟩
  | 16 => ⟨S8x2048x512, .f32⟩
  | 17 => ⟨S8x2048x512, .f32⟩
  | 18 => ⟨S8x2048x512, .f32⟩
  | 19 => ⟨S8x2048x512, .f32⟩
  | 20 => ⟨S1x1x512, .f32⟩
  | 21 => ⟨S512, .f32⟩
  | 22 => ⟨S1x1x512, .f32⟩
  | 23 => ⟨S8x2048x512, .f32⟩
  | 24 => ⟨S8x2048x512, .f32⟩
  | 25 => ⟨S8x2048x512, .f32⟩
  | 26 => ⟨S8x2048x512, .f32⟩
  | 27 => ⟨S1x1x512, .f32⟩
  | 28 => ⟨S512, .f32⟩
  | 29 => ⟨S1x1x512, .f32⟩
  | 30 => ⟨S8x2048x512, .f32⟩
  | 31 => ⟨S8x2048x512, .f32⟩
  | 32 => ⟨S8x2048x512, .f32⟩
  | 33 => ⟨S8x2048x512, .f32⟩
  | 34 => ⟨S1x1x512, .f32⟩
  | 35 => ⟨S512, .f32⟩
  | 36 => ⟨S1x1x512, .f32⟩
  | 37 => ⟨S8x2048x512, .f32⟩
  | 38 => ⟨S8x2048x512, .f32⟩
  | 39 => ⟨S8x2048x512, .f32⟩
  | 40 => ⟨S8x2048x512, .f32⟩
  | 41 => ⟨S1x1x512, .f32⟩
  | 42 => ⟨S512, .f32⟩
  | 43 => ⟨S1x1x512, .f32⟩
  | 44 => ⟨S8x2048x512, .f32⟩
  | 45 => ⟨S8x2048x512, .f32⟩
  | 46 => ⟨S8x2048x512, .f32⟩
  | 47 => ⟨S8x2048x512, .f32⟩
  | 48 => ⟨S1x1x512, .f32⟩
  | 49 => ⟨S512, .f32⟩
  | 50 => ⟨S1x1x512, .f32⟩
  | 51 => ⟨S8x2048x512, .f32⟩
  | 52 => ⟨S8x2048x512, .f32⟩
  | 53 => ⟨S8x2048x512, .f32⟩
  | 54 => ⟨S8x2048x512, .f32⟩
  | 55 => ⟨S1x1x512, .f32⟩
  | 56 => ⟨S512, .f32⟩
  | 57 => ⟨S1x1x512, .f32⟩
  | 58 => ⟨S8x2048x512, .f32⟩
  | 59 => ⟨S8x2048x512, .f32⟩
  | 60 => ⟨S8x2048x512, .f32⟩
  | 61 => ⟨S8x2048x512, .f32⟩
  | 62 => ⟨S1x1x512, .f32⟩
  | 63 => ⟨S512, .f32⟩
  | 64 => ⟨S1x1x512, .f32⟩
  | 65 => ⟨S8x2048x512, .f32⟩
  | 66 => ⟨S8x2048x512, .f32⟩
  | 67 => ⟨S8x2048x512, .f32⟩
  | 68 => ⟨S8x2048x512, .f32⟩
  | 69 => ⟨S1x1x512, .f32⟩
  | 70 => ⟨S512, .f32⟩
  | 71 => ⟨S1x1x512, .f32⟩
  | 72 => ⟨S8x2048x512, .f32⟩
  | 73 => ⟨S8x2048x512, .f32⟩
  | 74 => ⟨S8x2048x512, .f32⟩
  | 75 => ⟨S8x2048x512, .f32⟩
  | 76 => ⟨S1x1x512, .f32⟩
  | 77 => ⟨S512, .f32⟩
  | 78 => ⟨S1x1x512, .f32⟩
  | 79 => ⟨S8x2048x512, .f32⟩
  | 80 => ⟨S8x2048x512, .f32⟩
  | 81 => ⟨S8x2048x512, .f32⟩
  | 82 => ⟨S8x2048x512, .f32⟩
  | 83 => ⟨S1x1x512, .f32⟩
  | 84 => ⟨S512, .f32⟩
  | 85 => ⟨S1x1x512, .f32⟩
  | 86 => ⟨S8x2048x512, .f32⟩
  | 87 => ⟨S8x2048x512, .f32⟩
  | 88 => ⟨S8x2048x512, .f32⟩
  | 89 => ⟨S8x2048x512, .f32⟩
  | 90 => ⟨S1x1x512, .f32⟩
  | 91 => ⟨S512, .f32⟩
  | 92 => ⟨S1x1x512, .f32⟩
  | 93 => ⟨S8x2048x512, .f32⟩
  | 94 => ⟨S8x2048x512, .f32⟩
  | 95 => ⟨S8x2048x512, .f32⟩
  | 96 => ⟨S8x2048x512, .f32⟩
  | 97 => ⟨S1x1x512, .f32⟩
  | 98 => ⟨S512, .f32⟩
  | 99 => ⟨S1x1x512, .f32⟩
  | 100 => ⟨S8x2048x512, .f32⟩
  | 101 => ⟨S8x2048x512, .f32⟩
  | 102 => ⟨S8x2048x512, .f32⟩
  | 103 => ⟨S8x2048x512, .f32⟩
  | 104 => ⟨S1x1x512, .f32⟩
  | 105 => ⟨S512, .f32⟩
  | 106 => ⟨S1x1x512, .f32⟩
  | 107 => ⟨S8x2048x512, .f32⟩
  | 108 => ⟨S8x2048x512, .f32⟩
  | 109 => ⟨S8x2048x512, .f32⟩
  | 110 => ⟨S1x512, .f32⟩
  | 111 => ⟨S512, .f32⟩
  | 112 => ⟨S1x1x512, .f32⟩
  | 113 => ⟨S8x2048x512, .f32⟩
  | 114 => ⟨S8x2048x512, .f32⟩
  | 115 => ⟨S_, .f32⟩
  | 116 => ⟨S8x2048, .f32⟩
  | 117 => ⟨S8x2048x1, .f32⟩
  | 118 => ⟨S_, .f32⟩
  | 119 => ⟨S8x2048x1, .f32⟩
  | 120 => ⟨S8x2048x1, .f32⟩
  | 121 => ⟨S8x2048x512, .f32⟩
  | 122 => ⟨S8x2048x512, .f32⟩
  | 123 => ⟨S8x2048x512, .f32⟩
  | 124 => ⟨S_, .f32⟩
  | 125 => ⟨S8x2048, .f32⟩
  | 126 => ⟨S8x2048x1, .f32⟩
  | 127 => ⟨S_, .f32⟩
  | _ => ⟨S8x2048x1024, .f32⟩

abbrev hbmTy0_2 (i : Nat) : BufTy := match i % 128 with
  | 0 => ⟨S8x2048x1, .f32⟩
  | 1 => ⟨S8x2048x1, .f32⟩
  | 2 => ⟨S_, .f32⟩
  | 3 => ⟨S8x2048x1, .f32⟩
  | 4 => ⟨S8x2048x1, .f32⟩
  | 5 => ⟨S8x2048x1, .f32⟩
  | 6 => ⟨S8x2048x512, .f32⟩
  | 7 => ⟨S8x2048x512, .f32⟩
  | 8 => ⟨S1x512, .f32⟩
  | 9 => ⟨S512, .f32⟩
  | 10 => ⟨S1x1x512, .f32⟩
  | 11 => ⟨S8x2048x512, .f32⟩
  | 12 => ⟨S8x2048x512, .f32⟩
  | 13 => ⟨S1x512, .f32⟩
  | 14 => ⟨S512, .f32⟩
  | 15 => ⟨S1x1x512, .f32⟩
  | 16 => ⟨S8x2048x512, .f32⟩
  | 17 => ⟨S8x2048x512, .f32⟩
  | 18 => ⟨S8x2048x512, .f32⟩
  | 19 => ⟨S8x2048x512, .f32⟩
  | 20 => ⟨S_, .f32⟩
  | 21 => ⟨S8x2048x512, .f32⟩
  | 22 => ⟨S8x2048x512, .f32⟩
  | 23 => ⟨S_, .f32⟩
  | 24 => ⟨S8x2048x512, .f32⟩
  | 25 => ⟨S8x2048x512, .f32⟩
  | 26 => ⟨S8x2048x512, .f32⟩
  | 27 => ⟨S8x2048x512, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_call1_v0 : Ref sig .tc := ⟨.hbm, 274, rfl⟩
abbrev main_call1_v1 : Ref sig .tc := ⟨.hbm, 275, rfl⟩
abbrev main_call1_cst : Ref sig .tc := ⟨.hbm, 276, rfl⟩
abbrev main_call1_v2 : Ref sig .tc := ⟨.hbm, 277, rfl⟩
abbrev main_call1_v3 : Ref sig .tc := ⟨.hbm, 278, rfl⟩
abbrev main_call1_cst_0 : Ref sig .tc := ⟨.hbm, 279, rfl⟩
abbrev main_call1_v4 : Ref sig .tc := ⟨.hbm, 280, rfl⟩
abbrev main_call1_v5 : Ref sig .tc := ⟨.hbm, 281, rfl⟩
abbrev main_v259 : Ref sig .tc := ⟨.hbm, 282, rfl⟩
abbrev main_v260 : Ref sig .tc := ⟨.hbm, 283, rfl⟩

abbrev nD : Nat := 1
abbrev τ : Topo := Topo.v7x

variable {F : FTy → Type} [FloatOps F]
-- ==== Kernel6.lean ====
abbrev S8x2048x1920 : Shape := ⟨3, ![8, 2048, 1920]⟩
abbrev S16384x128 : Shape := ⟨2, ![16384, 128]⟩
abbrev S8x2048x512 : Shape := ⟨3, ![8, 2048, 512]⟩
abbrev S4x1920 : Shape := ⟨2, ![4, 1920]⟩
abbrev S4x2x512 : Shape := ⟨3, ![4, 2, 512]⟩
abbrev S4x2x64x512 : Shape := ⟨4, ![4, 2, 64, 512]⟩
abbrev S4x128x512 : Shape := ⟨3, ![4, 128, 512]⟩
abbrev S4x512 : Shape := ⟨2, ![4, 512]⟩
abbrev S4x8x64 : Shape := ⟨3, ![4, 8, 64]⟩
abbrev S3x512 : Shape := ⟨2, ![3, 512]⟩
abbrev S3x32x512 : Shape := ⟨3, ![3, 32, 512]⟩
abbrev S4x1x1920 : Shape := ⟨3, ![4, 1, 1920]⟩
abbrev S4x1x64x512 : Shape := ⟨4, ![4, 1, 64, 512]⟩
abbrev S4x64x512 : Shape := ⟨3, ![4, 64, 512]⟩
abbrev S_ : Shape := ⟨0, ![]⟩
abbrev S4x64x1024 : Shape := ⟨3, ![4, 64, 1024]⟩
abbrev S4x128x1024 : Shape := ⟨3, ![4, 128, 1024]⟩
abbrev S4x1x1024 : Shape := ⟨3, ![4, 1, 1024]⟩
abbrev S4x1x512 : Shape := ⟨3, ![4, 1, 512]⟩
abbrev S3x1x512 : Shape := ⟨3, ![3, 1, 512]⟩
abbrev S3x128x512 : Shape := ⟨3, ![3, 128, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x2x2048x512 : Shape := ⟨4, ![8, 2, 2048, 512]⟩
abbrev S1x512x1920 : Shape := ⟨3, ![1, 512, 1920]⟩
abbrev S1x8x1920 : Shape := ⟨3, ![1, 8, 1920]⟩
abbrev S512x128 : Shape := ⟨2, ![512, 128]⟩
abbrev S1x512x512 : Shape := ⟨3, ![1, 512, 512]⟩
abbrev S1x1x1920 : Shape := ⟨3, ![1, 1, 1920]⟩
abbrev S1x128x1024 : Shape := ⟨3, ![1, 128, 1024]⟩
abbrev S1x1x1024 : Shape := ⟨3, ![1, 1, 1024]⟩
abbrev S1x128x512 : Shape := ⟨3, ![1, 128, 512]⟩
abbrev S1x1x512 : Shape := ⟨3, ![1, 1, 512]⟩
abbrev S1x2x512x512 : Shape := ⟨4, ![1, 2, 512, 512]⟩
abbrev S512x1920 : Shape := ⟨2, ![512, 1920]⟩
abbrev S1x1920 : Shape := ⟨2, ![1, 1920]⟩
abbrev S1x1024 : Shape := ⟨2, ![1, 1024]⟩
abbrev S128x1024 : Shape := ⟨2, ![128, 1024]⟩
abbrev S512x1024 : Shape := ⟨2, ![512, 1024]⟩
abbrev S128x512 : Shape := ⟨2, ![128, 512]⟩
abbrev S1x1x512x512 : Shape := ⟨4, ![1, 1, 512, 512]⟩

abbrev nBuf : Space → Nat
  | .hbm => 84
  | .vmem => 38
  | .smem => 0
  | _ => 0

abbrev bufTy : (tb : Table) → Fin (tcTables nBuf tb) → BufTy
  | .hbm, ⟨0, _⟩ => ⟨S8x2048x1920, .f32⟩
  | .hbm, ⟨1, _⟩ => ⟨S16384x128, .f32⟩
  | .hbm, ⟨2, _⟩ => ⟨S8x2048x512, .f32⟩
  | .hbm, ⟨3, _⟩ => ⟨S4x1920, .f32⟩
  | .hbm, ⟨4, _⟩ => ⟨S4x2x512, .f32⟩
  | .hbm, ⟨5, _⟩ => ⟨S4x2x64x512, .f32⟩
  | .hbm, ⟨6, _⟩ => ⟨S4x2x512, .f32⟩
  | .hbm, ⟨7, _⟩ => ⟨S4x2x64x512, .f32⟩
  | .hbm, ⟨8, _⟩ => ⟨S4x128x512, .f32⟩
  | .hbm, ⟨9, _⟩ => ⟨S4x512, .f32⟩
  | .hbm, ⟨10, _⟩ => ⟨S4x512, .f32⟩
  | .hbm, ⟨11, _⟩ => ⟨S4x8x64, .f32⟩
  | .hbm, ⟨12, _⟩ => ⟨S3x512, .f32⟩
  | .hbm, ⟨13, _⟩ => ⟨S3x32x512, .f32⟩
  | .hbm, ⟨14, _⟩ => ⟨S4x1x1920, .f32⟩
  | .hbm, ⟨15, _⟩ => ⟨S4x1x64x512, .f32⟩
  | .hbm, ⟨16, _⟩ => ⟨S4x64x512, .f32⟩
  | .hbm, ⟨17, _⟩ => ⟨S_, .f32⟩
  | .hbm, ⟨18, _⟩ => ⟨S4x64x512, .f32⟩
  | .hbm, ⟨19, _⟩ => ⟨S4x1x64x512, .f32⟩
  | .hbm, ⟨20, _⟩ => ⟨S4x64x512, .f32⟩
  | .hbm, ⟨21, _⟩ => ⟨S4x64x1024, .f32⟩
  | .hbm, ⟨22, _⟩ => ⟨S4x1x64x512, .f32⟩
  | .hbm, ⟨23, _⟩ => ⟨S4x64x512, .f32⟩
  | .hbm, ⟨24, _⟩ => ⟨S4x64x1024, .f32⟩
  | .hbm, ⟨25, _⟩ => ⟨S4x128x1024, .f32⟩
  | .hbm, ⟨26, _⟩ => ⟨S4x128x1024, .bf16⟩
  | .hbm, ⟨27, _⟩ => ⟨S4x1x1024, .f32⟩
  | .hbm, ⟨28, _⟩ => ⟨S4x1x64x512, .f32⟩
  | .hbm, ⟨29, _⟩ => ⟨S4x64x512, .f32⟩
  | .hbm, ⟨30, _⟩ => ⟨S_, .f32⟩
  | .hbm, ⟨31, _⟩ => ⟨S4x64x512, .f32⟩
  | .hbm, ⟨32, _⟩ => ⟨S4x1x64x512, .f32⟩
  | .hbm, ⟨33, _⟩ => ⟨S4x64x512, .f32⟩
  | .hbm, ⟨34, _⟩ => ⟨S4x64x1024, .f32⟩
  | .hbm, ⟨35, _⟩ => ⟨S4x1x64x512, .f32⟩
  | .hbm, ⟨36, _⟩ => ⟨S4x64x512, .f32⟩
  | .hbm, ⟨37, _⟩ => ⟨S4x64x1024, .f32⟩
  | .hbm, ⟨38, _⟩ => ⟨S4x128x1024, .f32⟩
  | .hbm, ⟨39, _⟩ => ⟨S4x128x1024, .bf16⟩
  | .hbm, ⟨40, _⟩ => ⟨S4x1x1024, .f32⟩
  | .hbm, ⟨41, _⟩ => ⟨S4x128x512, .bf16⟩
  | .hbm, ⟨42, _⟩ => ⟨S4x1x512, .f32⟩
  | .hbm, ⟨43, _⟩ => ⟨S4x1x512, .f32⟩
  | .hbm, ⟨44, _⟩ => ⟨S4x1x512, .f32⟩
  | .hbm, ⟨45, _⟩ => ⟨S3x1x512, .f32⟩
  | .hbm, ⟨46, _⟩ => ⟨S_, .i32⟩
  | .hbm, ⟨47, _⟩ => ⟨S_, .f32⟩
  | .hbm, ⟨48, _⟩ => ⟨S3x128x512, .f32⟩
  | .hbm, ⟨49, _⟩ => ⟨S3x128x512, .bf16⟩
  | .hbm, ⟨50, _⟩ => ⟨S512, .i32⟩
  | .hbm, ⟨51, _⟩ => ⟨S_, .i32⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S_, .i32⟩
  | .hbm, ⟨57, _⟩ => ⟨S512, .i32⟩
  | .hbm, ⟨58, _⟩ => ⟨S512, .i1⟩
  | .hbm, ⟨59, _⟩ => ⟨S512, .i32⟩
  | .hbm, ⟨60, _⟩ => ⟨S512, .i32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S512, .i1⟩
  | .hbm, ⟨65, _⟩ => ⟨S_, .i32⟩
  | .hbm, ⟨66, _⟩ => ⟨S512, .i32⟩
  | .hbm, ⟨67, _⟩ => ⟨S512, .i32⟩
  | .hbm, ⟨68, _⟩ => ⟨S512, .i32⟩
  | .hbm, ⟨69, _⟩ => ⟨S512x1, .i32⟩
  | .hbm, ⟨70, _⟩ => ⟨S1x512, .i32⟩
  | .hbm, ⟨71, _⟩ => ⟨S512x512, .i32⟩
  | .hbm, ⟨72, _⟩ => ⟨S512x512, .i32⟩
  | .hbm, ⟨73, _⟩ => ⟨S512x512, .i1⟩
  | .hbm, ⟨74, _⟩ => ⟨S512x512, .bf16⟩
  | .hbm, ⟨75, _⟩ => ⟨S8x2048x512, .bf16⟩
  | .hbm, ⟨76, _⟩ => ⟨S8x2048x512, .bf16⟩
  | .hbm, ⟨77, _⟩ => ⟨S8x2048x512, .bf16⟩
  | .hbm, ⟨78, _⟩ => ⟨S8x2048x512, .bf16⟩
  | .hbm, ⟨79, _⟩ => ⟨S8x2x2048x512, .f32⟩
  | .hbm, ⟨80, _⟩ => ⟨S8x2x2048x512, .bf16⟩
  | .hbm, ⟨81, _⟩ => ⟨S8x2x2048x512, .bf16⟩
  | .hbm, ⟨82, _⟩ => ⟨S8x2048x512, .bf16⟩
  | .hbm, ⟨83, _⟩ => ⟨S8x2048x512, .bf16⟩
  | .local _ .vmem, ⟨0, _⟩ => ⟨S1x512x1920, .f32⟩
  | .local _ .vmem, ⟨1, _⟩ => ⟨S1x512x1920, .f32⟩
  | .local _ .vmem, ⟨2, _⟩ => ⟨S1x8x1920, .f32⟩
  | .local _ .vmem, ⟨3, _⟩ => ⟨S1x8x1920, .f32⟩
  | .local _ .vmem, ⟨4, _⟩ => ⟨S1x8x1920, .f32⟩
  | .local _ .vmem, ⟨5, _⟩ => ⟨S1x8x1920, .f32⟩
  | .local _ .vmem, ⟨6, _⟩ => ⟨S512x128, .f32⟩
  | .local _ .vmem, ⟨7, _⟩ => ⟨S512x128, .f32⟩
  | .local _ .vmem, ⟨8, _⟩ => ⟨S1x512x512, .bf16⟩
  | .local _ .vmem, ⟨9, _⟩ => ⟨S1x512x512, .bf16⟩
  | .local _ .vmem, ⟨10, _⟩ => ⟨S1x1x1920, .f32⟩
  | .local _ .vmem, ⟨11, _⟩ => ⟨S1x128x1024, .bf16⟩
  | .local _ .vmem, ⟨12, _⟩ => ⟨S1x1x1024, .f32⟩
  | .local _ .vmem, ⟨13, _⟩ => ⟨S1x128x1024, .bf16⟩
  | .local _ .vmem, ⟨14, _⟩ => ⟨S1x1x1024, .f32⟩
  | .local _ .vmem, ⟨15, _⟩ => ⟨S1x128x512, .bf16⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S512x512, .bf16⟩
  | .local _ .vmem, ⟨20, _⟩ => ⟨S1x1x512, .f32⟩
  | .local _ .vmem, ⟨21, _⟩ => ⟨S1x128x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x2x512x512, .f32⟩
  | .local _ .vmem, ⟨29, _⟩ => ⟨S1x2x512x512, .f32⟩
  | .local _ .vmem, ⟨30, _⟩ => ⟨S1x2x512x512, .bf16⟩
  | .local _ .vmem, ⟨31, _⟩ => ⟨S1x2x512x512, .bf16⟩
  | .local _ .vmem, ⟨32, _⟩ => ⟨S1x2x512x512, .bf16⟩
  | .local _ .vmem, ⟨33, _⟩ => ⟨S1x2x512x512, .bf16⟩
  | .local _ .vmem, ⟨34, _⟩ => ⟨S1x512x512, .bf16⟩
  | .local _ .vmem, ⟨35, _⟩ => ⟨S1x512x512, .bf16⟩
  | .local _ .vmem, ⟨36, _⟩ => ⟨S1x512x512, .bf16⟩
  | .local _ .vmem, ⟨37, _⟩ => ⟨S1x512x512, .bf16⟩
  | _, _ => ⟨S8x2048x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_1 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41_0 : Ref sig .tc := ⟨.hbm, 76, rfl⟩
abbrev main_v41_1 : Ref sig .tc := ⟨.hbm, 77, rfl⟩
abbrev main_v41_2 : Ref sig .tc := ⟨.hbm, 78, rfl⟩
abbrev main_v41_3 : Ref sig .tc := ⟨.hbm, 79, rfl⟩
abbrev main_v41_4 : Ref sig .tc := ⟨.hbm, 80, rfl⟩
abbrev main_v41_5 : Ref sig .tc := ⟨.hbm, 81, rfl⟩
abbrev main_v41_6 : Ref sig .tc := ⟨.hbm, 82, rfl⟩
abbrev main_v41_7 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Kernel6Ideal.lean ====
variable {F : FTy → Type} [FloatOps F] [Named F]
def κ : String → Option EReal := fun
  | "norm_floor_sq" => some ((5316911940649 / 5316911983139663491615228241121378304 : ℝ) : EReal)
  | _ => none
-- ==== Reference6Ideal.lean ====
abbrev S8x2048x1920 : Shape := ⟨3, ![8, 2048, 1920]⟩
abbrev S16384x128 : Shape := ⟨2, ![16384, 128]⟩
abbrev S8x2048x512 : Shape := ⟨3, ![8, 2048, 512]⟩
abbrev S4x1920 : Shape := ⟨2, ![4, 1920]⟩
abbrev S4x2x512 : Shape := ⟨3, ![4, 2, 512]⟩
abbrev S4x2x64x512 : Shape := ⟨4, ![4, 2, 64, 512]⟩
abbrev S4x128x512 : Shape := ⟨3, ![4, 128, 512]⟩
abbrev S4x512 : Shape := ⟨2, ![4, 512]⟩
abbrev S4x8x64 : Shape := ⟨3, ![4, 8, 64]⟩
abbrev S3x512 : Shape := ⟨2, ![3, 512]⟩
abbrev S3x32x512 : Shape := ⟨3, ![3, 32, 512]⟩
abbrev S8x2047x1920 : Shape := ⟨3, ![8, 2047, 1920]⟩
abbrev S_ : Shape := ⟨0, ![]⟩
abbrev S1x1920 : Shape := ⟨2, ![1, 1920]⟩
abbrev S1920 : Shape := ⟨1, ![1920]⟩
abbrev S1x1x1920 : Shape := ⟨3, ![1, 1, 1920]⟩
abbrev S8x2048x128 : Shape := ⟨3, ![8, 2048, 128]⟩
abbrev S1x1x512 : Shape := ⟨3, ![1, 1, 512]⟩
abbrev S512 : Shape := ⟨1, ![512]⟩
abbrev S8x2048x64 : Shape := ⟨3, ![8, 2048, 64]⟩
abbrev S1x1x64x512 : Shape := ⟨4, ![1, 1, 64, 512]⟩
abbrev S64x512 : Shape := ⟨2, ![64, 512]⟩
abbrev S1x128x512 : Shape := ⟨3, ![1, 128, 512]⟩
abbrev S128x512 : Shape := ⟨2, ![128, 512]⟩
abbrev S1x512 : Shape := ⟨2, ![1, 512]⟩
abbrev S16384x32 : Shape := ⟨2, ![16384, 32]⟩
abbrev S8x2048x32 : Shape := ⟨3, ![8, 2048, 32]⟩
abbrev S1x32x512 : Shape := ⟨3, ![1, 32, 512]⟩
abbrev S32x512 : Shape := ⟨2, ![32, 512]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x8x64 : Shape := ⟨3, ![1, 8, 64]⟩
abbrev S8x64 : Shape := ⟨2, ![8, 64]⟩
abbrev S1x1x8x64 : Shape := ⟨4, ![1, 1, 8, 64]⟩
abbrev S8x1x2048x512 : Shape := ⟨4, ![8, 1, 2048, 512]⟩
abbrev S8x2x2048x512 : Shape := ⟨4, ![8, 2, 2048, 512]⟩

abbrev nBuf : Space → Nat
  | .hbm => 242
  | .vmem => 0
  | .smem => 0
  | _ => 0

abbrev hbmTy0_0 (i : Nat) : BufTy := match i % 128 with
  | 0 => ⟨S8x2048x1920, .f32⟩
  | 1 => ⟨S16384x128, .f32⟩
  | 2 => ⟨S8x2048x512, .f32⟩
  | 3 => ⟨S4x1920, .f32⟩
  | 4 => ⟨S4x2x512, .f32⟩
  | 5 => ⟨S4x2x64x512, .f32⟩
  | 6 => ⟨S4x2x512, .f32⟩
  | 7 => ⟨S4x2x64x512, .f32⟩
  | 8 => ⟨S4x128x512, .f32⟩
  | 9 => ⟨S4x512, .f32⟩
  | 10 => ⟨S4x512, .f32⟩
  | 11 => ⟨S4x8x64, .f32⟩
  | 12 => ⟨S3x512, .f32⟩
  | 13 => ⟨S3x32x512, .f32⟩
  | 14 => ⟨S8x2047x1920, .f32⟩
  | 15 => ⟨S_, .i32⟩
  | 16 => ⟨S_, .f32⟩
  | 17 => ⟨S8x2048x1920, .f32⟩
  | 18 => ⟨S8x2047x1920, .f32⟩
  | 19 => ⟨S_, .i32⟩
  | 20 => ⟨S_, .f32⟩
  | 21 => ⟨S8x2048x1920, .f32⟩
  | 22 => ⟨S8x2048x1920, .f32⟩
  | 23 => ⟨S_, .f32⟩
  | 24 => ⟨S8x2048x1920, .f32⟩
  | 25 => ⟨S8x2048x1920, .f32⟩
  | 26 => ⟨S8x2048x1920, .f32⟩
  | 27 => ⟨S1x1920, .f32⟩
  | 28 => ⟨S1920, .f32⟩
  | 29 => ⟨S1x1x1920, .f32⟩
  | 30 => ⟨S8x2048x1920, .f32⟩
  | 31 => ⟨S8x2048x1920, .f32⟩
  | 32 => ⟨S8x2048x1920, .f32⟩
  | 33 => ⟨S8x2048x512, .f32⟩
  | 34 => ⟨S8x2048x512, .f32⟩
  | 35 => ⟨S8x2048x512, .f32⟩
  | 36 => ⟨S8x2048x128, .f32⟩
  | 37 => ⟨S8x2048x128, .f32⟩
  | 38 => ⟨S8x2048x128, .f32⟩
  | 39 => ⟨S8x2048x128, .f32⟩
  | 40 => ⟨S1x1x512, .f32⟩
  | 41 => ⟨S512, .f32⟩
  | 42 => ⟨S8x2048x64, .f32⟩
  | 43 => ⟨S1x1x64x512, .f32⟩
  | 44 => ⟨S64x512, .f32⟩
  | 45 => ⟨S8x2048x512, .f32⟩
  | 46 => ⟨S1x1x512, .f32⟩
  | 47 => ⟨S8x2048x512, .f32⟩
  | 48 => ⟨S8x2048x512, .f32⟩
  | 49 => ⟨S8x2048x512, .f32⟩
  | 50 => ⟨S_, .f32⟩
  | 51 => ⟨S8x2048x512, .f32⟩
  | 52 => ⟨S8x2048x512, .f32⟩
  | 53 => ⟨S8x2048x512, .f32⟩
  | 54 => ⟨S8x2048x512, .f32⟩
  | 55 => ⟨S8x2048x512, .i1⟩
  | 56 => ⟨S8x2048x512, .f32⟩
  | 57 => ⟨S8x2048x512, .f32⟩
  | 58 => ⟨S8x2048x512, .f32⟩
  | 59 => ⟨S8x2048x512, .f32⟩
  | 60 => ⟨S8x2048x512, .f32⟩
  | 61 => ⟨S8x2048x512, .f32⟩
  | 62 => ⟨S8x2048x512, .f32⟩
  | 63 => ⟨S8x2048x512, .f32⟩
  | 64 => ⟨S8x2048x512, .f32⟩
  | 65 => ⟨S8x2048x512, .f32⟩
  | 66 => ⟨S_, .f32⟩
  | 67 => ⟨S8x2048x512, .f32⟩
  | 68 => ⟨S8x2048x512, .f32⟩
  | 69 => ⟨S1x1x512, .f32⟩
  | 70 => ⟨S512, .f32⟩
  | 71 => ⟨S8x2048x64, .f32⟩
  | 72 => ⟨S1x1x64x512, .f32⟩
  | 73 => ⟨S64x512, .f32⟩
  | 74 => ⟨S8x2048x512, .f32⟩
  | 75 => ⟨S1x1x512, .f32⟩
  | 76 => ⟨S8x2048x512, .f32⟩
  | 77 => ⟨S8x2048x512, .f32⟩
  | 78 => ⟨S8x2048x512, .f32⟩
  | 79 => ⟨S_, .f32⟩
  | 80 => ⟨S8x2048x512, .f32⟩
  | 81 => ⟨S8x2048x512, .f32⟩
  | 82 => ⟨S8x2048x512, .f32⟩
  | 83 => ⟨S8x2048x512, .f32⟩
  | 84 => ⟨S8x2048x512, .i1⟩
  | 85 => ⟨S8x2048x512, .f32⟩
  | 86 => ⟨S8x2048x512, .f32⟩
  | 87 => ⟨S8x2048x512, .f32⟩
  | 88 => ⟨S8x2048x512, .f32⟩
  | 89 => ⟨S8x2048x512, .f32⟩
  | 90 => ⟨S8x2048x512, .f32⟩
  | 91 => ⟨S8x2048x512, .f32⟩
  | 92 => ⟨S8x2048x512, .f32⟩
  | 93 => ⟨S8x2048x512, .f32⟩
  | 94 => ⟨S8x2048x512, .f32⟩
  | 95 => ⟨S_, .f32⟩
  | 96 => ⟨S8x2048x512, .f32⟩
  | 97 => ⟨S8x2048x512, .f32⟩
  | 98 => ⟨S1x1x512, .f32⟩
  | 99 => ⟨S512, .f32⟩
  | 100 => ⟨S8x2048x64, .f32⟩
  | 101 => ⟨S1x1x64x512, .f32⟩
  | 102 => ⟨S64x512, .f32⟩
  | 103 => ⟨S8x2048x512, .f32⟩
  | 104 => ⟨S1x1x512, .f32⟩
  | 105 => ⟨S8x2048x512, .f32⟩
  | 106 => ⟨S8x2048x512, .f32⟩
  | 107 => ⟨S8x2048x512, .f32⟩
  | 108 => ⟨S8x2048x512, .f32⟩
  | 109 => ⟨S_, .f32⟩
  | 110 => ⟨S8x2048x512, .f32⟩
  | 111 => ⟨S8x2048x512, .f32⟩
  | 112 => ⟨S_, .f32⟩
  | 113 => ⟨S8x2048x512, .f32⟩
  | 114 => ⟨S8x2048x512, .f32⟩
  | 115 => ⟨S1x1x512, .f32⟩
  | 116 => ⟨S512, .f32⟩
  | 117 => ⟨S8x2048x64, .f32⟩
  | 118 => ⟨S1x1x64x512, .f32⟩
  | 119 => ⟨S64x512, .f32⟩
  | 120 => ⟨S8x2048x512, .f32⟩
  | 121 => ⟨S1x1x512, .f32⟩
  | 122 => ⟨S8x2048x512, .f32⟩
  | 123 => ⟨S8x2048x512, .f32⟩
  | 124 => ⟨S8x2048x512, .f32⟩
  | 125 => ⟨S8x2048x512, .f32⟩
  | 126 => ⟨S_, .f32⟩
  | 127 => ⟨S8x2048x512, .f32⟩
  | _ => ⟨S8x2048x1920, .f32⟩

abbrev hbmTy0_1 (i : Nat) : BufTy := match i % 128 with
  | 0 => ⟨S8x2048x512, .f32⟩
  | 1 => ⟨S_, .f32⟩
  | 2 => ⟨S8x2048x512, .f32⟩
  | 3 => ⟨S8x2048x512, .f32⟩
  | 4 => ⟨S8x2048x128, .f32⟩
  | 5 => ⟨S8x2048x128, .f32⟩
  | 6 => ⟨S_, .f32⟩
  | 7 => ⟨S8x2048x128, .f32⟩
  | 8 => ⟨S8x2048x128, .f32⟩
  | 9 => ⟨S_, .f32⟩
  | 10 => ⟨S8x2048x128, .f32⟩
  | 11 => ⟨S8x2048x128, .f32⟩
  | 12 => ⟨S1x128x512, .f32⟩
  | 13 => ⟨S128x512, .f32⟩
  | 14 => ⟨S8x2048x512, .f32⟩
  | 15 => ⟨S1x512, .f32⟩
  | 16 => ⟨S512, .f32⟩
  | 17 => ⟨S16384x32, .f32⟩
  | 18 => ⟨S8x2048x32, .f32⟩
  | 19 => ⟨S1x32x512, .f32⟩
  | 20 => ⟨S32x512, .f32⟩
  | 21 => ⟨S8x2048x512, .f32⟩
  | 22 => ⟨S1x1x512, .f32⟩
  | 23 => ⟨S8x2048x512, .f32⟩
  | 24 => ⟨S8x2048x512, .f32⟩
  | 25 => ⟨S8x2048x512, .f32⟩
  | 26 => ⟨S8x2048x512, .f32⟩
  | 27 => ⟨S_, .f32⟩
  | 28 => ⟨S8x2048x512, .f32⟩
  | 29 => ⟨S8x2048x512, .f32⟩
  | 30 => ⟨S_, .f32⟩
  | 31 => ⟨S8x2048x512, .f32⟩
  | 32 => ⟨S8x2048x512, .f32⟩
  | 33 => ⟨S8x2048x512, .f32⟩
  | 34 => ⟨S8x2048x512, .f32⟩
  | 35 => ⟨S8x2048x512, .f32⟩
  | 36 => ⟨S1x512, .f32⟩
  | 37 => ⟨S512, .f32⟩
  | 38 => ⟨S1x1x512, .f32⟩
  | 39 => ⟨S8x2048x512, .f32⟩
  | 40 => ⟨S8x2048x512, .f32⟩
  | 41 => ⟨S8x2048x8x64, .f32⟩
  | 42 => ⟨S8x2048x8x64, .f32⟩
  | 43 => ⟨S_, .f32⟩
  | 44 => ⟨S8x2048x8, .f32⟩
  | 45 => ⟨S8x2048x8x1, .f32⟩
  | 46 => ⟨S8x2048x8x1, .f32⟩
  | 47 => ⟨S_, .f32⟩
  | 48 => ⟨S8x2048x8x1, .f32⟩
  | 49 => ⟨S8x2048x8x1, .f32⟩
  | 50 => ⟨S8x2048x8x64, .f32⟩
  | 51 => ⟨S8x2048x8x64, .f32⟩
  | 52 => ⟨S8x2048x512, .f32⟩
  | 53 => ⟨S_, .f32⟩
  | 54 => ⟨S8x2048x512, .f32⟩
  | 55 => ⟨S8x2048x512, .f32⟩
  | 56 => ⟨S1x512, .f32⟩
  | 57 => ⟨S512, .f32⟩
  | 58 => ⟨S1x1x512, .f32⟩
  | 59 => ⟨S8x2048x512, .f32⟩
  | 60 => ⟨S8x2048x512, .f32⟩
  | 61 => ⟨S_, .f32⟩
  | 62 => ⟨S8x2048x512, .f32⟩
  | 63 => ⟨S8x2048x512, .f32⟩
  | 64 => ⟨S8x2048x512, .f32⟩
  | 65 => ⟨S_, .f32⟩
  | 66 => ⟨S8x2048x512, .f32⟩
  | 67 => ⟨S8x2048x512, .f32⟩
  | 68 => ⟨S1x512, .f32⟩
  | 69 => ⟨S512, .f32⟩
  | 70 => ⟨S1x1x512, .f32⟩
  | 71 => ⟨S8x2048x512, .f32⟩
  | 72 => ⟨S8x2048x512, .f32⟩
  | 73 => ⟨S_, .f32⟩
  | 74 => ⟨S8x2048x512, .f32⟩
  | 75 => ⟨S8x2048x512, .f32⟩
  | 76 => ⟨S8x2048x512, .f32⟩
  | 77 => ⟨S8x2048x512, .f32⟩
  | 78 => ⟨S_, .f32⟩
  | 79 => ⟨S8x2048x512, .f32⟩
  | 80 => ⟨S8x2048x512, .f32⟩
  | 81 => ⟨S8x2048x8x64, .f32⟩
  | 82 => ⟨S8x2048x8x64, .f32⟩
  | 83 => ⟨S8x2048x8x64, .f32⟩
  | 84 => ⟨S1x8x64, .f32⟩
  | 85 => ⟨S8x64, .f32⟩
  | 86 => ⟨S1x1x8x64, .f32⟩
  | 87 => ⟨S8x2048x8x64, .f32⟩
  | 88 => ⟨S8x2048x8x64, .f32⟩
  | 89 => ⟨S_, .f32⟩
  | 90 => ⟨S8x2048x8, .f32⟩
  | 91 => ⟨S8x2048x8x1, .f32⟩
  | 92 => ⟨S8x2048x8x64, .f32⟩
  | 93 => ⟨S8x2048x8x64, .f32⟩
  | 94 => ⟨S8x2048x8x64, .f32⟩
  | 95 => ⟨S8x2048x512, .bf16⟩
  | 96 => ⟨S8x2048x512, .bf16⟩
  | 97 => ⟨S8x2048x512, .bf16⟩
  | 98 => ⟨S8x1x2048x512, .f32⟩
  | 99 => ⟨S8x1x2048x512, .f32⟩
  | 100 => ⟨S8x2x2048x512, .f32⟩
  | 101 => ⟨S8x1x2048x512, .f32⟩
  | 102 => ⟨S8x1x2048x512, .f32⟩
  | 103 => ⟨S8x2x2048x512, .f32⟩
  | 104 => ⟨S8x2x2048x512, .bf16⟩
  | 105 => ⟨S8x2048x512, .f32⟩
  | 106 => ⟨S8x2048x512, .f32⟩
  | 107 => ⟨S8x1x2048x512, .f32⟩
  | 108 => ⟨S8x1x2048x512, .f32⟩
  | 109 => ⟨S8x2x2048x512, .f32⟩
  | 110 => ⟨S8x2x2048x512, .bf16⟩
  | 111 => ⟨S8x2048x512, .bf16⟩
  | 112 => ⟨S8x2048x512, .f32⟩
  | 113 => ⟨S8x2048x512, .bf16⟩
  | _ => ⟨S8x2048x1920, .f32⟩

abbrev hbmTy (i : Nat) : BufTy := match i / 128 with
  | 0 => hbmTy0_0 i
  | 1 => hbmTy0_1 i
  | _ => ⟨S8x2048x1920, .f32⟩

abbrev bufTy : (tb : Table) → Fin (tcTables nBuf tb) → BufTy
  | .hbm, ⟨i, _⟩ => hbmTy i
  | _, _ => ⟨S8x2048x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_1 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_2 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_3 : Ref sig .tc := ⟨.hbm, 109, rfl⟩
abbrev main_v62 : Ref sig .tc := ⟨.hbm, 110, rfl⟩
abbrev main_v63 : Ref sig .tc := ⟨.hbm, 111, rfl⟩
abbrev main_cst_4 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_5 : Ref sig .tc := ⟨.hbm, 126, rfl⟩
abbrev main_v77 : Ref sig .tc := ⟨.hbm, 127, rfl⟩
abbrev main_v78 : Ref sig .tc := ⟨.hbm, 128, rfl⟩
abbrev main_cst_6 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_7 : Ref sig .tc := ⟨.hbm, 134, rfl⟩
abbrev main_v83 : Ref sig .tc := ⟨.hbm, 135, rfl⟩
abbrev main_v84 : Ref sig .tc := ⟨.hbm, 136, rfl⟩
abbrev main_cst_8 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_9 : Ref sig .tc := ⟨.hbm, 155, rfl⟩
abbrev main_v102 : Ref sig .tc := ⟨.hbm, 156, rfl⟩
abbrev main_v103 : Ref sig .tc := ⟨.hbm, 157, rfl⟩
abbrev main_cst_10 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_11 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_12 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_13 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_14 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_15 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_16 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_cst_17 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_18 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩

abbrev nD : Nat := 1
abbrev τ : Topo := Topo.v7x

variable {F : FTy → Type} [FloatOps F]
-- ==== Proof.Mla.Math.lean ====
module

public import Idealize.ShloMosaic.Lib.Pointwise
public import Idealize.ShloMosaic.Lib.Claim

@[expose] public section

set_option maxRecDepth 16384

noncomputable section

open Idealize.ShloMosaic

namespace Cert.Mla

/-- A square is not negative. -/
theorem sq_nn (x : EReal) : 0 ≤ x * x := by
  induction x using EReal.rec with
  | bot => simp
  | coe r => exact_mod_cast mul_self_nonneg r
  | top => simp

/-- A sum of reals is a real. -/
theorem sum_coe {ι : Type} (s : Finset ι) (F : ι → ℝ) : (∑ x ∈ s, (F x : EReal)) = ((∑ x ∈ s, F x : ℝ) : EReal) := by
  classical
  induction s using Finset.induction_on with
  | empty => simp
  | insert a s ha ih => rw [Finset.sum_insert ha, Finset.sum_insert ha, ih, EReal.coe_add]

/-- A positive real factor comes out of a sum. -/
theorem sum_mul_pos {ι : Type} (s : Finset ι) (f : ι → EReal) (c : ℝ) (hc : 0 < c) : (∑ x ∈ s, f x) * (c : EReal) = ∑ x ∈ s, f x * (c : EReal) := by
  classical
  induction s using Finset.induction_on with
  | empty => simp
  | insert a s ha ih =>
    rw [Finset.sum_insert ha, Finset.sum_insert ha, EReal.right_distrib_of_nonneg_of_ne_top (by exact_mod_cast hc.le) (EReal.coe_ne_top c), ih]

/-- The bits of ninety-six. -/
theorem lit96 : Ideal.ofBits .f32 1119879168#32 = ((96 : ℝ) : EReal) := by
  simp [Ideal.ofBits, Ideal.ieee, -EReal.coe_mul]; norm_num

/-- The small constant is a positive real. -/
theorem litEps : ∃ e : ℝ, 0 < e ∧ Ideal.ofBits .f32 897988541#32 = (e : EReal) := by
  refine ⟨_, ?_, by simp [Ideal.ofBits, Ideal.ieee, -EReal.coe_mul]; rfl⟩
  norm_num

/-- Dividing by ninety-six is multiplying by its inverse. -/
theorem div96 (x : EReal) : Ideal.div x (Ideal.ofBits .f32 1119879168#32) = x * ((1 / 96 : ℝ) : EReal) := by
  rw [lit96]
  have h : ((96 : ℝ) : EReal) ≠ 0 := by exact_mod_cast (by norm_num : (96 : ℝ) ≠ 0)
  simp only [Ideal.div, if_neg h, ← EReal.coe_inv, one_div]

/-- The factor by which a row of 96 is normalised. -/
def rms (f : Fin 96 → EReal) : EReal :=
  Ideal.rsqrt (Ideal.div (∑ x, f x * f x) (Ideal.ofBits .f32 1119879168#32) + Ideal.ofBits .f32 897988541#32)

/-- The factor is zero where an entry is infinite; otherwise the row and its factor are real. -/
theorem rms_cases (f : Fin 96 → EReal) : rms f = 0 ∨ ∃ (F : Fin 96 → ℝ) (r : ℝ), (∀ j, f j = (F j : EReal)) ∧ rms f = (r : EReal) := by
  obtain ⟨e, he, hE⟩ := litEps
  by_cases h : ∃ j, f j = ⊤ ∨ f j = ⊥
  · left
    obtain ⟨j, hj⟩ := h
    have h1 : f j * f j = ⊤ := by rcases hj with hj | hj <;> simp [hj]
    have h2 : (∑ x, f x * f x) = ⊤ := by
      refine top_le_iff.mp ?_
      rw [← h1]
      exact Finset.single_le_sum (f := fun x => f x * f x) (fun x _ => sq_nn (f x)) (Finset.mem_univ j)
    rw [rms, div96, h2, hE, EReal.top_mul_coe_of_pos (by norm_num), EReal.top_add_coe, Ideal.rsqrt_top]
  · right
    push Not at h
    have hF : ∀ j, f j = ((f j).toReal : EReal) := fun j => (EReal.coe_toReal (h j).1 (h j).2).symm
    refine ⟨fun j => (f j).toReal, (Real.sqrt ((∑ x, (f x).toReal * (f x).toReal) * (1 / 96) + e))⁻¹, hF, ?_⟩
    have h2 : (∑ x, f x * f x) = ((∑ x, (f x).toReal * (f x).toReal : ℝ) : EReal) := by
      rw [← sum_coe]
      refine Finset.sum_congr rfl fun x _ => ?_
      rw [EReal.coe_mul, ← hF]
    have hp : 0 < (∑ x, (f x).toReal * (f x).toReal) * (1 / 96) + e := by
      have : 0 ≤ ∑ x, (f x).toReal * (f x).toReal := Finset.sum_nonneg fun x _ => mul_self_nonneg _
      positivity
    rw [rms, div96, h2, hE, ← EReal.coe_mul, ← EReal.coe_add, Ideal.rsqrt_coe, if_neg (not_lt.mpr hp.le), if_neg hp.ne']

/-- A row of the projection normalised over a stretch of lanes. -/
def lat (n : ℕ) (f : Fin n → EReal) (d : BitVec 32) (g : Fin n → EReal) (x : Fin n) : EReal :=
  f x * Ideal.rsqrt (Ideal.div (∑ y, f y * f y) (Ideal.ofBits .f32 d) + Ideal.ofBits .f32 897988541#32) * g x

/-- A head's query before its norm. -/
def qrow (p : Fin 672 → EReal) (g : Fin 384 → EReal) (w : Fin 384 → Fin 768 → EReal) (h : Fin 8) (j : Fin 96) : EReal :=
  ∑ x, lat 384 (fun y => p ⟨y.val, by omega⟩) 1136656384#32 g x * w x ⟨h.val * 96 + j.val, by omega⟩

/-- A head's key before its norm: the projected part and the shared part. -/
def krow (p : Fin 672 → EReal) (g : Fin 256 → EReal) (w : Fin 256 → Fin 1024 → EReal) (h : Fin 8) (j : Fin 96) : EReal :=
  if h1 : j.val < 64 then ∑ x, lat 256 (fun y => p ⟨384 + y.val, by omega⟩) 1132462080#32 g x * w x ⟨h.val * 128 + j.val, by omega⟩
  else p ⟨640 + (j.val - 64), by omega⟩

/-- A head's value. -/
def vrow (p : Fin 672 → EReal) (g : Fin 256 → EReal) (w : Fin 256 → Fin 1024 → EReal) (h : Fin 8) (j : Fin 64) : EReal :=
  ∑ x, lat 256 (fun y => p ⟨384 + y.val, by omega⟩) 1132462080#32 g x * w x ⟨h.val * 128 + (64 + j.val), by omega⟩

/-- The angle of a position at a frequency. -/
def ang (p : BitVec 32) (j : Fin 16) : EReal :=
  FloatOps.sitofp (F := Ideal) .f32 p * Ideal.pow (Ideal.ofBits .f32 1176256512#32) (Ideal.div (-(Ideal.ofBits .f32 1073741824#32 * FloatOps.sitofp (F := Ideal) .f32 (BitVec.ofNat 32 j.val))) (Ideal.ofBits .f32 1107296256#32))

/-- The cosine of an angle. -/
def rcos (p : BitVec 32) (j : Fin 16) : EReal := Ideal.cos (ang p j)

/-- The sine of an angle. -/
def rsin (p : BitVec 32) (j : Fin 16) : EReal := Ideal.sin (ang p j)

/-- An angle is real. -/
theorem ang_real (p : BitVec 32) (j : Fin 16) : ∃ r : ℝ, ang p j = (r : EReal) := by
  have h1 : Ideal.ofBits .f32 1176256512#32 = ((10000 : ℝ) : EReal) := by simp [Ideal.ofBits, Ideal.ieee, -EReal.coe_mul]; norm_num
  have h2 : Ideal.ofBits .f32 1073741824#32 = ((2 : ℝ) : EReal) := by simp [Ideal.ofBits, Ideal.ieee, -EReal.coe_mul]; norm_num
  have h3 : Ideal.ofBits .f32 1107296256#32 = ((32 : ℝ) : EReal) := by simp [Ideal.ofBits, Ideal.ieee, -EReal.coe_mul]; norm_num
  have h4 : ((32 : ℝ) : EReal) ≠ 0 := by exact_mod_cast (by norm_num : (32 : ℝ) ≠ 0)
  have hs : ∀ b : BitVec 32, FloatOps.sitofp (F := Ideal) .f32 b = ((b.toInt : ℝ) : EReal) := fun b => rfl
  have hp : ∀ a b : ℝ, Ideal.pow (a : EReal) (b : EReal) = ((Real.rpow a b : ℝ) : EReal) := fun a b => rfl
  simp only [ang, h1, h2, h3, hs, Ideal.div, if_neg h4, ← EReal.coe_mul, ← EReal.coe_neg, ← EReal.coe_inv, hp]
  exact ⟨_, rfl⟩

/-- The cosines are real. -/
theorem rcos_real (p : BitVec 32) : ∃ C : Fin 16 → ℝ, ∀ j, rcos p j = (C j : EReal) :=
  ⟨fun j => Real.cos (ang_real p j).choose, fun j => by rw [rcos, (ang_real p j).choose_spec, Ideal.cos_coe]⟩

/-- The sines are real. -/
theorem rsin_real (p : BitVec 32) : ∃ S : Fin 16 → ℝ, ∀ j, rsin p j = (S j : EReal) :=
  ⟨fun j => Real.sin (ang_real p j).choose, fun j => by rw [rsin, (ang_real p j).choose_spec, Ideal.sin_coe]⟩

/-- A row normalised. -/
def nrm (f g : Fin 96 → EReal) (j : Fin 96) : EReal := f j * rms f * g j

/-- A row's last 32 places turned by the angles. -/
def rope (n : Fin 96 → EReal) (co si : Fin 16 → EReal) (j : Fin 96) : EReal :=
  if h1 : j.val < 64 then n j
  else if h2 : j.val - 64 < 16 then
    n ⟨64 + (j.val - 64), by omega⟩ * co ⟨j.val - 64, h2⟩ - n ⟨80 + (j.val - 64), by omega⟩ * si ⟨j.val - 64, h2⟩
  else
    n ⟨80 + (j.val - 64 - 16), by omega⟩ * co ⟨j.val - 64 - 16, by omega⟩ + n ⟨64 + (j.val - 64 - 16), by omega⟩ * si ⟨j.val - 64 - 16, by omega⟩

/-- A row padded with zeros to 128 places. -/
def padT (f : Fin 96 → EReal) (j : Fin 128) : EReal := if h : j.val < 96 then f ⟨j.val, h⟩ else 0

/-- A row with the two halves of its last 32 places exchanged. -/
def swapT (f : Fin 96 → EReal) (j : Fin 96) : EReal :=
  if h1 : j.val < 64 then f j
  else if h2 : j.val - 64 < 16 then f ⟨80 + (j.val - 64), by omega⟩ else f ⟨64 + (j.val - 64 - 16), by omega⟩

/-- The table of cosines. -/
def cosT (co : Fin 16 → EReal) (j : Fin 128) : EReal :=
  if h1 : j.val < 64 then 1
  else if h2 : j.val - 64 < 16 then co ⟨j.val - 64, h2⟩
  else if h3 : j.val - 64 - 16 < 16 then co ⟨j.val - 64 - 16, h3⟩ else 1

/-- The table of the sines taken from the left. -/
def sin1T (si : Fin 16 → EReal) (j : Fin 128) : EReal :=
  if h1 : j.val < 64 then 0 else if h2 : j.val - 64 < 16 then -si ⟨j.val - 64, h2⟩ else 0

/-- The table of the sines taken from the right. -/
def sin2T (si : Fin 16 → EReal) (j : Fin 128) : EReal :=
  if h1 : j.val < 80 then 0 else if h2 : j.val - 80 < 16 then si ⟨j.val - 80, h2⟩ else 0

/-- A sum over 128 places of which the last 32 are zero. -/
theorem sum_pad (g : Fin 128 → EReal) (h0 : ∀ j : Fin 128, 96 ≤ j.val → g j = 0) : (∑ j, g j) = ∑ j : Fin 96, g ⟨j.val, by omega⟩ := by
  refine (Fin.sum_univ_add (a := 96) (b := 32) g).trans ?_
  have h1 : (∑ j : Fin 32, g (Fin.natAdd 96 j)) = 0 := Finset.sum_eq_zero fun j _ => h0 _ (by simp [Fin.natAdd])
  exact (congrArg (fun z => (∑ j : Fin 96, g (Fin.castAdd 32 j)) + z) h1).trans (add_zero _)

/-- A query row as the kernel makes it. -/
def kq (qb qs gq gs cb s : Fin 128 → EReal) (inv scale : EReal) (j : Fin 128) : EReal :=
  (qb j * gq j * cb j + qs j * gs j * s j) *
    (Ideal.rsqrt ((∑ x, qb x * qb x) * inv + Ideal.ofBits .f32 897988541#32) * scale)

/-- A key row as the kernel makes it. -/
def kk (kb kr gk cb s1 s2 : Fin 128 → EReal) (inv : EReal) (j : Fin 128) : EReal :=
  (kb j * gk j + (kr j * gk j * cb j + kr ⟨(j.val + 128 - 112) % 128, by omega⟩ * gk ⟨(j.val + 128 - 112) % 128, by omega⟩ * s1 j
      + kr ⟨(j.val + 128 - 16) % 128, by omega⟩ * gk ⟨(j.val + 128 - 16) % 128, by omega⟩ * s2 j)) *
    Ideal.rsqrt ((∑ x, kb x * kb x + ∑ x, kr x * kr x) * inv + Ideal.ofBits .f32 897988541#32)

/-- A normalised, turned row is real. -/
theorem rope_real (f g : Fin 96 → EReal) (co si : Fin 16 → EReal) (G : Fin 96 → ℝ) (C S : Fin 16 → ℝ) (hg : ∀ j, g j = (G j : EReal))
    (hc : ∀ j, co j = (C j : EReal)) (hs : ∀ j, si j = (S j : EReal)) : ∃ R : Fin 96 → ℝ, ∀ j, rope (nrm f g) co si j = (R j : EReal) := by
  have hn : ∃ N : Fin 96 → ℝ, ∀ j, nrm f g j = (N j : EReal) := by
    rcases rms_cases f with h | ⟨F, r, hF, h⟩
    · exact ⟨fun _ => 0, fun j => by simp [nrm, h]⟩
    · exact ⟨fun j => F j * r * G j, fun j => by rw [nrm, h, hF, hg]; norm_cast⟩
  obtain ⟨N, hN⟩ := hn
  suffices h : ∀ j, ∃ r : ℝ, rope (nrm f g) co si j = (r : EReal) from ⟨fun j => (h j).choose, fun j => (h j).choose_spec⟩
  intro j
  unfold rope
  split_ifs
  · exact ⟨_, hN _⟩
  · simp only [hN, hc, hs, ← EReal.coe_mul, ← EReal.coe_sub]; exact ⟨_, rfl⟩
  · simp only [hN, hc, hs, ← EReal.coe_mul, ← EReal.coe_add]; exact ⟨_, rfl⟩

/-- The kernel's query row is the normalised, turned row, scaled. -/
theorem kq_eq (f g : Fin 96 → EReal) (co si : Fin 16 → EReal) (G : Fin 96 → ℝ) (C S : Fin 16 → ℝ) (hg : ∀ j, g j = (G j : EReal))
    (hc : ∀ j, co j = (C j : EReal)) (hs : ∀ j, si j = (S j : EReal)) (c : ℝ) (j : Fin 128) :
    kq (padT f) (padT (swapT f)) (padT g) (padT (swapT g)) (cosT co) (fun x => sin1T si x + sin2T si x) ((1 / 96 : ℝ) : EReal) (c : EReal) j
      = padT (fun x => rope (nrm f g) co si x * (c : EReal)) j := by
  have hr : Ideal.rsqrt ((∑ x, padT f x * padT f x) * ((1 / 96 : ℝ) : EReal) + Ideal.ofBits .f32 897988541#32) = rms f := by
    rw [rms, div96, sum_pad _ (fun j hj => by rw [padT, dif_neg (by omega), zero_mul])]
    simp only [padT, Fin.is_lt, dif_pos, Fin.eta]
  rw [kq, hr]
  rcases rms_cases f with h | ⟨F, r, hF, h⟩
  · rw [h]
    simp [padT, rope, nrm, h]
  · by_cases h96 : j.val < 96
    · by_cases h64 : j.val < 64
      · have h80 : j.val < 80 := by omega
        simp only [padT, swapT, rope, nrm, cosT, sin1T, sin2T, h96, h64, h80, dif_pos, h, hF, hg, hc, hs]
        norm_cast
        ring
      · by_cases h80 : j.val < 80
        · have h16 : j.val - 64 < 16 := by omega
          have e1 : 64 + (j.val - 64) = j.val := by omega
          simp only [padT, swapT, rope, nrm, cosT, sin1T, sin2T, h96, h64, h80, h16, dif_pos, dif_neg, not_false_eq_true, h, hF, hg, hc, hs, e1]
          norm_cast
          ring
        · have h16 : ¬ j.val - 64 < 16 := by omega
          have h17 : j.val - 64 - 16 < 16 := by omega
          have h18 : j.val - 80 < 16 := by omega
          have e1 : 80 + (j.val - 80) = j.val := by omega
          have e2 : j.val - 64 - 16 = j.val - 80 := by omega
          simp only [padT, swapT, rope, nrm, cosT, sin1T, sin2T, h96, h64, h80, h16, h17, h18, dif_pos, dif_neg, not_false_eq_true, h, hF, hg, hc, hs, e1, e2]
          norm_cast
          ring
    · simp [padT, h96]

/-- The kernel's key row is the normalised, turned row. -/
theorem kk_eq (f g : Fin 96 → EReal) (co si : Fin 16 → EReal) (G : Fin 96 → ℝ) (C S : Fin 16 → ℝ) (hg : ∀ j, g j = (G j : EReal))
    (hc : ∀ j, co j = (C j : EReal)) (hs : ∀ j, si j = (S j : EReal)) (kb kr : Fin 128 → EReal)
    (hkb : ∀ j : Fin 128, kb j = if h : j.val < 64 then f ⟨j.val, by omega⟩ else 0)
    (hkr : ∀ j : Fin 128, kr j = if h : 64 ≤ j.val ∧ j.val < 96 then f ⟨j.val, by omega⟩ else 0) (j : Fin 128) :
    kk kb kr (padT g) (cosT co) (sin1T si) (sin2T si) ((1 / 96 : ℝ) : EReal) j = padT (rope (nrm f g) co si) j := by
  have hr : Ideal.rsqrt ((∑ x, kb x * kb x + ∑ x, kr x * kr x) * ((1 / 96 : ℝ) : EReal) + Ideal.ofBits .f32 897988541#32) = rms f := by
    rw [rms, div96, ← Finset.sum_add_distrib, sum_pad _ (fun j hj => by rw [hkb, hkr, dif_neg (by omega), dif_neg (by omega)]; simp)]
    congr 3
    refine Finset.sum_congr rfl fun x _ => ?_
    rw [hkb, hkr]
    by_cases h : x.val < 64
    · rw [dif_pos h, dif_neg (by dsimp only; omega)]; simp
    · rw [dif_neg h, dif_pos ⟨by dsimp only; omega, x.isLt⟩]; simp
  rw [kk, hr]
  rcases rms_cases f with h | ⟨F, r, hF, h⟩
  · rw [h]
    simp [padT, rope, nrm, h]
  · have hk1 : ∀ (n : ℕ) (hn : n < 128), kr ⟨n, hn⟩ = if h : 64 ≤ n ∧ n < 96 then (F ⟨n, by omega⟩ : EReal) else 0 := fun n hn => by rw [hkr]; simp only [hF]
    by_cases h96 : j.val < 96
    · by_cases h64 : j.val < 64
      · have h80 : j.val < 80 := by omega
        have h64' : ¬ 64 ≤ j.val := by omega
        simp only [hkb, hkr, padT, rope, nrm, cosT, sin1T, sin2T, h96, h64, h64', h80, false_and, dif_pos, dif_neg, not_false_eq_true, h, hF, hg, hc, hs, zero_mul, mul_zero, add_zero]
        norm_cast
        ring
      · by_cases h80 : j.val < 80
        · have h16 : j.val - 64 < 16 := by omega
          have h64' : 64 ≤ j.val ∧ j.val < 96 := by omega
          have e1 : 64 + (j.val - 64) = j.val := by omega
          have e2 : (j.val + 128 - 112) % 128 = 80 + (j.val - 64) := by omega
          have h3 : 64 ≤ 80 + (j.val - 64) ∧ 80 + (j.val - 64) < 96 := by omega
          have h4 : 80 + (j.val - 64) < 96 := by omega
          simp only [hkb, hkr, padT, rope, nrm, cosT, sin1T, sin2T, h96, h64, h64', h80, h16, h3, h4, and_self, dif_pos, dif_neg, not_false_eq_true, h, hF, hg, hc, hs, e1, e2, zero_mul, mul_zero, add_zero, zero_add]
          norm_cast
          ring
        · have h16 : ¬ j.val - 64 < 16 := by omega
          have h17 : j.val - 64 - 16 < 16 := by omega
          have h18 : j.val - 80 < 16 := by omega
          have h64' : 64 ≤ j.val ∧ j.val < 96 := by omega
          have e1 : 80 + (j.val - 80) = j.val := by omega
          have e2 : j.val - 64 - 16 = j.val - 80 := by omega
          have e3 : (j.val + 128 - 16) % 128 = 64 + (j.val - 80) := by omega
          have h3 : 64 ≤ 64 + (j.val - 80) ∧ 64 + (j.val - 80) < 96 := by omega
          have h4 : 64 + (j.val - 80) < 96 := by omega
          simp only [hkb, hkr, padT, rope, nrm, cosT, sin1T, sin2T, h96, h64, h64', h80, h16, h17, h18, h3, h4, and_self, dif_pos, dif_neg, not_false_eq_true, h, hF, hg, hc, hs, e1, e2, e3, zero_mul, mul_zero, add_zero, zero_add]
          norm_cast
          ring
    · have h64 : ¬ j.val < 64 := by omega
      have h64' : ¬ (64 ≤ j.val ∧ j.val < 96) := by omega
      have h80 : ¬ j.val < 80 := by omega
      have h16 : ¬ j.val - 64 < 16 := by omega
      have h18 : ¬ j.val - 80 < 16 := by omega
      simp only [hkb, hkr, padT, sin1T, sin2T, h64, h64', h96, h80, h16, h18, dif_neg, not_false_eq_true, zero_mul, mul_zero, add_zero]

/-- The scores of the padded rows are those of the rows, scaled. -/
theorem score_eq (q k : Fin 96 → ℝ) (c : ℝ) (a b : Fin 96 → EReal) (ha : ∀ j, a j = (q j : EReal)) (hb : ∀ j, b j = (k j : EReal)) :
    (∑ j, padT (fun x => a x * (c : EReal)) j * padT b j) = (((∑ j, q j * k j) * c : ℝ) : EReal) := by
  rw [sum_pad _ (fun j hj => by simp only [padT]; rw [dif_neg (by omega), dif_neg (by omega), zero_mul]), Finset.sum_mul, ← sum_coe]
  refine Finset.sum_congr rfl fun j _ => ?_
  simp only [padT, Fin.is_lt, dif_pos, Fin.eta, ha, hb]
  norm_cast
  ring

/-- The greatest of finitely many reals, as a fold from minus infinity. -/
theorem fold_max_coe (s : Fin 2048 → ℝ) (i : Fin 2048) (hi : ∀ x, s x ≤ s i) :
    Finset.fold max (Ideal.ofBits .f32 4286578688#32) (fun x => (s x : EReal)) Finset.univ = (s i : EReal) := by
  have hb : Ideal.ofBits .f32 4286578688#32 = ⊥ := by simp [Ideal.ofBits, Ideal.ieee]
  rw [hb]
  show Finset.univ.sup (fun x => (s x : EReal)) = _
  refine le_antisymm (Finset.sup_le fun x _ => by exact_mod_cast hi x) (Finset.le_sup (f := fun x => (s x : EReal)) (Finset.mem_univ i))

/-- The kernel's weighted mean in powers of two is the reference's in exponentials. -/
theorem attn_eq (s : Fin 2048 → ℝ) (v : Fin 2048 → EReal) (a : Fin 2048 → EReal) (k : Fin 2048 → EReal)
    (ha : ∀ x, a x = (s x : EReal)) (hk : ∀ x, k x = ((s x * ((Real.sqrt 96)⁻¹ * (Real.log 2)⁻¹) : ℝ) : EReal)) :
    Ideal.div (∑ x, Ideal.exp2 (k x - Finset.fold max (Ideal.ofBits .f32 4286578688#32) (fun x => k x) Finset.univ) * v x)
        (∑ x, Ideal.exp2 (k x - Finset.fold max (Ideal.ofBits .f32 4286578688#32) (fun x => k x) Finset.univ) * 1)
      = ∑ x, v x * Ideal.div
          (Ideal.exp (Ideal.div (a x) (Ideal.sqrt (Ideal.ofBits .f32 1119879168#32)) - Finset.fold max (Ideal.ofBits .f32 4286578688#32) (fun x => Ideal.div (a x) (Ideal.sqrt (Ideal.ofBits .f32 1119879168#32))) Finset.univ))
          (∑ x, Ideal.exp (Ideal.div (a x) (Ideal.sqrt (Ideal.ofBits .f32 1119879168#32)) - Finset.fold max (Ideal.ofBits .f32 4286578688#32) (fun x => Ideal.div (a x) (Ideal.sqrt (Ideal.ofBits .f32 1119879168#32))) Finset.univ)) := by
  have hq : 0 < Real.sqrt 96 := Real.sqrt_pos.mpr (by norm_num)
  have hl : 0 < Real.log 2 := Real.log_pos (by norm_num)
  have hd : ∀ x, Ideal.div (a x) (Ideal.sqrt (Ideal.ofBits .f32 1119879168#32)) = ((s x * (Real.sqrt 96)⁻¹ : ℝ) : EReal) := fun x => by
    have h : ((Real.sqrt 96 : ℝ) : EReal) ≠ 0 := by exact_mod_cast hq.ne'
    rw [lit96, Ideal.sqrt_coe, if_neg (by norm_num), Ideal.div, if_neg h, ha, ← EReal.coe_inv, ← EReal.coe_mul]
  obtain ⟨i, -, hi⟩ := Finset.exists_max_image Finset.univ s ⟨0, Finset.mem_univ _⟩
  have m1 : Finset.fold max (Ideal.ofBits .f32 4286578688#32) (fun x => Ideal.div (a x) (Ideal.sqrt (Ideal.ofBits .f32 1119879168#32))) Finset.univ = ((s i * (Real.sqrt 96)⁻¹ : ℝ) : EReal) := by
    simp only [hd]
    exact fold_max_coe (fun x => s x * (Real.sqrt 96)⁻¹) i fun x => mul_le_mul_of_nonneg_right (hi x (Finset.mem_univ _)) (inv_pos.mpr hq).le
  have m2 : Finset.fold max (Ideal.ofBits .f32 4286578688#32) (fun x => k x) Finset.univ = ((s i * ((Real.sqrt 96)⁻¹ * (Real.log 2)⁻¹) : ℝ) : EReal) := by
    simp only [hk]
    exact fold_max_coe (fun x => s x * ((Real.sqrt 96)⁻¹ * (Real.log 2)⁻¹)) i fun x => mul_le_mul_of_nonneg_right (hi x (Finset.mem_univ _)) (by positivity)
  rw [m1, m2]
  have p2 : ∀ x, Ideal.exp2 (k x - ((s i * ((Real.sqrt 96)⁻¹ * (Real.log 2)⁻¹) : ℝ) : EReal)) = ((Real.exp (s x * (Real.sqrt 96)⁻¹ - s i * (Real.sqrt 96)⁻¹) : ℝ) : EReal) := fun x => by
    rw [hk, ← EReal.coe_sub, Ideal.exp2_coe]
    have : Real.rpow 2 (s x * ((Real.sqrt 96)⁻¹ * (Real.log 2)⁻¹) - s i * ((Real.sqrt 96)⁻¹ * (Real.log 2)⁻¹)) = Real.exp (s x * (Real.sqrt 96)⁻¹ - s i * (Real.sqrt 96)⁻¹) := by
      show (2 : ℝ) ^ (_ : ℝ) = _
      rw [Real.rpow_def_of_pos (by norm_num)]
      congr 1
      field_simp
    rw [this]
  have p1 : ∀ x, Ideal.exp (Ideal.div (a x) (Ideal.sqrt (Ideal.ofBits .f32 1119879168#32)) - ((s i * (Real.sqrt 96)⁻¹ : ℝ) : EReal)) = ((Real.exp (s x * (Real.sqrt 96)⁻¹ - s i * (Real.sqrt 96)⁻¹) : ℝ) : EReal) := fun x => by
    rw [hd, ← EReal.coe_sub, Ideal.exp_coe]
  simp only [p1, p2, mul_one]
  rw [sum_coe]
  have hD : 0 < ∑ x : Fin 2048, Real.exp (s x * (Real.sqrt 96)⁻¹ - s i * (Real.sqrt 96)⁻¹) := Finset.sum_pos (fun x _ => Real.exp_pos _) ⟨0, Finset.mem_univ _⟩
  generalize (∑ x : Fin 2048, Real.exp (s x * (Real.sqrt 96)⁻¹ - s i * (Real.sqrt 96)⁻¹)) = D at hD
  have hD' : ((D : ℝ) : EReal) ≠ 0 := by exact_mod_cast hD.ne'
  simp only [Ideal.div, if_neg hD', ← EReal.coe_inv]
  rw [sum_mul_pos _ _ _ (inv_pos.mpr hD)]
  refine Finset.sum_congr rfl fun x _ => ?_
  rw [mul_comm (v x), mul_assoc, mul_assoc, mul_comm (v x)]

end Cert.Mla
end
-- ==== Proof.Mla.Prep.lean ====
module

public import proofs.«01_k».proof.Proof.Gen.KernelIdeal.Frame
public import proofs.«01_k».proof.Proof.Mla.Math
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Mla

open Cert.KernelIdeal Cert.KernelIdeal.Gen

/-- The named inverse of the width. -/
theorem named_inv : Named.named (F := Ideal) (φ := .f32) κ "inv_qk" 1009429163#32 = ((1 / 96 : ℝ) : EReal) :=
  IdealRules.named_const.ideal_named_scalar _ _ _ _ rfl

/-- The named scale of the queries. -/
theorem named_scale : Named.named (F := Ideal) (φ := .f32) κ "qk_scale" 1041680192#32 = (((Real.sqrt 96)⁻¹ * (Real.log 2)⁻¹ : ℝ) : EReal) :=
  IdealRules.named_const.ideal_named_scalar _ _ _ _ rfl

/-- A head's query row from the values the body binds. -/
def qhead (v4 v9 : FVec Ideal S512x128 .f32) (v30 v33 : FVec Ideal S512x1024 .f32) (v53 v55 : FVec Ideal S1x128 .f32) (h : Fin 8) (i : Fin 512) (j : Fin 128) : EReal :=
  kq (fun x => v30 (ix2 i ⟨128 * h.val + x.val, by omega⟩)) (fun x => v33 (ix2 i ⟨128 * h.val + x.val, by omega⟩)) (fun x => v53 (ix2 0 x)) (fun x => v55 (ix2 0 x))
    (fun x => v4 (ix2 i x)) (fun x => v9 (ix2 i x)) ((1 / 96 : ℝ) : EReal) (((Real.sqrt 96)⁻¹ * (Real.log 2)⁻¹ : ℝ) : EReal) j

/-- What the body stores for the queries. -/
theorem out_q (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (h : Fin 8) (i : Fin 512) (j : Fin 128) :
    out0_12 x0 x1 x2 x3 x4 x5 x6 x7 x8 x9 x10 x11 (ix4 0 h i j) =
      qhead (k0_pay65 x0 x1 x2 x3 x4 x5 x6 x7 x8 x9 x10 x11) (k0_pay66 x0 x1 x2 x3 x4 x5 x6 x7 x8 x9 x10 x11) (k0_pay68 x0 x1 x2 x3 x4 x5 x6 x7 x8 x9 x10 x11) (k0_pay69 x0 x1 x2 x3 x4 x5 x6 x7 x8 x9 x10 x11) (k0_pay71 x0 x1 x2 x3 x4 x5 x6 x7 x8 x9 x10 x11) (k0_pay72 x0 x1 x2 x3 x4 x5 x6 x7 x8 x9 x10 x11) h i j := by
  canon_tiles x hx
  all_goals
    generalize k0_pay65 x0 x1 x2 x3 x4 x5 x6 x7 x8 x9 x10 x11 = v4
    generalize k0_pay66 x0 x1 x2 x3 x4 x5 x6 x7 x8 x9 x10 x11 = v9
    generalize k0_pay68 x0 x1 x2 x3 x4 x5 x6 x7 x8 x9 x10 x11 = v30
    generalize k0_pay69 x0 x1 x2 x3 x4 x5 x6 x7 x8 x9 x10 x11 = v33
    generalize k0_pay71 x0 x1 x2 x3 x4 x5 x6 x7 x8 x9 x10 x11 = v53
    generalize k0_pay72 x0 x1 x2 x3 x4 x5 x6 x7 x8 x9 x10 x11 = v55
  all_goals
    obtain ⟨hv, hl⟩ := h
    have hx : x = ix4 0 0 i j := by
      refine funext fun a => Fin.ext ?_
      fin_cases a
      · change (x 0).val = 0; omega
      · change (x 1).val = 0; omega
      · exact hx2.symm
      · exact hx3.symm
    have hv1 : (x 1).val = 0 := by omega
    rw [hv1] at hx1
    subst hx
    replace hx1 : hv = _ := hx1
    subst hx1
    pointwise [k0_pay62, k0_pay59, k0_pay60, k0_pay58, k0_pay61, k0_pay55, k0_pay54, k0_pay49, k0_pay45, k0_pay41, k0_pay38, k0_pay39, k0_pay40, k0_pay35, k0_pay33, k0_pay32, k0_pay34, k0_pay27, k0_pay21]
    simp only [qhead, kq, named_inv, named_scale, Fin.coe_ofNat_eq_mod, Nat.reduceMod, Nat.reduceMul, Nat.reduceAdd, Nat.zero_add, Nat.add_zero, Nat.mul_zero]

/-- A head's key row from the values the body binds. -/
def khead (v4 v6 v8 : FVec Ideal S512x128 .f32) (v12 : FVec Ideal S512x128 .f32) (v51 : FVec Ideal S512x2048 .f32) (v57 : FVec Ideal S1x128 .f32) (h : Fin 8) (i : Fin 512) (j : Fin 128) : EReal :=
  kk (fun x => v51 (ix2 i ⟨128 * h.val + x.val, by omega⟩)) (fun x => v12 (ix2 i ⟨(x.val + 128 - 64) % 128, by omega⟩)) (fun x => v57 (ix2 0 x))
    (fun x => v4 (ix2 i x)) (fun x => v6 (ix2 i x)) (fun x => v8 (ix2 i x)) ((1 / 96 : ℝ) : EReal) j

/-- What the body stores for the keys. -/
theorem out_k (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (h : Fin 8) (i : Fin 512) (j : Fin 128) :
    out0_13 x0 x1 x2 x3 x4 x5 x6 x7 x8 x9 x10 x11 (ix4 0 h i j) =
      khead (k0_pay65 x0 x1 x2 x3 x4 x5 x6 x7 x8 x9 x10 x11) (k0_pay4 (View.ld x2 r0_1)) (k0_pay5 (View.ld x3 r0_1)) (k0_pay67 x0 x1 x2 x3 x4 x5 x6 x7 x8 x9 x10 x11) (k0_pay70 x0 x1 x2 x3 x4 x5 x6 x7 x8 x9 x10 x11) (k0_pay73 x0 x1 x2 x3 x4 x5 x6 x7 x8 x9 x10 x11) h i j := by
  canon_tiles x hx
  all_goals
    unfold k0_pay76 k0_pay75
    generalize k0_pay65 x0 x1 x2 x3 x4 x5 x6 x7 x8 x9 x10 x11 = v4
    generalize k0_pay4 (View.ld x2 r0_1) = v6
    generalize k0_pay5 (View.ld x3 r0_1) = v8
    generalize k0_pay67 x0 x1 x2 x3 x4 x5 x6 x7 x8 x9 x10 x11 = v12
    generalize k0_pay70 x0 x1 x2 x3 x4 x5 x6 x7 x8 x9 x10 x11 = v51
    generalize k0_pay73 x0 x1 x2 x3 x4 x5 x6 x7 x8 x9 x10 x11 = v57
  all_goals
    obtain ⟨hv, hl⟩ := h
    have hx : x = ix4 0 0 i j := by
      refine funext fun a => Fin.ext ?_
      fin_cases a
      · change (x 0).val = 0; omega
      · change (x 1).val = 0; omega
      · exact hx2.symm
      · exact hx3.symm
    have hv1 : (x 1).val = 0 := by omega
    rw [hv1] at hx1
    subst hx
    replace hx1 : hv = _ := hx1
    subst hx1
    pointwise [k0_pay18, k0_pay19, k0_pay20, k0_pay63, k0_pay56, k0_pay52, k0_pay50, k0_pay51, k0_pay47, k0_pay46, k0_pay42, k0_pay36, k0_pay30, k0_pay28, k0_pay29, k0_pay25, k0_pay23, k0_pay22, k0_pay24]
    simp only [khead, kk, named_inv, Fin.coe_ofNat_eq_mod, Nat.reduceMod, Nat.reduceMul, Nat.reduceAdd, Nat.zero_add, Nat.add_zero, Nat.mul_zero]

/-- What the body stores for the values. -/
theorem out_v (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (h : Fin 8) (i : Fin 512) (j : Fin 128) :
    out0_14 x0 x1 x2 x3 x4 x5 x6 x7 x8 x9 x10 x11 (ix4 0 h i j) =
      k0_pay70 x0 x1 x2 x3 x4 x5 x6 x7 x8 x9 x10 x11 (ix2 i ⟨1024 + (128 * h.val + j.val), by omega⟩) + Scalar.select (IntOp.cmpi .eq (BitVec.ofNat 32 j.val) 64#32) 1 0 := by
  canon_tiles x hx
  all_goals
    unfold k0_pay74
    generalize k0_pay70 x0 x1 x2 x3 x4 x5 x6 x7 x8 x9 x10 x11 = v51
  all_goals
    obtain ⟨hv, hl⟩ := h
    have hx : x = ix4 0 0 i j := by
      refine funext fun a => Fin.ext ?_
      fin_cases a
      · change (x 0).val = 0; omega
      · change (x 1).val = 0; omega
      · exact hx2.symm
      · exact hx3.symm
    have hv1 : (x 1).val = 0 := by omega
    rw [hv1] at hx1
    subst hx
    replace hx1 : hv = _ := hx1
    subst hx1
    pointwise [k0_pay1, k0_pay17, k0_pay64, k0_pay57, k0_pay53, k0_pay48, k0_pay44, k0_pay43, k0_pay37, k0_pay31, k0_pay26]
    try simp only [← Nat.add_assoc, Fin.coe_ofNat_eq_mod, Nat.reduceMod, Nat.reduceMul, Nat.reduceAdd, Nat.zero_add, Nat.add_zero, Nat.mul_zero]

/-- The table of cosines is read whole. -/
theorem st65 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 128) :
    k0_pay65 x0 x1 x2 x3 x4 x5 x6 x7 x8 x9 x10 x11 (ix2 i j) = x1 (ix3 0 i j) := by
  pointwise [k0_pay65, k0_pay3]

/-- The two tables of sines are added. -/
theorem st66 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 128) :
    k0_pay66 x0 x1 x2 x3 x4 x5 x6 x7 x8 x9 x10 x11 (ix2 i j) = x2 (ix3 0 i j) + x3 (ix3 0 i j) := by
  pointwise [k0_pay66, k0_pay6, k0_pay4, k0_pay5]

/-- The first table of sines is read whole. -/
theorem st4 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 128) :
    k0_pay4 (F := Ideal) (View.ld x2 r0_1) (ix2 i j) = x2 (ix3 0 i j) := by
  pointwise [k0_pay4]

/-- The second table of sines is read whole. -/
theorem st5 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 128) :
    k0_pay5 (F := Ideal) (View.ld x3 r0_1) (ix2 i j) = x3 (ix3 0 i j) := by
  pointwise [k0_pay5]

/-- The last lanes of the projection. -/
theorem st67 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 128) :
    k0_pay67 x0 x1 x2 x3 x4 x5 x6 x7 x8 x9 x10 x11 (ix2 i j) = x0 (ix3 0 i ⟨640 + j.val, by omega⟩) := by
  pointwise [k0_pay67, k0_pay8, k0_pay7, k0_pay2]

/-- The queries' gains are read whole. -/
theorem st71 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 128) :
    k0_pay71 x0 x1 x2 x3 x4 x5 x6 x7 x8 x9 x10 x11 (ix2 0 j) = x9 (ix3 0 0 j) := by
  pointwise [k0_pay71, k0_pay14]

/-- The queries' exchanged gains are read whole. -/
theorem st72 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 128) :
    k0_pay72 x0 x1 x2 x3 x4 x5 x6 x7 x8 x9 x10 x11 (ix2 0 j) = x10 (ix3 0 0 j) := by
  pointwise [k0_pay72, k0_pay15]

/-- The keys' gains are read whole. -/
theorem st73 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 128) :
    k0_pay73 x0 x1 x2 x3 x4 x5 x6 x7 x8 x9 x10 x11 (ix2 0 j) = x11 (ix3 0 0 j) := by
  pointwise [k0_pay73, k0_pay16]

/-- The queries before their norm. -/
theorem st68 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 1024) :
    k0_pay68 x0 x1 x2 x3 x4 x5 x6 x7 x8 x9 x10 x11 (ix2 i j) = ∑ x, lat 384 (fun y => x0 (ix3 0 i ⟨y.val, by omega⟩)) 1136656384#32 (fun y => x4 (ix3 0 0 y)) x * x5 (ix3 0 x j) := by
  pointwise [k0_pay68, k0_pay10, k0_pay9, k0_pay7, k0_pay2, k0_pay11]
  simp only [lat]

/-- The exchanged queries before their norm. -/
theorem st69 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 1024) :
    k0_pay69 x0 x1 x2 x3 x4 x5 x6 x7 x8 x9 x10 x11 (ix2 i j) = ∑ x, lat 384 (fun y => x0 (ix3 0 i ⟨y.val, by omega⟩)) 1136656384#32 (fun y => x4 (ix3 0 0 y)) x * x6 (ix3 0 x j) := by
  pointwise [k0_pay69, k0_pay12, k0_pay10, k0_pay9, k0_pay7, k0_pay2, k0_pay11]
  simp only [lat]

/-- The keys and values before the keys' norm. -/
theorem st70 (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (i : Fin 512) (j : Fin 2048) :
    k0_pay70 x0 x1 x2 x3 x4 x5 x6 x7 x8 x9 x10 x11 (ix2 i j) = ∑ x, lat 256 (fun y => x0 (ix3 0 i ⟨384 + y.val, by omega⟩)) 1132462080#32 (fun y => x7 (ix3 0 0 y)) x * x8 (ix3 0 x j) := by
  pointwise [k0_pay70, k0_pay13, k0_pay7, k0_pay2]
  simp only [lat]

end Cert.Mla
end
-- ==== Proof.Mla.Attn.lean ====
module

public import proofs.«01_k».proof.Proof.Gen.KernelIdeal.Frame
public import proofs.«01_k».proof.Proof.Mla.Math
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Mla

open Cert.KernelIdeal Cert.KernelIdeal.Gen

/-- A weighted mean in powers of two, the weights' sum taken over a column of its own. -/
def wmean (k v w : Fin 2048 → EReal) : EReal :=
  Ideal.div (∑ x, Ideal.exp2 (k x - Finset.fold max (Ideal.ofBits .f32 4286578688#32) (fun x => k x) Finset.univ) * v x)
    (∑ x, Ideal.exp2 (k x - Finset.fold max (Ideal.ofBits .f32 4286578688#32) (fun x => k x) Finset.univ) * w x)

/-- A head's output from its rows. -/
def ahead (x0 x1 x2 : Vec Ideal S1x2x2048x128 .bf16) (h : Fin 2) (i : Fin 2048) (j : Fin 64) : EReal :=
  wmean (fun x => ∑ d, x0 (ix4 0 h i d) * x1 (ix4 0 h x d)) (fun x => x2 (ix4 0 h x ⟨j.val, by omega⟩)) (fun x => x2 (ix4 0 h x 64))

/-- What the attention's body stores. -/
theorem out_a (x0 x1 x2 : Vec Ideal S1x2x2048x128 .bf16) (i : Fin 2048) (j : Fin 128) :
    out1_3 x0 x1 x2 (ix3 0 i j) = if h : j.val < 64 then ahead x0 x1 x2 0 i ⟨j.val, h⟩ else ahead x0 x1 x2 1 i ⟨j.val - 64, by omega⟩ := by
  canon_tiles x hx
  all_goals
    obtain ⟨iv, il⟩ := i
    have h1 : (x 1).val < 512 := by omega
    have hx : x = ix3 0 ⟨(x 1).val, h1⟩ j := by
      refine funext fun a => Fin.ext ?_
      fin_cases a
      · change (x 0).val = 0; omega
      · rfl
      · exact hx2.symm
    generalize (⟨(x 1).val, h1⟩ : Fin 512) = r at hx
    subst hx
    replace hx1 : iv = _ := hx1
    subst hx1
    pointwise [k1_pay1, k1_pay2, k1_pay3, k1_pay4, k1_pay5, k1_pay6, k1_pay7, k1_pay8, k1_pay9, k1_pay10, k1_pay11, k1_pay12, k1_pay13, k1_pay14, k1_pay15, k1_pay16]
    simp only [ahead, wmean]
    rfl

end Cert.Mla
end
-- ==== Proof.Mla.Ref.lean ====
module

public import proofs.«01_k».proof.Proof.Gen.ReferenceIdeal.Read
public import proofs.«01_k».proof.Proof.Mla.Math
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Mla

open Cert.ReferenceIdeal Cert.ReferenceIdeal.Read

/-- The normalised latent of the queries. -/
theorem ref_v37 (x0 : FVec Ideal S8x2048x672 .f32) (x2 : FVec Ideal S4x384 .f32) (b : Fin 8) (s : Fin 2048) (j : Fin 384) :
    val_main_v37 (F := Ideal) x0 x2 (ix3 b s j) = lat 384 (fun y => x0 (ix3 b s ⟨y.val, by omega⟩)) 1136656384#32 (fun y => x2 (ix2 3 y)) j := by
  pointwise [val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5, val_main_cst_6]
  try simp only [lat]

/-- The normalised latent of the keys and values. -/
theorem ref_v56 (x0 : FVec Ideal S8x2048x672 .f32) (x4 : FVec Ideal S4x256 .f32) (b : Fin 8) (s : Fin 2048) (j : Fin 256) :
    val_main_v56 (F := Ideal) x0 x4 (ix3 b s j) = lat 256 (fun y => x0 (ix3 b s ⟨384 + y.val, by omega⟩)) 1132462080#32 (fun y => x4 (ix2 3 y)) j := by
  pointwise [val_main_v20, val_main_v21, val_main_v22, val_main_v42, val_main_v43, val_main_v44, val_main_v45, val_main_v46, val_main_v47, val_main_v48, val_main_v49, val_main_v50, val_main_v51, val_main_v52, val_main_v53, val_main_v54, val_main_v55, val_main_v56, val_main_cst_3, val_main_cst_4, val_main_cst_5, val_main_cst_6, val_main_cst_7, val_main_cst_8]
  try simp only [lat]

/-- The queries before their norm. -/
theorem ref_v41 (x0 : FVec Ideal S8x2048x672 .f32) (x2 : FVec Ideal S4x384 .f32) (x3 : FVec Ideal S4x384x768 .f32) (b : Fin 8) (s : Fin 2048) (h : Fin 8) (j : Fin 96) :
    val_main_v41 (F := Ideal) x0 x2 x3 (ix4 b s h j) = qrow (fun y => x0 (ix3 b s y)) (fun y => x2 (ix2 3 y)) (fun x y => x3 (ix3 3 x y)) h j := by
  pointwise [val_main_v38, val_main_v39, val_main_v40, val_main_v41]
  simp only [ref_v37, qrow]

/-- The keys before their norm. -/
theorem ref_v65 (x0 : FVec Ideal S8x2048x672 .f32) (x4 : FVec Ideal S4x256 .f32) (x5 : FVec Ideal S4x256x1024 .f32) (b : Fin 8) (s : Fin 2048) (h : Fin 8) (j : Fin 96) :
    val_main_v65 (F := Ideal) x0 x4 x5 (ix4 b s h j) = krow (fun y => x0 (ix3 b s y)) (fun y => x4 (ix2 3 y)) (fun x y => x5 (ix3 3 x y)) h j := by
  pointwise [val_main_v22, val_main_v57, val_main_v58, val_main_v59, val_main_v60, val_main_v61, val_main_v63, val_main_v64, val_main_v65]
  simp only [ref_v56, krow]

/-- The values. -/
theorem ref_v62 (x0 : FVec Ideal S8x2048x672 .f32) (x4 : FVec Ideal S4x256 .f32) (x5 : FVec Ideal S4x256x1024 .f32) (b : Fin 8) (s : Fin 2048) (h : Fin 8) (j : Fin 64) :
    val_main_v62 (F := Ideal) x0 x4 x5 (ix4 b s h j) = vrow (fun y => x0 (ix3 b s y)) (fun y => x4 (ix2 3 y)) (fun x y => x5 (ix3 3 x y)) h j := by
  pointwise [val_main_v57, val_main_v58, val_main_v59, val_main_v60, val_main_v61, val_main_v62]
  simp only [ref_v56, vrow]

/-- The cosines. -/
theorem ref_v16 (x1 : IVec S8x2048 32) (b : Fin 8) (s : Fin 2048) (j : Fin 16) :
    val_main_v16 (F := Ideal) x1 (ix3 b s j) = rcos (x1 (ix2 b s)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2]
  simp only [rcos, ang]

/-- The sines. -/
theorem ref_v18 (x1 : IVec S8x2048 32) (b : Fin 8) (s : Fin 2048) (j : Fin 16) :
    val_main_v18 (F := Ideal) x1 (ix3 b s j) = rsin (x1 (ix2 b s)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v18, val_main_cst, val_main_cst_0, val_main_cst_1, val_main_cst_2]
  simp only [rsin, ang]

/-- The queries normalised and turned. -/
theorem ref_v94 (x0 : FVec Ideal S8x2048x672 .f32) (x1 : IVec S8x2048 32) (x2 : FVec Ideal S4x384 .f32) (x3 : FVec Ideal S4x384x768 .f32) (x6 : FVec Ideal S4x96 .f32) (b : Fin 8) (s : Fin 2048) (h : Fin 8) (j : Fin 96) :
    val_main_v94 (F := Ideal) x0 x1 x2 x3 x6 (ix4 b s h j)
      = rope (nrm (qrow (fun y => x0 (ix3 b s y)) (fun y => x2 (ix2 3 y)) (fun x y => x3 (ix3 3 x y)) h) (fun y => x6 (ix2 3 y))) (rcos (x1 (ix2 b s))) (rsin (x1 (ix2 b s))) j := by
  pointwise [val_main_v17, val_main_v19, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_cst_9, val_main_cst_10, val_main_cst_11, val_main_cst_12]
  simp only [ref_v41, ref_v16, ref_v18, rope, nrm, rms]

/-- The keys normalised and turned. -/
theorem ref_v123 (x0 : FVec Ideal S8x2048x672 .f32) (x1 : IVec S8x2048 32) (x4 : FVec Ideal S4x256 .f32) (x5 : FVec Ideal S4x256x1024 .f32) (x7 : FVec Ideal S4x96 .f32) (b : Fin 8) (s : Fin 2048) (h : Fin 8) (j : Fin 96) :
    val_main_v123 (F := Ideal) x0 x1 x4 x5 x7 (ix4 b s h j)
      = rope (nrm (krow (fun y => x0 (ix3 b s y)) (fun y => x4 (ix2 3 y)) (fun x y => x5 (ix3 3 x y)) h) (fun y => x7 (ix2 3 y))) (rcos (x1 (ix2 b s))) (rsin (x1 (ix2 b s))) j := by
  pointwise [val_main_v17, val_main_v19, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_cst_11, val_main_cst_12, val_main_cst_13, val_main_cst_14, val_main_cst_15]
  simp only [ref_v65, ref_v16, ref_v18, rope, nrm, rms]

/-- The score of a query against a key. -/
def score (p : Fin 2048 → Fin 672 → EReal) (pos : Fin 2048 → BitVec 32) (g2 : Fin 384 → EReal) (w3 : Fin 384 → Fin 768 → EReal) (g4 : Fin 256 → EReal) (w5 : Fin 256 → Fin 1024 → EReal) (g6 g7 : Fin 96 → EReal) (h : Fin 8) (s x : Fin 2048) : EReal :=
  ∑ d, rope (nrm (qrow (p s) g2 w3 h) g6) (rcos (pos s)) (rsin (pos s)) d * rope (nrm (krow (p x) g4 w5 h) g7) (rcos (pos x)) (rsin (pos x)) d

/-- The attention's output at a position, a head and a lane. -/
def attn (a : Fin 2048 → EReal) (v : Fin 2048 → EReal) : EReal :=
  ∑ x, v x * Ideal.div
    (Ideal.exp (Ideal.div (a x) (Ideal.sqrt (Ideal.ofBits .f32 1119879168#32)) - Finset.fold max (Ideal.ofBits .f32 4286578688#32) (fun x => Ideal.div (a x) (Ideal.sqrt (Ideal.ofBits .f32 1119879168#32))) Finset.univ))
    (∑ x, Ideal.exp (Ideal.div (a x) (Ideal.sqrt (Ideal.ofBits .f32 1119879168#32)) - Finset.fold max (Ideal.ofBits .f32 4286578688#32) (fun x => Ideal.div (a x) (Ideal.sqrt (Ideal.ofBits .f32 1119879168#32))) Finset.univ))

/-- What the reference returns at an index. -/
theorem ref_out (x0 : FVec Ideal S8x2048x672 .f32) (x1 : IVec S8x2048 32) (x2 : FVec Ideal S4x384 .f32) (x3 : FVec Ideal S4x384x768 .f32) (x4 : FVec Ideal S4x256 .f32) (x5 : FVec Ideal S4x256x1024 .f32) (x6 x7 : FVec Ideal S4x96 .f32) (b : Fin 8) (s : Fin 2048) (j : Fin 512) :
    val_main_v140 (F := Ideal) x0 x1 x2 x3 x4 x5 x6 x7 (ix3 b s j)
      = attn (score (fun s y => x0 (ix3 b s y)) (fun s => x1 (ix2 b s)) (fun y => x2 (ix2 3 y)) (fun x y => x3 (ix3 3 x y)) (fun y => x4 (ix2 3 y)) (fun x y => x5 (ix3 3 x y)) (fun y => x6 (ix2 3 y)) (fun y => x7 (ix2 3 y)) ⟨j.val / 64, by omega⟩ s)
          (fun x => vrow (fun y => x0 (ix3 b x y)) (fun y => x4 (ix2 3 y)) (fun x y => x5 (ix3 3 x y)) ⟨j.val / 64, by omega⟩ ⟨j.val % 64, by omega⟩) := by
  pointwise [val_main_v124, val_main_v125, val_main_v126, val_main_v127, val_main_v128, val_main_v129, val_main_v130, val_main_v131, val_main_v132, val_main_v133, val_main_v134, val_main_v135, val_main_v136, val_main_v137, val_main_v138, val_main_v139, val_main_v140, val_main_cst_15, val_main_cst_16, val_main_cst_17]
  simp only [ref_v94, ref_v123, ref_v62, attn, score]

end Cert.Mla
end
-- ==== Proof.Mla.Slab.lean ====
module

public import proofs.«01_k».proof.Proof.Mla.Prep
public import proofs.«01_k».proof.Proof.Mla.Attn
public import proofs.«01_k».proof.Proof.Mla.Ref

@[expose] public section

set_option maxRecDepth 16384

noncomputable section

open Idealize.ShloMosaic Idealize.ShloMosaic.TcCoe Idealize.SL.Sem

namespace Cert.Mla

open Cert.KernelIdeal Cert.KernelIdeal.Gen

/-- The projection's blocks hold the rows, the angles' tables, the padded weights and the padded gains. -/
structure Fed (x0 : Vec Ideal S1x512x768 .bf16) (x1 x2 x3 : Vec Ideal S1x512x128 .f32) (x4 : Vec Ideal S1x1x384 .f32) (x5 x6 : Vec Ideal S1x384x1024 .bf16) (x7 : Vec Ideal S1x1x256 .f32) (x8 : Vec Ideal S1x256x2048 .bf16) (x9 x10 x11 : Vec Ideal S1x1x128 .f32) (p : Fin 512 → Fin 672 → EReal) (pos : Fin 512 → BitVec 32) (g2 : Fin 384 → EReal) (w3 : Fin 384 → Fin 768 → EReal) (g4 : Fin 256 → EReal) (w5 : Fin 256 → Fin 1024 → EReal) (g6 g7 : Fin 96 → EReal) : Prop where
  h0 : ∀ (i : Fin 512) (y : Fin 768), x0 (ix3 0 i y) = if h : y.val < 672 then p i ⟨y.val, h⟩ else 0
  h1 : ∀ (i : Fin 512) (j : Fin 128), x1 (ix3 0 i j) = cosT (rcos (pos i)) j
  h2 : ∀ (i : Fin 512) (j : Fin 128), x2 (ix3 0 i j) = sin1T (rsin (pos i)) j
  h3 : ∀ (i : Fin 512) (j : Fin 128), x3 (ix3 0 i j) = sin2T (rsin (pos i)) j
  h4 : ∀ y : Fin 384, x4 (ix3 0 0 y) = g2 y
  h5 : ∀ (x : Fin 384) (h : Fin 8) (j : Fin 128), x5 (ix3 0 x ⟨128 * h.val + j.val, by omega⟩) = padT (fun d => w3 x ⟨h.val * 96 + d.val, by omega⟩) j
  h6 : ∀ (x : Fin 384) (h : Fin 8) (j : Fin 128), x6 (ix3 0 x ⟨128 * h.val + j.val, by omega⟩) = padT (swapT (fun d => w3 x ⟨h.val * 96 + d.val, by omega⟩)) j
  h7 : ∀ y : Fin 256, x7 (ix3 0 0 y) = g4 y
  h8 : ∀ (x : Fin 256) (h : Fin 8) (j : Fin 128), x8 (ix3 0 x ⟨128 * h.val + j.val, by omega⟩) = if h1 : j.val < 64 then w5 x ⟨h.val * 128 + j.val, by omega⟩ else 0
  h8v : ∀ (x : Fin 256) (h : Fin 8) (j : Fin 128), x8 (ix3 0 x ⟨1024 + (128 * h.val + j.val), by omega⟩) = if h1 : j.val < 64 then w5 x ⟨h.val * 128 + (64 + j.val), by omega⟩ else 0
  h9 : ∀ j : Fin 128, x9 (ix3 0 0 j) = padT g6 j
  h10 : ∀ j : Fin 128, x10 (ix3 0 0 j) = padT (swapT g6) j
  h11 : ∀ j : Fin 128, x11 (ix3 0 0 j) = padT g7 j

/-- A product with padded weights is the padded product. -/
theorem padT_sum {n : ℕ} (L : Fin n → EReal) (w : Fin n → Fin 96 → EReal) (j : Fin 128) : ∑ x, L x * padT (w x) j = padT (fun d => ∑ x, L x * w x d) j := by
  unfold padT
  by_cases h : j.val < 96
  · simp only [dif_pos h]
  · simp only [dif_neg h, mul_zero, Finset.sum_const_zero]

/-- A product with swapped weights is the swapped product. -/
theorem swapT_sum {n : ℕ} (L : Fin n → EReal) (w : Fin n → Fin 96 → EReal) (d : Fin 96) : ∑ x, L x * swapT (w x) d = swapT (fun d => ∑ x, L x * w x d) d := by
  unfold swapT
  by_cases h : d.val < 64
  · simp only [dif_pos h]
  · by_cases h2 : d.val - 64 < 16
    · simp only [dif_neg h, dif_pos h2]
    · simp only [dif_neg h, dif_neg h2]

/-- The choice of the column of ones. -/
theorem one_col (j : Fin 128) : IntOp.cmpi .eq (BitVec.ofNat 32 j.val) 64#32 = if j.val = 64 then 1#1 else 0#1 := by
  revert j
  decide

section
variable {x0 : Vec Ideal S1x512x768 .bf16} {x1 x2 x3 : Vec Ideal S1x512x128 .f32} {x4 : Vec Ideal S1x1x384 .f32} {x5 x6 : Vec Ideal S1x384x1024 .bf16} {x7 : Vec Ideal S1x1x256 .f32} {x8 : Vec Ideal S1x256x2048 .bf16} {x9 x10 x11 : Vec Ideal S1x1x128 .f32}
variable {p : Fin 512 → Fin 672 → EReal} {pos : Fin 512 → BitVec 32} {g2 : Fin 384 → EReal} {w3 : Fin 384 → Fin 768 → EReal} {g4 : Fin 256 → EReal} {w5 : Fin 256 → Fin 1024 → EReal} {g6 g7 : Fin 96 → EReal}

/-- The first columns of a fed row. -/
theorem Fed.cols (H : Fed x0 x1 x2 x3 x4 x5 x6 x7 x8 x9 x10 x11 p pos g2 w3 g4 w5 g6 g7) (i : Fin 512) : (fun y : Fin 384 => x0 (ix3 0 i ⟨y.val, by omega⟩)) = fun y => p i ⟨y.val, by omega⟩ :=
  funext fun y => by rw [H.h0, dif_pos (by dsimp only; omega)]

/-- The middle columns of a fed row. -/
theorem Fed.cols' (H : Fed x0 x1 x2 x3 x4 x5 x6 x7 x8 x9 x10 x11 p pos g2 w3 g4 w5 g6 g7) (i : Fin 512) : (fun y : Fin 256 => x0 (ix3 0 i ⟨384 + y.val, by omega⟩)) = fun y => p i ⟨384 + y.val, by omega⟩ :=
  funext fun y => by rw [H.h0, dif_pos (by dsimp only; omega)]

/-- The queries a block leaves. -/
theorem slab_q (H : Fed x0 x1 x2 x3 x4 x5 x6 x7 x8 x9 x10 x11 p pos g2 w3 g4 w5 g6 g7) (G : Fin 96 → ℝ) (hG : ∀ j, g6 j = (G j : EReal)) (h : Fin 8) (i : Fin 512) (j : Fin 128) :
    out0_12 x0 x1 x2 x3 x4 x5 x6 x7 x8 x9 x10 x11 (ix4 0 h i j)
      = padT (fun x => rope (nrm (qrow (p i) g2 w3 h) g6) (rcos (pos i)) (rsin (pos i)) x * (((Real.sqrt 96)⁻¹ * (Real.log 2)⁻¹ : ℝ) : EReal)) j := by
  have eg : (fun y => x4 (ix3 0 0 y)) = g2 := funext H.h4
  have e68 : (fun x : Fin 128 => k0_pay68 x0 x1 x2 x3 x4 x5 x6 x7 x8 x9 x10 x11 (ix2 i ⟨128 * h.val + x.val, by omega⟩)) = padT (qrow (p i) g2 w3 h) := funext fun x => by
    rw [st68, H.cols i, eg]
    simp only [H.h5]
    exact padT_sum _ (fun y d => w3 y ⟨h.val * 96 + d.val, by omega⟩) x
  have e69 : (fun x : Fin 128 => k0_pay69 x0 x1 x2 x3 x4 x5 x6 x7 x8 x9 x10 x11 (ix2 i ⟨128 * h.val + x.val, by omega⟩)) = padT (swapT (qrow (p i) g2 w3 h)) := funext fun x => by
    rw [st69, H.cols i, eg]
    simp only [H.h6]
    refine (padT_sum _ (fun y => swapT (fun d => w3 y ⟨h.val * 96 + d.val, by omega⟩)) x).trans ?_
    exact congrArg (fun f => padT f x) (funext fun d => swapT_sum _ (fun y d => w3 y ⟨h.val * 96 + d.val, by omega⟩) d)
  have e71 : (fun x : Fin 128 => k0_pay71 x0 x1 x2 x3 x4 x5 x6 x7 x8 x9 x10 x11 (ix2 0 x)) = padT g6 := funext fun x => by rw [st71 x0 x1 x2 x3 x4 x5 x6 x7 x8 x9 x10 x11 i, H.h9]
  have e72 : (fun x : Fin 128 => k0_pay72 x0 x1 x2 x3 x4 x5 x6 x7 x8 x9 x10 x11 (ix2 0 x)) = padT (swapT g6) := funext fun x => by rw [st72 x0 x1 x2 x3 x4 x5 x6 x7 x8 x9 x10 x11 i, H.h10]
  have e65 : (fun x : Fin 128 => k0_pay65 x0 x1 x2 x3 x4 x5 x6 x7 x8 x9 x10 x11 (ix2 i x)) = cosT (rcos (pos i)) := funext fun x => by rw [st65, H.h1]
  have e66 : (fun x : Fin 128 => k0_pay66 x0 x1 x2 x3 x4 x5 x6 x7 x8 x9 x10 x11 (ix2 i x)) = fun x => sin1T (rsin (pos i)) x + sin2T (rsin (pos i)) x := funext fun x => by rw [st66, H.h2, H.h3]
  obtain ⟨C, hC⟩ := rcos_real (pos i)
  obtain ⟨S, hS⟩ := rsin_real (pos i)
  rw [out_q, qhead, e68, e69, e71, e72, e65, e66]
  exact kq_eq _ _ _ _ G C S hG hC hS _ j

/-- The keys a block leaves. -/
theorem slab_k (H : Fed x0 x1 x2 x3 x4 x5 x6 x7 x8 x9 x10 x11 p pos g2 w3 g4 w5 g6 g7) (G : Fin 96 → ℝ) (hG : ∀ j, g7 j = (G j : EReal)) (h : Fin 8) (i : Fin 512) (j : Fin 128) :
    out0_13 x0 x1 x2 x3 x4 x5 x6 x7 x8 x9 x10 x11 (ix4 0 h i j) = padT (rope (nrm (krow (p i) g4 w5 h) g7) (rcos (pos i)) (rsin (pos i))) j := by
  have eg : (fun y => x7 (ix3 0 0 y)) = g4 := funext H.h7
  have e73 : (fun x : Fin 128 => k0_pay73 x0 x1 x2 x3 x4 x5 x6 x7 x8 x9 x10 x11 (ix2 0 x)) = padT g7 := funext fun x => by rw [st73 x0 x1 x2 x3 x4 x5 x6 x7 x8 x9 x10 x11 i, H.h11]
  have e65 : (fun x : Fin 128 => k0_pay65 x0 x1 x2 x3 x4 x5 x6 x7 x8 x9 x10 x11 (ix2 i x)) = cosT (rcos (pos i)) := funext fun x => by rw [st65, H.h1]
  have e4 : (fun x : Fin 128 => k0_pay4 (F := Ideal) (View.ld x2 r0_1) (ix2 i x)) = sin1T (rsin (pos i)) := funext fun x => by rw [st4 x0 x1 x2 x3 x4 x5 x6 x7 x8 x9 x10 x11, H.h2]
  have e5 : (fun x : Fin 128 => k0_pay5 (F := Ideal) (View.ld x3 r0_1) (ix2 i x)) = sin2T (rsin (pos i)) := funext fun x => by rw [st5 x0 x1 x2 x3 x4 x5 x6 x7 x8 x9 x10 x11, H.h3]
  obtain ⟨C, hC⟩ := rcos_real (pos i)
  obtain ⟨S, hS⟩ := rsin_real (pos i)
  rw [out_k, khead, e73, e65, e4, e5]
  refine kk_eq _ _ _ _ G C S hG hC hS _ _ (fun j => ?_) (fun j => ?_) j
  · rw [st70, H.cols' i, eg]
    simp only [H.h8]
    by_cases hj : j.val < 64
    · simp only [dif_pos hj, krow]
    · simp only [dif_neg hj, mul_zero, Finset.sum_const_zero]
  · rw [st67, H.h0]
    by_cases hj : 64 ≤ j.val ∧ j.val < 96
    · rw [dif_pos hj, dif_pos (by dsimp only; omega), krow, dif_neg (by dsimp only; omega)]
      exact congrArg (p i) (Fin.ext (by dsimp only; omega))
    · rw [dif_neg hj, dif_neg (by dsimp only; omega)]

/-- The values a block leaves, a column of ones after them. -/
theorem slab_v (H : Fed x0 x1 x2 x3 x4 x5 x6 x7 x8 x9 x10 x11 p pos g2 w3 g4 w5 g6 g7) (h : Fin 8) (i : Fin 512) (j : Fin 128) :
    out0_14 x0 x1 x2 x3 x4 x5 x6 x7 x8 x9 x10 x11 (ix4 0 h i j) = if hj : j.val < 64 then vrow (p i) g4 w5 h ⟨j.val, hj⟩ else if j.val = 64 then 1 else 0 := by
  have eg : (fun y => x7 (ix3 0 0 y)) = g4 := funext H.h7
  rw [out_v, st70, H.cols' i, eg, one_col]
  simp only [H.h8v]
  by_cases hj : j.val < 64
  · rw [if_neg (by omega)]
    simp only [dif_pos hj, vrow]
    exact add_zero _
  · simp only [dif_neg hj, mul_zero, Finset.sum_const_zero, zero_add]
    by_cases h2 : j.val = 64
    · rw [if_pos h2, if_pos h2]; rfl
    · rw [if_neg h2, if_neg h2]; rfl

end

/-- A head's output, given its rows. -/
theorem slab_a (x0 x1 x2 : Vec Ideal S1x2x2048x128 .bf16) (A B : Fin 2048 → Fin 96 → EReal) (W : Fin 2048 → Fin 64 → EReal) (Q K : Fin 2048 → Fin 96 → ℝ)
    (hA : ∀ i d, A i d = (Q i d : EReal)) (hB : ∀ i d, B i d = (K i d : EReal)) (h : Fin 2)
    (h0 : ∀ i d, x0 (ix4 0 h i d) = padT (fun x => A i x * (((Real.sqrt 96)⁻¹ * (Real.log 2)⁻¹ : ℝ) : EReal)) d) (h1 : ∀ i d, x1 (ix4 0 h i d) = padT (B i) d)
    (h2 : ∀ i (d : Fin 128), x2 (ix4 0 h i d) = if hj : d.val < 64 then W i ⟨d.val, hj⟩ else if d.val = 64 then 1 else 0) (i : Fin 2048) (j : Fin 64) :
    ahead x0 x1 x2 h i j = attn (fun x => ∑ d, A i d * B x d) (fun x => W x j) := by
  have ev : (fun x : Fin 2048 => x2 (ix4 0 h x ⟨j.val, by omega⟩)) = fun x => W x j := funext fun x => by rw [h2, dif_pos j.isLt]
  have ew : (fun x : Fin 2048 => x2 (ix4 0 h x 64)) = fun _ => 1 := funext fun x => by rw [h2, dif_neg (by decide), if_pos (by decide)]
  have es : (fun x : Fin 2048 => ∑ d, x0 (ix4 0 h i d) * x1 (ix4 0 h x d)) = fun x => (((∑ d, Q i d * K x d) * ((Real.sqrt 96)⁻¹ * (Real.log 2)⁻¹) : ℝ) : EReal) := funext fun x => by
    simp only [h0, h1]
    exact score_eq (Q i) (K x) _ (A i) (B x) (hA i) (hB x)
  rw [ahead, ev, ew, es, wmean, attn]
  refine attn_eq (fun x => ∑ d, Q i d * K x d) _ _ _ (fun x => ?_) (fun x => rfl)
  simp only [hA, hB, ← EReal.coe_mul]
  exact sum_coe _ _

end Cert.Mla
end
-- ==== Proof.Mla.Tables.lean ====
module

public import proofs.«01_k».proof.Proof.Gen.KernelIdeal.Frame
public import proofs.«01_k».proof.Proof.Mla.Math
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Mla

open Cert.KernelIdeal Cert.KernelIdeal.Gen

/-- The zero the host pads with. -/
abbrev zeroI : IVec S_ 32 := constantI S_ 32 0#32

/-- The zero the host pads with, as a float. -/
abbrev zeroF : FVec Ideal S_ .f32 := sitofp .f32 zeroI

/-- The angles of every position. -/
abbrev angT (x1 : IVec S8x2048 32) : FVec Ideal S8x2048x16 .f32 :=
  mulf (broadcastInDim S8x2048x16 ![0, 1, 2] bcast_S8x2048x1_S8x2048x16_0_1_2 (broadcastInDim S8x2048x1 ![0, 1] bcast_S8x2048_S8x2048x1_0_1 (sitofp .f32 x1 : FVec Ideal S8x2048 .f32)))
    (broadcastInDim S8x2048x16 ![0, 1, 2] bcast_S1x1x16_S8x2048x16_0_1_2 (broadcastInDim S1x1x16 ![2] bcast_S16_S1x1x16_2
      (Host.powf (broadcastInDim S16 ![] bcast_S_S16 (constant S_ .f32 0x461C4000#32 : FVec Ideal S_ .f32))
        (Host.divf (Host.negf (addf (broadcastInDim S16 ![] bcast_S_S16 (constant S_ .f32 0x00000000#32 : FVec Ideal S_ .f32)) (mulf (broadcastInDim S16 ![] bcast_S_S16 (constant S_ .f32 0x40000000#32 : FVec Ideal S_ .f32)) (sitofp .f32 (iotaInDim S16 32 0) : FVec Ideal S16 .f32)))) (broadcastInDim S16 ![] bcast_S_S16 (constant S_ .f32 0x42000000#32 : FVec Ideal S_ .f32))))))

/-- Zeros over the first lanes. -/
abbrev zero64 : FVec Ideal S8x2048x64 .f32 := broadcastInDim S8x2048x64 ![] bcast_S_S8x2048x64 (constant S_ .f32 0x00000000#32 : FVec Ideal S_ .f32)

/-- Zeros over half of the turned lanes. -/
abbrev zero16 : FVec Ideal S8x2048x16 .f32 := broadcastInDim S8x2048x16 ![] bcast_S_S8x2048x16 (constant S_ .f32 0x00000000#32 : FVec Ideal S_ .f32)

/-- Zeros over the last lanes. -/
abbrev zero32 : FVec Ideal S8x2048x32 .f32 := broadcastInDim S8x2048x32 ![] bcast_S_S8x2048x32 (constant S_ .f32 0x00000000#32 : FVec Ideal S_ .f32)

/-- The host's table of cosines. -/
abbrev cosTab (x1 : IVec S8x2048 32) : FVec Ideal S8x2048x128 .f32 :=
  concatenate S8x2048x128 2 [⟨S8x2048x64, (broadcastInDim S8x2048x64 ![] bcast_S_S8x2048x64 (constant S_ .f32 0x3F800000#32 : FVec Ideal S_ .f32) : FVec Ideal S8x2048x64 .f32)⟩, ⟨S8x2048x16, (Host.cos (angT x1) : FVec Ideal S8x2048x16 .f32)⟩, ⟨S8x2048x16, (Host.cos (angT x1) : FVec Ideal S8x2048x16 .f32)⟩, ⟨S8x2048x32, (addf zero32 (broadcastInDim S8x2048x32 ![] bcast_S_S8x2048x32 (constant S_ .f32 0x3F800000#32 : FVec Ideal S_ .f32)) : FVec Ideal S8x2048x32 .f32)⟩] concatenates_S8x2048x64_S8x2048x16_S8x2048x16_S8x2048x32_S8x2048x128_d2

/-- The host's first table of sines. -/
abbrev sinTab1 (x1 : IVec S8x2048 32) : FVec Ideal S8x2048x128 .f32 :=
  concatenate S8x2048x128 2 [⟨S8x2048x64, zero64⟩, ⟨S8x2048x16, (Host.negf (Host.sin (angT x1)) : FVec Ideal S8x2048x16 .f32)⟩, ⟨S8x2048x16, zero16⟩, ⟨S8x2048x32, zero32⟩] concatenates_S8x2048x64_S8x2048x16_S8x2048x16_S8x2048x32_S8x2048x128_d2

/-- The host's second table of sines. -/
abbrev sinTab2 (x1 : IVec S8x2048 32) : FVec Ideal S8x2048x128 .f32 :=
  concatenate S8x2048x128 2 [⟨S8x2048x64, zero64⟩, ⟨S8x2048x16, zero16⟩, ⟨S8x2048x16, (Host.sin (angT x1) : FVec Ideal S8x2048x16 .f32)⟩, ⟨S8x2048x32, zero32⟩] concatenates_S8x2048x64_S8x2048x16_S8x2048x16_S8x2048x32_S8x2048x128_d2

/-- The queries' weight by heads. -/
abbrev wq4 (x3 : FVec Ideal S4x384x768 .f32) : FVec Ideal S4x384x8x96 .f32 := shapeCast S4x384x8x96 x3 shapeCasts_S4x384x768_S4x384x8x96

/-- A head's columns exchanged. -/
abbrev wqSw (x : FVec Ideal S4x384x8x96 .f32) : FVec Ideal S4x384x8x96 .f32 :=
  concatenate S4x384x8x96 3 [⟨S4x384x8x64, (extractStridedSlice S4x384x8x64 ![0, 0, 0, 0] x slices_S4x384x8x96_S4x384x8x64_0_0_0_0 : FVec Ideal S4x384x8x64 .f32)⟩, ⟨S4x384x8x16, (extractStridedSlice S4x384x8x16 ![0, 0, 0, 80] x slices_S4x384x8x96_S4x384x8x16_0_0_0_80 : FVec Ideal S4x384x8x16 .f32)⟩, ⟨S4x384x8x16, (extractStridedSlice S4x384x8x16 ![0, 0, 0, 64] x slices_S4x384x8x96_S4x384x8x16_0_0_0_64 : FVec Ideal S4x384x8x16 .f32)⟩] concatenates_S4x384x8x64_S4x384x8x16_S4x384x8x16_S4x384x8x96_d3

/-- A head's columns padded. -/
abbrev wqPad (x : FVec Ideal S4x384x8x96 .f32) : FVec Ideal S4x384x8x128 .f32 :=
  pad S4x384x8x128 ![0, 0, 0, 0] ![0, 0, 0, 32] ![0, 0, 0, 0] x zeroF pads_S4x384x8x96_S4x384x8x128_000_000_000_0320 h_S_

/-- The heads' columns side by side. -/
abbrev wqFlat (x : FVec Ideal S4x384x8x128 .f32) : FVec Ideal S4x384x1024 .bf16 :=
  truncf .bf16 (shapeCast S4x384x1024 x shapeCasts_S4x384x8x128_S4x384x1024 : FVec Ideal S4x384x1024 .f32) bitsLt_bf16_f32

/-- The keys' and values' weight by heads. -/
abbrev wkv4 (x5 : FVec Ideal S4x256x1024 .f32) : FVec Ideal S4x256x8x128 .f32 := shapeCast S4x256x8x128 x5 shapeCasts_S4x256x1024_S4x256x8x128

/-- The keys' part of a head. -/
abbrev wkA (x : FVec Ideal S4x256x8x128 .f32) : FVec Ideal S4x256x8x64 .f32 := extractStridedSlice S4x256x8x64 ![0, 0, 0, 0] x slices_S4x256x8x128_S4x256x8x64_0_0_0_0

/-- The values' part of a head. -/
abbrev wkB (x : FVec Ideal S4x256x8x128 .f32) : FVec Ideal S4x256x8x64 .f32 := extractStridedSlice S4x256x8x64 ![0, 0, 0, 64] x slices_S4x256x8x128_S4x256x8x64_0_0_0_64

/-- A part padded. -/
abbrev wkPad (x : FVec Ideal S4x256x8x64 .f32) : FVec Ideal S4x256x8x128 .f32 :=
  pad S4x256x8x128 ![0, 0, 0, 0] ![0, 0, 0, 64] ![0, 0, 0, 0] x zeroF pads_S4x256x8x64_S4x256x8x128_000_000_000_0640 h_S_

/-- The heads' parts side by side. -/
abbrev wkFlat (x : FVec Ideal S4x256x8x128 .f32) : FVec Ideal S4x256x1024 .f32 := shapeCast S4x256x1024 x shapeCasts_S4x256x8x128_S4x256x1024

/-- The keys' and the values' columns side by side. -/
abbrev wkCat (a b : FVec Ideal S4x256x1024 .f32) : FVec Ideal S4x256x2048 .bf16 :=
  truncf .bf16 (concatenate S4x256x2048 2 [⟨S4x256x1024, a⟩, ⟨S4x256x1024, b⟩] concatenates_S4x256x1024_S4x256x1024_S4x256x2048_d2 : FVec Ideal S4x256x2048 .f32) bitsLt_bf16_f32

/-- Gains padded. -/
abbrev gPad (x : FVec Ideal S4x96 .f32) : FVec Ideal S4x128 .f32 := pad S4x128 ![0, 0] ![0, 32] ![0, 0] x zeroF pads_S4x96_S4x128_000_0320 h_S_

/-- Gains as rows. -/
abbrev gRow (x : FVec Ideal S4x128 .f32) : FVec Ideal S4x1x128 .f32 := shapeCast S4x1x128 x shapeCasts_S4x128_S4x1x128

/-- Gains exchanged. -/
abbrev gSw (x : FVec Ideal S4x96 .f32) : FVec Ideal S4x96 .f32 :=
  concatenate S4x96 1 [⟨S4x64, (extractStridedSlice S4x64 ![0, 0] x slices_S4x96_S4x64_0_0 : FVec Ideal S4x64 .f32)⟩, ⟨S4x16, (extractStridedSlice S4x16 ![0, 80] x slices_S4x96_S4x16_0_80 : FVec Ideal S4x16 .f32)⟩, ⟨S4x16, (extractStridedSlice S4x16 ![0, 64] x slices_S4x96_S4x16_0_64 : FVec Ideal S4x16 .f32)⟩] concatenates_S4x64_S4x16_S4x16_S4x96_d1

/-- The projection padded. -/
abbrev pPad (x0 : FVec Ideal S8x2048x672 .f32) : FVec Ideal S8x2048x768 .f32 := pad S8x2048x768 ![0, 0, 0] ![0, 0, 96] ![0, 0, 0] x0 zeroF pads_S8x2048x672_S8x2048x768_000_000_0960 h_S_

/-- The padding is zero. -/
theorem sito0 : FloatOps.sitofp (F := Ideal) .f32 (0#32) = 0 := by
  show (((0#32 : BitVec 32).toInt : ℝ) : EReal) = 0
  simp

/-- The angle's table at an index. -/
theorem angT_apply (x1 : IVec S8x2048 32) (b : Fin 8) (s : Fin 2048) (j : Fin 16) : angT x1 (ix3 b s j) = ang (x1 (ix2 b s)) j := by
  pointwise
  simp [ang]

/-- The table of cosines at an index. -/
theorem cosTab_apply (x1 : IVec S8x2048 32) (b : Fin 8) (s : Fin 2048) (j : Fin 128) : cosTab x1 (ix3 b s j) = cosT (rcos (x1 (ix2 b s))) j := by
  pointwise
  simp [cosT, rcos, ang]

/-- The first table of sines at an index. -/
theorem sinTab1_apply (x1 : IVec S8x2048 32) (b : Fin 8) (s : Fin 2048) (j : Fin 128) : sinTab1 x1 (ix3 b s j) = sin1T (rsin (x1 (ix2 b s))) j := by
  pointwise
  simp [sin1T, rsin, ang]

/-- The second table of sines at an index. -/
theorem sinTab2_apply (x1 : IVec S8x2048 32) (b : Fin 8) (s : Fin 2048) (j : Fin 128) : sinTab2 x1 (ix3 b s j) = sin2T (rsin (x1 (ix2 b s))) j := by
  pointwise
  simp [sin2T, rsin, ang]
  have e : j.val - 64 - 16 = j.val - 80 := by omega
  simp only [e]
  split_ifs <;> first | rfl | omega

/-- The queries' padded weight at an index. -/
theorem wq_apply (x3 : FVec Ideal S4x384x768 .f32) (l : Fin 4) (x : Fin 384) (h : Fin 8) (j : Fin 128) :
    wqFlat (wqPad (wq4 x3)) (ix3 l x ⟨128 * h.val + j.val, by omega⟩) = padT (fun d => x3 (ix3 l x ⟨h.val * 96 + d.val, by omega⟩)) j := by
  pointwise
  simp [padT, sito0]

/-- The queries' exchanged padded weight at an index. -/
theorem wqs_apply (x3 : FVec Ideal S4x384x768 .f32) (l : Fin 4) (x : Fin 384) (h : Fin 8) (j : Fin 128) :
    wqFlat (wqPad (wqSw (wq4 x3))) (ix3 l x ⟨128 * h.val + j.val, by omega⟩) = padT (swapT (fun d => x3 (ix3 l x ⟨h.val * 96 + d.val, by omega⟩))) j := by
  pointwise
  simp [padT, swapT, sito0]

/-- The keys' padded weight at an index. -/
theorem wk_apply (x5 : FVec Ideal S4x256x1024 .f32) (l : Fin 4) (x : Fin 256) (h : Fin 8) (j : Fin 128) :
    wkCat (wkFlat (wkPad (wkA (wkv4 x5)))) (wkFlat (wkPad (wkB (wkv4 x5)))) (ix3 l x ⟨128 * h.val + j.val, by omega⟩)
      = if h1 : j.val < 64 then x5 (ix3 l x ⟨h.val * 128 + j.val, by omega⟩) else 0 := by
  pointwise
  simp [sito0]
  rw [dif_pos (by omega)]
  split_ifs <;> rfl

/-- The values' padded weight at an index. -/
theorem wv_apply (x5 : FVec Ideal S4x256x1024 .f32) (l : Fin 4) (x : Fin 256) (h : Fin 8) (j : Fin 128) :
    wkCat (wkFlat (wkPad (wkA (wkv4 x5)))) (wkFlat (wkPad (wkB (wkv4 x5)))) (ix3 l x ⟨1024 + (128 * h.val + j.val), by omega⟩)
      = if h1 : j.val < 64 then x5 (ix3 l x ⟨h.val * 128 + (64 + j.val), by omega⟩) else 0 := by
  pointwise
  simp [sito0]

/-- The padded gains at an index. -/
theorem g_apply (x : FVec Ideal S4x96 .f32) (l : Fin 4) (j : Fin 128) : gRow (gPad x) (ix3 l 0 j) = padT (fun d => x (ix2 l d)) j := by
  pointwise
  simp [padT, sito0]

/-- The exchanged padded gains at an index. -/
theorem gs_apply (x : FVec Ideal S4x96 .f32) (l : Fin 4) (j : Fin 128) : gRow (gPad (gSw x)) (ix3 l 0 j) = padT (swapT (fun d => x (ix2 l d))) j := by
  pointwise
  simp [padT, swapT, sito0]

/-- The padded projection at an index. -/
theorem p_apply (x0 : FVec Ideal S8x2048x672 .f32) (b : Fin 8) (s : Fin 2048) (j : Fin 768) :
    (truncf .bf16 (pPad x0) bitsLt_bf16_f32 : FVec Ideal S8x2048x768 .bf16) (ix3 b s j) = if h : j.val < 672 then x0 (ix3 b s ⟨j.val, h⟩) else 0 := by
  pointwise
  simp [sito0]

end Cert.Mla
end
-- ==== Proof.Mla.Host.lean ====
module

public import proofs.«01_k».proof.Proof.Gen.KernelIdeal.Frame
public import proofs.«01_k».proof.Proof.Mla.Tables
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Mla

open Cert.KernelIdeal Cert.KernelIdeal.Gen

/-- What every buffer of a device holds. -/
abbrev Val := Valuation τ sig (Elt Ideal)

/-- The value of `main_v24` after its stretch. -/
theorem ops0_v24 (s : Val) (arg1 : IVec S8x2048 32) (h_arg1 : s (Proc.tc.devRef main_arg1) = arg1) : StableHlo.after (hostOps0 (F := Ideal)) s (Proc.tc.devRef main_v24) = (cosTab arg1 : FVec Ideal S8x2048x128 .f32) := by
  subst h_arg1
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v26` after its stretch. -/
theorem ops0_v26 (s : Val) (arg1 : IVec S8x2048 32) (h_arg1 : s (Proc.tc.devRef main_arg1) = arg1) : StableHlo.after (hostOps0 (F := Ideal)) s (Proc.tc.devRef main_v26) = (sinTab1 arg1 : FVec Ideal S8x2048x128 .f32) := by
  subst h_arg1
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v27` after its stretch. -/
theorem ops0_v27 (s : Val) (arg1 : IVec S8x2048 32) (h_arg1 : s (Proc.tc.devRef main_arg1) = arg1) : StableHlo.after (hostOps0 (F := Ideal)) s (Proc.tc.devRef main_v27) = (sinTab2 arg1 : FVec Ideal S8x2048x128 .f32) := by
  subst h_arg1
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v28` after its stretch. -/
theorem ops0_v28 (s : Val) (arg3 : FVec Ideal S4x384x768 .f32) (h_arg3 : s (Proc.tc.devRef main_arg3) = arg3) : StableHlo.after (hostOps0 (F := Ideal)) s (Proc.tc.devRef main_v28) = (wq4 arg3 : FVec Ideal S4x384x8x96 .f32) := by
  subst h_arg3
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v29` after its stretch. -/
theorem ops0_v29 (s : Val) (arg5 : FVec Ideal S4x256x1024 .f32) (h_arg5 : s (Proc.tc.devRef main_arg5) = arg5) : StableHlo.after (hostOps0 (F := Ideal)) s (Proc.tc.devRef main_v29) = (wkv4 arg5 : FVec Ideal S4x256x8x128 .f32) := by
  subst h_arg5
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v30` after its stretch. -/
theorem ops0_v30 (s : Val) (arg2 : FVec Ideal S4x384 .f32) (h_arg2 : s (Proc.tc.devRef main_arg2) = arg2) : StableHlo.after (hostOps0 (F := Ideal)) s (Proc.tc.devRef main_v30) = (shapeCast S4x1x384 arg2 shapeCasts_S4x384_S4x1x384 : FVec Ideal S4x1x384 .f32) := by
  subst h_arg2
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_c` after its stretch. -/
theorem ops0_c (s : Val) : StableHlo.after (hostOps0 (F := Ideal)) s (Proc.tc.devRef main_c) = (zeroI : IVec S_ 32) := by
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v31` after its stretch. -/
theorem ops1_v31 (s : Val) (v28 : FVec Ideal S4x384x8x96 .f32) (h_v28 : s (Proc.tc.devRef main_v28) = v28) (h_c : s (Proc.tc.devRef main_c) = zeroI) : StableHlo.after (hostOps0_1 (F := Ideal)) s (Proc.tc.devRef main_v31) = (wqPad v28 : FVec Ideal S4x384x8x128 .f32) := by
  subst h_v28
  simp only [StableHlo.after_cons, StableHlo.after_nil, StableHlo.TRef.binary, StableHlo.TRef.nullary, StableHlo.TRef.unary, StableHlo.TRef.toBuf, StableHlo.TRef.ofBuf, cast_eq]
  try after_results_simp
  try rw [h_c]
  try rfl

/-- The value of `main_v33` after its stretch. -/
theorem ops2_v33 (s : Val) (v31 : FVec Ideal S4x384x8x128 .f32) (h_v31 : s (Proc.tc.devRef main_v31) = v31) : StableHlo.after (hostOps0_2 (F := Ideal)) s (Proc.tc.devRef main_v33) = (wqFlat v31 : FVec Ideal S4x384x1024 .bf16) := by
  subst h_v31
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v37` after its stretch. -/
theorem ops2_v37 (s : Val) (v28 : FVec Ideal S4x384x8x96 .f32) (h_v28 : s (Proc.tc.devRef main_v28) = v28) : StableHlo.after (hostOps0_2 (F := Ideal)) s (Proc.tc.devRef main_v37) = (wqSw v28 : FVec Ideal S4x384x8x96 .f32) := by
  subst h_v28
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_c_8` after its stretch. -/
theorem ops2_c_8 (s : Val) : StableHlo.after (hostOps0_2 (F := Ideal)) s (Proc.tc.devRef main_c_8) = (zeroI : IVec S_ 32) := by
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v38` after its stretch. -/
theorem ops3_v38 (s : Val) (v37 : FVec Ideal S4x384x8x96 .f32) (h_v37 : s (Proc.tc.devRef main_v37) = v37) (h_c_8 : s (Proc.tc.devRef main_c_8) = zeroI) : StableHlo.after (hostOps0_3 (F := Ideal)) s (Proc.tc.devRef main_v38) = (wqPad v37 : FVec Ideal S4x384x8x128 .f32) := by
  subst h_v37
  simp only [StableHlo.after_cons, StableHlo.after_nil, StableHlo.TRef.binary, StableHlo.TRef.nullary, StableHlo.TRef.unary, StableHlo.TRef.toBuf, StableHlo.TRef.ofBuf, cast_eq]
  try after_results_simp
  try rw [h_c_8]
  try rfl

/-- The value of `main_v40` after its stretch. -/
theorem ops4_v40 (s : Val) (v38 : FVec Ideal S4x384x8x128 .f32) (h_v38 : s (Proc.tc.devRef main_v38) = v38) : StableHlo.after (hostOps0_4 (F := Ideal)) s (Proc.tc.devRef main_v40) = (wqFlat v38 : FVec Ideal S4x384x1024 .bf16) := by
  subst h_v38
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v41` after its stretch. -/
theorem ops4_v41 (s : Val) (arg4 : FVec Ideal S4x256 .f32) (h_arg4 : s (Proc.tc.devRef main_arg4) = arg4) : StableHlo.after (hostOps0_4 (F := Ideal)) s (Proc.tc.devRef main_v41) = (shapeCast S4x1x256 arg4 shapeCasts_S4x256_S4x1x256 : FVec Ideal S4x1x256 .f32) := by
  subst h_arg4
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v42` after its stretch. -/
theorem ops4_v42 (s : Val) (v29 : FVec Ideal S4x256x8x128 .f32) (h_v29 : s (Proc.tc.devRef main_v29) = v29) : StableHlo.after (hostOps0_4 (F := Ideal)) s (Proc.tc.devRef main_v42) = (wkA v29 : FVec Ideal S4x256x8x64 .f32) := by
  subst h_v29
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_c_9` after its stretch. -/
theorem ops4_c_9 (s : Val) : StableHlo.after (hostOps0_4 (F := Ideal)) s (Proc.tc.devRef main_c_9) = (zeroI : IVec S_ 32) := by
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v43` after its stretch. -/
theorem ops5_v43 (s : Val) (v42 : FVec Ideal S4x256x8x64 .f32) (h_v42 : s (Proc.tc.devRef main_v42) = v42) (h_c_9 : s (Proc.tc.devRef main_c_9) = zeroI) : StableHlo.after (hostOps0_5 (F := Ideal)) s (Proc.tc.devRef main_v43) = (wkPad v42 : FVec Ideal S4x256x8x128 .f32) := by
  subst h_v42
  simp only [StableHlo.after_cons, StableHlo.after_nil, StableHlo.TRef.binary, StableHlo.TRef.nullary, StableHlo.TRef.unary, StableHlo.TRef.toBuf, StableHlo.TRef.ofBuf, cast_eq]
  try after_results_simp
  try rw [h_c_9]
  try rfl

/-- The value of `main_v44` after its stretch. -/
theorem ops6_v44 (s : Val) (v43 : FVec Ideal S4x256x8x128 .f32) (h_v43 : s (Proc.tc.devRef main_v43) = v43) : StableHlo.after (hostOps0_6 (F := Ideal)) s (Proc.tc.devRef main_v44) = (wkFlat v43 : FVec Ideal S4x256x1024 .f32) := by
  subst h_v43
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v45` after its stretch. -/
theorem ops6_v45 (s : Val) (v29 : FVec Ideal S4x256x8x128 .f32) (h_v29 : s (Proc.tc.devRef main_v29) = v29) : StableHlo.after (hostOps0_6 (F := Ideal)) s (Proc.tc.devRef main_v45) = (wkB v29 : FVec Ideal S4x256x8x64 .f32) := by
  subst h_v29
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_c_10` after its stretch. -/
theorem ops6_c_10 (s : Val) : StableHlo.after (hostOps0_6 (F := Ideal)) s (Proc.tc.devRef main_c_10) = (zeroI : IVec S_ 32) := by
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v46` after its stretch. -/
theorem ops7_v46 (s : Val) (v45 : FVec Ideal S4x256x8x64 .f32) (h_v45 : s (Proc.tc.devRef main_v45) = v45) (h_c_10 : s (Proc.tc.devRef main_c_10) = zeroI) : StableHlo.after (hostOps0_7 (F := Ideal)) s (Proc.tc.devRef main_v46) = (wkPad v45 : FVec Ideal S4x256x8x128 .f32) := by
  subst h_v45
  simp only [StableHlo.after_cons, StableHlo.after_nil, StableHlo.TRef.binary, StableHlo.TRef.nullary, StableHlo.TRef.unary, StableHlo.TRef.toBuf, StableHlo.TRef.ofBuf, cast_eq]
  try after_results_simp
  try rw [h_c_10]
  try rfl

/-- The value of `main_v49` after its stretch. -/
theorem ops8_v49 (s : Val) (v44 : FVec Ideal S4x256x1024 .f32) (h_v44 : s (Proc.tc.devRef main_v44) = v44) (v46 : FVec Ideal S4x256x8x128 .f32) (h_v46 : s (Proc.tc.devRef main_v46) = v46) : StableHlo.after (hostOps0_8 (F := Ideal)) s (Proc.tc.devRef main_v49) = (wkCat v44 (wkFlat v46) : FVec Ideal S4x256x2048 .bf16) := by
  subst h_v44
  subst h_v46
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_c_11` after its stretch. -/
theorem ops8_c_11 (s : Val) : StableHlo.after (hostOps0_8 (F := Ideal)) s (Proc.tc.devRef main_c_11) = (zeroI : IVec S_ 32) := by
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v50` after its stretch. -/
theorem ops9_v50 (s : Val) (arg6 : FVec Ideal S4x96 .f32) (h_arg6 : s (Proc.tc.devRef main_arg6) = arg6) (h_c_11 : s (Proc.tc.devRef main_c_11) = zeroI) : StableHlo.after (hostOps0_9 (F := Ideal)) s (Proc.tc.devRef main_v50) = (gPad arg6 : FVec Ideal S4x128 .f32) := by
  subst h_arg6
  simp only [StableHlo.after_cons, StableHlo.after_nil, StableHlo.TRef.binary, StableHlo.TRef.nullary, StableHlo.TRef.unary, StableHlo.TRef.toBuf, StableHlo.TRef.ofBuf, cast_eq]
  try after_results_simp
  try rw [h_c_11]
  try rfl

/-- The value of `main_v51` after its stretch. -/
theorem ops10_v51 (s : Val) (v50 : FVec Ideal S4x128 .f32) (h_v50 : s (Proc.tc.devRef main_v50) = v50) : StableHlo.after (hostOps0_10 (F := Ideal)) s (Proc.tc.devRef main_v51) = (gRow v50 : FVec Ideal S4x1x128 .f32) := by
  subst h_v50
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v55` after its stretch. -/
theorem ops10_v55 (s : Val) (arg6 : FVec Ideal S4x96 .f32) (h_arg6 : s (Proc.tc.devRef main_arg6) = arg6) : StableHlo.after (hostOps0_10 (F := Ideal)) s (Proc.tc.devRef main_v55) = (gSw arg6 : FVec Ideal S4x96 .f32) := by
  subst h_arg6
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_c_12` after its stretch. -/
theorem ops10_c_12 (s : Val) : StableHlo.after (hostOps0_10 (F := Ideal)) s (Proc.tc.devRef main_c_12) = (zeroI : IVec S_ 32) := by
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v56` after its stretch. -/
theorem ops11_v56 (s : Val) (v55 : FVec Ideal S4x96 .f32) (h_v55 : s (Proc.tc.devRef main_v55) = v55) (h_c_12 : s (Proc.tc.devRef main_c_12) = zeroI) : StableHlo.after (hostOps0_11 (F := Ideal)) s (Proc.tc.devRef main_v56) = (gPad v55 : FVec Ideal S4x128 .f32) := by
  subst h_v55
  simp only [StableHlo.after_cons, StableHlo.after_nil, StableHlo.TRef.binary, StableHlo.TRef.nullary, StableHlo.TRef.unary, StableHlo.TRef.toBuf, StableHlo.TRef.ofBuf, cast_eq]
  try after_results_simp
  try rw [h_c_12]
  try rfl

/-- The value of `main_v57` after its stretch. -/
theorem ops12_v57 (s : Val) (v56 : FVec Ideal S4x128 .f32) (h_v56 : s (Proc.tc.devRef main_v56) = v56) : StableHlo.after (hostOps0_12 (F := Ideal)) s (Proc.tc.devRef main_v57) = (gRow v56 : FVec Ideal S4x1x128 .f32) := by
  subst h_v56
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_c_13` after its stretch. -/
theorem ops12_c_13 (s : Val) : StableHlo.after (hostOps0_12 (F := Ideal)) s (Proc.tc.devRef main_c_13) = (zeroI : IVec S_ 32) := by
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v58` after its stretch. -/
theorem ops13_v58 (s : Val) (arg7 : FVec Ideal S4x96 .f32) (h_arg7 : s (Proc.tc.devRef main_arg7) = arg7) (h_c_13 : s (Proc.tc.devRef main_c_13) = zeroI) : StableHlo.after (hostOps0_13 (F := Ideal)) s (Proc.tc.devRef main_v58) = (gPad arg7 : FVec Ideal S4x128 .f32) := by
  subst h_arg7
  simp only [StableHlo.after_cons, StableHlo.after_nil, StableHlo.TRef.binary, StableHlo.TRef.nullary, StableHlo.TRef.unary, StableHlo.TRef.toBuf, StableHlo.TRef.ofBuf, cast_eq]
  try after_results_simp
  try rw [h_c_13]
  try rfl

/-- The value of `main_v59` after its stretch. -/
theorem ops14_v59 (s : Val) (v58 : FVec Ideal S4x128 .f32) (h_v58 : s (Proc.tc.devRef main_v58) = v58) : StableHlo.after (hostOps0_14 (F := Ideal)) s (Proc.tc.devRef main_v59) = (gRow v58 : FVec Ideal S4x1x128 .f32) := by
  subst h_v58
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_c_14` after its stretch. -/
theorem ops14_c_14 (s : Val) : StableHlo.after (hostOps0_14 (F := Ideal)) s (Proc.tc.devRef main_c_14) = (zeroI : IVec S_ 32) := by
  simp only [StableHlo.after_cons, StableHlo.after_nil, StableHlo.TRef.binary, StableHlo.TRef.nullary, StableHlo.TRef.unary, StableHlo.TRef.toBuf, StableHlo.TRef.ofBuf, cast_eq]
  try after_results_simp
  try rfl

/-- The value of `main_v60` after its stretch. -/
theorem ops15_v60 (s : Val) (arg0 : FVec Ideal S8x2048x672 .f32) (h_arg0 : s (Proc.tc.devRef main_arg0) = arg0) (h_c_14 : s (Proc.tc.devRef main_c_14) = zeroI) : StableHlo.after (hostOps0_15 (F := Ideal)) s (Proc.tc.devRef main_v60) = (pPad arg0 : FVec Ideal S8x2048x768 .f32) := by
  subst h_arg0
  simp only [StableHlo.after_cons, StableHlo.after_nil, StableHlo.TRef.binary, StableHlo.TRef.nullary, StableHlo.TRef.unary, StableHlo.TRef.toBuf, StableHlo.TRef.ofBuf, cast_eq]
  try after_results_simp
  try rw [h_c_14]
  try rfl

/-- The value of `main_v61` after its stretch. -/
theorem ops16_v61 (s : Val) (v60 : FVec Ideal S8x2048x768 .f32) (h_v60 : s (Proc.tc.devRef main_v60) = v60) : StableHlo.after (hostOps0_16 (F := Ideal)) s (Proc.tc.devRef main_v61) = (truncf .bf16 v60 bitsLt_bf16_f32 : FVec Ideal S8x2048x768 .bf16) := by
  subst h_v60
  simp only [StableHlo.after_cons, StableHlo.after_nil, StableHlo.TRef.binary, StableHlo.TRef.nullary, StableHlo.TRef.unary, StableHlo.TRef.toBuf, StableHlo.TRef.ofBuf, cast_eq]
  try after_results_simp
  try rfl

variable (m : (ℓ : Loc nD τ sig) → Buf (Elt Ideal) ℓ) (ρ : Dev nD → PrngReg)

/-- The contents of `main_v61` when the first region is entered. -/
theorem V_v61 (c : Dev nD) : V17 m ρ c main_v61 = (truncf .bf16 (pPad (m ((c : Thread nD τ).loc main_arg0))) bitsLt_bf16_f32 : FVec Ideal S8x2048x768 .bf16) :=
  (ops16_v61 (W16 m ρ c) _ (ops15_v60 (W15 m ρ c) _ (W15_args m ρ c main_arg0 (by decide)) (ops14_c_14 (W14 m ρ c))))

/-- The contents of `main_v24` when the first region is entered. -/
theorem V_v24 (c : Dev nD) : V17 m ρ c main_v24 = (cosTab (m ((c : Thread nD τ).loc main_arg1)) : FVec Ideal S8x2048x128 .f32) :=
  ((W17_of m ρ c main_v24 (by decide)).trans ((W16_of m ρ c main_v24 (by decide)).trans ((W15_of m ρ c main_v24 (by decide)).trans ((W14_of m ρ c main_v24 (by decide)).trans ((W13_of m ρ c main_v24 (by decide)).trans ((W12_of m ρ c main_v24 (by decide)).trans ((W11_of m ρ c main_v24 (by decide)).trans ((W10_of m ρ c main_v24 (by decide)).trans ((W9_of m ρ c main_v24 (by decide)).trans ((W8_of m ρ c main_v24 (by decide)).trans ((W7_of m ρ c main_v24 (by decide)).trans ((W6_of m ρ c main_v24 (by decide)).trans ((W5_of m ρ c main_v24 (by decide)).trans ((W4_of m ρ c main_v24 (by decide)).trans ((W3_of m ρ c main_v24 (by decide)).trans ((W2_of m ρ c main_v24 (by decide)).trans (ops0_v24 (W0 m ρ c) _ (W0_args m ρ c main_arg1 (by decide)))))))))))))))))))

/-- The contents of `main_v26` when the first region is entered. -/
theorem V_v26 (c : Dev nD) : V17 m ρ c main_v26 = (sinTab1 (m ((c : Thread nD τ).loc main_arg1)) : FVec Ideal S8x2048x128 .f32) :=
  ((W17_of m ρ c main_v26 (by decide)).trans ((W16_of m ρ c main_v26 (by decide)).trans ((W15_of m ρ c main_v26 (by decide)).trans ((W14_of m ρ c main_v26 (by decide)).trans ((W13_of m ρ c main_v26 (by decide)).trans ((W12_of m ρ c main_v26 (by decide)).trans ((W11_of m ρ c main_v26 (by decide)).trans ((W10_of m ρ c main_v26 (by decide)).trans ((W9_of m ρ c main_v26 (by decide)).trans ((W8_of m ρ c main_v26 (by decide)).trans ((W7_of m ρ c main_v26 (by decide)).trans ((W6_of m ρ c main_v26 (by decide)).trans ((W5_of m ρ c main_v26 (by decide)).trans ((W4_of m ρ c main_v26 (by decide)).trans ((W3_of m ρ c main_v26 (by decide)).trans ((W2_of m ρ c main_v26 (by decide)).trans (ops0_v26 (W0 m ρ c) _ (W0_args m ρ c main_arg1 (by decide)))))))))))))))))))

/-- The contents of `main_v27` when the first region is entered. -/
theorem V_v27 (c : Dev nD) : V17 m ρ c main_v27 = (sinTab2 (m ((c : Thread nD τ).loc main_arg1)) : FVec Ideal S8x2048x128 .f32) :=
  ((W17_of m ρ c main_v27 (by decide)).trans ((W16_of m ρ c main_v27 (by decide)).trans ((W15_of m ρ c main_v27 (by decide)).trans ((W14_of m ρ c main_v27 (by decide)).trans ((W13_of m ρ c main_v27 (by decide)).trans ((W12_of m ρ c main_v27 (by decide)).trans ((W11_of m ρ c main_v27 (by decide)).trans ((W10_of m ρ c main_v27 (by decide)).trans ((W9_of m ρ c main_v27 (by decide)).trans ((W8_of m ρ c main_v27 (by decide)).trans ((W7_of m ρ c main_v27 (by decide)).trans ((W6_of m ρ c main_v27 (by decide)).trans ((W5_of m ρ c main_v27 (by decide)).trans ((W4_of m ρ c main_v27 (by decide)).trans ((W3_of m ρ c main_v27 (by decide)).trans ((W2_of m ρ c main_v27 (by decide)).trans (ops0_v27 (W0 m ρ c) _ (W0_args m ρ c main_arg1 (by decide)))))))))))))))))))

/-- The contents of `main_v30` when the first region is entered. -/
theorem V_v30 (c : Dev nD) : V17 m ρ c main_v30 = (shapeCast S4x1x384 (m ((c : Thread nD τ).loc main_arg2)) shapeCasts_S4x384_S4x1x384 : FVec Ideal S4x1x384 .f32) :=
  ((W17_of m ρ c main_v30 (by decide)).trans ((W16_of m ρ c main_v30 (by decide)).trans ((W15_of m ρ c main_v30 (by decide)).trans ((W14_of m ρ c main_v30 (by decide)).trans ((W13_of m ρ c main_v30 (by decide)).trans ((W12_of m ρ c main_v30 (by decide)).trans ((W11_of m ρ c main_v30 (by decide)).trans ((W10_of m ρ c main_v30 (by decide)).trans ((W9_of m ρ c main_v30 (by decide)).trans ((W8_of m ρ c main_v30 (by decide)).trans ((W7_of m ρ c main_v30 (by decide)).trans ((W6_of m ρ c main_v30 (by decide)).trans ((W5_of m ρ c main_v30 (by decide)).trans ((W4_of m ρ c main_v30 (by decide)).trans ((W3_of m ρ c main_v30 (by decide)).trans ((W2_of m ρ c main_v30 (by decide)).trans (ops0_v30 (W0 m ρ c) _ (W0_args m ρ c main_arg2 (by decide)))))))))))))))))))

/-- The contents of `main_v33` when the first region is entered. -/
theorem V_v33 (c : Dev nD) : V17 m ρ c main_v33 = (wqFlat (wqPad (wq4 (m ((c : Thread nD τ).loc main_arg3)))) : FVec Ideal S4x384x1024 .bf16) :=
  ((W17_of m ρ c main_v33 (by decide)).trans ((W16_of m ρ c main_v33 (by decide)).trans ((W15_of m ρ c main_v33 (by decide)).trans ((W14_of m ρ c main_v33 (by decide)).trans ((W13_of m ρ c main_v33 (by decide)).trans ((W12_of m ρ c main_v33 (by decide)).trans ((W11_of m ρ c main_v33 (by decide)).trans ((W10_of m ρ c main_v33 (by decide)).trans ((W9_of m ρ c main_v33 (by decide)).trans ((W8_of m ρ c main_v33 (by decide)).trans ((W7_of m ρ c main_v33 (by decide)).trans ((W6_of m ρ c main_v33 (by decide)).trans ((W5_of m ρ c main_v33 (by decide)).trans ((W4_of m ρ c main_v33 (by decide)).trans (ops2_v33 (W2 m ρ c) _ (ops1_v31 (W1 m ρ c) _ (ops0_v28 (W0 m ρ c) _ (W0_args m ρ c main_arg3 (by decide))) (ops0_c (W0 m ρ c))))))))))))))))))

/-- The contents of `main_v40` when the first region is entered. -/
theorem V_v40 (c : Dev nD) : V17 m ρ c main_v40 = (wqFlat (wqPad (wqSw (wq4 (m ((c : Thread nD τ).loc main_arg3))))) : FVec Ideal S4x384x1024 .bf16) :=
  ((W17_of m ρ c main_v40 (by decide)).trans ((W16_of m ρ c main_v40 (by decide)).trans ((W15_of m ρ c main_v40 (by decide)).trans ((W14_of m ρ c main_v40 (by decide)).trans ((W13_of m ρ c main_v40 (by decide)).trans ((W12_of m ρ c main_v40 (by decide)).trans ((W11_of m ρ c main_v40 (by decide)).trans ((W10_of m ρ c main_v40 (by decide)).trans ((W9_of m ρ c main_v40 (by decide)).trans ((W8_of m ρ c main_v40 (by decide)).trans ((W7_of m ρ c main_v40 (by decide)).trans ((W6_of m ρ c main_v40 (by decide)).trans (ops4_v40 (W4 m ρ c) _ (ops3_v38 (W3 m ρ c) _ (ops2_v37 (W2 m ρ c) _ ((W2_of m ρ c main_v28 (by decide)).trans (ops0_v28 (W0 m ρ c) _ (W0_args m ρ c main_arg3 (by decide))))) (ops2_c_8 (W2 m ρ c))))))))))))))))

/-- The contents of `main_v41` when the first region is entered. -/
theorem V_v41 (c : Dev nD) : V17 m ρ c main_v41 = (shapeCast S4x1x256 (m ((c : Thread nD τ).loc main_arg4)) shapeCasts_S4x256_S4x1x256 : FVec Ideal S4x1x256 .f32) :=
  ((W17_of m ρ c main_v41 (by decide)).trans ((W16_of m ρ c main_v41 (by decide)).trans ((W15_of m ρ c main_v41 (by decide)).trans ((W14_of m ρ c main_v41 (by decide)).trans ((W13_of m ρ c main_v41 (by decide)).trans ((W12_of m ρ c main_v41 (by decide)).trans ((W11_of m ρ c main_v41 (by decide)).trans ((W10_of m ρ c main_v41 (by decide)).trans ((W9_of m ρ c main_v41 (by decide)).trans ((W8_of m ρ c main_v41 (by decide)).trans ((W7_of m ρ c main_v41 (by decide)).trans ((W6_of m ρ c main_v41 (by decide)).trans (ops4_v41 (W4 m ρ c) _ (W4_args m ρ c main_arg4 (by decide)))))))))))))))

/-- The contents of `main_v49` when the first region is entered. -/
theorem V_v49 (c : Dev nD) : V17 m ρ c main_v49 = (wkCat (wkFlat (wkPad (wkA (wkv4 (m ((c : Thread nD τ).loc main_arg5)))))) (wkFlat (wkPad (wkB (wkv4 (m ((c : Thread nD τ).loc main_arg5)))))) : FVec Ideal S4x256x2048 .bf16) :=
  ((W17_of m ρ c main_v49 (by decide)).trans ((W16_of m ρ c main_v49 (by decide)).trans ((W15_of m ρ c main_v49 (by decide)).trans ((W14_of m ρ c main_v49 (by decide)).trans ((W13_of m ρ c main_v49 (by decide)).trans ((W12_of m ρ c main_v49 (by decide)).trans ((W11_of m ρ c main_v49 (by decide)).trans ((W10_of m ρ c main_v49 (by decide)).trans (ops8_v49 (W8 m ρ c) _ ((W8_of m ρ c main_v44 (by decide)).trans (ops6_v44 (W6 m ρ c) _ (ops5_v43 (W5 m ρ c) _ (ops4_v42 (W4 m ρ c) _ ((W4_of m ρ c main_v29 (by decide)).trans ((W3_of m ρ c main_v29 (by decide)).trans ((W2_of m ρ c main_v29 (by decide)).trans (ops0_v29 (W0 m ρ c) _ (W0_args m ρ c main_arg5 (by decide))))))) (ops4_c_9 (W4 m ρ c))))) _ (ops7_v46 (W7 m ρ c) _ (ops6_v45 (W6 m ρ c) _ ((W6_of m ρ c main_v29 (by decide)).trans ((W5_of m ρ c main_v29 (by decide)).trans ((W4_of m ρ c main_v29 (by decide)).trans ((W3_of m ρ c main_v29 (by decide)).trans ((W2_of m ρ c main_v29 (by decide)).trans (ops0_v29 (W0 m ρ c) _ (W0_args m ρ c main_arg5 (by decide))))))))) (ops6_c_10 (W6 m ρ c))))))))))))

/-- The contents of `main_v51` when the first region is entered. -/
theorem V_v51 (c : Dev nD) : V17 m ρ c main_v51 = (gRow (gPad (m ((c : Thread nD τ).loc main_arg6))) : FVec Ideal S4x1x128 .f32) :=
  ((W17_of m ρ c main_v51 (by decide)).trans ((W16_of m ρ c main_v51 (by decide)).trans ((W15_of m ρ c main_v51 (by decide)).trans ((W14_of m ρ c main_v51 (by decide)).trans ((W13_of m ρ c main_v51 (by decide)).trans ((W12_of m ρ c main_v51 (by decide)).trans (ops10_v51 (W10 m ρ c) _ (ops9_v50 (W9 m ρ c) _ (W9_args m ρ c main_arg6 (by decide)) (ops8_c_11 (W8 m ρ c))))))))))

/-- The contents of `main_v57` when the first region is entered. -/
theorem V_v57 (c : Dev nD) : V17 m ρ c main_v57 = (gRow (gPad (gSw (m ((c : Thread nD τ).loc main_arg6)))) : FVec Ideal S4x1x128 .f32) :=
  ((W17_of m ρ c main_v57 (by decide)).trans ((W16_of m ρ c main_v57 (by decide)).trans ((W15_of m ρ c main_v57 (by decide)).trans ((W14_of m ρ c main_v57 (by decide)).trans (ops12_v57 (W12 m ρ c) _ (ops11_v56 (W11 m ρ c) _ (ops10_v55 (W10 m ρ c) _ (W10_args m ρ c main_arg6 (by decide))) (ops10_c_12 (W10 m ρ c))))))))

/-- The contents of `main_v59` when the first region is entered. -/
theorem V_v59 (c : Dev nD) : V17 m ρ c main_v59 = (gRow (gPad (m ((c : Thread nD τ).loc main_arg7))) : FVec Ideal S4x1x128 .f32) :=
  ((W17_of m ρ c main_v59 (by decide)).trans ((W16_of m ρ c main_v59 (by decide)).trans (ops14_v59 (W14 m ρ c) _ (ops13_v58 (W13 m ρ c) _ (W13_args m ρ c main_arg7 (by decide)) (ops12_c_13 (W12 m ρ c))))))

end Cert.Mla
end
-- ==== Proof.Mla.Value.lean ====
module

public import proofs.«01_k».proof.Proof.Mla.Slab
public import proofs.«01_k».proof.Proof.Mla.Host

@[expose] public section

set_option maxRecDepth 16384

noncomputable section

open Idealize.ShloMosaic Idealize.ShloMosaic.TcCoe Idealize.SL.Sem

namespace Cert.Mla

open Cert.KernelIdeal Cert.KernelIdeal.Gen

/-- Where the projection's blocks lie. -/
theorem idx0 : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0]
    ∧ win0_4.index t = ![3, 0, 0] ∧ win0_5.index t = ![3, 0, 0] ∧ win0_6.index t = ![3, 0, 0] ∧ win0_7.index t = ![3, 0, 0] ∧ win0_8.index t = ![3, 0, 0]
    ∧ win0_9.index t = ![3, 0, 0] ∧ win0_10.index t = ![3, 0, 0] ∧ win0_11.index t = ![3, 0, 0]
    ∧ win0_12.index t = ![t.val / 4, 0, t.val % 4, 0] ∧ win0_13.index t = ![t.val / 4, 0, t.val % 4, 0] ∧ win0_14.index t = ![t.val / 4, 0, t.val % 4, 0] :=
  (by decide +kernel : ∀ t : Fin grid0.N, _)

/-- Where the attention's blocks lie. -/
theorem idx1 : ∀ t : Fin cfg1.N, win1_0.index t = ![t.val / 4, t.val % 4, 0, 0] ∧ win1_1.index t = ![t.val / 4, t.val % 4, 0, 0] ∧ win1_2.index t = ![t.val / 4, t.val % 4, 0, 0]
    ∧ win1_3.index t = ![t.val / 4, 0, t.val % 4] :=
  (by decide +kernel : ∀ t : Fin grid1.N, _)

/-- The sequence a point of the projection's grid works on. -/
def seq (t : Fin cfg0.N) : Fin 8 := ⟨t.val / 4, by have : t.val < 32 := t.isLt; omega⟩

/-- The position a block's row has in its sequence. -/
def pos (t : Fin cfg0.N) (i : Fin 512) : Fin 2048 := ⟨512 * (t.val % 4) + i.val, by omega⟩

/-- The sequence a point of the attention's grid works on. -/
def seq' (t : Fin cfg1.N) : Fin 8 := ⟨t.val / 4, by have : t.val < 32 := t.isLt; omega⟩

/-- The head of the array a block's head is. -/
def head (t : Fin cfg1.N) (h : Fin 2) : Fin 8 := ⟨2 * (t.val % 4) + h.val, by omega⟩

section Blocks
variable (V : (c : Dev nD) → (b : Ref sig .tc) → Buf (Elt Ideal) ((c : Thread nD τ).loc b))

/-- A block of operand 0 of the projection, read back. -/
theorem blk0 (c : Dev nD) (t : Fin cfg0.N) (i : Fin 512) (j : Fin 768) :
    (iblk0 V c 0 t : Vec Ideal S1x512x768 .bf16) (ix3 0 i j) = (V c main_v61 : FVec Ideal S8x2048x768 .bf16) (ix3 (seq t) (pos t i) j) := by
  unfold seq pos
  have hN : t.val < 32 := t.isLt
  blk_point [iblk0, idx0 t]

/-- A block of operand 1 of the projection, read back. -/
theorem blk1 (c : Dev nD) (t : Fin cfg0.N) (i : Fin 512) (j : Fin 128) :
    (iblk0 V c 1 t : Vec Ideal S1x512x128 .f32) (ix3 0 i j) = (V c main_v24 : FVec Ideal S8x2048x128 .f32) (ix3 (seq t) (pos t i) j) := by
  unfold seq pos
  have hN : t.val < 32 := t.isLt
  blk_point [iblk0, idx0 t]

/-- A block of operand 2 of the projection, read back. -/
theorem blk2 (c : Dev nD) (t : Fin cfg0.N) (i : Fin 512) (j : Fin 128) :
    (iblk0 V c 2 t : Vec Ideal S1x512x128 .f32) (ix3 0 i j) = (V c main_v26 : FVec Ideal S8x2048x128 .f32) (ix3 (seq t) (pos t i) j) := by
  unfold seq pos
  have hN : t.val < 32 := t.isLt
  blk_point [iblk0, idx0 t]

/-- A block of operand 3 of the projection, read back. -/
theorem blk3 (c : Dev nD) (t : Fin cfg0.N) (i : Fin 512) (j : Fin 128) :
    (iblk0 V c 3 t : Vec Ideal S1x512x128 .f32) (ix3 0 i j) = (V c main_v27 : FVec Ideal S8x2048x128 .f32) (ix3 (seq t) (pos t i) j) := by
  unfold seq pos
  have hN : t.val < 32 := t.isLt
  blk_point [iblk0, idx0 t]

/-- A block of operand 4 of the projection, read back. -/
theorem blk4 (c : Dev nD) (t : Fin cfg0.N) (j : Fin 384) :
    (iblk0 V c 4 t : Vec Ideal S1x1x384 .f32) (ix3 0 0 j) = (V c main_v30 : FVec Ideal S4x1x384 .f32) (ix3 3 0 j) := by
  blk_point [iblk0, idx0 t]

/-- A block of operand 5 of the projection, read back. -/
theorem blk5 (c : Dev nD) (t : Fin cfg0.N) (i : Fin 384) (j : Fin 1024) :
    (iblk0 V c 5 t : Vec Ideal S1x384x1024 .bf16) (ix3 0 i j) = (V c main_v33 : FVec Ideal S4x384x1024 .bf16) (ix3 3 i j) := by
  blk_point [iblk0, idx0 t]

/-- A block of operand 6 of the projection, read back. -/
theorem blk6 (c : Dev nD) (t : Fin cfg0.N) (i : Fin 384) (j : Fin 1024) :
    (iblk0 V c 6 t : Vec Ideal S1x384x1024 .bf16) (ix3 0 i j) = (V c main_v40 : FVec Ideal S4x384x1024 .bf16) (ix3 3 i j) := by
  blk_point [iblk0, idx0 t]

/-- A block of operand 7 of the projection, read back. -/
theorem blk7 (c : Dev nD) (t : Fin cfg0.N) (j : Fin 256) :
    (iblk0 V c 7 t : Vec Ideal S1x1x256 .f32) (ix3 0 0 j) = (V c main_v41 : FVec Ideal S4x1x256 .f32) (ix3 3 0 j) := by
  blk_point [iblk0, idx0 t]

/-- A block of operand 8 of the projection, read back. -/
theorem blk8 (c : Dev nD) (t : Fin cfg0.N) (i : Fin 256) (j : Fin 2048) :
    (iblk0 V c 8 t : Vec Ideal S1x256x2048 .bf16) (ix3 0 i j) = (V c main_v49 : FVec Ideal S4x256x2048 .bf16) (ix3 3 i j) := by
  blk_point [iblk0, idx0 t]

/-- A block of operand 9 of the projection, read back. -/
theorem blk9 (c : Dev nD) (t : Fin cfg0.N) (j : Fin 128) :
    (iblk0 V c 9 t : Vec Ideal S1x1x128 .f32) (ix3 0 0 j) = (V c main_v51 : FVec Ideal S4x1x128 .f32) (ix3 3 0 j) := by
  blk_point [iblk0, idx0 t]

/-- A block of operand 10 of the projection, read back. -/
theorem blk10 (c : Dev nD) (t : Fin cfg0.N) (j : Fin 128) :
    (iblk0 V c 10 t : Vec Ideal S1x1x128 .f32) (ix3 0 0 j) = (V c main_v57 : FVec Ideal S4x1x128 .f32) (ix3 3 0 j) := by
  blk_point [iblk0, idx0 t]

/-- A block of operand 11 of the projection, read back. -/
theorem blk11 (c : Dev nD) (t : Fin cfg0.N) (j : Fin 128) :
    (iblk0 V c 11 t : Vec Ideal S1x1x128 .f32) (ix3 0 0 j) = (V c main_v59 : FVec Ideal S4x1x128 .f32) (ix3 3 0 j) := by
  blk_point [iblk0, idx0 t]

/-- A block of operand 0 of the attention, read back. -/
theorem ablk0 (c : Dev nD) (t : Fin cfg1.N) (h : Fin 2) (i : Fin 2048) (j : Fin 128) :
    (iblk1 V c 0 t : Vec Ideal S1x2x2048x128 .bf16) (ix4 0 h i j) = (V c main_v62_0 : FVec Ideal S8x8x2048x128 .bf16) (ix4 (seq' t) (head t h) i j) := by
  unfold seq' head
  have hN : t.val < 32 := t.isLt
  blk_point [iblk1, idx1 t]

/-- A block of operand 1 of the attention, read back. -/
theorem ablk1 (c : Dev nD) (t : Fin cfg1.N) (h : Fin 2) (i : Fin 2048) (j : Fin 128) :
    (iblk1 V c 1 t : Vec Ideal S1x2x2048x128 .bf16) (ix4 0 h i j) = (V c main_v62_1 : FVec Ideal S8x8x2048x128 .bf16) (ix4 (seq' t) (head t h) i j) := by
  unfold seq' head
  have hN : t.val < 32 := t.isLt
  blk_point [iblk1, idx1 t]

/-- A block of operand 2 of the attention, read back. -/
theorem ablk2 (c : Dev nD) (t : Fin cfg1.N) (h : Fin 2) (i : Fin 2048) (j : Fin 128) :
    (iblk1 V c 2 t : Vec Ideal S1x2x2048x128 .bf16) (ix4 0 h i j) = (V c main_v62_2 : FVec Ideal S8x8x2048x128 .bf16) (ix4 (seq' t) (head t h) i j) := by
  unfold seq' head
  have hN : t.val < 32 := t.isLt
  blk_point [iblk1, idx1 t]

end Blocks

/-- A row of gains with a unit axis between, read back. -/
theorem flat384 (x : FVec Ideal S4x384 .f32) (k : Fin 384) : shapeCast S4x1x384 x shapeCasts_S4x384_S4x1x384 (ix3 3 0 k) = x (ix2 3 k) := by
  pointwise

/-- A row of gains with a unit axis between, read back. -/
theorem flat256 (x : FVec Ideal S4x256 .f32) (k : Fin 256) : shapeCast S4x1x256 x shapeCasts_S4x256_S4x1x256 (ix3 3 0 k) = x (ix2 3 k) := by
  pointwise

variable (m : (ℓ : Loc nD τ sig) → Buf (Elt Ideal) ℓ) (ρ : (c : Dev nD) → PrngReg)

/-- The projection's blocks hold what they should. -/
theorem fed (c : Dev nD) (t : Fin cfg0.N) : Fed (iblk0 (V17 m ρ) c 0 t) (iblk0 (V17 m ρ) c 1 t) (iblk0 (V17 m ρ) c 2 t) (iblk0 (V17 m ρ) c 3 t) (iblk0 (V17 m ρ) c 4 t) (iblk0 (V17 m ρ) c 5 t) (iblk0 (V17 m ρ) c 6 t) (iblk0 (V17 m ρ) c 7 t) (iblk0 (V17 m ρ) c 8 t) (iblk0 (V17 m ρ) c 9 t) (iblk0 (V17 m ρ) c 10 t) (iblk0 (V17 m ρ) c 11 t)
    (fun i y => (m ((c : Thread nD τ).loc main_arg0) : FVec Ideal S8x2048x672 .f32) (ix3 (seq t) (pos t i) y)) (fun i => (m ((c : Thread nD τ).loc main_arg1) : IVec S8x2048 32) (ix2 (seq t) (pos t i))) (fun y => (m ((c : Thread nD τ).loc main_arg2) : FVec Ideal S4x384 .f32) (ix2 3 y)) (fun x y => (m ((c : Thread nD τ).loc main_arg3) : FVec Ideal S4x384x768 .f32) (ix3 3 x y)) (fun y => (m ((c : Thread nD τ).loc main_arg4) : FVec Ideal S4x256 .f32) (ix2 3 y)) (fun x y => (m ((c : Thread nD τ).loc main_arg5) : FVec Ideal S4x256x1024 .f32) (ix3 3 x y)) (fun y => (m ((c : Thread nD τ).loc main_arg6) : FVec Ideal S4x96 .f32) (ix2 3 y)) (fun y => (m ((c : Thread nD τ).loc main_arg7) : FVec Ideal S4x96 .f32) (ix2 3 y)) where
  h0 i y := (blk0 _ c t i y).trans ((congrFun (V_v61 m ρ c) _).trans (p_apply _ _ _ _))
  h1 i j := (blk1 _ c t i j).trans ((congrFun (V_v24 m ρ c) _).trans (cosTab_apply _ _ _ _))
  h2 i j := (blk2 _ c t i j).trans ((congrFun (V_v26 m ρ c) _).trans (sinTab1_apply _ _ _ _))
  h3 i j := (blk3 _ c t i j).trans ((congrFun (V_v27 m ρ c) _).trans (sinTab2_apply _ _ _ _))
  h4 y := (blk4 _ c t y).trans ((congrFun (V_v30 m ρ c) _).trans (flat384 _ _))
  h5 x h j := (blk5 _ c t x _).trans ((congrFun (V_v33 m ρ c) _).trans (wq_apply _ _ _ _ _))
  h6 x h j := (blk6 _ c t x _).trans ((congrFun (V_v40 m ρ c) _).trans (wqs_apply _ _ _ _ _))
  h7 y := (blk7 _ c t y).trans ((congrFun (V_v41 m ρ c) _).trans (flat256 _ _))
  h8 x h j := (blk8 _ c t x _).trans ((congrFun (V_v49 m ρ c) _).trans (wk_apply _ _ _ _ _))
  h8v x h j := (blk8 _ c t x _).trans ((congrFun (V_v49 m ρ c) _).trans (wv_apply _ _ _ _ _))
  h9 j := (blk9 _ c t j).trans ((congrFun (V_v51 m ρ c) _).trans (g_apply _ _ _))
  h10 j := (blk10 _ c t j).trans ((congrFun (V_v57 m ρ c) _).trans (gs_apply _ _ _))
  h11 j := (blk11 _ c t j).trans ((congrFun (V_v59 m ρ c) _).trans (g_apply _ _ _))

/-- The queries, normalised and turned. -/
def qf (x0 : FVec Ideal S8x2048x672 .f32) (x1 : IVec S8x2048 32) (x2 : FVec Ideal S4x384 .f32) (x3 : FVec Ideal S4x384x768 .f32) (x6 : FVec Ideal S4x96 .f32) (b h : Fin 8) (s : Fin 2048) : Fin 96 → EReal :=
  rope (nrm (qrow (fun y => x0 (ix3 b s y)) (fun y => x2 (ix2 3 y)) (fun x y => x3 (ix3 3 x y)) h) (fun y => x6 (ix2 3 y))) (rcos (x1 (ix2 b s))) (rsin (x1 (ix2 b s)))

/-- The keys, normalised and turned. -/
def kf (x0 : FVec Ideal S8x2048x672 .f32) (x1 : IVec S8x2048 32) (x4 : FVec Ideal S4x256 .f32) (x5 : FVec Ideal S4x256x1024 .f32) (x7 : FVec Ideal S4x96 .f32) (b h : Fin 8) (s : Fin 2048) : Fin 96 → EReal :=
  rope (nrm (krow (fun y => x0 (ix3 b s y)) (fun y => x4 (ix2 3 y)) (fun x y => x5 (ix3 3 x y)) h) (fun y => x7 (ix2 3 y))) (rcos (x1 (ix2 b s))) (rsin (x1 (ix2 b s)))

/-- The values. -/
def vf (x0 : FVec Ideal S8x2048x672 .f32) (x4 : FVec Ideal S4x256 .f32) (x5 : FVec Ideal S4x256x1024 .f32) (b h : Fin 8) (s : Fin 2048) : Fin 64 → EReal :=
  vrow (fun y => x0 (ix3 b s y)) (fun y => x4 (ix2 3 y)) (fun x y => x5 (ix3 3 x y)) h

/-- The array of the scaled queries. -/
def qarr (x0 : FVec Ideal S8x2048x672 .f32) (x1 : IVec S8x2048 32) (x2 : FVec Ideal S4x384 .f32) (x3 : FVec Ideal S4x384x768 .f32) (x6 : FVec Ideal S4x96 .f32) : FVec Ideal S8x8x2048x128 .bf16 :=
  fun y => padT (fun x => qf x0 x1 x2 x3 x6 (y 0) (y 1) (y 2) x * (((Real.sqrt 96)⁻¹ * (Real.log 2)⁻¹ : ℝ) : EReal)) (y 3)

/-- The array of the keys. -/
def karr (x0 : FVec Ideal S8x2048x672 .f32) (x1 : IVec S8x2048 32) (x4 : FVec Ideal S4x256 .f32) (x5 : FVec Ideal S4x256x1024 .f32) (x7 : FVec Ideal S4x96 .f32) : FVec Ideal S8x8x2048x128 .bf16 :=
  fun y => padT (kf x0 x1 x4 x5 x7 (y 0) (y 1) (y 2)) (y 3)

/-- A row of values and the column of ones after it. -/
def vone (v : Fin 64 → EReal) (d : Fin 128) : EReal := if hj : d.val < 64 then v ⟨d.val, hj⟩ else if d.val = 64 then 1 else 0

/-- The array of the values and the column of ones. -/
def varr (x0 : FVec Ideal S8x2048x672 .f32) (x4 : FVec Ideal S4x256 .f32) (x5 : FVec Ideal S4x256x1024 .f32) : FVec Ideal S8x8x2048x128 .bf16 :=
  fun y => vone (vf x0 x4 x5 (y 0) (y 1) (y 2)) (y 3)

set_option maxHeartbeats 2000000 in
/-- The array of window 12 after the projection, given what its blocks hold. -/
theorem final_q (V : (c : Dev nD) → (b : Ref sig .tc) → Buf (Elt Ideal) ((c : Thread nD τ).loc b)) (c : Dev nD) (x0 : FVec Ideal S8x2048x672 .f32) (x1 : IVec S8x2048 32) (x2 : FVec Ideal S4x384 .f32) (x3 : FVec Ideal S4x384x768 .f32) (x4 : FVec Ideal S4x256 .f32) (x5 : FVec Ideal S4x256x1024 .f32) (x6 x7 : FVec Ideal S4x96 .f32) (G : Fin 96 → ℝ) (hG : ∀ j, x6 (ix2 3 j) = (G j : EReal))
    (H : ∀ t : Fin cfg0.N, Fed (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (fun i y => x0 (ix3 (seq t) (pos t i) y)) (fun i => x1 (ix2 (seq t) (pos t i))) (fun y => x2 (ix2 3 y)) (fun x y => x3 (ix3 3 x y)) (fun y => x4 (ix2 3 y)) (fun x y => x5 (ix3 3 x y)) (fun y => x6 (ix2 3 y)) (fun y => x7 (ix2 3 y))) :
    (dat0 V c).arrAt 12 cfg0.N = qarr x0 x1 x2 x3 x6 := by
  generalize hr : qarr x0 x1 x2 x3 x6 = r
  refine (dat0 V c).arrAt_eq_of_covers 12 _ (by decide +kernel) fun t _ y => ?_
  have hN : t.val < 32 := t.isLt
  blk_simp
  rw [after0_12]
  idx_vars y
  obtain rfl : y0 = 0 := Subsingleton.elim _ _
  have he : (((cfg0.win 12).blk t).view.emb (ix4 0 y1 y2 y3) : S8x8x2048x128.Idx) = ix4 (seq t) y1 (pos t y2) y3 := by
    unfold seq pos
    blk_ext [idx0 t]
    all_goals omega
  rw [he, ← hr]
  exact slab_q (H t) G hG y1 y2 y3

set_option maxHeartbeats 2000000 in
/-- The array of window 13 after the projection, given what its blocks hold. -/
theorem final_k (V : (c : Dev nD) → (b : Ref sig .tc) → Buf (Elt Ideal) ((c : Thread nD τ).loc b)) (c : Dev nD) (x0 : FVec Ideal S8x2048x672 .f32) (x1 : IVec S8x2048 32) (x2 : FVec Ideal S4x384 .f32) (x3 : FVec Ideal S4x384x768 .f32) (x4 : FVec Ideal S4x256 .f32) (x5 : FVec Ideal S4x256x1024 .f32) (x6 x7 : FVec Ideal S4x96 .f32) (G : Fin 96 → ℝ) (hG : ∀ j, x7 (ix2 3 j) = (G j : EReal))
    (H : ∀ t : Fin cfg0.N, Fed (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (fun i y => x0 (ix3 (seq t) (pos t i) y)) (fun i => x1 (ix2 (seq t) (pos t i))) (fun y => x2 (ix2 3 y)) (fun x y => x3 (ix3 3 x y)) (fun y => x4 (ix2 3 y)) (fun x y => x5 (ix3 3 x y)) (fun y => x6 (ix2 3 y)) (fun y => x7 (ix2 3 y))) :
    (dat0 V c).arrAt 13 cfg0.N = karr x0 x1 x4 x5 x7 := by
  generalize hr : karr x0 x1 x4 x5 x7 = r
  refine (dat0 V c).arrAt_eq_of_covers 13 _ (by decide +kernel) fun t _ y => ?_
  have hN : t.val < 32 := t.isLt
  blk_simp
  rw [after0_13]
  idx_vars y
  obtain rfl : y0 = 0 := Subsingleton.elim _ _
  have he : (((cfg0.win 13).blk t).view.emb (ix4 0 y1 y2 y3) : S8x8x2048x128.Idx) = ix4 (seq t) y1 (pos t y2) y3 := by
    unfold seq pos
    blk_ext [idx0 t]
    all_goals omega
  rw [he, ← hr]
  exact slab_k (H t) G hG y1 y2 y3

set_option maxHeartbeats 2000000 in
/-- The array of window 14 after the projection, given what its blocks hold. -/
theorem final_v (V : (c : Dev nD) → (b : Ref sig .tc) → Buf (Elt Ideal) ((c : Thread nD τ).loc b)) (c : Dev nD) (x0 : FVec Ideal S8x2048x672 .f32) (x1 : IVec S8x2048 32) (x2 : FVec Ideal S4x384 .f32) (x3 : FVec Ideal S4x384x768 .f32) (x4 : FVec Ideal S4x256 .f32) (x5 : FVec Ideal S4x256x1024 .f32) (x6 x7 : FVec Ideal S4x96 .f32)
    (H : ∀ t : Fin cfg0.N, Fed (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (fun i y => x0 (ix3 (seq t) (pos t i) y)) (fun i => x1 (ix2 (seq t) (pos t i))) (fun y => x2 (ix2 3 y)) (fun x y => x3 (ix3 3 x y)) (fun y => x4 (ix2 3 y)) (fun x y => x5 (ix3 3 x y)) (fun y => x6 (ix2 3 y)) (fun y => x7 (ix2 3 y))) :
    (dat0 V c).arrAt 14 cfg0.N = varr x0 x4 x5 := by
  generalize hr : varr x0 x4 x5 = r
  refine (dat0 V c).arrAt_eq_of_covers 14 _ (by decide +kernel) fun t _ y => ?_
  have hN : t.val < 32 := t.isLt
  blk_simp
  rw [after0_14]
  idx_vars y
  obtain rfl : y0 = 0 := Subsingleton.elim _ _
  have he : (((cfg0.win 14).blk t).view.emb (ix4 0 y1 y2 y3) : S8x8x2048x128.Idx) = ix4 (seq t) y1 (pos t y2) y3 := by
    unfold seq pos
    blk_ext [idx0 t]
    all_goals omega
  rw [he, ← hr]
  exact slab_v (H t) y1 y2 y3

/-- The turned queries are real when their gains are. -/
theorem qf_real (x0 : FVec Ideal S8x2048x672 .f32) (x1 : IVec S8x2048 32) (x2 : FVec Ideal S4x384 .f32) (x3 : FVec Ideal S4x384x768 .f32) (x6 : FVec Ideal S4x96 .f32) (G : Fin 96 → ℝ) (hG : ∀ j, x6 (ix2 3 j) = (G j : EReal)) (b h : Fin 8) :
    ∃ Q : Fin 2048 → Fin 96 → ℝ, ∀ s d, qf x0 x1 x2 x3 x6 b h s d = (Q s d : EReal) := by
  have e : ∀ s, ∃ R : Fin 96 → ℝ, ∀ d, qf x0 x1 x2 x3 x6 b h s d = (R d : EReal) := fun s =>
    rope_real _ _ _ _ G _ _ hG (rcos_real (x1 (ix2 b s))).choose_spec (rsin_real (x1 (ix2 b s))).choose_spec
  exact ⟨fun s => (e s).choose, fun s => (e s).choose_spec⟩

/-- The turned keys are real when their gains are. -/
theorem kf_real (x0 : FVec Ideal S8x2048x672 .f32) (x1 : IVec S8x2048 32) (x4 : FVec Ideal S4x256 .f32) (x5 : FVec Ideal S4x256x1024 .f32) (x7 : FVec Ideal S4x96 .f32) (G : Fin 96 → ℝ) (hG : ∀ j, x7 (ix2 3 j) = (G j : EReal)) (b h : Fin 8) :
    ∃ K : Fin 2048 → Fin 96 → ℝ, ∀ s d, kf x0 x1 x4 x5 x7 b h s d = (K s d : EReal) := by
  have e : ∀ s, ∃ R : Fin 96 → ℝ, ∀ d, kf x0 x1 x4 x5 x7 b h s d = (R d : EReal) := fun s =>
    rope_real _ _ _ _ G _ _ hG (rcos_real (x1 (ix2 b s))).choose_spec (rsin_real (x1 (ix2 b s))).choose_spec
  exact ⟨fun s => (e s).choose, fun s => (e s).choose_spec⟩

/-- A block of the attention's output is the reference's, given the blocks it reads. -/
theorem slab_out (x0 : FVec Ideal S8x2048x672 .f32) (x1 : IVec S8x2048 32) (x2 : FVec Ideal S4x384 .f32) (x3 : FVec Ideal S4x384x768 .f32) (x4 : FVec Ideal S4x256 .f32) (x5 : FVec Ideal S4x256x1024 .f32) (x6 x7 : FVec Ideal S4x96 .f32)
    (G6 G7 : Fin 96 → ℝ) (h6 : ∀ j, x6 (ix2 3 j) = (G6 j : EReal)) (h7 : ∀ j, x7 (ix2 3 j) = (G7 j : EReal)) (bq bk bv : Vec Ideal S1x2x2048x128 .bf16) (t : Fin cfg1.N)
    (hq : ∀ h i d, bq (ix4 0 h i d) = padT (fun x => qf x0 x1 x2 x3 x6 (seq' t) (head t h) i x * (((Real.sqrt 96)⁻¹ * (Real.log 2)⁻¹ : ℝ) : EReal)) d)
    (hk : ∀ h i d, bk (ix4 0 h i d) = padT (kf x0 x1 x4 x5 x7 (seq' t) (head t h) i) d)
    (hv : ∀ h i d, bv (ix4 0 h i d) = vone (vf x0 x4 x5 (seq' t) (head t h) i) d) (i : Fin 2048) (j : Fin 128) :
    out1_3 bq bk bv (ix3 0 i j) = Cert.ReferenceIdeal.Read.val_main_v140 (F := Ideal) x0 x1 x2 x3 x4 x5 x6 x7 (ix3 (seq' t) i ⟨128 * (t.val % 4) + j.val, by omega⟩) := by
  have key : ∀ (h : Fin 2) (d : Fin 64), ahead bq bk bv h i d = attn (fun x => ∑ e, qf x0 x1 x2 x3 x6 (seq' t) (head t h) i e * kf x0 x1 x4 x5 x7 (seq' t) (head t h) x e) (fun x => vf x0 x4 x5 (seq' t) (head t h) x d) := fun h d => by
    obtain ⟨Q, hQ⟩ := qf_real x0 x1 x2 x3 x6 G6 h6 (seq' t) (head t h)
    obtain ⟨K, hK⟩ := kf_real x0 x1 x4 x5 x7 G7 h7 (seq' t) (head t h)
    exact slab_a bq bk bv _ _ _ Q K hQ hK h (hq h) (hk h) (hv h) i d
  rw [out_a, ref_out]
  by_cases hj : j.val < 64
  · rw [dif_pos hj, key]
    have e1 : (⟨(128 * (t.val % 4) + j.val) / 64, by omega⟩ : Fin 8) = head t 0 := Fin.ext (by change _ = 2 * (t.val % 4) + 0; dsimp only; omega)
    have e2 : (⟨(128 * (t.val % 4) + j.val) % 64, by omega⟩ : Fin 64) = ⟨j.val, hj⟩ := Fin.ext (by dsimp only; omega)
    dsimp only
    rw [e1, e2]
    rfl
  · rw [dif_neg hj, key]
    have e1 : (⟨(128 * (t.val % 4) + j.val) / 64, by omega⟩ : Fin 8) = head t 1 := Fin.ext (by change _ = 2 * (t.val % 4) + 1; dsimp only; omega)
    have e2 : (⟨(128 * (t.val % 4) + j.val) % 64, by omega⟩ : Fin 64) = ⟨j.val - 64, by omega⟩ := Fin.ext (by dsimp only; omega)
    dsimp only
    rw [e1, e2]
    rfl

/-- The attention's array after the run is the reference's, given the arrays it reads. -/
theorem final_of (V : (c : Dev nD) → (b : Ref sig .tc) → Buf (Elt Ideal) ((c : Thread nD τ).loc b)) (c : Dev nD) (x0 : FVec Ideal S8x2048x672 .f32) (x1 : IVec S8x2048 32) (x2 : FVec Ideal S4x384 .f32) (x3 : FVec Ideal S4x384x768 .f32) (x4 : FVec Ideal S4x256 .f32) (x5 : FVec Ideal S4x256x1024 .f32) (x6 x7 : FVec Ideal S4x96 .f32)
    (G6 G7 : Fin 96 → ℝ) (h6 : ∀ j, x6 (ix2 3 j) = (G6 j : EReal)) (h7 : ∀ j, x7 (ix2 3 j) = (G7 j : EReal))
    (eq : V c main_v62_0 = qarr x0 x1 x2 x3 x6) (ek : V c main_v62_1 = karr x0 x1 x4 x5 x7) (ev : V c main_v62_2 = varr x0 x4 x5) :
    (dat1 V c).arrAt 3 cfg1.N = Cert.ReferenceIdeal.Read.val_main_v140 (F := Ideal) x0 x1 x2 x3 x4 x5 x6 x7 := by
  generalize hr : Cert.ReferenceIdeal.Read.val_main_v140 (F := Ideal) x0 x1 x2 x3 x4 x5 x6 x7 = r
  refine (dat1 V c).arrAt_eq_of_covers 3 _ (by decide +kernel) fun t _ y => ?_
  have hN : t.val < 32 := t.isLt
  blk_simp
  rw [after1_3]
  idx_vars y
  obtain rfl : y0 = 0 := Subsingleton.elim _ _
  have he : (((cfg1.win 3).blk t).view.emb (ix3 0 y1 y2) : S8x2048x512.Idx) = ix3 (seq' t) y1 ⟨128 * (t.val % 4) + y2.val, by omega⟩ := by
    unfold seq'
    blk_ext [idx1 t]
    all_goals omega
  rw [he, ← hr]
  exact slab_out _ _ _ _ _ _ _ _ G6 G7 h6 h7 _ _ _ t (fun h i d => (ablk0 _ c t h i d).trans (congrFun eq _)) (fun h i d => (ablk1 _ c t h i d).trans (congrFun ek _)) (fun h i d => (ablk2 _ c t h i d).trans (congrFun ev _)) y1 y2

/-- The attention's array after the run is the reference's, when the gains of the queries and of the keys are real. -/
theorem final (c : Dev nD) (G6 G7 : Fin 96 → ℝ) (h6 : ∀ j, (m ((c : Thread nD τ).loc main_arg6) : FVec Ideal S4x96 .f32) (ix2 3 j) = (G6 j : EReal)) (h7 : ∀ j, (m ((c : Thread nD τ).loc main_arg7) : FVec Ideal S4x96 .f32) (ix2 3 j) = (G7 j : EReal)) :
    (dat1 (V18 m ρ) c).arrAt 3 cfg1.N = Cert.ReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  final_of _ c _ _ _ _ _ _ _ _ G6 G7 h6 h7 ((W18_arr m ρ c 12).trans (final_q _ c _ _ _ _ _ _ _ _ G6 h6 (fed m ρ c))) ((W18_arr m ρ c 13).trans (final_k _ c _ _ _ _ _ _ _ _ G7 h7 (fed m ρ c))) ((W18_arr m ρ c 14).trans (final_v _ c _ _ _ _ _ _ _ _ (fed m ρ c)))

end Cert.Mla
end
-- ==== Proof.Mla.Run.lean ====
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Mla

open Cert.KernelIdeal Cert.KernelIdeal.Gen

local notation "𝕄" => MT nD τ sig Unit (Elt Ideal) ℕ (UR sig nD τ) ℕ

variable (m : (ℓ : Loc nD τ sig) → Buf (Elt Ideal) ℓ) (ρ : (c : Dev nD) → PrngReg)

set_option backward.isDefEq.respectTransparency.types false in
/-- Every run of the two kernels ends with the attention's array as its pipeline leaves it and the arguments unchanged. -/
theorem run : θ_run defs (onTc (τ := τ) (main (F := Ideal))) ⟨m, fun _ => 0, ρ⟩ (fun r => ∀ c : Dev nD,
      r.2.mem ((c.tc : Thread nD τ).loc main_v63) = (dat1 (V18 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => fun c =>
      ⟨(h c _ (mem_uc main_v63 (by decide))).trans (W19_arr m ρ c 3),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c)⟩)

end Cert.Mla
end
-- ==== Proof.Claims.Mla.lean ====
module

public import proofs.«01_k».proof.Defs
public import proofs.«01_k».proof.Proof.Gen.Kernel.Frame
public import proofs.«01_k».proof.Proof.Gen.KernelIdeal.Frame
public import proofs.«01_k».proof.Proof.Mla.Value
public import proofs.«01_k».proof.Proof.Mla.Run
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.Mla

/-- The reference of the attention keeps its arguments and every counter ends at zero. -/
theorem frame_reference : Cert.quiescent_ReferenceIdeal := by
  intro m g _
  refine (θ_run _ _ _).mono (fun r h => ⟨fun c => (h c).2, sem_eq_zero_of_no_sems (by decide) r.2⟩) (Cert.ReferenceIdeal.Value.run (F := Ideal) m g)

/-- The two scales the attention's kernels hold are the roundings of the named reals. -/
theorem preserves : Cert.preserves_Kernel_KernelIdeal :=
  ⟨IdealRules.named_const.statement Cert.KernelIdeal.κ "inv_qk" .f32 0x3C2AAAAB#32 _ rfl,
    IdealRules.named_const.statement Cert.KernelIdeal.κ "qk_scale" .f32 0x3E16C740#32 _ rfl⟩

/-- The precondition's side condition: a scalar spreads over the gains. -/
theorem facts : Cert.Pre_finite_gains.Facts := ⟨by decide⟩

/-- A number whose absolute value lies below infinity is real. -/
theorem real_of_abs (x : Ideal .f32) (h : FloatOps.absf x < Ideal.ofBits .f32 2139095040#32) : ∃ r : ℝ, x = (r : EReal) := by
  have e : Ideal.ofBits .f32 2139095040#32 = (⊤ : EReal) := by simp [Ideal.ofBits, Ideal.ieee]
  rw [e] at h
  change max (x : EReal) (-x) < ⊤ at h
  rw [max_lt_iff] at h
  induction x using EReal.rec with
  | bot => exact absurd h.2 (by simp)
  | top => exact absurd h.1 (by simp)
  | coe r => exact ⟨r, rfl⟩

/-- A conjunction of two bits is set only when both are. -/
theorem both (p q : Bool) : IntOp.andi (BitVec.ofBool p) (BitVec.ofBool q) = 1#1 → p = true ∧ q = true := by
  revert p q
  decide

/-- Both gains are real where the precondition holds. -/
theorem gains [Cert.Pre_finite_gains.Facts] (x0 : FVec Ideal Cert.Pre_finite_gains.S8x2048x672 .f32) (x1 : IVec Cert.Pre_finite_gains.S8x2048 32) (x2 : FVec Ideal Cert.Pre_finite_gains.S4x384 .f32) (x3 : FVec Ideal Cert.Pre_finite_gains.S4x384x768 .f32) (x4 : FVec Ideal Cert.Pre_finite_gains.S4x256 .f32) (x5 : FVec Ideal Cert.Pre_finite_gains.S4x256x1024 .f32) (x6 x7 : FVec Ideal Cert.Pre_finite_gains.S4x96 .f32)
    (h : Cert.Pre_finite_gains.fn (F := Ideal) x0 x1 x2 x3 x4 x5 x6 x7 = fun _ => 1#1) (l : Fin 4) (j : Fin 96) :
    (∃ r : ℝ, x6 (ix2 l j) = (r : EReal)) ∧ ∃ r : ℝ, x7 (ix2 l j) = (r : EReal) := by
  have e := congrFun h (ix2 l j)
  revert e
  pointwise [Cert.Pre_finite_gains.fn]
  intro e
  have hb := both _ _ e
  exact ⟨real_of_abs _ (of_decide_eq_true hb.1), real_of_abs _ (of_decide_eq_true hb.2)⟩

/-- The attention's two kernels and their reference compute the same array, where the gains of the queries and of the keys are finite. -/
theorem algebraic [Cert.Pre_finite_gains.Facts] : Cert.algebraic_KernelIdeal_ReferenceIdeal_pre_finite_gains := by
  intro m g m' g' hpre hagree
  have hg : ∀ (c : Dev Cert.KernelIdeal.nD) (j : Fin 96), _ := fun c j => gains _ _ _ _ _ _ _ _ (hpre c) 3 j
  refine ⟨fun c => (Cert.KernelIdeal.Gen.dat1 (Cert.KernelIdeal.Gen.V18 m g) c).arrAt 3 Cert.KernelIdeal.cfg1.N, run m g, ?_⟩
  refine (θ_run _ _ _).mono (fun r h c => ⟨(h c).1.trans ?_, (h c).2⟩) (Cert.ReferenceIdeal.Value.run (F := Ideal) m' g')
  obtain ⟨h0, h1, h2, h3, h4, h5, h6, h7⟩ := hagree c
  refine Eq.trans ?_ (final m g c _ _ (fun j => (hg c j).1.choose_spec) (fun j => (hg c j).2.choose_spec)).symm
  rw [Cert.ReferenceIdeal.Read.val_main_v140_eq]
  simp only [h0, h1, h2, h3, h4, h5, h6, h7]

end Cert.Mla
end
-- ==== Proof.Ffn.Loop.lean ====
module

public import proofs.«01_k».proof.Proof.Gen.Kernel2Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Ffn

open Cert.Kernel2Ideal Cert.Kernel2Ideal.Gen

/-- The slab of 256 columns of the two up-projections that trip `k` reads. -/
def colSlab (x : Vec Ideal S1x1024x2816 .bf16) (k : Fin k0_t1_loop.trips) : Vec Ideal S1x1024x256 .bf16 :=
  View.ld x (Rect.unit (s := S1x1024x2816) (k0_off1 k) S1x1024x256.size (k0_off1_inb k))

/-- The slab of 256 rows of the down-projection that trip `k` reads. -/
def rowSlab (x : Vec Ideal S1x2816x1024 .bf16) (k : Fin k0_t1_loop.trips) : Vec Ideal S1x256x1024 .bf16 :=
  View.ld x (Rect.unit (s := S1x2816x1024) (k0_off2 k) S1x256x1024.size (k0_off2_inb k))

/-- The output block before trip `k`: the input block, then one slab's contribution after another. -/
def acc (x : Vec Ideal S1024x1024 .f32) (h : Vec Ideal S1024x1024 .bf16) (w1 w3 : Vec Ideal S1x1024x2816 .bf16)
    (w2 : Vec Ideal S1x2816x1024 .bf16) : ℕ → Vec Ideal S1024x1024 .f32
  | 0 => k0_pay1 x
  | k + 1 => if hk : k < k0_t1_loop.trips then
      k0_pay3 h (colSlab w1 ⟨k, hk⟩) (colSlab w3 ⟨k, hk⟩) (acc x h w1 w3 w2 k) (rowSlab w2 ⟨k, hk⟩)
    else acc x h w1 w3 w2 k

/-- What the stores of the first `k` trips leave over the first store of the block is `acc k`. -/
theorem canon_pb (c : Dev nD) (i : grid0.Coords) (arg1 : Memref sig .tc .vmem S1024x1024 .f32) (harg1 : arg1.IsWhole)
    (arg2 : Memref sig .tc .vmem S1x1x1024 .f32) (harg2 : arg2.IsWhole) (arg3 : Memref sig .tc .vmem S1x1024x2816 .bf16)
    (harg3 : arg3.IsWhole) (arg4 : Memref sig .tc .vmem S1x1024x2816 .bf16) (harg4 : arg4.IsWhole)
    (arg5 : Memref sig .tc .vmem S1x2816x1024 .bf16) (harg5 : arg5.IsWhole) (arg6 : Memref sig .tc .vmem S1024x1024 .f32)
    (harg6 : arg6.IsWhole) (arg7 : Memref sig .tc .vmem S1024x1024 .bf16) (harg7 : arg7.IsWhole)
    (x : Vec Ideal S1024x1024 .f32) (w1 w3 : Vec Ideal S1x1024x2816 .bf16) (w2 : Vec Ideal S1x2816x1024 .bf16)
    (h : Vec Ideal S1024x1024 .bf16) (X7 : BufTy.Contents (Elt Ideal) arg7.view.ty) (hX7 : arg7.view.read (Elt Ideal) X7 = h)
    (k : ℕ) (hk : k ≤ k0_t1_loop.trips) :
    View.canon (pb_k0_t1 (F := Ideal) Variants.none c none i arg1 harg1 arg2 harg2 arg3 harg3 arg4 harg4 arg5 harg5 arg6 harg6
      arg7 harg7 (harg3.unread w1) (harg4.unread w3) (harg5.unread w2) X7
      (arg6.view.writes (Elt Ideal) arg6.view.junk [⟨Rect.unit ![0, 0] S1024x1024.size inb_S1024x1024_S1024x1024_0_0, k0_pay1 x⟩]) k
      ++ [⟨Rect.unit ![0, 0] S1024x1024.size inb_S1024x1024_S1024x1024_0_0, k0_pay1 x⟩]) = acc x h w1 w3 w2 k := by
  induction k with
  | zero =>
    rw [pb_k0_t1, List.nil_append, View.canon_cons_unit_lit _ _ _ (by decide), acc]
  | succ k ih =>
    have hk' : k < k0_t1_loop.trips := hk
    have ih := ih hk'.le
    rw [pb_k0_t1_succ Variants.none c none i arg1 harg1 arg2 harg2 arg3 harg3 arg4 harg4 arg5 harg5 arg6 harg6
      arg7 harg7 (harg3.unread w1) (harg4.unread w3) (harg5.unread w2) X7 _ ⟨k, hk'⟩]
    rw [acc, dif_pos hk', ← ih]
    unfold tripL_k0_t1 trip_k0_t1
    dsimp only
    sl_unfold_words
    rw [List.append_assoc, List.cons_append, View.canon_cons_unit_lit (S := S1024x1024) _ _ _ (by decide)]
    simp only [View.readAt_eq_ld, harg3.read_unread, harg4.read_unread, harg5.read_unread, hX7, ← View.writes_append, View.read_writes_junk_eq_canon]
    rw [View.ld_unit_lit (S := S1024x1024) _ _ (by decide), View.ld_unit_lit (S := S1024x1024) _ _ (by decide)]
    rfl

variable (m : (ℓ : Loc nD τ sig) → Buf (Elt Ideal) ℓ)

/-- The block a grid point leaves: the input block with the eleven slabs' contributions added. -/
theorem outsAt_eq (c : Dev nD) (t : Fin cfg0.N) :
    outsAt0 m c t = acc (iblk m c 0 t) (k0_pay2 (iblk m c 0 t) (iblk m c 1 t)) (iblk m c 2 t) (iblk m c 3 t) (iblk m c 4 t) k0_t1_loop.trips := by
  unfold outsAt0 out0_A_5
  unfold kernelRun0_A
  dsimp only
  sl_unfold_words
  rw [View.read_writes_junk_eq_canon]
  have e0 : View.readAt (Elt Ideal) (ms0_0 t).view (Rect.unit ![0, 0] S1024x1024.size inb_S1024x1024_S1024x1024_0_0).toLoadRect
      ((hs0_0 t).unread (iblk m c 0 t)) = (iblk m c 0 t : Vec Ideal S1024x1024 .f32) := by
    rw [View.readAt_eq_ld, (hs0_0 t).read_unread]; exact View.ld_unit_lit _ _ (by decide)
  have e1 : View.readAt (Elt Ideal) (ms0_1 t).view (Rect.unit ![0, 0, 0] S1x1x1024.size inb_S1x1x1024_S1x1x1024_0_0_0).toLoadRect
      ((hs0_1 t).unread (iblk m c 1 t)) = (iblk m c 1 t : Vec Ideal S1x1x1024 .f32) := by
    rw [View.readAt_eq_ld, (hs0_1 t).read_unread]; exact View.ld_unit_lit _ _ (by decide)
  rw [e0, e1]
  refine canon_pb c (grid0.coords t) _ _ _ _ _ (hs0_2 t) _ (hs0_3 t) _ (hs0_4 t) _ _ _ _ _ _ _ _ _ _ ?_ k0_t1_loop.trips le_rfl
  rw [View.read_writes_junk_eq_canon]
  exact View.canon_cons_unit_lit _ _ _ (by decide)

end Cert.Ffn
end
-- ==== Proof.Ffn.Payload.lean ====
module

public import proofs.«01_k».proof.Proof.Ffn.Loop
public import Idealize.ShloMosaic.Lib.Pointwise

@[expose] public section

set_option maxRecDepth 16384

noncomputable section

open Idealize.ShloMosaic Idealize.ShloMosaic.TcCoe Idealize.SL.Sem

namespace Cert.Ffn

open Cert.Kernel2Ideal Cert.Kernel2Ideal.Gen

/-- The half step's factor ½ goes through a finite sum of extended reals. -/
theorem half_mul_sum {ι : Type} (s : Finset ι) (f : ι → EReal) :
    Ideal.ofBits .f32 1056964608#32 * ∑ k ∈ s, f k = ∑ k ∈ s, Ideal.ofBits .f32 1056964608#32 * f k := by
  have h : Ideal.ofBits .f32 1056964608#32 = ((1 / 2 : ℝ) : EReal) := by
    simp [Ideal.ofBits, Ideal.ieee, -EReal.coe_mul]; norm_num
  rw [h]
  classical
  induction s using Finset.induction_on with
  | empty => simp
  | insert a s ha ih =>
    rw [Finset.sum_insert ha, Finset.sum_insert ha, EReal.left_distrib_of_nonneg_of_ne_top (by exact_mod_cast (by norm_num : (0 : ℝ) ≤ 1 / 2)) (EReal.coe_ne_top _), ih]

/-- The normalised row of the half step at an index. -/
theorem pay2_apply (v0 : Vec Ideal S1024x1024 .f32) (v2 : Vec Ideal S1x1x1024 .f32) (i j : Fin 1024) :
    k0_pay2 (F := Ideal) v0 v2 (ix2 i j) = v0 (ix2 i j) * Ideal.rsqrt (Ideal.div (∑ x, v0 (ix2 i x) * v0 (ix2 i x)) (Ideal.ofBits .f32 1149239296#32) + Ideal.ofBits .f32 897988541#32) * v2 (ix3 0 0 j) := by
  pointwise [k0_pay2, k0_pay1]

/-- One hidden unit of the gated feed-forward at a row `h` of normalised input, its two columns given. -/
def unit (h a b : Fin 1024 → EReal) : EReal :=
  (∑ x, h x * a x) * Ideal.div 1 (1 + Ideal.exp (0 - ∑ x, h x * a x)) * ∑ x, h x * b x

/-- One trip at an index: the block plus half the slab's hidden units through the down-projection. -/
theorem pay3_apply (v24 : Vec Ideal S1024x1024 .bf16) (v26 v30 : Vec Ideal S1x1024x256 .bf16) (v43 : Vec Ideal S1024x1024 .f32) (v46 : Vec Ideal S1x256x1024 .bf16) (i j : Fin 1024) :
    k0_pay3 (F := Ideal) v24 v26 v30 v43 v46 (ix2 i j) = v43 (ix2 i j) + Ideal.ofBits .f32 1056964608#32 * ∑ x, unit (fun k => v24 (ix2 i k)) (fun k => v26 (ix3 0 k x)) (fun k => v30 (ix3 0 k x)) * v46 (ix3 0 x j) := by
  pointwise [k0_pay3, unit]

/-- One hidden unit's contribution to the output at an index. -/
def term (h : Vec Ideal S1024x1024 .bf16) (w1 w3 : Vec Ideal S1x1024x2816 .bf16) (w2 : Vec Ideal S1x2816x1024 .bf16)
    (i j : Fin 1024) (f : Fin 2816) : EReal :=
  unit (fun k => h (ix2 i k)) (fun k => w1 (ix3 0 k f)) (fun k => w3 (ix3 0 k f)) * w2 (ix3 0 f j)

theorem trips_eq : k0_t1_loop.trips = 11 := by decide +kernel

theorem colSlab_apply (x : Vec Ideal S1x1024x2816 .bf16) (k : Fin k0_t1_loop.trips) (a : Fin 1024) (b : Fin 256) :
    colSlab x k (ix3 0 a b) = x (ix3 0 a ⟨256 * k.val + b.val, by have := k.isLt; have := trips_eq; omega⟩) := by
  unfold colSlab View.ld
  refine congrArg x (funext fun e => Fin.ext ?_)
  have h : ∀ e, k0_off1 k e = ![0, 0, 256 * k.val] e := fun e => congrFun (k0_off1_eq k) e
  fin_cases e <;> simp [Rect.unit, Rect.emb, h, ix3]

theorem rowSlab_apply (x : Vec Ideal S1x2816x1024 .bf16) (k : Fin k0_t1_loop.trips) (a : Fin 256) (b : Fin 1024) :
    rowSlab x k (ix3 0 a b) = x (ix3 0 ⟨256 * k.val + a.val, by have := k.isLt; have := trips_eq; omega⟩ b) := by
  unfold rowSlab View.ld
  refine congrArg x (funext fun e => Fin.ext ?_)
  have h : ∀ e, k0_off2 k e = ![0, 256 * k.val, 0] e := fun e => congrFun (k0_off2_eq k) e
  fin_cases e <;> simp [Rect.unit, Rect.emb, h, ix3]

/-- The block before trip `k` at an index. -/
theorem acc_apply (x : Vec Ideal S1024x1024 .f32) (h : Vec Ideal S1024x1024 .bf16) (w1 w3 : Vec Ideal S1x1024x2816 .bf16)
    (w2 : Vec Ideal S1x2816x1024 .bf16) (i j : Fin 1024) (n : ℕ) (hn : n ≤ 11) :
    acc x h w1 w3 w2 n (ix2 i j) = x (ix2 i j) + ∑ k : Fin n, Ideal.ofBits .f32 1056964608#32 *
      ∑ f : Fin 256, term h w1 w3 w2 i j ⟨256 * k.val + f.val, by omega⟩ := by
  induction n with
  | zero =>
    rw [Fin.sum_univ_zero, add_zero]
    pointwise [acc, k0_pay1]
  | succ n ih =>
    have hk : n < k0_t1_loop.trips := by rw [trips_eq]; omega
    rw [acc, dif_pos hk, pay3_apply, ih (by omega), Fin.sum_univ_castSucc (n := n), ← add_assoc]
    congr 2
    refine Finset.sum_congr rfl fun f _ => ?_
    simp only [colSlab_apply, rowSlab_apply]
    rfl

/-- The finished block at an index: the half step over all 2816 hidden units. -/
theorem acc_final (x : Vec Ideal S1024x1024 .f32) (h : Vec Ideal S1024x1024 .bf16) (w1 w3 : Vec Ideal S1x1024x2816 .bf16)
    (w2 : Vec Ideal S1x2816x1024 .bf16) (i j : Fin 1024) :
    acc x h w1 w3 w2 k0_t1_loop.trips (ix2 i j) = x (ix2 i j) + Ideal.ofBits .f32 1056964608#32 * ∑ f : Fin 2816, term h w1 w3 w2 i j f := by
  rw [trips_eq, acc_apply _ _ _ _ _ _ _ 11 le_rfl, ← half_mul_sum]
  congr 2
  rw [← Fintype.sum_prod_type']
  refine Fintype.sum_equiv (finProdFinEquiv.trans (finCongr (by norm_num))) _ _ fun p => ?_
  refine congrArg (term h w1 w3 w2 i j) (Fin.ext ?_)
  simp [finProdFinEquiv]
  omega

end Cert.Ffn
end
-- ==== Proof.Ffn.Value.lean ====
module

public import proofs.«01_k».proof.Proof.Ffn.Payload
public import proofs.«01_k».proof.Proof.Gen.Reference2Ideal.Read

@[expose] public section

set_option maxRecDepth 16384

noncomputable section

open Idealize.ShloMosaic Idealize.ShloMosaic.TcCoe Idealize.SL.Sem

namespace Cert.Ffn

open Cert.Reference2Ideal.Read in
/-- The reference's half step at an index, its hidden units named. -/
theorem ref_apply (x0 : FVec Ideal Cert.Reference2Ideal.S8x2048x1024 .f32) (x1 : FVec Ideal Cert.Reference2Ideal.S4x1024 .f32) (x2 x3 : FVec Ideal Cert.Reference2Ideal.S4x1024x2816 .f32) (x4 : FVec Ideal Cert.Reference2Ideal.S4x2816x1024 .f32) (i : Fin 16384) (j : Fin 1024)
    (h : Fin 1024 → EReal) (hh : ∀ k, h k = x0 (ix3 ⟨i.val / 2048, by omega⟩ ⟨i.val % 2048, by omega⟩ k) *
      Ideal.rsqrt (Ideal.div (∑ x, x0 (ix3 ⟨i.val / 2048, by omega⟩ ⟨i.val % 2048, by omega⟩ x) * x0 (ix3 ⟨i.val / 2048, by omega⟩ ⟨i.val % 2048, by omega⟩ x)) (Ideal.ofBits .f32 1149239296#32) + Ideal.ofBits .f32 897988541#32) * x1 (ix2 3 k)) :
    val_main_v29 (F := Ideal) x0 x1 x2 x3 x4 (ix2 i j) = x0 (ix3 ⟨i.val / 2048, by omega⟩ ⟨i.val % 2048, by omega⟩ j) +
      Ideal.ofBits .f32 1056964608#32 * ∑ f, unit h (fun k => x2 (ix3 3 k f)) (fun k => x3 (ix3 3 k f)) * x4 (ix3 3 f j) := by
  obtain rfl : h = _ := funext hh
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_call0_v0, val_main_call0_v1, val_main_call0_v2, val_main_call0_v3, val_main_call0_v4, val_main_call0_v5, val_main_call0_cst, val_main_call0_cst_0]
  simp only [unit, zero_sub]

open Cert.Kernel2Ideal Cert.Kernel2Ideal.Gen

variable (m : (ℓ : Loc nD τ sig) → Buf (Elt Ideal) ℓ)

/-- Which block every window holds at every grid point. -/
theorem idx : ∀ t : Fin cfg0.N, win0_0.index t = ![t.val, 0] ∧ win0_1.index t = ![3, 0, 0] ∧ win0_2.index t = ![3, 0, 0]
    ∧ win0_3.index t = ![3, 0, 0] ∧ win0_4.index t = ![3, 0, 0] ∧ win0_5.index t = ![t.val, 0] :=
  (by decide +kernel : ∀ t : Fin grid0.N, _)

/-- The reference's half step over the kernel's arguments. -/
abbrev REF (c : Dev nD) : FVec Ideal S16384x1024 .f32 :=
  Cert.Reference2Ideal.Read.val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Every grid point leaves the reference's block. -/
theorem point (c : Dev nD) (t : Fin cfg0.N) (y : S1024x1024.Idx) :
    acc (iblk m c 0 t) (k0_pay2 (iblk m c 0 t) (iblk m c 1 t)) (iblk m c 2 t) (iblk m c 3 t) (iblk m c 4 t) k0_t1_loop.trips y
    = REF m c (((cfg0.win 5).blk t).view.emb y) := by
  have hN : t.val < 16 := t.isLt
  idx_vars y
  have he : (((cfg0.win 5).blk t).view.emb (ix2 y0 y1) : Cert.Reference2Ideal.S16384x1024.Idx) = ix2 (⟨1024 * t.val + y0.val, by omega⟩ : Fin 16384) y1 := by
    blk_ext [idx t]
    all_goals omega
  rw [REF, he, acc_final, ref_apply (h := fun k => k0_pay2 (iblk m c 0 t) (iblk m c 1 t) (ix2 y0 k))]
  · simp only [term]
    blk_point [iblk, V, idx t]
  · intro k
    rw [pay2_apply]
    blk_point [iblk, V, idx t]

/-- The array after the run is the reference's half step. -/
theorem final (c : Dev nD) : (dats m 0 c).arrAt 5 cfg0.N = REF m c := by
  refine (dats m 0 c).arrAt_eq_of_covers 5 _ (by decide +kernel) fun t _ y => ?_
  blk_simp
  rw [after0_5, outsAt_eq]
  exact point m c t y

end Cert.Ffn
end
-- ==== Proof.Claims.Ffn.lean ====
module

public import proofs.«01_k».proof.Defs
public import proofs.«01_k».proof.Proof.Ffn.Value
public import proofs.«01_k».proof.Proof.Gen.Kernel2.Frame
public import proofs.«01_k».proof.Proof.Gen.Kernel2Ideal.Value
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Ffn

/-- The reference of the feed-forward half step keeps its arguments and every counter ends at zero. -/
theorem frame_reference : Cert.quiescent_Reference2Ideal := by
  intro m g _
  refine (θ_run _ _ _).mono (fun r h => ⟨fun c => (h c).2, sem_eq_zero_of_no_sems (by decide) r.2⟩) (Cert.Reference2Ideal.Value.run (F := Ideal) m g)

/-- The kernel of the feed-forward half step and its reference compute the same array. -/
theorem algebraic : Cert.algebraic_Kernel2Ideal_Reference2Ideal := by
  pair_intro
  · run_from Cert.Kernel2Ideal.Value.run_blocks m g
  · run_from Cert.Reference2Ideal.Value.run m' g'
    rw [final m c]
    rw [Cert.Reference2Ideal.Read.val_main_v29_eq]
    obtain ⟨h0, h1, h2, h3, h4⟩ := hagree c
    simp only [h0, h1, h2, h3, h4]

end Cert.Ffn
end
-- ==== Proof.Inproj.Weight.lean ====
module

public import proofs.«01_k».proof.Proof.Gen.Kernel3Ideal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Inproj

open Cert.Kernel3Ideal Cert.Kernel3Ideal.Gen

variable (m : (ℓ : Loc nD τ sig) → Buf (Elt Ideal) ℓ)

/-- What every buffer of a device holds. -/
abbrev Val := Valuation τ sig (Elt Ideal)

/-- Which block every window holds at every grid point. -/
theorem idx : ∀ t : Fin cfg0.N, win0_0.index t = ![t.val, 0] ∧ win0_1.index t = ![3, 0, 0] ∧ win0_2.index t = ![3, 0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The last stretch of host operations concatenates the four parts of the weight. -/
theorem ops4_v9 (s : Val) : StableHlo.after (hostOps0_4 (F := Ideal)) s (Proc.tc.devRef main_v9) = (truncf .bf16 (concatenate S4x1024x6912 2 [⟨S4x1024x2944, (s (Proc.tc.devRef main_v3))⟩, ⟨S4x1024x768, (s (Proc.tc.devRef main_v5))⟩, ⟨S4x1024x3072, (s (Proc.tc.devRef main_v6))⟩, ⟨S4x1024x128, (s (Proc.tc.devRef main_v7))⟩] concatenates_S4x1024x2944_S4x1024x768_S4x1024x3072_S4x1024x128_S4x1024x6912_d2 : FVec Ideal S4x1024x6912 .f32) bitsLt_bf16_f32 : FVec Ideal S4x1024x6912 .bf16) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The value residual part is padded to its lanes. -/
theorem ops3_v7 (s : Val) : StableHlo.after (hostOps0_3 (F := Ideal)) s (Proc.tc.devRef main_v7) = (pad S4x1024x128 ![0, 0, 0] ![0, 0, 96] ![0, 0, 0] ((s (Proc.tc.devRef main_v2)) : FVec Ideal S4x1024x32 .f32) (sitofp .f32 ((s (Proc.tc.devRef main_c_0)) : IVec S_ 32) : FVec Ideal S_ .f32) pads_S4x1024x32_S4x1024x128_000_000_0960 h_S_ : FVec Ideal S4x1024x128 .f32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops3_v3 (s : Val) : StableHlo.after (hostOps0_3 (F := Ideal)) s (Proc.tc.devRef main_v3) = (s (Proc.tc.devRef main_v3)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops3_v5 (s : Val) : StableHlo.after (hostOps0_3 (F := Ideal)) s (Proc.tc.devRef main_v5) = (s (Proc.tc.devRef main_v5)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops3_v6 (s : Val) : StableHlo.after (hostOps0_3 (F := Ideal)) s (Proc.tc.devRef main_v6) = (s (Proc.tc.devRef main_v6)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The gate part of the weight. -/
theorem ops2_v6 (s : Val) : StableHlo.after (hostOps0_2 (F := Ideal)) s (Proc.tc.devRef main_v6) = (extractStridedSlice S4x1024x3072 ![0, 0, 3616] ((s (Proc.tc.devRef main_arg2)) : FVec Ideal S4x1024x6688 .f32) slices_S4x1024x6688_S4x1024x3072_0_0_3616 : FVec Ideal S4x1024x3072 .f32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The padding integer. -/
theorem ops2_c0 (s : Val) : StableHlo.after (hostOps0_2 (F := Ideal)) s (Proc.tc.devRef main_c_0) = (constantI S_ 32 0#32 : IVec S_ 32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops2_v3 (s : Val) : StableHlo.after (hostOps0_2 (F := Ideal)) s (Proc.tc.devRef main_v3) = (s (Proc.tc.devRef main_v3)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops2_v5 (s : Val) : StableHlo.after (hostOps0_2 (F := Ideal)) s (Proc.tc.devRef main_v5) = (s (Proc.tc.devRef main_v5)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops2_v2 (s : Val) : StableHlo.after (hostOps0_2 (F := Ideal)) s (Proc.tc.devRef main_v2) = (s (Proc.tc.devRef main_v2)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The latent attention part is padded to its lanes. -/
theorem ops1_v5 (s : Val) : StableHlo.after (hostOps0_1 (F := Ideal)) s (Proc.tc.devRef main_v5) = (pad S4x1024x768 ![0, 0, 0] ![0, 0, 96] ![0, 0, 0] ((s (Proc.tc.devRef main_v4)) : FVec Ideal S4x1024x672 .f32) (sitofp .f32 ((s (Proc.tc.devRef main_c)) : IVec S_ 32) : FVec Ideal S_ .f32) pads_S4x1024x672_S4x1024x768_000_000_0960 h_S_ : FVec Ideal S4x1024x768 .f32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops1_v3 (s : Val) : StableHlo.after (hostOps0_1 (F := Ideal)) s (Proc.tc.devRef main_v3) = (s (Proc.tc.devRef main_v3)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops1_arg2 (s : Val) : StableHlo.after (hostOps0_1 (F := Ideal)) s (Proc.tc.devRef main_arg2) = (s (Proc.tc.devRef main_arg2)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops1_v2 (s : Val) : StableHlo.after (hostOps0_1 (F := Ideal)) s (Proc.tc.devRef main_v2) = (s (Proc.tc.devRef main_v2)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The first two parts of the weight. -/
theorem ops0_v3 (s : Val) : StableHlo.after (hostOps0 (F := Ideal)) s (Proc.tc.devRef main_v3) = (extractStridedSlice S4x1024x2944 ![0, 0, 0] ((s (Proc.tc.devRef main_arg2)) : FVec Ideal S4x1024x6688 .f32) slices_S4x1024x6688_S4x1024x2944_0_0_0 : FVec Ideal S4x1024x2944 .f32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The latent attention part of the weight. -/
theorem ops0_v4 (s : Val) : StableHlo.after (hostOps0 (F := Ideal)) s (Proc.tc.devRef main_v4) = (extractStridedSlice S4x1024x672 ![0, 0, 2944] ((s (Proc.tc.devRef main_arg2)) : FVec Ideal S4x1024x6688 .f32) slices_S4x1024x6688_S4x1024x672_0_0_2944 : FVec Ideal S4x1024x672 .f32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The value residual part of every layer. -/
theorem ops0_v2 (s : Val) : StableHlo.after (hostOps0 (F := Ideal)) s (Proc.tc.devRef main_v2) = (concatenate S4x1024x32 0 [⟨S1x1024x32, (broadcastInDim S1x1024x32 ![] bcast_S_S1x1024x32 (constant S_ .f32 0x00000000#32 : FVec Ideal S_ .f32) : FVec Ideal S1x1024x32 .f32)⟩, ⟨S3x1024x32, (s (Proc.tc.devRef main_arg3))⟩] concatenates_S1x1024x32_S3x1024x32_S4x1024x32_d0 : FVec Ideal S4x1024x32 .f32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The padding integer. -/
theorem ops0_c (s : Val) : StableHlo.after (hostOps0 (F := Ideal)) s (Proc.tc.devRef main_c) = (constantI S_ 32 0#32 : IVec S_ 32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops0_arg2 (s : Val) : StableHlo.after (hostOps0 (F := Ideal)) s (Proc.tc.devRef main_arg2) = (s (Proc.tc.devRef main_arg2)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The concatenated weight at layer 3, a column. -/
def wcat (x2 : FVec Ideal S4x1024x6688 .f32) (x3 : FVec Ideal S3x1024x32 .f32) : FVec Ideal S4x1024x6912 .bf16 :=
  truncf .bf16 (concatenate S4x1024x6912 2 [⟨S4x1024x2944, (extractStridedSlice S4x1024x2944 ![0, 0, 0] x2 slices_S4x1024x6688_S4x1024x2944_0_0_0 : FVec Ideal S4x1024x2944 .f32)⟩,
    ⟨S4x1024x768, (pad S4x1024x768 ![0, 0, 0] ![0, 0, 96] ![0, 0, 0] (extractStridedSlice S4x1024x672 ![0, 0, 2944] x2 slices_S4x1024x6688_S4x1024x672_0_0_2944 : FVec Ideal S4x1024x672 .f32) (sitofp .f32 (constantI S_ 32 0#32 : IVec S_ 32) : FVec Ideal S_ .f32) pads_S4x1024x672_S4x1024x768_000_000_0960 h_S_ : FVec Ideal S4x1024x768 .f32)⟩,
    ⟨S4x1024x3072, (extractStridedSlice S4x1024x3072 ![0, 0, 3616] x2 slices_S4x1024x6688_S4x1024x3072_0_0_3616 : FVec Ideal S4x1024x3072 .f32)⟩,
    ⟨S4x1024x128, (pad S4x1024x128 ![0, 0, 0] ![0, 0, 96] ![0, 0, 0] (concatenate S4x1024x32 0 [⟨S1x1024x32, (broadcastInDim S1x1024x32 ![] bcast_S_S1x1024x32 (constant S_ .f32 0x00000000#32 : FVec Ideal S_ .f32) : FVec Ideal S1x1024x32 .f32)⟩, ⟨S3x1024x32, x3⟩] concatenates_S1x1024x32_S3x1024x32_S4x1024x32_d0 : FVec Ideal S4x1024x32 .f32) (sitofp .f32 (constantI S_ 32 0#32 : IVec S_ 32) : FVec Ideal S_ .f32) pads_S4x1024x32_S4x1024x128_000_000_0960 h_S_ : FVec Ideal S4x1024x128 .f32)⟩]
    concatenates_S4x1024x2944_S4x1024x768_S4x1024x3072_S4x1024x128_S4x1024x6912_d2 : FVec Ideal S4x1024x6912 .f32) bitsLt_bf16_f32

/-- The weight the region reads. -/
theorem V_v9 (c : Dev nD) : V m c main_v9 = wcat (m ((c : Thread nD τ).loc main_arg2)) (m ((c : Thread nD τ).loc main_arg3)) := by
  have e : V m c main_v9 = StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (fun b => m (c, b)))))) (Proc.tc.devRef main_v9) := rfl
  rw [e, ops4_v9, ops3_v7, ops3_v3, ops3_v5, ops3_v6, ops2_v6, ops2_c0, ops2_v3, ops2_v5, ops2_v2, ops1_v5, ops1_v3, ops1_arg2, ops1_v2, ops0_v3, ops0_v4, ops0_v2, ops0_c, ops0_arg2]
  rfl

/-- The input as rows. -/
theorem ops0_v0 (s : Val) : StableHlo.after (hostOps0 (F := Ideal)) s (Proc.tc.devRef main_v0) = (shapeCast S16384x1024 ((s (Proc.tc.devRef main_arg0)) : FVec Ideal S8x2048x1024 .f32) shapeCasts_S8x2048x1024_S16384x1024 : FVec Ideal S16384x1024 .f32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The gains as rows. -/
theorem ops4_v10 (s : Val) : StableHlo.after (hostOps0_4 (F := Ideal)) s (Proc.tc.devRef main_v10) = (shapeCast S4x1x1024 ((s (Proc.tc.devRef main_arg1)) : FVec Ideal S4x1024 .f32) shapeCasts_S4x1024_S4x1x1024 : FVec Ideal S4x1x1024 .f32) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops1_v0 (s : Val) : StableHlo.after (hostOps0_1 (F := Ideal)) s (Proc.tc.devRef main_v0) = (s (Proc.tc.devRef main_v0)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops2_v0 (s : Val) : StableHlo.after (hostOps0_2 (F := Ideal)) s (Proc.tc.devRef main_v0) = (s (Proc.tc.devRef main_v0)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops3_v0 (s : Val) : StableHlo.after (hostOps0_3 (F := Ideal)) s (Proc.tc.devRef main_v0) = (s (Proc.tc.devRef main_v0)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops4_v0 (s : Val) : StableHlo.after (hostOps0_4 (F := Ideal)) s (Proc.tc.devRef main_v0) = (s (Proc.tc.devRef main_v0)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops0_arg1 (s : Val) : StableHlo.after (hostOps0 (F := Ideal)) s (Proc.tc.devRef main_arg1) = (s (Proc.tc.devRef main_arg1)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops1_arg1 (s : Val) : StableHlo.after (hostOps0_1 (F := Ideal)) s (Proc.tc.devRef main_arg1) = (s (Proc.tc.devRef main_arg1)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops2_arg1 (s : Val) : StableHlo.after (hostOps0_2 (F := Ideal)) s (Proc.tc.devRef main_arg1) = (s (Proc.tc.devRef main_arg1)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- Untouched by this stretch. -/
theorem ops3_arg1 (s : Val) : StableHlo.after (hostOps0_3 (F := Ideal)) s (Proc.tc.devRef main_arg1) = (s (Proc.tc.devRef main_arg1)) := by
  simp only [StableHlo.after_cons, StableHlo.after_nil, StableHlo.TRef.binary, StableHlo.TRef.nullary, StableHlo.TRef.unary, StableHlo.TRef.toBuf, StableHlo.TRef.ofBuf, cast_eq]
  after_results_simp
  try rfl

/-- The rows the region reads. -/
theorem V_v0 (c : Dev nD) : V m c main_v0 = (shapeCast S16384x1024 (m ((c : Thread nD τ).loc main_arg0) : FVec Ideal S8x2048x1024 .f32) shapeCasts_S8x2048x1024_S16384x1024 : FVec Ideal S16384x1024 .f32) := by
  have e : V m c main_v0 = StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (fun b => m (c, b)))))) (Proc.tc.devRef main_v0) := rfl
  rw [e, ops4_v0, ops3_v0, ops2_v0, ops1_v0, ops0_v0]

/-- The gains the region reads. -/
theorem V_v10 (c : Dev nD) : V m c main_v10 = (shapeCast S4x1x1024 (m ((c : Thread nD τ).loc main_arg1) : FVec Ideal S4x1024 .f32) shapeCasts_S4x1024_S4x1x1024 : FVec Ideal S4x1x1024 .f32) := by
  have e : V m c main_v10 = StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (fun b => m (c, b)))))) (Proc.tc.devRef main_v10) := rfl
  rw [e, ops4_v10, ops3_arg1, ops2_arg1, ops1_arg1, ops0_arg1]

/-- The integer zero as a float is zero. -/
theorem sitofp_zero : (FloatOps.sitofp .f32 (0#32 : BitVec 32) : Ideal .f32) = (0 : EReal) := by
  simp [FloatOps.sitofp]

/-- The concatenated weight of layer 3 at a column. -/
theorem wcat_apply (x2 : FVec Ideal S4x1024x6688 .f32) (x3 : FVec Ideal S3x1024x32 .f32) (x : Fin 1024) (n : Fin 6912) :
   wcat x2 x3 (ix3 3 x n) = if h : n.val < 2944 then x2 (ix3 3 x ⟨n.val, by omega⟩)
    else if h : n.val - 2944 < 768 then
        if h' : n.val - 2944 < 672 then x2 (ix3 3 x ⟨2944 + (n.val - 2944), by omega⟩) else (0 : EReal)
      else if h : n.val - 2944 - 768 < 3072 then x2 (ix3 3 x ⟨3616 + (n.val - 2944 - 768), by omega⟩)
        else if h' : n.val - 2944 - 768 - 3072 < 32 then x3 (ix3 2 x ⟨n.val - 2944 - 768 - 3072, by omega⟩)
          else (0 : EReal) := by
  rw [← sitofp_zero]
  pointwise [wcat]

/-- The weight window's block at a column. -/
theorem wblk (c : Dev nD) (t : Fin cfg0.N) (x : Fin 1024) (n : Fin 6912) :
    (iblk m c 2 t : Vec Ideal S1x1024x6912 .bf16) (ix3 0 x n) = wcat (m ((c : Thread nD τ).loc main_arg2)) (m ((c : Thread nD τ).loc main_arg3)) (ix3 3 x n) := by
  rw [← V_v9]
  blk_point [iblk, idx t]

end Cert.Inproj
end
-- ==== Proof.Inproj.Value.lean ====
module

public import proofs.«01_k».proof.Proof.Inproj.Weight
public import proofs.«01_k».proof.Proof.Gen.Reference3Ideal.Read

@[expose] public section

set_option maxRecDepth 16384

noncomputable section

open Idealize.ShloMosaic Idealize.ShloMosaic.TcCoe Idealize.SL.Sem

namespace Cert.Inproj

/-- The normalised row `r` of the input, a column. -/
def hrow (x0 : FVec Ideal Cert.Reference3Ideal.S8x2048x1024 .f32) (x1 : FVec Ideal Cert.Reference3Ideal.S4x1024 .f32) (r : Fin 16384) (k : Fin 1024) : EReal :=
  x0 (ix3 ⟨r.val / 2048, by omega⟩ ⟨r.val % 2048, by omega⟩ k) *
    Ideal.rsqrt (Ideal.div (∑ x, x0 (ix3 ⟨r.val / 2048, by omega⟩ ⟨r.val % 2048, by omega⟩ x) * x0 (ix3 ⟨r.val / 2048, by omega⟩ ⟨r.val % 2048, by omega⟩ x)) (Ideal.ofBits .f32 1149239296#32) + Ideal.ofBits .f32 897988541#32) * x1 (ix2 3 k)

section Reference
open Cert.Reference3Ideal Cert.Reference3Ideal.Read

/-- The reference normalises every row. -/
theorem ref_row (x0 : FVec Ideal S8x2048x1024 .f32) (x1 : FVec Ideal S4x1024 .f32) (r : Fin 16384) (k : Fin 1024) : val_main_v15 (F := Ideal) x0 x1 (ix2 r k) = hrow x0 x1 r k := by
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, hrow]

/-- The recurrent branch columns of the reference. -/
theorem ref_v25 (x0 : FVec Ideal S8x2048x1024 .f32) (x1 : FVec Ideal S4x1024 .f32) (x2 : FVec Ideal S4x1024x6688 .f32) (x3 : FVec Ideal S3x1024x32 .f32) (r : Fin 16384) (j : Fin 1920) :
    val_main_v25 (F := Ideal) x0 x1 x2 (ix2 r j) = ∑ k, hrow x0 x1 r k * x2 (ix3 3 k ⟨j.val, by omega⟩) := by
  skip
  pointwise [val_main_v16, val_main_v17, val_main_v18, val_main_v19, val_main_c, val_main_call0_v0, val_main_v20, val_main_v21, val_main_v22, val_main_v23, val_main_c_2, val_main_call1_v0, val_main_v24, val_main_v25, val_main_v26, val_main_v27, val_main_v28, val_main_v29, val_main_v30]
  try simp only [ref_row]

/-- The convolution branch columns of the reference. -/
theorem ref_v27 (x0 : FVec Ideal S8x2048x1024 .f32) (x1 : FVec Ideal S4x1024 .f32) (x2 : FVec Ideal S4x1024x6688 .f32) (x3 : FVec Ideal S3x1024x32 .f32) (r : Fin 16384) (j : Fin 1024) :
    val_main_v27 (F := Ideal) x0 x1 x2 (ix2 r j) = ∑ k, hrow x0 x1 r k * x2 (ix3 3 k ⟨1920 + j.val, by omega⟩) := by
  skip
  pointwise [val_main_v16, val_main_v17, val_main_v18, val_main_v19, val_main_c, val_main_call0_v0, val_main_v20, val_main_v21, val_main_v22, val_main_v23, val_main_c_2, val_main_call1_v0, val_main_v24, val_main_v25, val_main_v26, val_main_v27, val_main_v28, val_main_v29, val_main_v30]
  try simp only [ref_row]

/-- The gate columns of the reference. -/
theorem ref_v30 (x0 : FVec Ideal S8x2048x1024 .f32) (x1 : FVec Ideal S4x1024 .f32) (x2 : FVec Ideal S4x1024x6688 .f32) (x3 : FVec Ideal S3x1024x32 .f32) (r : Fin 16384) (j : Fin 3072) :
    val_main_v30 (F := Ideal) x0 x1 x2 (ix2 r j) = ∑ k, hrow x0 x1 r k * x2 (ix3 3 k ⟨3616 + j.val, by omega⟩) := by
  skip
  pointwise [val_main_v16, val_main_v17, val_main_v18, val_main_v19, val_main_c, val_main_call0_v0, val_main_v20, val_main_v21, val_main_v22, val_main_v23, val_main_c_2, val_main_call1_v0, val_main_v24, val_main_v25, val_main_v26, val_main_v27, val_main_v28, val_main_v29, val_main_v30]
  try simp only [ref_row]

/-- The latent attention columns of the reference. -/
theorem ref_v28 (x0 : FVec Ideal S8x2048x1024 .f32) (x1 : FVec Ideal S4x1024 .f32) (x2 : FVec Ideal S4x1024x6688 .f32) (x3 : FVec Ideal S3x1024x32 .f32) (r : Fin 16384) (j : Fin 768) :
    val_main_v28 (F := Ideal) x0 x1 x2 (ix2 r j) = if h : j.val < 672 then ∑ k, hrow x0 x1 r k * x2 (ix3 3 k ⟨2944 + j.val, by omega⟩) else (0 : EReal) := by
  rw [← sitofp_zero]
  pointwise [val_main_v16, val_main_v17, val_main_v18, val_main_v19, val_main_c, val_main_call0_v0, val_main_v20, val_main_v21, val_main_v22, val_main_v23, val_main_c_2, val_main_call1_v0, val_main_v24, val_main_v25, val_main_v26, val_main_v27, val_main_v28, val_main_v29, val_main_v30]
  try simp only [ref_row]

/-- The value residual columns of the reference. -/
theorem ref_v24 (x0 : FVec Ideal S8x2048x1024 .f32) (x1 : FVec Ideal S4x1024 .f32) (x2 : FVec Ideal S4x1024x6688 .f32) (x3 : FVec Ideal S3x1024x32 .f32) (r : Fin 16384) (j : Fin 128) :
    val_main_v24 (F := Ideal) x0 x1 x3 (ix2 r j) = if h : j.val < 32 then ∑ k, hrow x0 x1 r k * x3 (ix3 2 k ⟨j.val, by omega⟩) else (0 : EReal) := by
  rw [← sitofp_zero]
  pointwise [val_main_v16, val_main_v17, val_main_v18, val_main_v19, val_main_c, val_main_call0_v0, val_main_v20, val_main_v21, val_main_v22, val_main_v23, val_main_c_2, val_main_call1_v0, val_main_v24, val_main_v25, val_main_v26, val_main_v27, val_main_v28, val_main_v29, val_main_v30]
  try simp only [ref_row]

end Reference

open Cert.Kernel3Ideal Cert.Kernel3Ideal.Gen

/-- The normalised row of a block, a column. -/
def brow (x0 : Vec Ideal S512x1024 .f32) (x1 : Vec Ideal S1x1x1024 .f32) (i : Fin 512) (k : Fin 1024) : EReal :=
  x0 (ix2 i k) * Ideal.rsqrt (Ideal.div (∑ x, x0 (ix2 i x) * x0 (ix2 i x)) (Ideal.ofBits .f32 1149239296#32) + Ideal.ofBits .f32 897988541#32) * x1 (ix3 0 0 k)

/-- What window 3 is left with at an index. -/
theorem out3_apply (x0 : Vec Ideal S512x1024 .f32) (x1 : Vec Ideal S1x1x1024 .f32) (x2 : Vec Ideal S1x1024x6912 .bf16) (i : Fin 512) (j : Fin 1920) :
    out0_3 x0 x1 x2 (ix2 i j) = ∑ k, brow x0 x1 i k * x2 (ix3 0 k ⟨j.val, by omega⟩) := by
  frame_out
  pointwise [k0_pay4, k0_pay3, brow]

/-- What window 4 is left with at an index. -/
theorem out4_apply (x0 : Vec Ideal S512x1024 .f32) (x1 : Vec Ideal S1x1x1024 .f32) (x2 : Vec Ideal S1x1024x6912 .bf16) (i : Fin 512) (j : Fin 1024) :
    out0_4 x0 x1 x2 (ix2 i j) = ∑ k, brow x0 x1 i k * x2 (ix3 0 k ⟨1920 + j.val, by omega⟩) := by
  frame_out
  pointwise [k0_pay5, k0_pay3, brow]

/-- What window 5 is left with at an index. -/
theorem out5_apply (x0 : Vec Ideal S512x1024 .f32) (x1 : Vec Ideal S1x1x1024 .f32) (x2 : Vec Ideal S1x1024x6912 .bf16) (i : Fin 512) (j : Fin 768) :
    out0_5 x0 x1 x2 (ix2 i j) = ∑ k, brow x0 x1 i k * x2 (ix3 0 k ⟨2944 + j.val, by omega⟩) := by
  frame_out
  pointwise [k0_pay6, k0_pay3, brow]

/-- What window 6 is left with at an index. -/
theorem out6_apply (x0 : Vec Ideal S512x1024 .f32) (x1 : Vec Ideal S1x1x1024 .f32) (x2 : Vec Ideal S1x1024x6912 .bf16) (i : Fin 512) (j : Fin 3072) :
    out0_6 x0 x1 x2 (ix2 i j) = ∑ k, brow x0 x1 i k * x2 (ix3 0 k ⟨3712 + j.val, by omega⟩) := by
  frame_out
  pointwise [k0_pay1, k0_pay3, k0_pay7, brow]

/-- What window 7 is left with at an index. -/
theorem out7_apply (x0 : Vec Ideal S512x1024 .f32) (x1 : Vec Ideal S1x1x1024 .f32) (x2 : Vec Ideal S1x1024x6912 .bf16) (i : Fin 512) (j : Fin 128) :
    out0_7 x0 x1 x2 (ix2 i j) = ∑ k, brow x0 x1 i k * x2 (ix3 0 k ⟨6784 + j.val, by omega⟩) := by
  frame_out
  pointwise [k0_pay2, k0_pay3, k0_pay7, brow]

/-- A row of the flattened input, read back. -/
theorem flat_row (x : FVec Ideal S8x2048x1024 .f32) (r : Fin 16384) (k : Fin 1024) :
    shapeCast S16384x1024 x shapeCasts_S8x2048x1024_S16384x1024 (ix2 r k) = x (ix3 ⟨r.val / 2048, by omega⟩ ⟨r.val % 2048, by omega⟩ k) := by
  pointwise

/-- The gains with a unit axis between, read back. -/
theorem flat_gain (x : FVec Ideal S4x1024 .f32) (k : Fin 1024) :
    shapeCast S4x1x1024 x shapeCasts_S4x1024_S4x1x1024 (ix3 3 0 k) = x (ix2 3 k) := by
  pointwise

/-- The recurrent columns of a block, given its rows and weights. -/
theorem slab3 (x0 : Vec Ideal S512x1024 .f32) (x1 : Vec Ideal S1x1x1024 .f32) (x2 : Vec Ideal S1x1024x6912 .bf16) (X0 : FVec Ideal S8x2048x1024 .f32) (X1 : FVec Ideal S4x1024 .f32) (X2 : FVec Ideal S4x1024x6688 .f32) (X3 : FVec Ideal S3x1024x32 .f32) (i : Fin 512) (r : Fin 16384) (hb : ∀ k, brow x0 x1 i k = hrow X0 X1 r k) (hw : ∀ (k : Fin 1024) (n : Fin 6912), x2 (ix3 0 k n) = wcat X2 X3 (ix3 3 k n)) (j : Fin 1920) :
    out0_3 x0 x1 x2 (ix2 i j) = Cert.Reference3Ideal.Read.val_main_v25 (F := Ideal) X0 X1 X2 (ix2 r j) := by
  rw [out3_apply, ref_v25 X0 X1 X2 X3]
  refine Finset.sum_congr rfl fun k _ => ?_
  rw [hb, hw, wcat_apply, dif_pos (by dsimp only; omega)]

/-- The convolution columns of a block, given its rows and weights. -/
theorem slab4 (x0 : Vec Ideal S512x1024 .f32) (x1 : Vec Ideal S1x1x1024 .f32) (x2 : Vec Ideal S1x1024x6912 .bf16) (X0 : FVec Ideal S8x2048x1024 .f32) (X1 : FVec Ideal S4x1024 .f32) (X2 : FVec Ideal S4x1024x6688 .f32) (X3 : FVec Ideal S3x1024x32 .f32) (i : Fin 512) (r : Fin 16384) (hb : ∀ k, brow x0 x1 i k = hrow X0 X1 r k) (hw : ∀ (k : Fin 1024) (n : Fin 6912), x2 (ix3 0 k n) = wcat X2 X3 (ix3 3 k n)) (j : Fin 1024) :
    out0_4 x0 x1 x2 (ix2 i j) = Cert.Reference3Ideal.Read.val_main_v27 (F := Ideal) X0 X1 X2 (ix2 r j) := by
  rw [out4_apply, ref_v27 X0 X1 X2 X3]
  refine Finset.sum_congr rfl fun k _ => ?_
  rw [hb, hw, wcat_apply, dif_pos (by dsimp only; omega)]

/-- The latent attention columns of a block, given its rows and weights. -/
theorem slab5 (x0 : Vec Ideal S512x1024 .f32) (x1 : Vec Ideal S1x1x1024 .f32) (x2 : Vec Ideal S1x1024x6912 .bf16) (X0 : FVec Ideal S8x2048x1024 .f32) (X1 : FVec Ideal S4x1024 .f32) (X2 : FVec Ideal S4x1024x6688 .f32) (X3 : FVec Ideal S3x1024x32 .f32) (i : Fin 512) (r : Fin 16384) (hb : ∀ k, brow x0 x1 i k = hrow X0 X1 r k) (hw : ∀ (k : Fin 1024) (n : Fin 6912), x2 (ix3 0 k n) = wcat X2 X3 (ix3 3 k n)) (j : Fin 768) :
    out0_5 x0 x1 x2 (ix2 i j) = Cert.Reference3Ideal.Read.val_main_v28 (F := Ideal) X0 X1 X2 (ix2 r j) := by
  rw [out5_apply, ref_v28 X0 X1 X2 X3]
  by_cases hj : j.val < 672
  · rw [dif_pos hj]
    refine Finset.sum_congr rfl fun k _ => ?_
    rw [hb, hw, wcat_apply, dif_neg (by dsimp only; omega), dif_pos (by dsimp only; omega), dif_pos (by dsimp only; omega)]
    exact congrArg (fun n => hrow X0 X1 r k * X2 (ix3 3 k n)) (Fin.ext (by dsimp only; omega))
  · rw [dif_neg hj]
    refine Finset.sum_eq_zero fun k _ => ?_
    rw [hb, hw, wcat_apply, dif_neg (by dsimp only; omega), dif_pos (by dsimp only; omega), dif_neg (by dsimp only; omega), mul_zero]

/-- The gate columns of a block, given its rows and weights. -/
theorem slab6 (x0 : Vec Ideal S512x1024 .f32) (x1 : Vec Ideal S1x1x1024 .f32) (x2 : Vec Ideal S1x1024x6912 .bf16) (X0 : FVec Ideal S8x2048x1024 .f32) (X1 : FVec Ideal S4x1024 .f32) (X2 : FVec Ideal S4x1024x6688 .f32) (X3 : FVec Ideal S3x1024x32 .f32) (i : Fin 512) (r : Fin 16384) (hb : ∀ k, brow x0 x1 i k = hrow X0 X1 r k) (hw : ∀ (k : Fin 1024) (n : Fin 6912), x2 (ix3 0 k n) = wcat X2 X3 (ix3 3 k n)) (j : Fin 3072) :
    out0_6 x0 x1 x2 (ix2 i j) = Cert.Reference3Ideal.Read.val_main_v30 (F := Ideal) X0 X1 X2 (ix2 r j) := by
  rw [out6_apply, ref_v30 X0 X1 X2 X3]
  refine Finset.sum_congr rfl fun k _ => ?_
  rw [hb, hw, wcat_apply, dif_neg (by dsimp only; omega), dif_neg (by dsimp only; omega), dif_pos (by dsimp only; omega)]
  exact congrArg (fun n => hrow X0 X1 r k * X2 (ix3 3 k n)) (Fin.ext (by dsimp only; omega))

/-- The value residual columns of a block, given its rows and weights. -/
theorem slab7 (x0 : Vec Ideal S512x1024 .f32) (x1 : Vec Ideal S1x1x1024 .f32) (x2 : Vec Ideal S1x1024x6912 .bf16) (X0 : FVec Ideal S8x2048x1024 .f32) (X1 : FVec Ideal S4x1024 .f32) (X2 : FVec Ideal S4x1024x6688 .f32) (X3 : FVec Ideal S3x1024x32 .f32) (i : Fin 512) (r : Fin 16384) (hb : ∀ k, brow x0 x1 i k = hrow X0 X1 r k) (hw : ∀ (k : Fin 1024) (n : Fin 6912), x2 (ix3 0 k n) = wcat X2 X3 (ix3 3 k n)) (j : Fin 128) :
    out0_7 x0 x1 x2 (ix2 i j) = Cert.Reference3Ideal.Read.val_main_v24 (F := Ideal) X0 X1 X3 (ix2 r j) := by
  rw [out7_apply, ref_v24 X0 X1 X2 X3]
  by_cases hj : j.val < 32
  · rw [dif_pos hj]
    refine Finset.sum_congr rfl fun k _ => ?_
    rw [hb, hw, wcat_apply, dif_neg (by dsimp only; omega), dif_neg (by dsimp only; omega), dif_neg (by dsimp only; omega), dif_pos (by dsimp only; omega)]
    exact congrArg (fun n => hrow X0 X1 r k * X3 (ix3 2 k n)) (Fin.ext (by dsimp only; omega))
  · rw [dif_neg hj]
    refine Finset.sum_eq_zero fun k _ => ?_
    rw [hb, hw, wcat_apply, dif_neg (by dsimp only; omega), dif_neg (by dsimp only; omega), dif_neg (by dsimp only; omega), dif_neg (by dsimp only; omega), mul_zero]

/-- A block's row is the array's row when their entries are. -/
theorem row_of (x0 : Vec Ideal S512x1024 .f32) (x1 : Vec Ideal S1x1x1024 .f32) (X0 : FVec Ideal S8x2048x1024 .f32) (X1 : FVec Ideal S4x1024 .f32) (i : Fin 512) (r : Fin 16384) (k : Fin 1024) (h0 : ∀ x, x0 (ix2 i x) = X0 (ix3 ⟨r.val / 2048, by omega⟩ ⟨r.val % 2048, by omega⟩ x)) (h1 : x1 (ix3 0 0 k) = X1 (ix2 3 k)) :
    brow x0 x1 i k = hrow X0 X1 r k := by
  simp only [brow, hrow, h0, h1]

variable (m : (ℓ : Loc nD τ sig) → Buf (Elt Ideal) ℓ)

/-- The row of the array that row `i` of point `t` is. -/
def row (t : Fin cfg0.N) (i : Fin 512) : Fin 16384 := ⟨512 * t.val + i.val, by have : t.val < 32 := t.isLt; omega⟩

/-- A block of the input, read back. -/
theorem blk0 (c : Dev nD) (t : Fin cfg0.N) (i : Fin 512) (x : Fin 1024) :
    (iblk m c 0 t : Vec Ideal S512x1024 .f32) (ix2 i x) = (V m c main_v0 : FVec Ideal S16384x1024 .f32) (ix2 (row t i) x) := by
  unfold row
  have hN : t.val < 32 := t.isLt
  blk_point [iblk, idx t]

/-- A block of the gains, read back. -/
theorem blk1 (c : Dev nD) (t : Fin cfg0.N) (k : Fin 1024) :
    (iblk m c 1 t : Vec Ideal S1x1x1024 .f32) (ix3 0 0 k) = (V m c main_v10 : FVec Ideal S4x1x1024 .f32) (ix3 3 0 k) := by
  blk_point [iblk, idx t]

/-- The blocks' normalised rows are the array's. -/
theorem brow_eq (c : Dev nD) (t : Fin cfg0.N) (i : Fin 512) (k : Fin 1024) :
    brow (iblk m c 0 t) (iblk m c 1 t) i k = hrow (m ((c : Thread nD τ).loc main_arg0)) (m ((c : Thread nD τ).loc main_arg1)) (row t i) k := by
  have e0 : ∀ x : Fin 1024, (iblk m c 0 t : Vec Ideal S512x1024 .f32) (ix2 i x) = (m ((c : Thread nD τ).loc main_arg0) : FVec Ideal S8x2048x1024 .f32) (ix3 ⟨(row t i).val / 2048, by omega⟩ ⟨(row t i).val % 2048, by omega⟩ x) := fun x => (blk0 m c t i x).trans ((congrFun (V_v0 m c) _).trans (flat_row _ _ _))
  have e1 : (iblk m c 1 t : Vec Ideal S1x1x1024 .f32) (ix3 0 0 k) = (m ((c : Thread nD τ).loc main_arg1) : FVec Ideal S4x1024 .f32) (ix2 3 k) := (blk1 m c t k).trans ((congrFun (V_v10 m c) _).trans (flat_gain _ _))
  exact row_of _ _ _ _ _ _ _ e0 e1

/-- Window 3's array after the run is the reference's. -/
theorem final3 (c : Dev nD) : (dats m 0 c).arrAt 3 cfg0.N = Cert.Reference3Ideal.Read.val_main_v25 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN : t.val < 32 := t.isLt
  blk_simp
  rw [after0_3]
  idx_vars y
  have he : (((cfg0.win 3).blk t).view.emb (ix2 y0 y1) : Cert.Kernel3Ideal.S16384x1920.Idx) = ix2 (row t y0) y1 := by
    unfold row
    blk_ext [idx t]
    all_goals omega
  rw [he]
  exact slab3 _ _ _ _ _ (m ((c : Thread nD τ).loc main_arg2)) (m ((c : Thread nD τ).loc main_arg3)) y0 (row t y0) (brow_eq m c t y0) (wblk m c t) y1

/-- Window 4's array after the run is the reference's. -/
theorem final4 (c : Dev nD) : (dats m 0 c).arrAt 4 cfg0.N = Cert.Reference3Ideal.Read.val_main_v27 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have hN : t.val < 32 := t.isLt
  blk_simp
  rw [after0_4]
  idx_vars y
  have he : (((cfg0.win 4).blk t).view.emb (ix2 y0 y1) : Cert.Kernel3Ideal.S16384x1024.Idx) = ix2 (row t y0) y1 := by
    unfold row
    blk_ext [idx t]
    all_goals omega
  rw [he]
  exact slab4 _ _ _ _ _ (m ((c : Thread nD τ).loc main_arg2)) (m ((c : Thread nD τ).loc main_arg3)) y0 (row t y0) (brow_eq m c t y0) (wblk m c t) y1

/-- Window 5's array after the run is the reference's. -/
theorem final5 (c : Dev nD) : (dats m 0 c).arrAt 5 cfg0.N = Cert.Reference3Ideal.Read.val_main_v28 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  have hN : t.val < 32 := t.isLt
  blk_simp
  rw [after0_5]
  idx_vars y
  have he : (((cfg0.win 5).blk t).view.emb (ix2 y0 y1) : Cert.Kernel3Ideal.S16384x768.Idx) = ix2 (row t y0) y1 := by
    unfold row
    blk_ext [idx t]
    all_goals omega
  rw [he]
  exact slab5 _ _ _ _ _ (m ((c : Thread nD τ).loc main_arg2)) (m ((c : Thread nD τ).loc main_arg3)) y0 (row t y0) (brow_eq m c t y0) (wblk m c t) y1

/-- Window 6's array after the run is the reference's. -/
theorem final6 (c : Dev nD) : (dats m 0 c).arrAt 6 cfg0.N = Cert.Reference3Ideal.Read.val_main_v30 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  have hN : t.val < 32 := t.isLt
  blk_simp
  rw [after0_6]
  idx_vars y
  have he : (((cfg0.win 6).blk t).view.emb (ix2 y0 y1) : Cert.Kernel3Ideal.S16384x3072.Idx) = ix2 (row t y0) y1 := by
    unfold row
    blk_ext [idx t]
    all_goals omega
  rw [he]
  exact slab6 _ _ _ _ _ (m ((c : Thread nD τ).loc main_arg2)) (m ((c : Thread nD τ).loc main_arg3)) y0 (row t y0) (brow_eq m c t y0) (wblk m c t) y1

/-- Window 7's array after the run is the reference's. -/
theorem final7 (c : Dev nD) : (dats m 0 c).arrAt 7 cfg0.N = Cert.Reference3Ideal.Read.val_main_v24 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  have hN : t.val < 32 := t.isLt
  blk_simp
  rw [after0_7]
  idx_vars y
  have he : (((cfg0.win 7).blk t).view.emb (ix2 y0 y1) : Cert.Kernel3Ideal.S16384x128.Idx) = ix2 (row t y0) y1 := by
    unfold row
    blk_ext [idx t]
    all_goals omega
  rw [he]
  exact slab7 _ _ _ _ _ (m ((c : Thread nD τ).loc main_arg2)) (m ((c : Thread nD τ).loc main_arg3)) y0 (row t y0) (brow_eq m c t y0) (wblk m c t) y1

end Cert.Inproj
end
-- ==== Proof.Claims.Inproj.lean ====
module

public import proofs.«01_k».proof.Defs
public import proofs.«01_k».proof.Proof.Inproj.Value
public import proofs.«01_k».proof.Proof.Gen.Kernel3.Frame
public import proofs.«01_k».proof.Proof.Gen.Kernel3Ideal.Value
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.Inproj

/-- The reference of the input projection keeps its arguments and every counter ends at zero. -/
theorem frame_reference : Cert.quiescent_Reference3Ideal := by
  intro m g _
  refine (θ_run _ _ _).mono (fun r h => ⟨fun c => (h c).2.2.2.2.2, sem_eq_zero_of_no_sems (by decide) r.2⟩) (Cert.Reference3Ideal.Value.run (F := Ideal) m g)

/-- The kernel of the input projection and its reference compute the same five arrays. -/
theorem algebraic : Cert.algebraic_Kernel3Ideal_Reference3Ideal := by
  pair_intro
  · run_from Cert.Kernel3Ideal.Value.run_blocks m g
  · run_from Cert.Reference3Ideal.Value.run m' g'
    all_goals obtain ⟨h0, h1, h2, h3⟩ := hagree c
    · rw [final3 m c, Cert.Reference3Ideal.Read.val_main_v25_eq]
    · rw [final4 m c, Cert.Reference3Ideal.Read.val_main_v27_eq]
    · rw [final5 m c, Cert.Reference3Ideal.Read.val_main_v28_eq]
    · rw [final6 m c, Cert.Reference3Ideal.Read.val_main_v30_eq]
    · rw [final7 m c, Cert.Reference3Ideal.Read.val_main_v24_eq]

end Cert.Inproj
end
-- ==== Proof.Merge.Value.lean ====
module

public import proofs.«01_k».proof.Proof.Gen.Kernel4Ideal.Frame
public import proofs.«01_k».proof.Proof.Gen.Reference4Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Merge

/-- A sum weighted by the indicator of a head is the sum over the head's 64 places. -/
theorem head_sum (f : Fin 512 → EReal) (e : Fin 512 → EReal) (h : Fin 8) (he : ∀ k : Fin 512, e k = if k.val / 64 = h.val then 1 else 0) :
    (∑ k, f k * e k) = ∑ n : Fin 64, f ⟨h.val * 64 + n.val, by omega⟩ := by
  have e1 : (∑ k, f k * e k) = ∑ k : Fin 512, if k.val / 64 = h.val then f k else 0 := by
    refine Finset.sum_congr rfl fun k _ => ?_
    rw [he]
    split_ifs <;> simp
  rw [e1, ← Finset.sum_filter]
  refine Finset.sum_nbij' (fun k => ⟨k.val % 64, by omega⟩) (fun n => ⟨h.val * 64 + n.val, by omega⟩) ?_ ?_ ?_ ?_ ?_
  · intro k _; simp
  · intro n _; simp only [Finset.mem_filter, Finset.mem_univ, true_and]; omega
  · intro k hk
    simp only [Finset.mem_filter, Finset.mem_univ, true_and] at hk
    apply Fin.ext; simp only; omega
  · intro n _; apply Fin.ext; simp only; omega
  · intro k hk
    simp only [Finset.mem_filter, Finset.mem_univ, true_and] at hk
    congr 1; apply Fin.ext; simp only; omega

/-- The bits of one sixty-fourth. -/
theorem inv64 : Ideal.ofBits .f32 1015021568#32 = (((64 : ℝ)⁻¹ : ℝ) : EReal) := by
  simp [Ideal.ofBits, Ideal.ieee, -EReal.coe_mul]; norm_num

/-- The bits of sixty-four. -/
theorem lit64 : Ideal.ofBits .f32 1115684864#32 = ((64 : ℝ) : EReal) := by
  simp [Ideal.ofBits, Ideal.ieee, -EReal.coe_mul]; norm_num

/-- Dividing by sixty-four is multiplying by one sixty-fourth. -/
theorem div64 (x : EReal) : Ideal.div x (Ideal.ofBits .f32 1115684864#32) = x * Ideal.ofBits .f32 1015021568#32 := by
  rw [inv64, lit64]
  have h : ((64 : ℝ) : EReal) ≠ 0 := by exact_mod_cast (by norm_num : (64 : ℝ) ≠ 0)
  simp only [Ideal.div, if_neg h, ← EReal.coe_inv]

/-- What the two directions' outputs sum to. -/
def osum (x1 x2 : FVec Ideal Cert.Reference4Ideal.S8x2048x512 .f32) (r : Fin 16384) (k : Fin 512) : EReal :=
  x1 (ix3 ⟨r.val / 2048, by omega⟩ ⟨r.val % 2048, by omega⟩ k) + x2 (ix3 ⟨r.val / 2048, by omega⟩ ⟨r.val % 2048, by omega⟩ k)

/-- A place less its head's mean. -/
def cent (o : Fin 512 → EReal) (k : Fin 512) : EReal :=
  o k - (∑ n : Fin 64, o ⟨k.val / 64 * 64 + n.val, by omega⟩) * Ideal.ofBits .f32 1015021568#32

/-- The group norm of a row over its heads, without its gain. -/
def gnorm (o : Fin 512 → EReal) (k : Fin 512) : EReal :=
  cent o k * Ideal.rsqrt ((∑ n : Fin 64, cent o ⟨k.val / 64 * 64 + n.val, by omega⟩ * cent o ⟨k.val / 64 * 64 + n.val, by omega⟩) * Ideal.ofBits .f32 1015021568#32 + Ideal.ofBits .f32 975685036#32)

section Reference
open Cert.Reference4Ideal Cert.Reference4Ideal.Read

/-- The reference takes every head's mean away. -/
theorem ref_xc (x1 x2 : FVec Ideal S8x2048x512 .f32) (r : Fin 16384) (h : Fin 8) (n : Fin 64) :
    val_main_v9 (F := Ideal) x1 x2 (ix3 r h n) = cent (osum x1 x2 r) ⟨h.val * 64 + n.val, by omega⟩ := by
  pointwise [val_main_v0, val_main_v1, val_main_v2, val_main_v3, val_main_cst, val_main_v4, val_main_v5, val_main_cst_0, val_main_v6, val_main_v7, val_main_v8, val_main_v9]
  rw [div64]
  have e : (h.val * 64 + n.val) / 64 = h.val := by omega
  simp only [cent, osum, e]

/-- The reference's group norm. -/
theorem ref_on (x1 x2 : FVec Ideal S8x2048x512 .f32) (x8 x9 : FVec Ideal S4x512 .f32) (r : Fin 16384) (k : Fin 512) :
    val_main_v32 (F := Ideal) x1 x2 x8 x9 (ix2 r k) = gnorm (osum x1 x2 r) k * x8 (ix2 3 k) + x9 (ix2 3 k) := by
  pointwise [val_main_v10, val_main_cst_1, val_main_v11, val_main_v12, val_main_cst_2, val_main_v13, val_main_v14, val_main_cst_3, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32]
  rw [div64]
  have e : (⟨k.val / 64 * 64 + k.val % 64, by omega⟩ : Fin 512) = k := Fin.ext (by dsimp only; omega)
  simp only [ref_xc, gnorm, e]

/-- The merged output of a row, a column. -/
def mrow (x : EReal) (on bn g u a : Fin 512 → EReal) (gate : Fin 3072 → EReal) (w1 w2 w3 : Fin 512 → Fin 1024 → EReal) (w : Fin 1024 → EReal) : EReal :=
  x + ∑ x, (Ideal.div 1 (1 + Ideal.exp (-gate ⟨x.val, by omega⟩)) * ∑ y, (on y + bn y) * g y * w1 y x
    + Ideal.div 1 (1 + Ideal.exp (-gate ⟨1024 + x.val, by omega⟩)) * ∑ y, u y * w2 y x
    + Ideal.div 1 (1 + Ideal.exp (-gate ⟨2048 + x.val, by omega⟩)) * ∑ y, a y * w3 y x) * w x

/-- What the reference returns at an index. -/
theorem ref_out (x0 : FVec Ideal S8x2048x1024 .f32) (x1 x2 x3 x4 x5 x6 : FVec Ideal S8x2048x512 .f32) (x7 : FVec Ideal S8x2048x3072 .f32) (x8 x9 : FVec Ideal S4x512 .f32) (x10 x11 x12 : FVec Ideal S4x512x1024 .f32) (x13 : FVec Ideal S4x1024x1024 .f32) (r : Fin 16384) (k : Fin 1024) :
    val_main_v71 (F := Ideal) x0 x1 x2 x3 x4 x5 x6 x7 x8 x9 x10 x11 x12 x13 (ix2 r k) =
      mrow (x0 (ix3 ⟨r.val / 2048, by omega⟩ ⟨r.val % 2048, by omega⟩ k)) (fun y => gnorm (osum x1 x2 r) y * x8 (ix2 3 y) + x9 (ix2 3 y))
        (fun y => x4 (ix3 ⟨r.val / 2048, by omega⟩ ⟨r.val % 2048, by omega⟩ y)) (fun y => x3 (ix3 ⟨r.val / 2048, by omega⟩ ⟨r.val % 2048, by omega⟩ y))
        (fun y => x5 (ix3 ⟨r.val / 2048, by omega⟩ ⟨r.val % 2048, by omega⟩ y)) (fun y => x6 (ix3 ⟨r.val / 2048, by omega⟩ ⟨r.val % 2048, by omega⟩ y))
        (fun y => x7 (ix3 ⟨r.val / 2048, by omega⟩ ⟨r.val % 2048, by omega⟩ y)) (fun y x => x10 (ix3 3 y x)) (fun y x => x11 (ix3 3 y x)) (fun y x => x12 (ix3 3 y x)) (fun x => x13 (ix3 3 x k)) := by
  pointwise [val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_cst_4, val_main_v51, val_main_v52, val_main_cst_5, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71]
  simp only [ref_on, mrow]

end Reference

open Cert.Kernel4Ideal Cert.Kernel4Ideal.Gen

/-- The head a place belongs to, as the host computes it. -/
abbrev headOf : IVec S512 32 :=
  select (andi (cmpi .ne (signi (iotaInDim S512 32 0)) (broadcastInDim S512 ![] bcast_S_S512 (signi (constantI S_ 32 64#32)))) (cmpi .ne (Host.remsi (iotaInDim S512 32 0) (broadcastInDim S512 ![] bcast_S_S512 (constantI S_ 32 64#32))) (broadcastInDim S512 ![] bcast_S_S512 (constantI S_ 32 0#32)))) (subi (Host.divsi (iotaInDim S512 32 0) (broadcastInDim S512 ![] bcast_S_S512 (constantI S_ 32 64#32))) (broadcastInDim S512 ![] bcast_S_S512 (constantI S_ 32 1#32))) (Host.divsi (iotaInDim S512 32 0) (broadcastInDim S512 ![] bcast_S_S512 (constantI S_ 32 64#32)))

/-- The head is the quotient by the head's width. -/
theorem headOf_apply (i : Fin 512) : headOf (ix1 i) = BitVec.ofNat 32 (i.val / 64) := by
  revert i
  decide +kernel

/-- The 0/1 matrix of places whose integers are equal. -/
abbrev onesOf (h : IVec S512 32) : FVec Ideal S512x512 .bf16 :=
  uitofp .bf16 (cmpi .eq (broadcastInDim S512x512 ![0, 1] bcast_S512x1_S512x512_0_1 (broadcastInDim S512x1 ![0] bcast_S512_S512x1_0 h)) (broadcastInDim S512x512 ![0, 1] bcast_S1x512_S512x512_0_1 (broadcastInDim S1x512 ![1] bcast_S512_S1x512_1 h)))

/-- The 0/1 matrix at an index compares the two integers. -/
theorem onesOf_apply (h : IVec S512 32) (i j : Fin 512) : onesOf h (ix2 i j) = FloatOps.uitofp .bf16 (IntOp.cmpi .eq (h (ix1 i)) (h (ix1 j))) := by
  pointwise

/-- The 0/1 matrix of places in the same head. -/
abbrev ones : FVec Ideal S512x512 .bf16 := onesOf headOf

/-- Two places are joined when they are in the same head. -/
theorem ones_apply (i j : Fin 512) : ones (ix2 i j) = if i.val / 64 = j.val / 64 then 1 else 0 := by
  unfold ones
  rw [onesOf_apply, headOf_apply, headOf_apply]
  have hb : (BitVec.ofNat 32 (i.val / 64) = BitVec.ofNat 32 (j.val / 64)) ↔ i.val / 64 = j.val / 64 := by
    constructor
    · intro h
      have := congrArg BitVec.toNat h
      simp only [BitVec.toNat_ofNat] at this
      omega
    · intro h; rw [h]
  by_cases h : i.val / 64 = j.val / 64
  · rw [if_pos h, h]
    simp [IntOp.cmpi, FloatOps.uitofp]
  · rw [if_neg h]
    have := mt hb.mp h
    simp [IntOp.cmpi, FloatOps.uitofp, this]

/-- The kernel's group norm of a block, given the matrix of heads. -/
theorem pay2_apply (x1 x2 x8 : Vec Ideal S512x512 .bf16) (x9 x10 : Vec Ideal S1x1x512 .f32) (x4 : Vec Ideal S512x512 .bf16) (i : Fin 512) (j : Fin 512)
    (he : ∀ k j : Fin 512, x8 (ix2 k j) = if k.val / 64 = j.val / 64 then (1 : EReal) else 0) :
    k0_pay2 (F := Ideal) x1 x2 x8 x9 x10 x4 (ix2 i j) = gnorm (fun k => x1 (ix2 i k) + x2 (ix2 i k)) j * x9 (ix3 0 0 j) + x10 (ix3 0 0 j) + x4 (ix2 i j) := by
  pointwise [k0_pay2]
  have hc : ∀ (f : Fin 512 → EReal) (j : Fin 512), (∑ k, f k * (x8 (ix2 k j) : EReal)) = ∑ n : Fin 64, f ⟨j.val / 64 * 64 + n.val, by omega⟩ := fun f j =>
    head_sum f (fun k => x8 (ix2 k j)) ⟨j.val / 64, by omega⟩ (fun k => he k j)
  have h1 : ∀ x : Fin 512, (x1 (ix2 i x) + x2 (ix2 i x) - (∑ x_1, (x1 (ix2 i x_1) + x2 (ix2 i x_1)) * (x8 (ix2 x_1 x) : EReal)) * Ideal.ofBits FTy.f32 1015021568#32 : EReal) = cent (fun k => x1 (ix2 i k) + x2 (ix2 i k)) x := by
    intro x
    rw [hc (fun k => x1 (ix2 i k) + x2 (ix2 i k)) x]
    rfl
  simp only [h1]
  rw [hc (fun k => cent (fun k => x1 (ix2 i k) + x2 (ix2 i k)) k * cent (fun k => x1 (ix2 i k) + x2 (ix2 i k)) k) j]
  rfl

/-- What a point writes at an index. -/
theorem out_apply (x0 : Vec Ideal S512x1024 .f32) (x1 x2 x3 x4 x5 x6 : Vec Ideal S512x512 .bf16) (x7 : Vec Ideal S512x3072 .bf16) (x8 : Vec Ideal S512x512 .bf16) (x9 x10 : Vec Ideal S1x1x512 .f32) (x11 x12 x13 : Vec Ideal S1x512x1024 .bf16) (x14 : Vec Ideal S1x1024x1024 .bf16) (i : Fin 512) (j : Fin 1024)
    (he : ∀ k j : Fin 512, x8 (ix2 k j) = if k.val / 64 = j.val / 64 then (1 : EReal) else 0) :
    out0_15 (F := Ideal) x0 x1 x2 x3 x4 x5 x6 x7 x8 x9 x10 x11 x12 x13 x14 (ix2 i j) =
      mrow (x0 (ix2 i j)) (fun y => gnorm (fun k => x1 (ix2 i k) + x2 (ix2 i k)) y * x9 (ix3 0 0 y) + x10 (ix3 0 0 y))
        (fun y => x4 (ix2 i y)) (fun y => x3 (ix2 i y)) (fun y => x5 (ix2 i y)) (fun y => x6 (ix2 i y)) (fun y => x7 (ix2 i y))
        (fun y x => x11 (ix3 0 y x)) (fun y x => x12 (ix3 0 y x)) (fun y x => x13 (ix3 0 y x)) (fun x => x14 (ix3 0 x j)) := by
  frame_out
  pointwise [k0_pay1, k0_pay5, k0_pay6, k0_pay7, k0_pay3, k0_pay4]
  simp only [pay2_apply _ _ _ _ _ _ _ _ he, mrow, zero_sub]

/-- A block's rows merge to the reference's row when their entries are the arrays'. -/
theorem slab (x0 : Vec Ideal S512x1024 .f32) (x1 x2 x3 x4 x5 x6 : Vec Ideal S512x512 .bf16) (x7 : Vec Ideal S512x3072 .bf16) (x8 : Vec Ideal S512x512 .bf16) (x9 x10 : Vec Ideal S1x1x512 .f32) (x11 x12 x13 : Vec Ideal S1x512x1024 .bf16) (x14 : Vec Ideal S1x1024x1024 .bf16)
    (X0 : FVec Ideal S8x2048x1024 .f32) (X1 X2 X3 X4 X5 X6 : FVec Ideal S8x2048x512 .f32) (X7 : FVec Ideal S8x2048x3072 .f32) (X8 X9 : FVec Ideal S4x512 .f32) (X10 X11 X12 : FVec Ideal S4x512x1024 .f32) (X13 : FVec Ideal S4x1024x1024 .f32) (i : Fin 512) (r : Fin 16384) (j : Fin 1024)
    (he : ∀ k j : Fin 512, x8 (ix2 k j) = if k.val / 64 = j.val / 64 then (1 : EReal) else 0)
    (h0 : ∀ k : Fin 1024, x0 (ix2 i k) = X0 (ix3 ⟨r.val / 2048, by omega⟩ ⟨r.val % 2048, by omega⟩ k))
    (h1 : ∀ k : Fin 512, x1 (ix2 i k) = X1 (ix3 ⟨r.val / 2048, by omega⟩ ⟨r.val % 2048, by omega⟩ k))
    (h2 : ∀ k : Fin 512, x2 (ix2 i k) = X2 (ix3 ⟨r.val / 2048, by omega⟩ ⟨r.val % 2048, by omega⟩ k))
    (h3 : ∀ k : Fin 512, x3 (ix2 i k) = X3 (ix3 ⟨r.val / 2048, by omega⟩ ⟨r.val % 2048, by omega⟩ k))
    (h4 : ∀ k : Fin 512, x4 (ix2 i k) = X4 (ix3 ⟨r.val / 2048, by omega⟩ ⟨r.val % 2048, by omega⟩ k))
    (h5 : ∀ k : Fin 512, x5 (ix2 i k) = X5 (ix3 ⟨r.val / 2048, by omega⟩ ⟨r.val % 2048, by omega⟩ k))
    (h6 : ∀ k : Fin 512, x6 (ix2 i k) = X6 (ix3 ⟨r.val / 2048, by omega⟩ ⟨r.val % 2048, by omega⟩ k))
    (h7 : ∀ k : Fin 3072, x7 (ix2 i k) = X7 (ix3 ⟨r.val / 2048, by omega⟩ ⟨r.val % 2048, by omega⟩ k))
    (h9 : ∀ k : Fin 512, x9 (ix3 0 0 k) = X8 (ix2 3 k)) (h10 : ∀ k : Fin 512, x10 (ix3 0 0 k) = X9 (ix2 3 k))
    (h11 : ∀ (y : Fin 512) (x : Fin 1024), x11 (ix3 0 y x) = X10 (ix3 3 y x)) (h12 : ∀ (y : Fin 512) (x : Fin 1024), x12 (ix3 0 y x) = X11 (ix3 3 y x))
    (h13 : ∀ (y : Fin 512) (x : Fin 1024), x13 (ix3 0 y x) = X12 (ix3 3 y x)) (h14 : ∀ (y : Fin 1024) (x : Fin 1024), x14 (ix3 0 y x) = X13 (ix3 3 y x)) :
    out0_15 (F := Ideal) x0 x1 x2 x3 x4 x5 x6 x7 x8 x9 x10 x11 x12 x13 x14 (ix2 i j) = Cert.Reference4Ideal.Read.val_main_v71 (F := Ideal) X0 X1 X2 X3 X4 X5 X6 X7 X8 X9 X10 X11 X12 X13 (ix2 r j) := by
  rw [out_apply _ _ _ _ _ _ _ _ _ _ _ _ _ _ _ _ _ he, ref_out]
  have ho : (fun k => (x1 (ix2 i k) + x2 (ix2 i k) : EReal)) = osum X1 X2 r := by
    funext k; rw [h1, h2]; rfl
  simp only [ho, h0, h3, h4, h5, h6, h7, h9, h10, h11, h12, h13, h14]

variable (m : (ℓ : Loc nD τ sig) → Buf (Elt Ideal) ℓ)

/-- What every buffer of a device holds. -/
abbrev Val := Valuation τ sig (Elt Ideal)

/-- Which block every window holds at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![0, 0]
    ∧ win0_9.index t = ![3, 0, 0] ∧ win0_10.index t = ![3, 0, 0] ∧ win0_11.index t = ![3, 0, 0] ∧ win0_12.index t = ![3, 0, 0] ∧ win0_13.index t = ![3, 0, 0] ∧ win0_14.index t = ![3, 0, 0]
    ∧ win0_15.index t = ![t.val, 0] :=
  (by decide +kernel : ∀ t : Fin grid0.N, _)

/-- The first stretch of host operations counts the places. -/
theorem ops0_v0 (s : Val) : StableHlo.after (hostOps0 (F := Ideal)) s (Proc.tc.devRef main_v0) = (iotaInDim S512 32 0 : IVec S512 32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The head's width. -/
theorem ops0_c (s : Val) : StableHlo.after (hostOps0 (F := Ideal)) s (Proc.tc.devRef main_c) = (constantI S_ 32 64#32 : IVec S_ 32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The quotient by the head's width. -/
theorem ops1_v1 (s : Val) (h0 : s (Proc.tc.devRef main_v0) = (iotaInDim S512 32 0 : IVec S512 32)) (hc : s (Proc.tc.devRef main_c) = (constantI S_ 32 64#32 : IVec S_ 32)) :
    StableHlo.after (hostOps0_1 (F := Ideal)) s (Proc.tc.devRef main_v1) = headOf := by
  simp only [StableHlo.after_cons, StableHlo.after_nil, StableHlo.TRef.binary, StableHlo.TRef.ternary, StableHlo.TRef.nullary, StableHlo.TRef.unary, StableHlo.TRef.toBuf, StableHlo.TRef.ofBuf, cast_eq]
  after_results_simp
  try rw [h0, hc]
  try rfl

/-- The matrix of heads from the quotients. -/
theorem ops2_v7 (s : Val) (h : s (Proc.tc.devRef main_v1) = headOf) : StableHlo.after (hostOps0_2 (F := Ideal)) s (Proc.tc.devRef main_v7) = ones := by
  simp only [StableHlo.after_cons, StableHlo.after_nil, StableHlo.TRef.binary, StableHlo.TRef.nullary, StableHlo.TRef.unary, StableHlo.TRef.toBuf, StableHlo.TRef.ofBuf, cast_eq]
  after_results_simp
  try rw [h]
  try rfl

/-- The matrix of heads when the region is entered. -/
theorem V_v7 (c : Dev nD) : (V m c main_v7 : FVec Ideal S512x512 .bf16) = ones := by
  have e : V m c main_v7 = StableHlo.after (hostOps0_2 (F := Ideal)) (StableHlo.after (hostOps0_1 (F := Ideal)) (StableHlo.after (hostOps0 (F := Ideal)) (fun b => m (c, b)))) (Proc.tc.devRef main_v7) := rfl
  rw [e]
  exact ops2_v7 _ (ops1_v1 _ (ops0_v0 _) (ops0_c _))

/-- The operand of window 0 is argument 0 laid out for it. -/
theorem ops2_v14 (s : Val) : StableHlo.after (hostOps0_2 (F := Ideal)) s (Proc.tc.devRef main_v14) = (shapeCast S16384x1024 (s (Proc.tc.devRef main_arg0) : FVec Ideal S8x2048x1024 .f32) shapeCasts_S8x2048x1024_S16384x1024 : FVec Ideal S16384x1024 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 1 is argument 1 laid out for it. -/
theorem ops2_v16 (s : Val) : StableHlo.after (hostOps0_2 (F := Ideal)) s (Proc.tc.devRef main_v16) = (shapeCast S16384x512 (truncf .bf16 (s (Proc.tc.devRef main_arg1) : FVec Ideal S8x2048x512 .f32) bitsLt_bf16_f32) shapeCasts_S8x2048x512_S16384x512 : FVec Ideal S16384x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 2 is argument 2 laid out for it. -/
theorem ops2_v18 (s : Val) : StableHlo.after (hostOps0_2 (F := Ideal)) s (Proc.tc.devRef main_v18) = (shapeCast S16384x512 (truncf .bf16 (s (Proc.tc.devRef main_arg2) : FVec Ideal S8x2048x512 .f32) bitsLt_bf16_f32) shapeCasts_S8x2048x512_S16384x512 : FVec Ideal S16384x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 3 is argument 3 laid out for it. -/
theorem ops2_v20 (s : Val) : StableHlo.after (hostOps0_2 (F := Ideal)) s (Proc.tc.devRef main_v20) = (shapeCast S16384x512 (truncf .bf16 (s (Proc.tc.devRef main_arg3) : FVec Ideal S8x2048x512 .f32) bitsLt_bf16_f32) shapeCasts_S8x2048x512_S16384x512 : FVec Ideal S16384x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 4 is argument 4 laid out for it. -/
theorem ops2_v22 (s : Val) : StableHlo.after (hostOps0_2 (F := Ideal)) s (Proc.tc.devRef main_v22) = (shapeCast S16384x512 (truncf .bf16 (s (Proc.tc.devRef main_arg4) : FVec Ideal S8x2048x512 .f32) bitsLt_bf16_f32) shapeCasts_S8x2048x512_S16384x512 : FVec Ideal S16384x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 5 is argument 5 laid out for it. -/
theorem ops2_v24 (s : Val) : StableHlo.after (hostOps0_2 (F := Ideal)) s (Proc.tc.devRef main_v24) = (shapeCast S16384x512 (truncf .bf16 (s (Proc.tc.devRef main_arg5) : FVec Ideal S8x2048x512 .f32) bitsLt_bf16_f32) shapeCasts_S8x2048x512_S16384x512 : FVec Ideal S16384x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 6 is argument 6 laid out for it. -/
theorem ops2_v26 (s : Val) : StableHlo.after (hostOps0_2 (F := Ideal)) s (Proc.tc.devRef main_v26) = (shapeCast S16384x512 (truncf .bf16 (s (Proc.tc.devRef main_arg6) : FVec Ideal S8x2048x512 .f32) bitsLt_bf16_f32) shapeCasts_S8x2048x512_S16384x512 : FVec Ideal S16384x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 7 is argument 7 laid out for it. -/
theorem ops2_v28 (s : Val) : StableHlo.after (hostOps0_2 (F := Ideal)) s (Proc.tc.devRef main_v28) = (shapeCast S16384x3072 (truncf .bf16 (s (Proc.tc.devRef main_arg7) : FVec Ideal S8x2048x3072 .f32) bitsLt_bf16_f32) shapeCasts_S8x2048x3072_S16384x3072 : FVec Ideal S16384x3072 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 9 is argument 8 laid out for it. -/
theorem ops2_v8 (s : Val) : StableHlo.after (hostOps0_2 (F := Ideal)) s (Proc.tc.devRef main_v8) = (shapeCast S4x1x512 (s (Proc.tc.devRef main_arg8) : FVec Ideal S4x512 .f32) shapeCasts_S4x512_S4x1x512 : FVec Ideal S4x1x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 10 is argument 9 laid out for it. -/
theorem ops2_v9 (s : Val) : StableHlo.after (hostOps0_2 (F := Ideal)) s (Proc.tc.devRef main_v9) = (shapeCast S4x1x512 (s (Proc.tc.devRef main_arg9) : FVec Ideal S4x512 .f32) shapeCasts_S4x512_S4x1x512 : FVec Ideal S4x1x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 11 is argument 10 laid out for it. -/
theorem ops2_v10 (s : Val) : StableHlo.after (hostOps0_2 (F := Ideal)) s (Proc.tc.devRef main_v10) = (truncf .bf16 (s (Proc.tc.devRef main_arg10) : FVec Ideal S4x512x1024 .f32) bitsLt_bf16_f32 : FVec Ideal S4x512x1024 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 12 is argument 11 laid out for it. -/
theorem ops2_v11 (s : Val) : StableHlo.after (hostOps0_2 (F := Ideal)) s (Proc.tc.devRef main_v11) = (truncf .bf16 (s (Proc.tc.devRef main_arg11) : FVec Ideal S4x512x1024 .f32) bitsLt_bf16_f32 : FVec Ideal S4x512x1024 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 13 is argument 12 laid out for it. -/
theorem ops2_v12 (s : Val) : StableHlo.after (hostOps0_2 (F := Ideal)) s (Proc.tc.devRef main_v12) = (truncf .bf16 (s (Proc.tc.devRef main_arg12) : FVec Ideal S4x512x1024 .f32) bitsLt_bf16_f32 : FVec Ideal S4x512x1024 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 14 is argument 13 laid out for it. -/
theorem ops2_v13 (s : Val) : StableHlo.after (hostOps0_2 (F := Ideal)) s (Proc.tc.devRef main_v13) = (truncf .bf16 (s (Proc.tc.devRef main_arg13) : FVec Ideal S4x1024x1024 .f32) bitsLt_bf16_f32 : FVec Ideal S4x1024x1024 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The first two stretches leave argument 0. -/
theorem ops01_arg0 (s : Val) : StableHlo.after (hostOps0_1 (F := Ideal)) (StableHlo.after (hostOps0 (F := Ideal)) s) (Proc.tc.devRef main_arg0) = s (Proc.tc.devRef main_arg0) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 0 when the region is entered. -/
theorem V_v14 (c : Dev nD) : (V m c main_v14 : FVec Ideal S16384x1024 .f32) = (shapeCast S16384x1024 (m ((c : Thread nD τ).loc main_arg0) : FVec Ideal S8x2048x1024 .f32) shapeCasts_S8x2048x1024_S16384x1024 : FVec Ideal S16384x1024 .f32) := by
  have e : V m c main_v14 = StableHlo.after (hostOps0_2 (F := Ideal)) (StableHlo.after (hostOps0_1 (F := Ideal)) (StableHlo.after (hostOps0 (F := Ideal)) (fun b => m (c, b)))) (Proc.tc.devRef main_v14) := rfl
  rw [e, ops2_v14, ops01_arg0]

/-- The first two stretches leave argument 1. -/
theorem ops01_arg1 (s : Val) : StableHlo.after (hostOps0_1 (F := Ideal)) (StableHlo.after (hostOps0 (F := Ideal)) s) (Proc.tc.devRef main_arg1) = s (Proc.tc.devRef main_arg1) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 1 when the region is entered. -/
theorem V_v16 (c : Dev nD) : (V m c main_v16 : FVec Ideal S16384x512 .bf16) = (shapeCast S16384x512 (truncf .bf16 (m ((c : Thread nD τ).loc main_arg1) : FVec Ideal S8x2048x512 .f32) bitsLt_bf16_f32) shapeCasts_S8x2048x512_S16384x512 : FVec Ideal S16384x512 .bf16) := by
  have e : V m c main_v16 = StableHlo.after (hostOps0_2 (F := Ideal)) (StableHlo.after (hostOps0_1 (F := Ideal)) (StableHlo.after (hostOps0 (F := Ideal)) (fun b => m (c, b)))) (Proc.tc.devRef main_v16) := rfl
  rw [e, ops2_v16, ops01_arg1]

/-- The first two stretches leave argument 2. -/
theorem ops01_arg2 (s : Val) : StableHlo.after (hostOps0_1 (F := Ideal)) (StableHlo.after (hostOps0 (F := Ideal)) s) (Proc.tc.devRef main_arg2) = s (Proc.tc.devRef main_arg2) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 2 when the region is entered. -/
theorem V_v18 (c : Dev nD) : (V m c main_v18 : FVec Ideal S16384x512 .bf16) = (shapeCast S16384x512 (truncf .bf16 (m ((c : Thread nD τ).loc main_arg2) : FVec Ideal S8x2048x512 .f32) bitsLt_bf16_f32) shapeCasts_S8x2048x512_S16384x512 : FVec Ideal S16384x512 .bf16) := by
  have e : V m c main_v18 = StableHlo.after (hostOps0_2 (F := Ideal)) (StableHlo.after (hostOps0_1 (F := Ideal)) (StableHlo.after (hostOps0 (F := Ideal)) (fun b => m (c, b)))) (Proc.tc.devRef main_v18) := rfl
  rw [e, ops2_v18, ops01_arg2]

/-- The first two stretches leave argument 3. -/
theorem ops01_arg3 (s : Val) : StableHlo.after (hostOps0_1 (F := Ideal)) (StableHlo.after (hostOps0 (F := Ideal)) s) (Proc.tc.devRef main_arg3) = s (Proc.tc.devRef main_arg3) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 3 when the region is entered. -/
theorem V_v20 (c : Dev nD) : (V m c main_v20 : FVec Ideal S16384x512 .bf16) = (shapeCast S16384x512 (truncf .bf16 (m ((c : Thread nD τ).loc main_arg3) : FVec Ideal S8x2048x512 .f32) bitsLt_bf16_f32) shapeCasts_S8x2048x512_S16384x512 : FVec Ideal S16384x512 .bf16) := by
  have e : V m c main_v20 = StableHlo.after (hostOps0_2 (F := Ideal)) (StableHlo.after (hostOps0_1 (F := Ideal)) (StableHlo.after (hostOps0 (F := Ideal)) (fun b => m (c, b)))) (Proc.tc.devRef main_v20) := rfl
  rw [e, ops2_v20, ops01_arg3]

/-- The first two stretches leave argument 4. -/
theorem ops01_arg4 (s : Val) : StableHlo.after (hostOps0_1 (F := Ideal)) (StableHlo.after (hostOps0 (F := Ideal)) s) (Proc.tc.devRef main_arg4) = s (Proc.tc.devRef main_arg4) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 4 when the region is entered. -/
theorem V_v22 (c : Dev nD) : (V m c main_v22 : FVec Ideal S16384x512 .bf16) = (shapeCast S16384x512 (truncf .bf16 (m ((c : Thread nD τ).loc main_arg4) : FVec Ideal S8x2048x512 .f32) bitsLt_bf16_f32) shapeCasts_S8x2048x512_S16384x512 : FVec Ideal S16384x512 .bf16) := by
  have e : V m c main_v22 = StableHlo.after (hostOps0_2 (F := Ideal)) (StableHlo.after (hostOps0_1 (F := Ideal)) (StableHlo.after (hostOps0 (F := Ideal)) (fun b => m (c, b)))) (Proc.tc.devRef main_v22) := rfl
  rw [e, ops2_v22, ops01_arg4]

/-- The first two stretches leave argument 5. -/
theorem ops01_arg5 (s : Val) : StableHlo.after (hostOps0_1 (F := Ideal)) (StableHlo.after (hostOps0 (F := Ideal)) s) (Proc.tc.devRef main_arg5) = s (Proc.tc.devRef main_arg5) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 5 when the region is entered. -/
theorem V_v24 (c : Dev nD) : (V m c main_v24 : FVec Ideal S16384x512 .bf16) = (shapeCast S16384x512 (truncf .bf16 (m ((c : Thread nD τ).loc main_arg5) : FVec Ideal S8x2048x512 .f32) bitsLt_bf16_f32) shapeCasts_S8x2048x512_S16384x512 : FVec Ideal S16384x512 .bf16) := by
  have e : V m c main_v24 = StableHlo.after (hostOps0_2 (F := Ideal)) (StableHlo.after (hostOps0_1 (F := Ideal)) (StableHlo.after (hostOps0 (F := Ideal)) (fun b => m (c, b)))) (Proc.tc.devRef main_v24) := rfl
  rw [e, ops2_v24, ops01_arg5]

/-- The first two stretches leave argument 6. -/
theorem ops01_arg6 (s : Val) : StableHlo.after (hostOps0_1 (F := Ideal)) (StableHlo.after (hostOps0 (F := Ideal)) s) (Proc.tc.devRef main_arg6) = s (Proc.tc.devRef main_arg6) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 6 when the region is entered. -/
theorem V_v26 (c : Dev nD) : (V m c main_v26 : FVec Ideal S16384x512 .bf16) = (shapeCast S16384x512 (truncf .bf16 (m ((c : Thread nD τ).loc main_arg6) : FVec Ideal S8x2048x512 .f32) bitsLt_bf16_f32) shapeCasts_S8x2048x512_S16384x512 : FVec Ideal S16384x512 .bf16) := by
  have e : V m c main_v26 = StableHlo.after (hostOps0_2 (F := Ideal)) (StableHlo.after (hostOps0_1 (F := Ideal)) (StableHlo.after (hostOps0 (F := Ideal)) (fun b => m (c, b)))) (Proc.tc.devRef main_v26) := rfl
  rw [e, ops2_v26, ops01_arg6]

/-- The first two stretches leave argument 7. -/
theorem ops01_arg7 (s : Val) : StableHlo.after (hostOps0_1 (F := Ideal)) (StableHlo.after (hostOps0 (F := Ideal)) s) (Proc.tc.devRef main_arg7) = s (Proc.tc.devRef main_arg7) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 7 when the region is entered. -/
theorem V_v28 (c : Dev nD) : (V m c main_v28 : FVec Ideal S16384x3072 .bf16) = (shapeCast S16384x3072 (truncf .bf16 (m ((c : Thread nD τ).loc main_arg7) : FVec Ideal S8x2048x3072 .f32) bitsLt_bf16_f32) shapeCasts_S8x2048x3072_S16384x3072 : FVec Ideal S16384x3072 .bf16) := by
  have e : V m c main_v28 = StableHlo.after (hostOps0_2 (F := Ideal)) (StableHlo.after (hostOps0_1 (F := Ideal)) (StableHlo.after (hostOps0 (F := Ideal)) (fun b => m (c, b)))) (Proc.tc.devRef main_v28) := rfl
  rw [e, ops2_v28, ops01_arg7]

/-- The first two stretches leave argument 8. -/
theorem ops01_arg8 (s : Val) : StableHlo.after (hostOps0_1 (F := Ideal)) (StableHlo.after (hostOps0 (F := Ideal)) s) (Proc.tc.devRef main_arg8) = s (Proc.tc.devRef main_arg8) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 9 when the region is entered. -/
theorem V_v8 (c : Dev nD) : (V m c main_v8 : FVec Ideal S4x1x512 .f32) = (shapeCast S4x1x512 (m ((c : Thread nD τ).loc main_arg8) : FVec Ideal S4x512 .f32) shapeCasts_S4x512_S4x1x512 : FVec Ideal S4x1x512 .f32) := by
  have e : V m c main_v8 = StableHlo.after (hostOps0_2 (F := Ideal)) (StableHlo.after (hostOps0_1 (F := Ideal)) (StableHlo.after (hostOps0 (F := Ideal)) (fun b => m (c, b)))) (Proc.tc.devRef main_v8) := rfl
  rw [e, ops2_v8, ops01_arg8]

/-- The first two stretches leave argument 9. -/
theorem ops01_arg9 (s : Val) : StableHlo.after (hostOps0_1 (F := Ideal)) (StableHlo.after (hostOps0 (F := Ideal)) s) (Proc.tc.devRef main_arg9) = s (Proc.tc.devRef main_arg9) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 10 when the region is entered. -/
theorem V_v9 (c : Dev nD) : (V m c main_v9 : FVec Ideal S4x1x512 .f32) = (shapeCast S4x1x512 (m ((c : Thread nD τ).loc main_arg9) : FVec Ideal S4x512 .f32) shapeCasts_S4x512_S4x1x512 : FVec Ideal S4x1x512 .f32) := by
  have e : V m c main_v9 = StableHlo.after (hostOps0_2 (F := Ideal)) (StableHlo.after (hostOps0_1 (F := Ideal)) (StableHlo.after (hostOps0 (F := Ideal)) (fun b => m (c, b)))) (Proc.tc.devRef main_v9) := rfl
  rw [e, ops2_v9, ops01_arg9]

/-- The first two stretches leave argument 10. -/
theorem ops01_arg10 (s : Val) : StableHlo.after (hostOps0_1 (F := Ideal)) (StableHlo.after (hostOps0 (F := Ideal)) s) (Proc.tc.devRef main_arg10) = s (Proc.tc.devRef main_arg10) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 11 when the region is entered. -/
theorem V_v10 (c : Dev nD) : (V m c main_v10 : FVec Ideal S4x512x1024 .bf16) = (truncf .bf16 (m ((c : Thread nD τ).loc main_arg10) : FVec Ideal S4x512x1024 .f32) bitsLt_bf16_f32 : FVec Ideal S4x512x1024 .bf16) := by
  have e : V m c main_v10 = StableHlo.after (hostOps0_2 (F := Ideal)) (StableHlo.after (hostOps0_1 (F := Ideal)) (StableHlo.after (hostOps0 (F := Ideal)) (fun b => m (c, b)))) (Proc.tc.devRef main_v10) := rfl
  rw [e, ops2_v10, ops01_arg10]

/-- The first two stretches leave argument 11. -/
theorem ops01_arg11 (s : Val) : StableHlo.after (hostOps0_1 (F := Ideal)) (StableHlo.after (hostOps0 (F := Ideal)) s) (Proc.tc.devRef main_arg11) = s (Proc.tc.devRef main_arg11) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 12 when the region is entered. -/
theorem V_v11 (c : Dev nD) : (V m c main_v11 : FVec Ideal S4x512x1024 .bf16) = (truncf .bf16 (m ((c : Thread nD τ).loc main_arg11) : FVec Ideal S4x512x1024 .f32) bitsLt_bf16_f32 : FVec Ideal S4x512x1024 .bf16) := by
  have e : V m c main_v11 = StableHlo.after (hostOps0_2 (F := Ideal)) (StableHlo.after (hostOps0_1 (F := Ideal)) (StableHlo.after (hostOps0 (F := Ideal)) (fun b => m (c, b)))) (Proc.tc.devRef main_v11) := rfl
  rw [e, ops2_v11, ops01_arg11]

/-- The first two stretches leave argument 12. -/
theorem ops01_arg12 (s : Val) : StableHlo.after (hostOps0_1 (F := Ideal)) (StableHlo.after (hostOps0 (F := Ideal)) s) (Proc.tc.devRef main_arg12) = s (Proc.tc.devRef main_arg12) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 13 when the region is entered. -/
theorem V_v12 (c : Dev nD) : (V m c main_v12 : FVec Ideal S4x512x1024 .bf16) = (truncf .bf16 (m ((c : Thread nD τ).loc main_arg12) : FVec Ideal S4x512x1024 .f32) bitsLt_bf16_f32 : FVec Ideal S4x512x1024 .bf16) := by
  have e : V m c main_v12 = StableHlo.after (hostOps0_2 (F := Ideal)) (StableHlo.after (hostOps0_1 (F := Ideal)) (StableHlo.after (hostOps0 (F := Ideal)) (fun b => m (c, b)))) (Proc.tc.devRef main_v12) := rfl
  rw [e, ops2_v12, ops01_arg12]

/-- The first two stretches leave argument 13. -/
theorem ops01_arg13 (s : Val) : StableHlo.after (hostOps0_1 (F := Ideal)) (StableHlo.after (hostOps0 (F := Ideal)) s) (Proc.tc.devRef main_arg13) = s (Proc.tc.devRef main_arg13) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The operand of window 14 when the region is entered. -/
theorem V_v13 (c : Dev nD) : (V m c main_v13 : FVec Ideal S4x1024x1024 .bf16) = (truncf .bf16 (m ((c : Thread nD τ).loc main_arg13) : FVec Ideal S4x1024x1024 .f32) bitsLt_bf16_f32 : FVec Ideal S4x1024x1024 .bf16) := by
  have e : V m c main_v13 = StableHlo.after (hostOps0_2 (F := Ideal)) (StableHlo.after (hostOps0_1 (F := Ideal)) (StableHlo.after (hostOps0 (F := Ideal)) (fun b => m (c, b)))) (Proc.tc.devRef main_v13) := rfl
  rw [e, ops2_v13, ops01_arg13]

/-- The row of the array that row `i` of point `t` is. -/
def row (t : Fin cfg0.N) (i : Fin 512) : Fin 16384 := ⟨512 * t.val + i.val, by have : t.val < 32 := t.isLt; omega⟩

/-- A flattened row, read back. -/
theorem flat_1024 (x : FVec Ideal S8x2048x1024 .f32) (r : Fin 16384) (k : Fin 1024) :
    shapeCast S16384x1024 x shapeCasts_S8x2048x1024_S16384x1024 (ix2 r k) = x (ix3 ⟨r.val / 2048, by omega⟩ ⟨r.val % 2048, by omega⟩ k) := by
  pointwise

/-- A block of window 0, read back. -/
theorem blk0 (c : Dev nD) (t : Fin cfg0.N) (i : Fin 512) (x : Fin 1024) :
    (iblk m c 0 t : Vec Ideal S512x1024 .f32) (ix2 i x) = (m ((c : Thread nD τ).loc main_arg0) : FVec Ideal S8x2048x1024 .f32) (ix3 ⟨(row t i).val / 2048, by omega⟩ ⟨(row t i).val % 2048, by omega⟩ x) := by
  have h : (iblk m c 0 t : Vec Ideal S512x1024 .f32) (ix2 i x) = (V m c main_v14 : FVec Ideal S16384x1024 .f32) (ix2 (row t i) x) := by
    unfold row
    have hN : t.val < 32 := t.isLt
    blk_point [iblk, idx t]
  exact h.trans ((congrFun (V_v14 m c) _).trans (flat_1024 _ _ _))

/-- A flattened row, read back. -/
theorem flat_512 (x : FVec Ideal S8x2048x512 .f32) (r : Fin 16384) (k : Fin 512) :
    shapeCast S16384x512 x shapeCasts_S8x2048x512_S16384x512 (ix2 r k) = x (ix3 ⟨r.val / 2048, by omega⟩ ⟨r.val % 2048, by omega⟩ k) := by
  pointwise

/-- A block of window 1, read back. -/
theorem blk1 (c : Dev nD) (t : Fin cfg0.N) (i : Fin 512) (x : Fin 512) :
    (iblk m c 1 t : Vec Ideal S512x512 .bf16) (ix2 i x) = (m ((c : Thread nD τ).loc main_arg1) : FVec Ideal S8x2048x512 .f32) (ix3 ⟨(row t i).val / 2048, by omega⟩ ⟨(row t i).val % 2048, by omega⟩ x) := by
  have h : (iblk m c 1 t : Vec Ideal S512x512 .bf16) (ix2 i x) = (V m c main_v16 : FVec Ideal S16384x512 .bf16) (ix2 (row t i) x) := by
    unfold row
    have hN : t.val < 32 := t.isLt
    blk_point [iblk, idx t]
  exact h.trans ((congrFun (V_v16 m c) _).trans (flat_512 _ _ _))

/-- A block of window 2, read back. -/
theorem blk2 (c : Dev nD) (t : Fin cfg0.N) (i : Fin 512) (x : Fin 512) :
    (iblk m c 2 t : Vec Ideal S512x512 .bf16) (ix2 i x) = (m ((c : Thread nD τ).loc main_arg2) : FVec Ideal S8x2048x512 .f32) (ix3 ⟨(row t i).val / 2048, by omega⟩ ⟨(row t i).val % 2048, by omega⟩ x) := by
  have h : (iblk m c 2 t : Vec Ideal S512x512 .bf16) (ix2 i x) = (V m c main_v18 : FVec Ideal S16384x512 .bf16) (ix2 (row t i) x) := by
    unfold row
    have hN : t.val < 32 := t.isLt
    blk_point [iblk, idx t]
  exact h.trans ((congrFun (V_v18 m c) _).trans (flat_512 _ _ _))

/-- A block of window 3, read back. -/
theorem blk3 (c : Dev nD) (t : Fin cfg0.N) (i : Fin 512) (x : Fin 512) :
    (iblk m c 3 t : Vec Ideal S512x512 .bf16) (ix2 i x) = (m ((c : Thread nD τ).loc main_arg3) : FVec Ideal S8x2048x512 .f32) (ix3 ⟨(row t i).val / 2048, by omega⟩ ⟨(row t i).val % 2048, by omega⟩ x) := by
  have h : (iblk m c 3 t : Vec Ideal S512x512 .bf16) (ix2 i x) = (V m c main_v20 : FVec Ideal S16384x512 .bf16) (ix2 (row t i) x) := by
    unfold row
    have hN : t.val < 32 := t.isLt
    blk_point [iblk, idx t]
  exact h.trans ((congrFun (V_v20 m c) _).trans (flat_512 _ _ _))

/-- A block of window 4, read back. -/
theorem blk4 (c : Dev nD) (t : Fin cfg0.N) (i : Fin 512) (x : Fin 512) :
    (iblk m c 4 t : Vec Ideal S512x512 .bf16) (ix2 i x) = (m ((c : Thread nD τ).loc main_arg4) : FVec Ideal S8x2048x512 .f32) (ix3 ⟨(row t i).val / 2048, by omega⟩ ⟨(row t i).val % 2048, by omega⟩ x) := by
  have h : (iblk m c 4 t : Vec Ideal S512x512 .bf16) (ix2 i x) = (V m c main_v22 : FVec Ideal S16384x512 .bf16) (ix2 (row t i) x) := by
    unfold row
    have hN : t.val < 32 := t.isLt
    blk_point [iblk, idx t]
  exact h.trans ((congrFun (V_v22 m c) _).trans (flat_512 _ _ _))

/-- A block of window 5, read back. -/
theorem blk5 (c : Dev nD) (t : Fin cfg0.N) (i : Fin 512) (x : Fin 512) :
    (iblk m c 5 t : Vec Ideal S512x512 .bf16) (ix2 i x) = (m ((c : Thread nD τ).loc main_arg5) : FVec Ideal S8x2048x512 .f32) (ix3 ⟨(row t i).val / 2048, by omega⟩ ⟨(row t i).val % 2048, by omega⟩ x) := by
  have h : (iblk m c 5 t : Vec Ideal S512x512 .bf16) (ix2 i x) = (V m c main_v24 : FVec Ideal S16384x512 .bf16) (ix2 (row t i) x) := by
    unfold row
    have hN : t.val < 32 := t.isLt
    blk_point [iblk, idx t]
  exact h.trans ((congrFun (V_v24 m c) _).trans (flat_512 _ _ _))

/-- A block of window 6, read back. -/
theorem blk6 (c : Dev nD) (t : Fin cfg0.N) (i : Fin 512) (x : Fin 512) :
    (iblk m c 6 t : Vec Ideal S512x512 .bf16) (ix2 i x) = (m ((c : Thread nD τ).loc main_arg6) : FVec Ideal S8x2048x512 .f32) (ix3 ⟨(row t i).val / 2048, by omega⟩ ⟨(row t i).val % 2048, by omega⟩ x) := by
  have h : (iblk m c 6 t : Vec Ideal S512x512 .bf16) (ix2 i x) = (V m c main_v26 : FVec Ideal S16384x512 .bf16) (ix2 (row t i) x) := by
    unfold row
    have hN : t.val < 32 := t.isLt
    blk_point [iblk, idx t]
  exact h.trans ((congrFun (V_v26 m c) _).trans (flat_512 _ _ _))

/-- A flattened row, read back. -/
theorem flat_3072 (x : FVec Ideal S8x2048x3072 .f32) (r : Fin 16384) (k : Fin 3072) :
    shapeCast S16384x3072 x shapeCasts_S8x2048x3072_S16384x3072 (ix2 r k) = x (ix3 ⟨r.val / 2048, by omega⟩ ⟨r.val % 2048, by omega⟩ k) := by
  pointwise

/-- A block of window 7, read back. -/
theorem blk7 (c : Dev nD) (t : Fin cfg0.N) (i : Fin 512) (x : Fin 3072) :
    (iblk m c 7 t : Vec Ideal S512x3072 .bf16) (ix2 i x) = (m ((c : Thread nD τ).loc main_arg7) : FVec Ideal S8x2048x3072 .f32) (ix3 ⟨(row t i).val / 2048, by omega⟩ ⟨(row t i).val % 2048, by omega⟩ x) := by
  have h : (iblk m c 7 t : Vec Ideal S512x3072 .bf16) (ix2 i x) = (V m c main_v28 : FVec Ideal S16384x3072 .bf16) (ix2 (row t i) x) := by
    unfold row
    have hN : t.val < 32 := t.isLt
    blk_point [iblk, idx t]
  exact h.trans ((congrFun (V_v28 m c) _).trans (flat_3072 _ _ _))

/-- The gains with a unit axis between, read back. -/
theorem flat_gain (x : FVec Ideal S4x512 .f32) (k : Fin 512) :
    shapeCast S4x1x512 x shapeCasts_S4x512_S4x1x512 (ix3 3 0 k) = x (ix2 3 k) := by
  pointwise

/-- A block of window 9, read back. -/
theorem blk9 (c : Dev nD) (t : Fin cfg0.N) (k : Fin 512) :
    (iblk m c 9 t : Vec Ideal S1x1x512 .f32) (ix3 0 0 k) = (m ((c : Thread nD τ).loc main_arg8) : FVec Ideal S4x512 .f32) (ix2 3 k) := by
  have h : (iblk m c 9 t : Vec Ideal S1x1x512 .f32) (ix3 0 0 k) = (V m c main_v8 : FVec Ideal S4x1x512 .f32) (ix3 3 0 k) := by
    blk_point [iblk, idx t]
  exact h.trans ((congrFun (V_v8 m c) _).trans (flat_gain _ _))

/-- A block of window 10, read back. -/
theorem blk10 (c : Dev nD) (t : Fin cfg0.N) (k : Fin 512) :
    (iblk m c 10 t : Vec Ideal S1x1x512 .f32) (ix3 0 0 k) = (m ((c : Thread nD τ).loc main_arg9) : FVec Ideal S4x512 .f32) (ix2 3 k) := by
  have h : (iblk m c 10 t : Vec Ideal S1x1x512 .f32) (ix3 0 0 k) = (V m c main_v9 : FVec Ideal S4x1x512 .f32) (ix3 3 0 k) := by
    blk_point [iblk, idx t]
  exact h.trans ((congrFun (V_v9 m c) _).trans (flat_gain _ _))

/-- A block of window 11, read back. -/
theorem blk11 (c : Dev nD) (t : Fin cfg0.N) (y : Fin 512) (x : Fin 1024) :
    (iblk m c 11 t : Vec Ideal S1x512x1024 .bf16) (ix3 0 y x) = (m ((c : Thread nD τ).loc main_arg10) : FVec Ideal S4x512x1024 .f32) (ix3 3 y x) := by
  have h : (iblk m c 11 t : Vec Ideal S1x512x1024 .bf16) (ix3 0 y x) = (V m c main_v10 : FVec Ideal S4x512x1024 .bf16) (ix3 3 y x) := by
    blk_point [iblk, idx t]
  exact h.trans (congrFun (V_v10 m c) _)

/-- A block of window 12, read back. -/
theorem blk12 (c : Dev nD) (t : Fin cfg0.N) (y : Fin 512) (x : Fin 1024) :
    (iblk m c 12 t : Vec Ideal S1x512x1024 .bf16) (ix3 0 y x) = (m ((c : Thread nD τ).loc main_arg11) : FVec Ideal S4x512x1024 .f32) (ix3 3 y x) := by
  have h : (iblk m c 12 t : Vec Ideal S1x512x1024 .bf16) (ix3 0 y x) = (V m c main_v11 : FVec Ideal S4x512x1024 .bf16) (ix3 3 y x) := by
    blk_point [iblk, idx t]
  exact h.trans (congrFun (V_v11 m c) _)

/-- A block of window 13, read back. -/
theorem blk13 (c : Dev nD) (t : Fin cfg0.N) (y : Fin 512) (x : Fin 1024) :
    (iblk m c 13 t : Vec Ideal S1x512x1024 .bf16) (ix3 0 y x) = (m ((c : Thread nD τ).loc main_arg12) : FVec Ideal S4x512x1024 .f32) (ix3 3 y x) := by
  have h : (iblk m c 13 t : Vec Ideal S1x512x1024 .bf16) (ix3 0 y x) = (V m c main_v12 : FVec Ideal S4x512x1024 .bf16) (ix3 3 y x) := by
    blk_point [iblk, idx t]
  exact h.trans (congrFun (V_v12 m c) _)

/-- A block of window 14, read back. -/
theorem blk14 (c : Dev nD) (t : Fin cfg0.N) (y : Fin 1024) (x : Fin 1024) :
    (iblk m c 14 t : Vec Ideal S1x1024x1024 .bf16) (ix3 0 y x) = (m ((c : Thread nD τ).loc main_arg13) : FVec Ideal S4x1024x1024 .f32) (ix3 3 y x) := by
  have h : (iblk m c 14 t : Vec Ideal S1x1024x1024 .bf16) (ix3 0 y x) = (V m c main_v13 : FVec Ideal S4x1024x1024 .bf16) (ix3 3 y x) := by
    blk_point [iblk, idx t]
  exact h.trans (congrFun (V_v13 m c) _)

/-- The block of the matrix of heads, read back. -/
theorem blk8 (c : Dev nD) (t : Fin cfg0.N) (k j : Fin 512) :
    (iblk m c 8 t : Vec Ideal S512x512 .bf16) (ix2 k j) = if k.val / 64 = j.val / 64 then (1 : EReal) else 0 := by
  have h : (iblk m c 8 t : Vec Ideal S512x512 .bf16) (ix2 k j) = (V m c main_v7 : FVec Ideal S512x512 .bf16) (ix2 k j) := by
    blk_point [iblk, idx t]
  exact h.trans ((congrFun (V_v7 m c) _).trans (ones_apply _ _))

/-- The array after the run is the reference's. -/
theorem final (c : Dev nD) : (dats m 0 c).arrAt 15 cfg0.N = Cert.Reference4Ideal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 15 _ (by decide +kernel) fun t _ y => ?_
  have hN : t.val < 32 := t.isLt
  blk_simp
  rw [after0_15]
  idx_vars y
  have he : (((cfg0.win 15).blk t).view.emb (ix2 y0 y1) : Cert.Kernel4Ideal.S16384x1024.Idx) = ix2 (row t y0) y1 := by
    unfold row
    blk_ext [idx t]
    all_goals omega
  rw [he]
  exact slab _ _ _ _ _ _ _ _ _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) y0 (row t y0) y1 (blk8 m c t) (blk0 m c t y0) (blk1 m c t y0) (blk2 m c t y0) (blk3 m c t y0) (blk4 m c t y0) (blk5 m c t y0) (blk6 m c t y0) (blk7 m c t y0) (blk9 m c t) (blk10 m c t) (blk11 m c t) (blk12 m c t) (blk13 m c t) (blk14 m c t)

end Cert.Merge
end
-- ==== Proof.Claims.Merge.lean ====
module

public import proofs.«01_k».proof.Defs
public import proofs.«01_k».proof.Proof.Gen.Kernel4.Frame
public import proofs.«01_k».proof.Proof.Gen.Kernel4Ideal.Value
public import proofs.«01_k».proof.Proof.Merge.Value
public import proofs.«01_k».proof.Proof.Gen.Reference4Ideal.Run
public import Idealize.ShloMosaic.Lib.Claim

@[expose] public section

set_option maxRecDepth 16384

noncomputable section

open Idealize.ShloMosaic Idealize.ShloMosaic.TcCoe Idealize.SL.Sem

namespace Cert.Merge

/-- The reference of the gated merge keeps its arguments and every counter ends at zero. -/
theorem frame_reference : Cert.quiescent_Reference4Ideal := by
  intro m g _
  refine (θ_run _ _ _).mono (fun r h => ⟨fun c => (h c).2, sem_eq_zero_of_no_sems (by decide) r.2⟩) (Cert.Reference4Ideal.Value.run (F := Ideal) m g)

/-- The kernel of the gated merge and its reference compute the same array. -/
theorem algebraic : Cert.algebraic_Kernel4Ideal_Reference4Ideal := by
  pair_intro
  · run_from Cert.Kernel4Ideal.Value.run_blocks m g
  · run_from Cert.Reference4Ideal.Value.run m' g'
    all_goals obtain ⟨h0, h1, h2, h3, h4, h5, h6, h7, h8, h9, h10, h11, h12, h13⟩ := hagree c
    · rw [final m c, Cert.Reference4Ideal.Read.val_main_v71_eq]
      simp only [h0, h1, h2, h3, h4, h5, h6, h7, h8, h9, h10, h11, h12, h13]

end Cert.Merge
end
-- ==== Proof.Conv.Math.lean ====
module

public import Idealize.ShloMosaic.Lib.Pointwise

@[expose] public section

set_option maxRecDepth 16384

noncomputable section

open Idealize.ShloMosaic

namespace Cert.Conv

/-- The gated linear unit: a value times the logistic function of its gate. -/
def glu (x g : EReal) : EReal := x * Ideal.div 1 (1 + Ideal.exp (-g))

/-- A value times its own logistic function. -/
def silu (y : EReal) : EReal := y * Ideal.div 1 (1 + Ideal.exp (-y))

/-- A row's entry less the row's mean. -/
def cent (a : Fin 512 → EReal) (k : Fin 512) : EReal := a k - Ideal.div (∑ x, a x) (Ideal.ofBits .f32 1140850688#32)

/-- The layer norm of a row, without gain and bias. -/
def lnorm (a : Fin 512 → EReal) (k : Fin 512) : EReal :=
  cent a k * Ideal.rsqrt (Ideal.div (∑ x, cent a x * cent a x) (Ideal.ofBits .f32 1140850688#32) + Ideal.ofBits .f32 925353388#32)

/-- The 31 taps, summed eight at a time by their remainder, are their sum in order. -/
theorem regroup (f : ℕ → EReal) :
    ((((((((f 7 + f 15 + f 23) + (f 0 + f 8 + f 16 + f 24)) + (f 1 + f 9 + f 17 + f 25)) + (f 2 + f 10 + f 18 + f 26))
      + (f 3 + f 11 + f 19 + f 27)) + (f 4 + f 12 + f 20 + f 28)) + (f 5 + f 13 + f 21 + f 29)) + (f 6 + f 14 + f 22 + f 30))
    = ∑ j ∈ Finset.range 31, f j := by
  simp only [Finset.sum_range_succ, Finset.sum_range_zero, zero_add]
  generalize f 0 = a0, f 1 = a1, f 2 = a2, f 3 = a3, f 4 = a4, f 5 = a5, f 6 = a6, f 7 = a7, f 8 = a8, f 9 = a9, f 10 = a10
  generalize f 11 = a11, f 12 = a12, f 13 = a13, f 14 = a14, f 15 = a15, f 16 = a16, f 17 = a17, f 18 = a18, f 19 = a19, f 20 = a20
  generalize f 21 = a21, f 22 = a22, f 23 = a23, f 24 = a24, f 25 = a25, f 26 = a26, f 27 = a27, f 28 = a28, f 29 = a29, f 30 = a30
  ac_rfl

end Cert.Conv
end
-- ==== Proof.Conv.Payload.lean ====
module

public import proofs.«01_k».proof.Proof.Conv.Math
public import proofs.«01_k».proof.Proof.Gen.Kernel5Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Conv

open Cert.Kernel5Ideal Cert.Kernel5Ideal.Gen

/-- The gated unit of a block's row. -/
theorem pay2_apply (x : Vec Ideal S1x512x1024 .bf16) (r k : Fin 512) :
    k0_pay2 x (ix2 r k) = glu (x (ix3 0 r ⟨k.val, by omega⟩)) (x (ix3 0 r ⟨512 + k.val, by omega⟩)) := by
  pointwise [k0_pay2]
  simp only [glu, zero_sub]

/-- The rows before a block: their gated units, zero at the first block. -/
theorem pay3_apply (i : grid0.Coords) (x : Vec Ideal S1x16x1024 .bf16) (r : Fin 16) (k : Fin 512) :
    k0_pay3 i x (ix2 r k) = if 0 < (i 1).val then glu (x (ix3 0 r ⟨k.val, by omega⟩)) (x (ix3 0 r ⟨512 + k.val, by omega⟩)) else 0 := by
  have hi : (i 1).val < 4 := (i 1).isLt
  have hc : Scalar.cmpi .sgt (BitVec.ofNat 32 (i 1).val) 0#32 = if 0 < (i 1).val then 1#1 else 0#1 := by
    generalize (i 1).val = n at hi
    interval_cases n <;> rfl
  unfold k0_pay3
  dsimp only
  rw [hc]
  split_ifs
  · pointwise
    simp [glu, Scalar.select]
  · pointwise

/-- The rows after a block: their gated units, zero at the last block. -/
theorem pay4_apply (n : ℕ) (hn : n < 4) (x : Vec Ideal S1x16x1024 .bf16) (r : Fin 16) (k : Fin 512) :
    k0_pay4 (Scalar.cmpi .slt (BitVec.ofNat 32 n) 3#32) x (ix2 r k) = if n < 3 then glu (x (ix3 0 r ⟨k.val, by omega⟩)) (x (ix3 0 r ⟨512 + k.val, by omega⟩)) else 0 := by
  have hc : Scalar.cmpi .slt (BitVec.ofNat 32 n) 3#32 = if n < 3 then 1#1 else 0#1 := by
    interval_cases n <;> rfl
  rw [hc]
  unfold k0_pay4
  split_ifs
  · pointwise
    simp [glu, Scalar.select]
  · pointwise

/-- Three taps at an aligned row. -/
theorem pay5_apply (v0 : Vec Ideal S520x512 .f32) (w0 : Vec Ideal S1x1x512 .f32) (v1 : Vec Ideal S520x512 .f32) (w1 : Vec Ideal S1x1x512 .f32) (v2 : Vec Ideal S520x512 .f32) (w2 : Vec Ideal S1x1x512 .f32) (r : Fin 512) (k : Fin 512) :
    k0_pay5 v0 w0 v1 w1 v2 w2 (ix2 r k) = v0 (ix2 ⟨r.val, by omega⟩ k) * w0 (ix3 0 0 k) + v1 (ix2 ⟨r.val, by omega⟩ k) * w1 (ix3 0 0 k) + v2 (ix2 ⟨r.val, by omega⟩ k) * w2 (ix3 0 0 k) := by
  pointwise [k0_pay5]

/-- Four taps one row on. -/
theorem pay6_apply (A : FVec Ideal S512x512 .f32) (v0 : Vec Ideal S520x512 .f32) (w0 : Vec Ideal S1x1x512 .f32) (v1 : Vec Ideal S520x512 .f32) (w1 : Vec Ideal S1x1x512 .f32) (v2 : Vec Ideal S520x512 .f32) (w2 : Vec Ideal S1x1x512 .f32) (v3 : Vec Ideal S520x512 .f32) (w3 : Vec Ideal S1x1x512 .f32) (r : Fin 512) (k : Fin 512) :
    k0_pay6 A v0 w0 v1 w1 v2 w2 v3 w3 (ix2 r k) = A (ix2 r k) + (v0 (ix2 ⟨r.val + 1, by omega⟩ k) * w0 (ix3 0 0 k) + v1 (ix2 ⟨r.val + 1, by omega⟩ k) * w1 (ix3 0 0 k) + v2 (ix2 ⟨r.val + 1, by omega⟩ k) * w2 (ix3 0 0 k) + v3 (ix2 ⟨r.val + 1, by omega⟩ k) * w3 (ix3 0 0 k)) := by
  pointwise [k0_pay6]
  have e : (r.val + 520 - 519) % 520 = r.val + 1 := by omega
  simp only [e]

/-- One tap at its row. -/
theorem pay7_apply (v0 : Vec Ideal S520x512 .f32) (w0 : Vec Ideal S1x1x512 .f32) (r : Fin 520) (k : Fin 512) :
    k0_pay7 v0 w0 (ix2 r k) = v0 (ix2 r k) * w0 (ix3 0 0 k) := by
  pointwise [k0_pay7]

/-- Four taps two rows on. -/
theorem pay8_apply (A : FVec Ideal S512x512 .f32) (p : FVec Ideal S520x512 .f32) (v0 : Vec Ideal S520x512 .f32) (w0 : Vec Ideal S1x1x512 .f32) (v1 : Vec Ideal S520x512 .f32) (w1 : Vec Ideal S1x1x512 .f32) (v2 : Vec Ideal S520x512 .f32) (w2 : Vec Ideal S1x1x512 .f32) (r : Fin 512) (k : Fin 512) :
    k0_pay8 A p v0 w0 v1 w1 v2 w2 (ix2 r k) = A (ix2 r k) + (p (ix2 ⟨r.val + 2, by omega⟩ k) + v0 (ix2 ⟨r.val + 2, by omega⟩ k) * w0 (ix3 0 0 k) + v1 (ix2 ⟨r.val + 2, by omega⟩ k) * w1 (ix3 0 0 k) + v2 (ix2 ⟨r.val + 2, by omega⟩ k) * w2 (ix3 0 0 k)) := by
  pointwise [k0_pay8]
  have e : (r.val + 520 - 518) % 520 = r.val + 2 := by omega
  simp only [e]

/-- Two taps at their row. -/
theorem pay9_apply (v0 : Vec Ideal S520x512 .f32) (w0 : Vec Ideal S1x1x512 .f32) (v1 : Vec Ideal S520x512 .f32) (w1 : Vec Ideal S1x1x512 .f32) (r : Fin 520) (k : Fin 512) :
    k0_pay9 v0 w0 v1 w1 (ix2 r k) = v0 (ix2 r k) * w0 (ix3 0 0 k) + v1 (ix2 r k) * w1 (ix3 0 0 k) := by
  pointwise [k0_pay9]

/-- Four taps three rows on. -/
theorem pay10_apply (A : FVec Ideal S512x512 .f32) (p : FVec Ideal S520x512 .f32) (v0 : Vec Ideal S520x512 .f32) (w0 : Vec Ideal S1x1x512 .f32) (v1 : Vec Ideal S520x512 .f32) (w1 : Vec Ideal S1x1x512 .f32) (r : Fin 512) (k : Fin 512) :
    k0_pay10 A p v0 w0 v1 w1 (ix2 r k) = A (ix2 r k) + (p (ix2 ⟨r.val + 3, by omega⟩ k) + v0 (ix2 ⟨r.val + 3, by omega⟩ k) * w0 (ix3 0 0 k) + v1 (ix2 ⟨r.val + 3, by omega⟩ k) * w1 (ix3 0 0 k)) := by
  pointwise [k0_pay10]
  have e : (r.val + 520 - 517) % 520 = r.val + 3 := by omega
  simp only [e]

/-- Three taps at their row. -/
theorem pay11_apply (v0 : Vec Ideal S520x512 .f32) (w0 : Vec Ideal S1x1x512 .f32) (v1 : Vec Ideal S520x512 .f32) (w1 : Vec Ideal S1x1x512 .f32) (v2 : Vec Ideal S520x512 .f32) (w2 : Vec Ideal S1x1x512 .f32) (r : Fin 520) (k : Fin 512) :
    k0_pay11 v0 w0 v1 w1 v2 w2 (ix2 r k) = v0 (ix2 r k) * w0 (ix3 0 0 k) + v1 (ix2 r k) * w1 (ix3 0 0 k) + v2 (ix2 r k) * w2 (ix3 0 0 k) := by
  pointwise [k0_pay11]

/-- Four taps four rows on, then four taps five rows on. -/
theorem pay12_apply (A : FVec Ideal S512x512 .f32) (p : FVec Ideal S520x512 .f32) (v0 : Vec Ideal S520x512 .f32) (w0 : Vec Ideal S1x1x512 .f32) (v1 : Vec Ideal S520x512 .f32) (w1 : Vec Ideal S1x1x512 .f32) (v2 : Vec Ideal S520x512 .f32) (w2 : Vec Ideal S1x1x512 .f32) (v3 : Vec Ideal S520x512 .f32) (w3 : Vec Ideal S1x1x512 .f32) (v4 : Vec Ideal S520x512 .f32) (w4 : Vec Ideal S1x1x512 .f32) (r : Fin 512) (k : Fin 512) :
    k0_pay12 A p v0 w0 v1 w1 v2 w2 v3 w3 v4 w4 (ix2 r k) = A (ix2 r k) + (p (ix2 ⟨r.val + 4, by omega⟩ k) + v0 (ix2 ⟨r.val + 4, by omega⟩ k) * w0 (ix3 0 0 k)) + (v1 (ix2 ⟨r.val + 5, by omega⟩ k) * w1 (ix3 0 0 k) + v2 (ix2 ⟨r.val + 5, by omega⟩ k) * w2 (ix3 0 0 k) + v3 (ix2 ⟨r.val + 5, by omega⟩ k) * w3 (ix3 0 0 k) + v4 (ix2 ⟨r.val + 5, by omega⟩ k) * w4 (ix3 0 0 k)) := by
  pointwise [k0_pay12]
  have e : (r.val + 520 - 516) % 520 = r.val + 4 := by omega
  simp only [e]
  have e2 : (r.val + 520 - 515) % 520 = r.val + 5 := by omega
  simp only [e2]

/-- Four taps six rows on. -/
theorem pay13_apply (A : FVec Ideal S512x512 .f32) (v0 : Vec Ideal S520x512 .f32) (w0 : Vec Ideal S1x1x512 .f32) (v1 : Vec Ideal S520x512 .f32) (w1 : Vec Ideal S1x1x512 .f32) (v2 : Vec Ideal S520x512 .f32) (w2 : Vec Ideal S1x1x512 .f32) (v3 : Vec Ideal S520x512 .f32) (w3 : Vec Ideal S1x1x512 .f32) (r : Fin 512) (k : Fin 512) :
    k0_pay13 A v0 w0 v1 w1 v2 w2 v3 w3 (ix2 r k) = A (ix2 r k) + (v0 (ix2 ⟨r.val + 6, by omega⟩ k) * w0 (ix3 0 0 k) + v1 (ix2 ⟨r.val + 6, by omega⟩ k) * w1 (ix3 0 0 k) + v2 (ix2 ⟨r.val + 6, by omega⟩ k) * w2 (ix3 0 0 k) + v3 (ix2 ⟨r.val + 6, by omega⟩ k) * w3 (ix3 0 0 k)) := by
  pointwise [k0_pay13]
  have e : (r.val + 520 - 514) % 520 = r.val + 6 := by omega
  simp only [e]

/-- One tap at its row. -/
theorem pay14_apply (v0 : Vec Ideal S520x512 .f32) (w0 : Vec Ideal S1x1x512 .f32) (r : Fin 520) (k : Fin 512) :
    k0_pay14 v0 w0 (ix2 r k) = v0 (ix2 r k) * w0 (ix3 0 0 k) := by
  pointwise [k0_pay14]

/-- A tap's weights as a row. -/
theorem pay15_apply (w : Vec Ideal S1x1x512 .f32) (k : Fin 512) : k0_pay15 w (ix2 0 k) = w (ix3 0 0 k) := by
  pointwise [k0_pay15]

/-- The last four taps, seven rows on, and the bias. -/
def acc (A : FVec Ideal S512x512 .f32) (p : FVec Ideal S520x512 .f32) (v0 : Vec Ideal S520x512 .f32) (q : FVec Ideal S1x512 .f32) (v1 : Vec Ideal S520x512 .f32) (w1 : Vec Ideal S1x1x512 .f32) (v2 : Vec Ideal S520x512 .f32) (w2 d : Vec Ideal S1x1x512 .f32) (r k : Fin 512) : EReal :=
  A (ix2 r k) + (p (ix2 ⟨r.val + 7, by omega⟩ k) + v0 (ix2 ⟨r.val + 7, by omega⟩ k) * q (ix2 0 k) + v1 (ix2 ⟨r.val + 7, by omega⟩ k) * w1 (ix3 0 0 k) + v2 (ix2 ⟨r.val + 7, by omega⟩ k) * w2 (ix3 0 0 k)) + d (ix3 0 0 k)

/-- The layer norm of a row of the accumulated taps. -/
theorem pay16_apply (A : FVec Ideal S512x512 .f32) (p : FVec Ideal S520x512 .f32) (v0 : Vec Ideal S520x512 .f32) (q : FVec Ideal S1x512 .f32) (v1 : Vec Ideal S520x512 .f32) (w1 : Vec Ideal S1x1x512 .f32) (v2 : Vec Ideal S520x512 .f32) (w2 d : Vec Ideal S1x1x512 .f32) (r k : Fin 512) :
    k0_pay16 A p v0 q v1 w1 v2 w2 d (ix2 r k) = lnorm (acc A p v0 q v1 w1 v2 w2 d r) k := by
  pointwise [k0_pay16]
  have e : (r.val + 520 - 513) % 520 = r.val + 7 := by omega
  simp only [e]
  rfl

/-- The gain, the bias and the gate of a row. -/
theorem pay1_apply (A : FVec Ideal S512x512 .f32) (g l : Vec Ideal S1x1x512 .f32) (r k : Fin 512) :
    k0_pay1 A g l (ix3 0 r k) = silu (A (ix2 r k) * g (ix3 0 0 k) + l (ix3 0 0 k)) := by
  pointwise [k0_pay1]
  simp only [silu, zero_sub]

end Cert.Conv
end
-- ==== Proof.Conv.Rows.lean ====
module

public import proofs.«01_k».proof.Proof.Conv.Payload

@[expose] public section

set_option maxRecDepth 16384

noncomputable section

open Idealize.ShloMosaic Idealize.ShloMosaic.TcCoe Idealize.SL.Sem

namespace Cert.Conv

open Cert.Kernel5Ideal Cert.Kernel5Ideal.Gen

/-- The scratch rows a point gathers: sixteen rows before its block, the block, sixteen rows after it, all gated. -/
def rows (i : grid0.Coords) (x0 : Vec Ideal S1x512x1024 .bf16) (x1 x2 : Vec Ideal S1x16x1024 .bf16) : Vec Ideal S544x512 .f32 :=
  View.canon [⟨Rect.unit (s := S544x512) ![528, 0] S16x512.size inb_S544x512_S16x512_528_0, k0_pay4 (Scalar.cmpi .slt (BitVec.ofNat 32 (i 1).val) 3#32) x2⟩,
    ⟨Rect.unit (s := S544x512) ![0, 0] S16x512.size inb_S544x512_S16x512_0_0, k0_pay3 i x1⟩,
    ⟨Rect.unit (s := S544x512) ![16, 0] S512x512.size inb_S544x512_S512x512_16_0, k0_pay2 x0⟩]

/-- Every row of the scratch is in one of the three pieces. -/
theorem rows_cover (p2 : FVec Ideal S512x512 .f32) (p3 p4 : FVec Ideal S16x512 .f32) (r : Fin 544) (k : Fin 512) :
    ∃ p ∈ ([⟨Rect.unit (s := S544x512) ![528, 0] S16x512.size inb_S544x512_S16x512_528_0, p4⟩,
      ⟨Rect.unit (s := S544x512) ![0, 0] S16x512.size inb_S544x512_S16x512_0_0, p3⟩,
      ⟨Rect.unit (s := S544x512) ![16, 0] S512x512.size inb_S544x512_S512x512_16_0, p2⟩] : List (View.Piece (Elt Ideal) S544x512 (.f32 : EltTy))), (ix2 r k : S544x512.Idx) ∈ p.1.set := by
  by_cases h : r.val < 16
  · refine ⟨_, List.mem_cons_of_mem _ List.mem_cons_self, (Rect.mem_set_unit (inb := inb_S544x512_S16x512_0_0)).mpr fun a => ?_⟩
    fin_cases a
    · exact ⟨Nat.zero_le _, by show r.val < 0 + 16; omega⟩
    · exact ⟨Nat.zero_le _, by show k.val < 0 + 512; omega⟩
  · by_cases h' : r.val < 528
    · refine ⟨_, List.mem_cons_of_mem _ (List.mem_cons_of_mem _ List.mem_cons_self), (Rect.mem_set_unit (inb := inb_S544x512_S512x512_16_0)).mpr fun a => ?_⟩
      fin_cases a
      · exact ⟨by show 16 ≤ r.val; omega, by show r.val < 16 + 512; omega⟩
      · exact ⟨Nat.zero_le _, by show k.val < 0 + 512; omega⟩
    · refine ⟨_, List.mem_cons_self, (Rect.mem_set_unit (inb := inb_S544x512_S16x512_528_0)).mpr fun a => ?_⟩
      fin_cases a
      · exact ⟨by show 528 ≤ r.val; omega, by show r.val < 528 + 16; omega⟩
      · exact ⟨Nat.zero_le _, by show k.val < 0 + 512; omega⟩

/-- The gathered rows at an index. -/
theorem rows_apply (i : grid0.Coords) (x0 : Vec Ideal S1x512x1024 .bf16) (x1 x2 : Vec Ideal S1x16x1024 .bf16) (r : Fin 544) (k : Fin 512) :
    rows i x0 x1 x2 (ix2 r k) = if h : r.val < 16 then k0_pay3 i x1 (ix2 ⟨r.val, h⟩ k)
      else if h' : r.val < 528 then k0_pay2 x0 (ix2 ⟨r.val - 16, by omega⟩ k)
      else k0_pay4 (Scalar.cmpi .slt (BitVec.ofNat 32 (i 1).val) 3#32) x2 (ix2 ⟨r.val - 528, by omega⟩ k) := by
  unfold rows
  generalize k0_pay4 (Scalar.cmpi .slt (BitVec.ofNat 32 (i 1).val) 3#32) x2 = p4
  generalize k0_pay3 i x1 = p3
  generalize k0_pay2 x0 = p2
  canon_tiles x hx using (rows_cover p2 p3 p4 r k)
  · idx_vars x
    have h0 : r.val = 528 + x0.val := hx0
    have h1 : k.val = x1.val := hx1
    rw [dif_neg (by omega), dif_neg (by omega)]
    refine congrArg p4 (funext fun a => Fin.ext ?_)
    fin_cases a
    · show x0.val = r.val - 528
      omega
    · exact h1.symm
  · idx_vars x
    have h0 : r.val = x0.val := hx0
    have h1 : k.val = x1.val := hx1
    rw [dif_pos (by omega)]
    refine congrArg p3 (funext fun a => Fin.ext ?_)
    fin_cases a
    · exact h0.symm
    · exact h1.symm
  · idx_vars x
    have h0 : r.val = 16 + x0.val := hx0
    have h1 : k.val = x1.val := hx1
    rw [dif_neg (by omega), dif_pos (by omega)]
    refine congrArg p2 (funext fun a => Fin.ext ?_)
    fin_cases a
    · show x0.val = r.val - 16
      omega
    · exact h1.symm

/-- A read of 520 of the gathered rows, from row `o`. -/
def slab (U : Vec Ideal S544x512 .f32) (o : ℕ) (inb : ∀ a, (![o, 0] : Fin 2 → ℕ) a + S520x512.size a ≤ S544x512.size a) : Vec Ideal S520x512 .f32 :=
  View.ld U (Rect.unit (s := S544x512) ![o, 0] S520x512.size inb)

/-- A read of one tap's weights. -/
def taps (W : Vec Ideal S1x31x512 .f32) (j : ℕ) (inb : ∀ a, (![0, j, 0] : Fin 3 → ℕ) a + S1x1x512.size a ≤ S1x31x512.size a) : Vec Ideal S1x1x512 .f32 :=
  View.ld W (Rect.unit (s := S1x31x512) ![0, j, 0] S1x1x512.size inb)

/-- A row of the gathered rows, by its number. -/
def un (U : Vec Ideal S544x512 .f32) (n : ℕ) (k : Fin 512) : EReal := if h : n < 544 then U (ix2 ⟨n, h⟩ k) else 0

/-- Such a read at an index. -/
theorem ld_rows (U : Vec Ideal S544x512 .f32) (o : ℕ) (inb : ∀ a, (![o, 0] : Fin 2 → ℕ) a + S520x512.size a ≤ S544x512.size a) (x : Fin 520) (k : Fin 512) :
    slab U o inb (ix2 x k) = un U (x.val + o) k := by
  have ho : o + 520 ≤ 544 := inb 0
  rw [un, dif_pos (by omega)]
  refine congrArg U (funext fun a => Fin.ext ?_)
  fin_cases a
  · show o + 1 * x.val = x.val + o
    omega
  · show 0 + 1 * k.val = k.val
    omega

/-- A tap's weights at a column. -/
theorem ld_tap (W : Vec Ideal S1x31x512 .f32) (j : ℕ) (inb : ∀ a, (![0, j, 0] : Fin 3 → ℕ) a + S1x1x512.size a ≤ S1x31x512.size a) (k : Fin 512) :
    taps W j inb (ix3 0 0 k) = W (ix3 0 ⟨j % 31, by omega⟩ k) := by
  have hj : j + 1 ≤ 31 := inb 1
  refine congrArg W (funext fun a => Fin.ext ?_)
  fin_cases a
  · rfl
  · show j + 1 * 0 = j % 31
    omega
  · show 0 + 1 * k.val = k.val
    omega

/-- What a point stores, from the rows it gathered, the taps, the bias, the gain and the shift. -/
def body (U : Vec Ideal S544x512 .f32) (W : Vec Ideal S1x31x512 .f32) (d g l : Vec Ideal S1x1x512 .f32) : FVec Ideal S1x512x512 .bf16 :=
  k0_pay1 (k0_pay16 (k0_pay13 (k0_pay12 (k0_pay10 (k0_pay8 (k0_pay6 (k0_pay5 (slab U 8 inb_S544x512_S520x512_8_0) (taps W 7 inb_S1x31x512_S1x1x512_0_7_0) (slab U 16 inb_S544x512_S520x512_16_0) (taps W 15 inb_S1x31x512_S1x1x512_0_15_0) (slab U 24 inb_S544x512_S520x512_24_0) (taps W 23 inb_S1x31x512_S1x1x512_0_23_0)) (slab U 0 inb_S544x512_S520x512_0_0) (taps W 0 inb_S1x31x512_S1x1x512_0_0_0) (slab U 8 inb_S544x512_S520x512_8_0) (taps W 8 inb_S1x31x512_S1x1x512_0_8_0) (slab U 16 inb_S544x512_S520x512_16_0) (taps W 16 inb_S1x31x512_S1x1x512_0_16_0) (slab U 24 inb_S544x512_S520x512_24_0) (taps W 24 inb_S1x31x512_S1x1x512_0_24_0)) (k0_pay7 (slab U 0 inb_S544x512_S520x512_0_0) (taps W 1 inb_S1x31x512_S1x1x512_0_1_0)) (slab U 8 inb_S544x512_S520x512_8_0) (taps W 9 inb_S1x31x512_S1x1x512_0_9_0) (slab U 16 inb_S544x512_S520x512_16_0) (taps W 17 inb_S1x31x512_S1x1x512_0_17_0) (slab U 24 inb_S544x512_S520x512_24_0) (taps W 25 inb_S1x31x512_S1x1x512_0_25_0)) (k0_pay9 (slab U 0 inb_S544x512_S520x512_0_0) (taps W 2 inb_S1x31x512_S1x1x512_0_2_0) (slab U 8 inb_S544x512_S520x512_8_0) (taps W 10 inb_S1x31x512_S1x1x512_0_10_0)) (slab U 16 inb_S544x512_S520x512_16_0) (taps W 18 inb_S1x31x512_S1x1x512_0_18_0) (slab U 24 inb_S544x512_S520x512_24_0) (taps W 26 inb_S1x31x512_S1x1x512_0_26_0)) (k0_pay11 (slab U 0 inb_S544x512_S520x512_0_0) (taps W 3 inb_S1x31x512_S1x1x512_0_3_0) (slab U 8 inb_S544x512_S520x512_8_0) (taps W 11 inb_S1x31x512_S1x1x512_0_11_0) (slab U 16 inb_S544x512_S520x512_16_0) (taps W 19 inb_S1x31x512_S1x1x512_0_19_0)) (slab U 24 inb_S544x512_S520x512_24_0) (taps W 27 inb_S1x31x512_S1x1x512_0_27_0) (slab U 0 inb_S544x512_S520x512_0_0) (taps W 4 inb_S1x31x512_S1x1x512_0_4_0) (slab U 8 inb_S544x512_S520x512_8_0) (taps W 12 inb_S1x31x512_S1x1x512_0_12_0) (slab U 16 inb_S544x512_S520x512_16_0) (taps W 20 inb_S1x31x512_S1x1x512_0_20_0) (slab U 24 inb_S544x512_S520x512_24_0) (taps W 28 inb_S1x31x512_S1x1x512_0_28_0)) (slab U 0 inb_S544x512_S520x512_0_0) (taps W 5 inb_S1x31x512_S1x1x512_0_5_0) (slab U 8 inb_S544x512_S520x512_8_0) (taps W 13 inb_S1x31x512_S1x1x512_0_13_0) (slab U 16 inb_S544x512_S520x512_16_0) (taps W 21 inb_S1x31x512_S1x1x512_0_21_0) (slab U 24 inb_S544x512_S520x512_24_0) (taps W 29 inb_S1x31x512_S1x1x512_0_29_0)) (k0_pay14 (slab U 0 inb_S544x512_S520x512_0_0) (taps W 6 inb_S1x31x512_S1x1x512_0_6_0)) (slab U 8 inb_S544x512_S520x512_8_0) (k0_pay15 (taps W 14 inb_S1x31x512_S1x1x512_0_14_0)) (slab U 16 inb_S544x512_S520x512_16_0) (taps W 22 inb_S1x31x512_S1x1x512_0_22_0) (slab U 24 inb_S544x512_S520x512_24_0) (taps W 30 inb_S1x31x512_S1x1x512_0_30_0) d) g l

/-- What a point stores at an index: the layer norm of the convolution's row, through the gate. -/
theorem body_apply (U : Vec Ideal S544x512 .f32) (W : Vec Ideal S1x31x512 .f32) (d g l : Vec Ideal S1x1x512 .f32) (r k : Fin 512) :
    body U W d g l (ix3 0 r k) = silu (lnorm (fun k => (∑ j ∈ Finset.range 31, un U (r.val + (j + 1)) k * W (ix3 0 ⟨j % 31, by omega⟩ k)) + d (ix3 0 0 k)) k
      * g (ix3 0 0 k) + l (ix3 0 0 k)) := by
  rw [body, pay1_apply, pay16_apply]
  congr 4
  funext k
  unfold acc
  rw [pay13_apply, pay12_apply, pay10_apply, pay8_apply, pay6_apply, pay5_apply, pay7_apply, pay9_apply, pay11_apply, pay14_apply, pay15_apply]
  rw [← regroup]
  simp only [ld_rows, ld_tap, Nat.add_assoc, Nat.reduceAdd, Nat.add_zero]

end Cert.Conv
end
-- ==== Proof.Conv.Loop.lean ====
module

public import proofs.«01_k».proof.Proof.Conv.Rows

@[expose] public section

set_option maxRecDepth 16384

noncomputable section

open Idealize.ShloMosaic Idealize.ShloMosaic.TcCoe Idealize.SL.Sem

namespace Cert.Conv

open Cert.Kernel5Ideal Cert.Kernel5Ideal.Gen

variable (m : (ℓ : Loc nD τ sig) → Buf (Elt Ideal) ℓ)

/-- The whole of a block read. -/
theorem whole0 (x : Vec Ideal S1x512x1024 .bf16) : View.ld x (Rect.unit (s := S1x512x1024) ![0, 0, 0] S1x512x1024.size inb_S1x512x1024_S1x512x1024_0_0_0) = x :=
  View.ld_unit_lit _ _ (by decide)

/-- The whole of a neighbouring piece read. -/
theorem whole1 (x : Vec Ideal S1x16x1024 .bf16) : View.ld x (Rect.unit (s := S1x16x1024) ![0, 0, 0] S1x16x1024.size inb_S1x16x1024_S1x16x1024_0_0_0) = x :=
  View.ld_unit_lit _ _ (by decide)

/-- The whole of a vector of weights read. -/
theorem whole2 (x : Vec Ideal S1x1x512 .f32) : View.ld x (Rect.unit (s := S1x1x512) ![0, 0, 0] S1x1x512.size inb_S1x1x512_S1x1x512_0_0_0) = x :=
  View.ld_unit_lit _ _ (by decide)

attribute [local irreducible] k0_pay1 k0_pay2 k0_pay3 k0_pay4 k0_pay5 k0_pay6 k0_pay7 k0_pay8 k0_pay9 k0_pay10 k0_pay11 k0_pay12 k0_pay13 k0_pay14 k0_pay15 k0_pay16 View.canon

set_option maxHeartbeats 1000000 in
/-- What a grid point stores, over its blocks. -/
theorem outsAt_eq (c : Dev nD) (t : Fin cfg0.N) :
    outsAt0 m c t = body (rows (grid0.coords t) (iblk m c 0 t) (iblk m c 1 t) (iblk m c 2 t)) (iblk m c 3 t) (iblk m c 4 t) (iblk m c 5 t) (iblk m c 6 t) := by
  unfold outsAt0 out0_A_7
  unfold kernelRun0_A
  dsimp only
  sl_unfold_words
  rw [View.read_writes_junk_eq_canon]
  rw [View.canon_cons_unit_lit (S := S1x512x512) _ _ _ (by decide)]
  simp only [View.readAt_eq_ld, (hs0_0 t).read_unread, (hs0_1 t).read_unread, (hs0_2 t).read_unread, (hs0_3 t).read_unread, (hs0_4 t).read_unread, (hs0_5 t).read_unread, (hs0_6 t).read_unread, View.readCov_eq_canon']
  generalize (iblk m c 0 t : Vec Ideal S1x512x1024 .bf16) = x0
  generalize (iblk m c 1 t : Vec Ideal S1x16x1024 .bf16) = x1
  generalize (iblk m c 2 t : Vec Ideal S1x16x1024 .bf16) = x2
  generalize (iblk m c 3 t : Vec Ideal S1x31x512 .f32) = x3
  generalize (iblk m c 4 t : Vec Ideal S1x1x512 .f32) = x4
  generalize (iblk m c 5 t : Vec Ideal S1x1x512 .f32) = x5
  generalize (iblk m c 6 t : Vec Ideal S1x1x512 .f32) = x6
  refine Eq.trans (b := body (rows (grid0.coords t) (View.ld x0 (Rect.unit (s := S1x512x1024) ![0, 0, 0] S1x512x1024.size inb_S1x512x1024_S1x512x1024_0_0_0))
    (View.ld x1 (Rect.unit (s := S1x16x1024) ![0, 0, 0] S1x16x1024.size inb_S1x16x1024_S1x16x1024_0_0_0))
    (View.ld x2 (Rect.unit (s := S1x16x1024) ![0, 0, 0] S1x16x1024.size inb_S1x16x1024_S1x16x1024_0_0_0))) x3
    (View.ld x4 (Rect.unit (s := S1x1x512) ![0, 0, 0] S1x1x512.size inb_S1x1x512_S1x1x512_0_0_0))
    (View.ld x5 (Rect.unit (s := S1x1x512) ![0, 0, 0] S1x1x512.size inb_S1x1x512_S1x1x512_0_0_0))
    (View.ld x6 (Rect.unit (s := S1x1x512) ![0, 0, 0] S1x1x512.size inb_S1x1x512_S1x1x512_0_0_0))) rfl ?_
  rw [whole0, whole1, whole1, whole2, whole2, whole2]

end Cert.Conv
end
-- ==== Proof.Conv.Ref.lean ====
module

public import proofs.«01_k».proof.Proof.Conv.Math
public import proofs.«01_k».proof.Proof.Gen.Reference5Ideal.Read
public import Idealize.ShloMosaic.Lib.Pointwise

@[expose] public section

set_option maxRecDepth 16384

noncomputable section

open Idealize.ShloMosaic Idealize.ShloMosaic.TcCoe Idealize.SL.Sem

namespace Cert.Conv

open Cert.Reference5Ideal Cert.Reference5Ideal.Read

/-- The padded sequence at a row: the gated unit of row `r - 15`, zero before the first row and after the last. -/
def up (x0 : FVec Ideal S8x2048x1024 .f32) (b : Fin 8) (r : ℕ) (c : Fin 512) : EReal :=
  if h : 15 ≤ r ∧ r < 2063 then glu (x0 (ix3 b ⟨r - 15, by omega⟩ ⟨c.val, by omega⟩)) (x0 (ix3 b ⟨r - 15, by omega⟩ ⟨512 + c.val, by omega⟩)) else 0

/-- What the reference pads, at an index. -/
theorem ref_glu (x0 : FVec Ideal S8x2048x1024 .f32) (b : Fin 8) (r : Fin 2048) (c : Fin 512) :
    val_main_v8 (F := Ideal) x0 (ix3 b r c) = glu (x0 (ix3 b r ⟨c.val, by omega⟩)) (x0 (ix3 b r ⟨512 + c.val, by omega⟩)) := by
  pointwise [val_main_v0, val_main_v1, val_main_v2, val_main_v3, val_main_cst, val_main_v4, val_main_v5, val_main_cst_0, val_main_v6, val_main_v7, val_main_v8]
  rfl

/-- The reference's padded sequence at an index. -/
theorem ref_up (x0 : FVec Ideal S8x2048x1024 .f32) (b : Fin 8) (r : Fin 2078) (c : Fin 512) :
    val_main_v9 (F := Ideal) x0 (ix3 b r c) = up x0 b r.val c := by
  pointwise [val_main_v9, val_main_call0_v0, val_main_c]
  unfold up
  by_cases h : 15 ≤ r.val ∧ r.val < 2063
  · rw [dif_pos (by omega), dif_pos h, ref_glu]
  · rw [dif_neg (by omega), dif_neg h]
    simp [FloatOps.sitofp]

/-- One tap's product at a place. -/
def tap (x0 : FVec Ideal S8x2048x1024 .f32) (x1 : FVec Ideal S4x31x512 .f32) (b : Fin 8) (s : Fin 2048) (c : Fin 512) (j : ℕ) : EReal :=
  up x0 b (s.val + j) c * x1 (ix3 3 ⟨j % 31, by omega⟩ c)

/-- The sum before the first tap is the first tap. -/
theorem ref_0 (x0 : FVec Ideal S8x2048x1024 .f32) (x1 : FVec Ideal S4x31x512 .f32) (b : Fin 8) (s : Fin 2048) (c : Fin 512) :
    val_main_v17 (F := Ideal) x0 x1 (ix3 b s c) = ∑ j ∈ Finset.range 1, tap x0 x1 b s c j := by
  pointwise [val_main_v10, val_main_v11, val_main_v12, val_main_v13, val_main_v14, val_main_v15, val_main_cst_1, val_main_v16, val_main_v17]
  rw [ref_up]
  simp [tap]

/-- The reference's sum of the taps up to tap 1. -/
theorem ref_1 (x0 : FVec Ideal S8x2048x1024 .f32) (x1 : FVec Ideal S4x31x512 .f32) (b : Fin 8) (s : Fin 2048) (c : Fin 512) :
    val_main_v24 (F := Ideal) x0 x1 (ix3 b s c) = ∑ j ∈ Finset.range 2, tap x0 x1 b s c j := by
  pointwise [val_main_v18, val_main_v19, val_main_v20, val_main_v21, val_main_v22, val_main_v23, val_main_v24]
  rw [Finset.sum_range_succ, ← ref_0, ref_up, tap, Nat.add_comm s.val]
  rfl

/-- The reference's sum of the taps up to tap 2. -/
theorem ref_2 (x0 : FVec Ideal S8x2048x1024 .f32) (x1 : FVec Ideal S4x31x512 .f32) (b : Fin 8) (s : Fin 2048) (c : Fin 512) :
    val_main_v31 (F := Ideal) x0 x1 (ix3 b s c) = ∑ j ∈ Finset.range 3, tap x0 x1 b s c j := by
  pointwise [val_main_v25, val_main_v26, val_main_v27, val_main_v28, val_main_v29, val_main_v30, val_main_v31]
  rw [Finset.sum_range_succ, ← ref_1, ref_up, tap, Nat.add_comm s.val]
  rfl

/-- The reference's sum of the taps up to tap 3. -/
theorem ref_3 (x0 : FVec Ideal S8x2048x1024 .f32) (x1 : FVec Ideal S4x31x512 .f32) (b : Fin 8) (s : Fin 2048) (c : Fin 512) :
    val_main_v38 (F := Ideal) x0 x1 (ix3 b s c) = ∑ j ∈ Finset.range 4, tap x0 x1 b s c j := by
  pointwise [val_main_v32, val_main_v33, val_main_v34, val_main_v35, val_main_v36, val_main_v37, val_main_v38]
  rw [Finset.sum_range_succ, ← ref_2, ref_up, tap, Nat.add_comm s.val]
  rfl

/-- The reference's sum of the taps up to tap 4. -/
theorem ref_4 (x0 : FVec Ideal S8x2048x1024 .f32) (x1 : FVec Ideal S4x31x512 .f32) (b : Fin 8) (s : Fin 2048) (c : Fin 512) :
    val_main_v45 (F := Ideal) x0 x1 (ix3 b s c) = ∑ j ∈ Finset.range 5, tap x0 x1 b s c j := by
  pointwise [val_main_v39, val_main_v40, val_main_v41, val_main_v42, val_main_v43, val_main_v44, val_main_v45]
  rw [Finset.sum_range_succ, ← ref_3, ref_up, tap, Nat.add_comm s.val]
  rfl

/-- The reference's sum of the taps up to tap 5. -/
theorem ref_5 (x0 : FVec Ideal S8x2048x1024 .f32) (x1 : FVec Ideal S4x31x512 .f32) (b : Fin 8) (s : Fin 2048) (c : Fin 512) :
    val_main_v52 (F := Ideal) x0 x1 (ix3 b s c) = ∑ j ∈ Finset.range 6, tap x0 x1 b s c j := by
  pointwise [val_main_v46, val_main_v47, val_main_v48, val_main_v49, val_main_v50, val_main_v51, val_main_v52]
  rw [Finset.sum_range_succ, ← ref_4, ref_up, tap, Nat.add_comm s.val]
  rfl

/-- The reference's sum of the taps up to tap 6. -/
theorem ref_6 (x0 : FVec Ideal S8x2048x1024 .f32) (x1 : FVec Ideal S4x31x512 .f32) (b : Fin 8) (s : Fin 2048) (c : Fin 512) :
    val_main_v59 (F := Ideal) x0 x1 (ix3 b s c) = ∑ j ∈ Finset.range 7, tap x0 x1 b s c j := by
  pointwise [val_main_v53, val_main_v54, val_main_v55, val_main_v56, val_main_v57, val_main_v58, val_main_v59]
  rw [Finset.sum_range_succ, ← ref_5, ref_up, tap, Nat.add_comm s.val]
  rfl

/-- The reference's sum of the taps up to tap 7. -/
theorem ref_7 (x0 : FVec Ideal S8x2048x1024 .f32) (x1 : FVec Ideal S4x31x512 .f32) (b : Fin 8) (s : Fin 2048) (c : Fin 512) :
    val_main_v66 (F := Ideal) x0 x1 (ix3 b s c) = ∑ j ∈ Finset.range 8, tap x0 x1 b s c j := by
  pointwise [val_main_v60, val_main_v61, val_main_v62, val_main_v63, val_main_v64, val_main_v65, val_main_v66]
  rw [Finset.sum_range_succ, ← ref_6, ref_up, tap, Nat.add_comm s.val]
  rfl

/-- The reference's sum of the taps up to tap 8. -/
theorem ref_8 (x0 : FVec Ideal S8x2048x1024 .f32) (x1 : FVec Ideal S4x31x512 .f32) (b : Fin 8) (s : Fin 2048) (c : Fin 512) :
    val_main_v73 (F := Ideal) x0 x1 (ix3 b s c) = ∑ j ∈ Finset.range 9, tap x0 x1 b s c j := by
  pointwise [val_main_v67, val_main_v68, val_main_v69, val_main_v70, val_main_v71, val_main_v72, val_main_v73]
  rw [Finset.sum_range_succ, ← ref_7, ref_up, tap, Nat.add_comm s.val]
  rfl

/-- The reference's sum of the taps up to tap 9. -/
theorem ref_9 (x0 : FVec Ideal S8x2048x1024 .f32) (x1 : FVec Ideal S4x31x512 .f32) (b : Fin 8) (s : Fin 2048) (c : Fin 512) :
    val_main_v80 (F := Ideal) x0 x1 (ix3 b s c) = ∑ j ∈ Finset.range 10, tap x0 x1 b s c j := by
  pointwise [val_main_v74, val_main_v75, val_main_v76, val_main_v77, val_main_v78, val_main_v79, val_main_v80]
  rw [Finset.sum_range_succ, ← ref_8, ref_up, tap, Nat.add_comm s.val]
  rfl

/-- The reference's sum of the taps up to tap 10. -/
theorem ref_10 (x0 : FVec Ideal S8x2048x1024 .f32) (x1 : FVec Ideal S4x31x512 .f32) (b : Fin 8) (s : Fin 2048) (c : Fin 512) :
    val_main_v87 (F := Ideal) x0 x1 (ix3 b s c) = ∑ j ∈ Finset.range 11, tap x0 x1 b s c j := by
  pointwise [val_main_v81, val_main_v82, val_main_v83, val_main_v84, val_main_v85, val_main_v86, val_main_v87]
  rw [Finset.sum_range_succ, ← ref_9, ref_up, tap, Nat.add_comm s.val]
  rfl

/-- The reference's sum of the taps up to tap 11. -/
theorem ref_11 (x0 : FVec Ideal S8x2048x1024 .f32) (x1 : FVec Ideal S4x31x512 .f32) (b : Fin 8) (s : Fin 2048) (c : Fin 512) :
    val_main_v94 (F := Ideal) x0 x1 (ix3 b s c) = ∑ j ∈ Finset.range 12, tap x0 x1 b s c j := by
  pointwise [val_main_v88, val_main_v89, val_main_v90, val_main_v91, val_main_v92, val_main_v93, val_main_v94]
  rw [Finset.sum_range_succ, ← ref_10, ref_up, tap, Nat.add_comm s.val]
  rfl

/-- The reference's sum of the taps up to tap 12. -/
theorem ref_12 (x0 : FVec Ideal S8x2048x1024 .f32) (x1 : FVec Ideal S4x31x512 .f32) (b : Fin 8) (s : Fin 2048) (c : Fin 512) :
    val_main_v101 (F := Ideal) x0 x1 (ix3 b s c) = ∑ j ∈ Finset.range 13, tap x0 x1 b s c j := by
  pointwise [val_main_v95, val_main_v96, val_main_v97, val_main_v98, val_main_v99, val_main_v100, val_main_v101]
  rw [Finset.sum_range_succ, ← ref_11, ref_up, tap, Nat.add_comm s.val]
  rfl

/-- The reference's sum of the taps up to tap 13. -/
theorem ref_13 (x0 : FVec Ideal S8x2048x1024 .f32) (x1 : FVec Ideal S4x31x512 .f32) (b : Fin 8) (s : Fin 2048) (c : Fin 512) :
    val_main_v108 (F := Ideal) x0 x1 (ix3 b s c) = ∑ j ∈ Finset.range 14, tap x0 x1 b s c j := by
  pointwise [val_main_v102, val_main_v103, val_main_v104, val_main_v105, val_main_v106, val_main_v107, val_main_v108]
  rw [Finset.sum_range_succ, ← ref_12, ref_up, tap, Nat.add_comm s.val]
  rfl

/-- The reference's sum of the taps up to tap 14. -/
theorem ref_14 (x0 : FVec Ideal S8x2048x1024 .f32) (x1 : FVec Ideal S4x31x512 .f32) (b : Fin 8) (s : Fin 2048) (c : Fin 512) :
    val_main_v115 (F := Ideal) x0 x1 (ix3 b s c) = ∑ j ∈ Finset.range 15, tap x0 x1 b s c j := by
  pointwise [val_main_v109, val_main_v110, val_main_v111, val_main_v112, val_main_v113, val_main_v114, val_main_v115]
  rw [Finset.sum_range_succ, ← ref_13, ref_up, tap, Nat.add_comm s.val]
  rfl

/-- The reference's sum of the taps up to tap 15. -/
theorem ref_15 (x0 : FVec Ideal S8x2048x1024 .f32) (x1 : FVec Ideal S4x31x512 .f32) (b : Fin 8) (s : Fin 2048) (c : Fin 512) :
    val_main_v122 (F := Ideal) x0 x1 (ix3 b s c) = ∑ j ∈ Finset.range 16, tap x0 x1 b s c j := by
  pointwise [val_main_v116, val_main_v117, val_main_v118, val_main_v119, val_main_v120, val_main_v121, val_main_v122]
  rw [Finset.sum_range_succ, ← ref_14, ref_up, tap, Nat.add_comm s.val]
  rfl

/-- The reference's sum of the taps up to tap 16. -/
theorem ref_16 (x0 : FVec Ideal S8x2048x1024 .f32) (x1 : FVec Ideal S4x31x512 .f32) (b : Fin 8) (s : Fin 2048) (c : Fin 512) :
    val_main_v129 (F := Ideal) x0 x1 (ix3 b s c) = ∑ j ∈ Finset.range 17, tap x0 x1 b s c j := by
  pointwise [val_main_v123, val_main_v124, val_main_v125, val_main_v126, val_main_v127, val_main_v128, val_main_v129]
  rw [Finset.sum_range_succ, ← ref_15, ref_up, tap, Nat.add_comm s.val]
  rfl

/-- The reference's sum of the taps up to tap 17. -/
theorem ref_17 (x0 : FVec Ideal S8x2048x1024 .f32) (x1 : FVec Ideal S4x31x512 .f32) (b : Fin 8) (s : Fin 2048) (c : Fin 512) :
    val_main_v136 (F := Ideal) x0 x1 (ix3 b s c) = ∑ j ∈ Finset.range 18, tap x0 x1 b s c j := by
  pointwise [val_main_v130, val_main_v131, val_main_v132, val_main_v133, val_main_v134, val_main_v135, val_main_v136]
  rw [Finset.sum_range_succ, ← ref_16, ref_up, tap, Nat.add_comm s.val]
  rfl

/-- The reference's sum of the taps up to tap 18. -/
theorem ref_18 (x0 : FVec Ideal S8x2048x1024 .f32) (x1 : FVec Ideal S4x31x512 .f32) (b : Fin 8) (s : Fin 2048) (c : Fin 512) :
    val_main_v143 (F := Ideal) x0 x1 (ix3 b s c) = ∑ j ∈ Finset.range 19, tap x0 x1 b s c j := by
  pointwise [val_main_v137, val_main_v138, val_main_v139, val_main_v140, val_main_v141, val_main_v142, val_main_v143]
  rw [Finset.sum_range_succ, ← ref_17, ref_up, tap, Nat.add_comm s.val]
  rfl

/-- The reference's sum of the taps up to tap 19. -/
theorem ref_19 (x0 : FVec Ideal S8x2048x1024 .f32) (x1 : FVec Ideal S4x31x512 .f32) (b : Fin 8) (s : Fin 2048) (c : Fin 512) :
    val_main_v150 (F := Ideal) x0 x1 (ix3 b s c) = ∑ j ∈ Finset.range 20, tap x0 x1 b s c j := by
  pointwise [val_main_v144, val_main_v145, val_main_v146, val_main_v147, val_main_v148, val_main_v149, val_main_v150]
  rw [Finset.sum_range_succ, ← ref_18, ref_up, tap, Nat.add_comm s.val]
  rfl

/-- The reference's sum of the taps up to tap 20. -/
theorem ref_20 (x0 : FVec Ideal S8x2048x1024 .f32) (x1 : FVec Ideal S4x31x512 .f32) (b : Fin 8) (s : Fin 2048) (c : Fin 512) :
    val_main_v157 (F := Ideal) x0 x1 (ix3 b s c) = ∑ j ∈ Finset.range 21, tap x0 x1 b s c j := by
  pointwise [val_main_v151, val_main_v152, val_main_v153, val_main_v154, val_main_v155, val_main_v156, val_main_v157]
  rw [Finset.sum_range_succ, ← ref_19, ref_up, tap, Nat.add_comm s.val]
  rfl

/-- The reference's sum of the taps up to tap 21. -/
theorem ref_21 (x0 : FVec Ideal S8x2048x1024 .f32) (x1 : FVec Ideal S4x31x512 .f32) (b : Fin 8) (s : Fin 2048) (c : Fin 512) :
    val_main_v164 (F := Ideal) x0 x1 (ix3 b s c) = ∑ j ∈ Finset.range 22, tap x0 x1 b s c j := by
  pointwise [val_main_v158, val_main_v159, val_main_v160, val_main_v161, val_main_v162, val_main_v163, val_main_v164]
  rw [Finset.sum_range_succ, ← ref_20, ref_up, tap, Nat.add_comm s.val]
  rfl

/-- The reference's sum of the taps up to tap 22. -/
theorem ref_22 (x0 : FVec Ideal S8x2048x1024 .f32) (x1 : FVec Ideal S4x31x512 .f32) (b : Fin 8) (s : Fin 2048) (c : Fin 512) :
    val_main_v171 (F := Ideal) x0 x1 (ix3 b s c) = ∑ j ∈ Finset.range 23, tap x0 x1 b s c j := by
  pointwise [val_main_v165, val_main_v166, val_main_v167, val_main_v168, val_main_v169, val_main_v170, val_main_v171]
  rw [Finset.sum_range_succ, ← ref_21, ref_up, tap, Nat.add_comm s.val]
  rfl

/-- The reference's sum of the taps up to tap 23. -/
theorem ref_23 (x0 : FVec Ideal S8x2048x1024 .f32) (x1 : FVec Ideal S4x31x512 .f32) (b : Fin 8) (s : Fin 2048) (c : Fin 512) :
    val_main_v178 (F := Ideal) x0 x1 (ix3 b s c) = ∑ j ∈ Finset.range 24, tap x0 x1 b s c j := by
  pointwise [val_main_v172, val_main_v173, val_main_v174, val_main_v175, val_main_v176, val_main_v177, val_main_v178]
  rw [Finset.sum_range_succ, ← ref_22, ref_up, tap, Nat.add_comm s.val]
  rfl

/-- The reference's sum of the taps up to tap 24. -/
theorem ref_24 (x0 : FVec Ideal S8x2048x1024 .f32) (x1 : FVec Ideal S4x31x512 .f32) (b : Fin 8) (s : Fin 2048) (c : Fin 512) :
    val_main_v185 (F := Ideal) x0 x1 (ix3 b s c) = ∑ j ∈ Finset.range 25, tap x0 x1 b s c j := by
  pointwise [val_main_v179, val_main_v180, val_main_v181, val_main_v182, val_main_v183, val_main_v184, val_main_v185]
  rw [Finset.sum_range_succ, ← ref_23, ref_up, tap, Nat.add_comm s.val]
  rfl

/-- The reference's sum of the taps up to tap 25. -/
theorem ref_25 (x0 : FVec Ideal S8x2048x1024 .f32) (x1 : FVec Ideal S4x31x512 .f32) (b : Fin 8) (s : Fin 2048) (c : Fin 512) :
    val_main_v192 (F := Ideal) x0 x1 (ix3 b s c) = ∑ j ∈ Finset.range 26, tap x0 x1 b s c j := by
  pointwise [val_main_v186, val_main_v187, val_main_v188, val_main_v189, val_main_v190, val_main_v191, val_main_v192]
  rw [Finset.sum_range_succ, ← ref_24, ref_up, tap, Nat.add_comm s.val]
  rfl

/-- The reference's sum of the taps up to tap 26. -/
theorem ref_26 (x0 : FVec Ideal S8x2048x1024 .f32) (x1 : FVec Ideal S4x31x512 .f32) (b : Fin 8) (s : Fin 2048) (c : Fin 512) :
    val_main_v199 (F := Ideal) x0 x1 (ix3 b s c) = ∑ j ∈ Finset.range 27, tap x0 x1 b s c j := by
  pointwise [val_main_v193, val_main_v194, val_main_v195, val_main_v196, val_main_v197, val_main_v198, val_main_v199]
  rw [Finset.sum_range_succ, ← ref_25, ref_up, tap, Nat.add_comm s.val]
  rfl

/-- The reference's sum of the taps up to tap 27. -/
theorem ref_27 (x0 : FVec Ideal S8x2048x1024 .f32) (x1 : FVec Ideal S4x31x512 .f32) (b : Fin 8) (s : Fin 2048) (c : Fin 512) :
    val_main_v206 (F := Ideal) x0 x1 (ix3 b s c) = ∑ j ∈ Finset.range 28, tap x0 x1 b s c j := by
  pointwise [val_main_v200, val_main_v201, val_main_v202, val_main_v203, val_main_v204, val_main_v205, val_main_v206]
  rw [Finset.sum_range_succ, ← ref_26, ref_up, tap, Nat.add_comm s.val]
  rfl

/-- The reference's sum of the taps up to tap 28. -/
theorem ref_28 (x0 : FVec Ideal S8x2048x1024 .f32) (x1 : FVec Ideal S4x31x512 .f32) (b : Fin 8) (s : Fin 2048) (c : Fin 512) :
    val_main_v213 (F := Ideal) x0 x1 (ix3 b s c) = ∑ j ∈ Finset.range 29, tap x0 x1 b s c j := by
  pointwise [val_main_v207, val_main_v208, val_main_v209, val_main_v210, val_main_v211, val_main_v212, val_main_v213]
  rw [Finset.sum_range_succ, ← ref_27, ref_up, tap, Nat.add_comm s.val]
  rfl

/-- The reference's sum of the taps up to tap 29. -/
theorem ref_29 (x0 : FVec Ideal S8x2048x1024 .f32) (x1 : FVec Ideal S4x31x512 .f32) (b : Fin 8) (s : Fin 2048) (c : Fin 512) :
    val_main_v220 (F := Ideal) x0 x1 (ix3 b s c) = ∑ j ∈ Finset.range 30, tap x0 x1 b s c j := by
  pointwise [val_main_v214, val_main_v215, val_main_v216, val_main_v217, val_main_v218, val_main_v219, val_main_v220]
  rw [Finset.sum_range_succ, ← ref_28, ref_up, tap, Nat.add_comm s.val]
  rfl

/-- The reference's sum of the taps up to tap 30. -/
theorem ref_30 (x0 : FVec Ideal S8x2048x1024 .f32) (x1 : FVec Ideal S4x31x512 .f32) (b : Fin 8) (s : Fin 2048) (c : Fin 512) :
    val_main_v227 (F := Ideal) x0 x1 (ix3 b s c) = ∑ j ∈ Finset.range 31, tap x0 x1 b s c j := by
  pointwise [val_main_v221, val_main_v222, val_main_v223, val_main_v224, val_main_v225, val_main_v226, val_main_v227]
  rw [Finset.sum_range_succ, ← ref_29, ref_up, tap, Nat.add_comm s.val]
  rfl

/-- The convolution with its bias. -/
def cval (x0 : FVec Ideal S8x2048x1024 .f32) (x1 : FVec Ideal S4x31x512 .f32) (x2 : FVec Ideal S4x512 .f32) (b : Fin 8) (s : Fin 2048) (c : Fin 512) : EReal :=
  (∑ j ∈ Finset.range 31, tap x0 x1 b s c j) + x2 (ix2 3 c)

/-- The reference's convolution with its bias at an index. -/
theorem ref_cval (x0 : FVec Ideal S8x2048x1024 .f32) (x1 : FVec Ideal S4x31x512 .f32) (x2 : FVec Ideal S4x512 .f32) (b : Fin 8) (s : Fin 2048) (c : Fin 512) :
    val_main_v232 (F := Ideal) x0 x1 x2 (ix3 b s c) = cval x0 x1 x2 b s c := by
  pointwise [val_main_v228, val_main_v229, val_main_v230, val_main_v231, val_main_v232]
  rw [ref_30, cval]

/-- What the reference returns at an index: the layer norm of the convolution's row, through the gate. -/
theorem ref_out (x0 : FVec Ideal S8x2048x1024 .f32) (x1 : FVec Ideal S4x31x512 .f32) (x2 x3 x4 : FVec Ideal S4x512 .f32) (b : Fin 8) (s : Fin 2048) (c : Fin 512) :
    val_main_v260 (F := Ideal) x0 x1 x2 x3 x4 (ix3 b s c) = silu (lnorm (fun k => cval x0 x1 x2 b s k) c * x3 (ix2 3 c) + x4 (ix2 3 c)) := by
  pointwise [val_main_cst_2, val_main_cst_3, val_main_cst_4, val_main_cst_5, val_main_cst_6, val_main_call1_v0, val_main_call1_v1, val_main_call1_cst, val_main_call1_v2, val_main_call1_v3, val_main_call1_cst_0, val_main_call1_v4, val_main_call1_v5, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260]
  simp only [ref_cval]
  rfl

end Cert.Conv
end
-- ==== Proof.Conv.Value.lean ====
module

public import proofs.«01_k».proof.Proof.Conv.Loop
public import proofs.«01_k».proof.Proof.Conv.Ref

@[expose] public section

set_option maxRecDepth 16384

noncomputable section

open Idealize.ShloMosaic Idealize.ShloMosaic.TcCoe Idealize.SL.Sem

namespace Cert.Conv

open Cert.Kernel5Ideal Cert.Kernel5Ideal.Gen

/-- The rows a point gathers are the rows of the padded sequence around its block. -/
theorem un_rows (i : grid0.Coords) (x0 : Vec Ideal S1x512x1024 .bf16) (x1 x2 : Vec Ideal S1x16x1024 .bf16) (X : FVec Ideal S8x2048x1024 .f32) (b : Fin 8) (q : ℕ) (hq : q < 4) (hi : (i 1).val = q)
    (h0 : ∀ (r : Fin 512) (e : Fin 1024), x0 (ix3 0 r e) = X (ix3 b ⟨(512 * q + r.val) % 2048, by omega⟩ e))
    (h1 : 0 < q → ∀ (r : Fin 16) (e : Fin 1024), x1 (ix3 0 r e) = X (ix3 b ⟨(512 * q - 16 + r.val) % 2048, by omega⟩ e))
    (h2 : q < 3 → ∀ (r : Fin 16) (e : Fin 1024), x2 (ix3 0 r e) = X (ix3 b ⟨(512 * q + 512 + r.val) % 2048, by omega⟩ e))
    (n : ℕ) (hn : 1 ≤ n) (hn' : n ≤ 542) (k : Fin 512) :
    un (rows i x0 x1 x2) n k = up X b (512 * q + n - 1) k := by
  have key : ∀ (p : Fin 2048), p.val = 512 * q + n - 16 → 16 ≤ 512 * q + n →
      glu (X (ix3 b p ⟨k.val, by omega⟩)) (X (ix3 b p ⟨512 + k.val, by omega⟩)) = up X b (512 * q + n - 1) k := by
    intro p hp hle
    have hp' := p.isLt
    have hb : 15 ≤ 512 * q + n - 1 ∧ 512 * q + n - 1 < 2063 := by omega
    rw [up, dif_pos hb]
    have e : p = ⟨512 * q + n - 1 - 15, by omega⟩ := Fin.ext (by dsimp only; omega)
    exact congrArg (fun p => glu (X (ix3 b p ⟨k.val, by omega⟩)) (X (ix3 b p ⟨512 + k.val, by omega⟩))) e
  rw [un, dif_pos (by omega), rows_apply]
  by_cases ha : n < 16
  · rw [dif_pos ha, pay3_apply, hi]
    by_cases hz : 0 < q
    · rw [if_pos hz, h1 hz, h1 hz]
      exact key _ (by dsimp only; omega) (by omega)
    · rw [if_neg hz, up, dif_neg (by omega)]
  · rw [dif_neg ha]
    by_cases hb : n < 528
    · rw [dif_pos hb, pay2_apply, h0, h0]
      exact key _ (by dsimp only; omega) (by omega)
    · rw [dif_neg hb, hi, pay4_apply q hq]
      by_cases hz : q < 3
      · rw [if_pos hz, h2 hz, h2 hz]
        exact key _ (by dsimp only; omega) (by omega)
      · rw [if_neg hz, up, dif_neg (by omega)]

variable (m : (ℓ : Loc nD τ sig) → Buf (Elt Ideal) ℓ)

/-- Which block every window holds at every grid point, and the point's place along the sequence. -/
theorem idx : ∀ t : Fin cfg0.N, win0_0.index t = ![t.val / 4, t.val % 4, 0] ∧ win0_1.index t = ![t.val / 4, 32 * (t.val % 4) - 1, 0]
    ∧ win0_2.index t = ![t.val / 4, min (32 * (t.val % 4 + 1)) 127, 0] ∧ win0_3.index t = ![3, 0, 0] ∧ win0_4.index t = ![3, 0, 0]
    ∧ win0_5.index t = ![3, 0, 0] ∧ win0_6.index t = ![3, 0, 0] ∧ win0_7.index t = ![t.val / 4, t.val % 4, 0] ∧ (grid0.coords t 1).val = t.val % 4 :=
  (by decide +kernel : ∀ t : Fin grid0.N, _)

/-- The sequence as the kernel reads it is the argument. -/
theorem V_v3 (c : Dev nD) : (V m c main_v3 : FVec Ideal S8x2048x1024 .bf16) = (m ((c : Thread nD τ).loc main_arg0) : FVec Ideal S8x2048x1024 .f32) := by
  have e : V m c main_v3 = StableHlo.after (hostOps0 (F := Ideal)) (fun b => m (c, b)) (Proc.tc.devRef main_v3) := rfl
  rw [e]
  simp only [StableHlo.after_cons, StableHlo.after_nil, StableHlo.TRef.binary, StableHlo.TRef.nullary, StableHlo.TRef.unary, StableHlo.TRef.toBuf, StableHlo.TRef.ofBuf, cast_eq]
  after_results_simp
  rfl

/-- The bias as the kernel reads it. -/
theorem V_v0 (c : Dev nD) : (V m c main_v0 : FVec Ideal S4x1x512 .f32) = shapeCast S4x1x512 (m ((c : Thread nD τ).loc main_arg2) : FVec Ideal S4x512 .f32) shapeCasts_S4x512_S4x1x512 := by
  have e : V m c main_v0 = StableHlo.after (hostOps0 (F := Ideal)) (fun b => m (c, b)) (Proc.tc.devRef main_v0) := rfl
  rw [e]
  simp only [StableHlo.after_cons, StableHlo.after_nil, StableHlo.TRef.binary, StableHlo.TRef.nullary, StableHlo.TRef.unary, StableHlo.TRef.toBuf, StableHlo.TRef.ofBuf, cast_eq]
  after_results_simp
  rfl

/-- The gain as the kernel reads it. -/
theorem V_v1 (c : Dev nD) : (V m c main_v1 : FVec Ideal S4x1x512 .f32) = shapeCast S4x1x512 (m ((c : Thread nD τ).loc main_arg3) : FVec Ideal S4x512 .f32) shapeCasts_S4x512_S4x1x512 := by
  have e : V m c main_v1 = StableHlo.after (hostOps0 (F := Ideal)) (fun b => m (c, b)) (Proc.tc.devRef main_v1) := rfl
  rw [e]
  simp only [StableHlo.after_cons, StableHlo.after_nil, StableHlo.TRef.binary, StableHlo.TRef.nullary, StableHlo.TRef.unary, StableHlo.TRef.toBuf, StableHlo.TRef.ofBuf, cast_eq]
  after_results_simp
  rfl

/-- The shift as the kernel reads it. -/
theorem V_v2 (c : Dev nD) : (V m c main_v2 : FVec Ideal S4x1x512 .f32) = shapeCast S4x1x512 (m ((c : Thread nD τ).loc main_arg4) : FVec Ideal S4x512 .f32) shapeCasts_S4x512_S4x1x512 := by
  have e : V m c main_v2 = StableHlo.after (hostOps0 (F := Ideal)) (fun b => m (c, b)) (Proc.tc.devRef main_v2) := rfl
  rw [e]
  simp only [StableHlo.after_cons, StableHlo.after_nil, StableHlo.TRef.binary, StableHlo.TRef.nullary, StableHlo.TRef.unary, StableHlo.TRef.toBuf, StableHlo.TRef.ofBuf, cast_eq]
  after_results_simp
  rfl

/-- A vector with a unit axis between, read back. -/
theorem flat (x : FVec Ideal S4x512 .f32) (k : Fin 512) : shapeCast S4x1x512 x shapeCasts_S4x512_S4x1x512 (ix3 3 0 k) = x (ix2 3 k) := by
  pointwise

/-- The taps' block, read back. -/
theorem blk3 (c : Dev nD) (t : Fin cfg0.N) (j : Fin 31) (k : Fin 512) :
    (iblk m c 3 t : Vec Ideal S1x31x512 .f32) (ix3 0 j k) = (m ((c : Thread nD τ).loc main_arg1) : FVec Ideal S4x31x512 .f32) (ix3 3 j k) := by
  have e : (iblk m c 3 t : Vec Ideal S1x31x512 .f32) (ix3 0 j k) = (V m c main_arg1 : FVec Ideal S4x31x512 .f32) (ix3 3 j k) := by
    blk_point [iblk, idx t]
  exact e.trans (congrFun (V_main_arg1 m c) _)

/-- The bias's block, read back. -/
theorem blk4 (c : Dev nD) (t : Fin cfg0.N) (k : Fin 512) :
    (iblk m c 4 t : Vec Ideal S1x1x512 .f32) (ix3 0 0 k) = (m ((c : Thread nD τ).loc main_arg2) : FVec Ideal S4x512 .f32) (ix2 3 k) := by
  have e : (iblk m c 4 t : Vec Ideal S1x1x512 .f32) (ix3 0 0 k) = (V m c main_v0 : FVec Ideal S4x1x512 .f32) (ix3 3 0 k) := by
    blk_point [iblk, idx t]
  exact e.trans ((congrFun (V_v0 m c) _).trans (flat _ _))

/-- The gain's block, read back. -/
theorem blk5 (c : Dev nD) (t : Fin cfg0.N) (k : Fin 512) :
    (iblk m c 5 t : Vec Ideal S1x1x512 .f32) (ix3 0 0 k) = (m ((c : Thread nD τ).loc main_arg3) : FVec Ideal S4x512 .f32) (ix2 3 k) := by
  have e : (iblk m c 5 t : Vec Ideal S1x1x512 .f32) (ix3 0 0 k) = (V m c main_v1 : FVec Ideal S4x1x512 .f32) (ix3 3 0 k) := by
    blk_point [iblk, idx t]
  exact e.trans ((congrFun (V_v1 m c) _).trans (flat _ _))

/-- The shift's block, read back. -/
theorem blk6 (c : Dev nD) (t : Fin cfg0.N) (k : Fin 512) :
    (iblk m c 6 t : Vec Ideal S1x1x512 .f32) (ix3 0 0 k) = (m ((c : Thread nD τ).loc main_arg4) : FVec Ideal S4x512 .f32) (ix2 3 k) := by
  have e : (iblk m c 6 t : Vec Ideal S1x1x512 .f32) (ix3 0 0 k) = (V m c main_v2 : FVec Ideal S4x1x512 .f32) (ix3 3 0 k) := by
    blk_point [iblk, idx t]
  exact e.trans ((congrFun (V_v2 m c) _).trans (flat _ _))

/-- The batch entry of a point. -/
def bat (t : Fin cfg0.N) : Fin 8 := ⟨t.val / 4, by have : t.val < 32 := t.isLt; omega⟩

/-- A point's own block of the sequence, read back. -/
theorem blk0 (c : Dev nD) (t : Fin cfg0.N) (r : Fin 512) (e : Fin 1024) :
    (iblk m c 0 t : Vec Ideal S1x512x1024 .bf16) (ix3 0 r e) = (m ((c : Thread nD τ).loc main_arg0) : FVec Ideal S8x2048x1024 .f32) (ix3 (bat t) ⟨(512 * (t.val % 4) + r.val) % 2048, by omega⟩ e) := by
  have e' : (iblk m c 0 t : Vec Ideal S1x512x1024 .bf16) (ix3 0 r e) = (V m c main_v3 : FVec Ideal S8x2048x1024 .bf16) (ix3 (bat t) ⟨(512 * (t.val % 4) + r.val) % 2048, by omega⟩ e) := by
    unfold bat
    have hN : t.val < 32 := t.isLt
    blk_point [iblk, idx t]
  exact e'.trans (congrFun (V_v3 m c) _)

/-- The rows before a point's block, read back. -/
theorem blk1 (c : Dev nD) (t : Fin cfg0.N) (h : 0 < t.val % 4) (r : Fin 16) (e : Fin 1024) :
    (iblk m c 1 t : Vec Ideal S1x16x1024 .bf16) (ix3 0 r e) = (m ((c : Thread nD τ).loc main_arg0) : FVec Ideal S8x2048x1024 .f32) (ix3 (bat t) ⟨(512 * (t.val % 4) - 16 + r.val) % 2048, by omega⟩ e) := by
  have e' : (iblk m c 1 t : Vec Ideal S1x16x1024 .bf16) (ix3 0 r e) = (V m c main_v3 : FVec Ideal S8x2048x1024 .bf16) (ix3 (bat t) ⟨(512 * (t.val % 4) - 16 + r.val) % 2048, by omega⟩ e) := by
    unfold bat
    have hN : t.val < 32 := t.isLt
    blk_point [iblk, idx t]
  exact e'.trans (congrFun (V_v3 m c) _)

/-- The rows after a point's block, read back. -/
theorem blk2 (c : Dev nD) (t : Fin cfg0.N) (h : t.val % 4 < 3) (r : Fin 16) (e : Fin 1024) :
    (iblk m c 2 t : Vec Ideal S1x16x1024 .bf16) (ix3 0 r e) = (m ((c : Thread nD τ).loc main_arg0) : FVec Ideal S8x2048x1024 .f32) (ix3 (bat t) ⟨(512 * (t.val % 4) + 512 + r.val) % 2048, by omega⟩ e) := by
  have e' : (iblk m c 2 t : Vec Ideal S1x16x1024 .bf16) (ix3 0 r e) = (V m c main_v3 : FVec Ideal S8x2048x1024 .bf16) (ix3 (bat t) ⟨(512 * (t.val % 4) + 512 + r.val) % 2048, by omega⟩ e) := by
    unfold bat
    have hN : t.val < 32 := t.isLt
    blk_point [iblk, idx t]
  exact e'.trans (congrFun (V_v3 m c) _)

/-- The reference over the kernel's arguments. -/
abbrev REF (c : Dev nD) : FVec Ideal S8x2048x512 .f32 :=
  Cert.Reference5Ideal.Read.val_main_v260 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A row's convolution, as the point sums it, is the reference's. -/
theorem conv_eq (c : Dev nD) (t : Fin cfg0.N) (r k : Fin 512) :
    (∑ j ∈ Finset.range 31, un (rows (grid0.coords t) (iblk m c 0 t) (iblk m c 1 t) (iblk m c 2 t)) (r.val + (j + 1)) k * (iblk m c 3 t : Vec Ideal S1x31x512 .f32) (ix3 0 ⟨j % 31, by omega⟩ k))
      + (iblk m c 4 t : Vec Ideal S1x1x512 .f32) (ix3 0 0 k)
    = cval (m ((c : Thread nD τ).loc main_arg0)) (m ((c : Thread nD τ).loc main_arg1)) (m ((c : Thread nD τ).loc main_arg2)) (bat t) ⟨512 * (t.val % 4) + r.val, by omega⟩ k := by
  rw [cval, blk4]
  refine congrArg (· + _) (Finset.sum_congr rfl fun j hj => ?_)
  have hj' : j < 31 := Finset.mem_range.mp hj
  rw [tap, blk3, un_rows _ _ _ _ (m ((c : Thread nD τ).loc main_arg0)) (bat t) (t.val % 4) (by omega) (idx t).2.2.2.2.2.2.2.2 (blk0 m c t) (blk1 m c t) (blk2 m c t) _ (by omega) (by omega)]
  exact congrArg (fun n => up _ (bat t) n k * _) (by dsimp only; omega)

/-- Every grid point leaves the reference's block. -/
theorem point (c : Dev nD) (t : Fin cfg0.N) (y : S1x512x512.Idx) :
    body (rows (grid0.coords t) (iblk m c 0 t) (iblk m c 1 t) (iblk m c 2 t)) (iblk m c 3 t) (iblk m c 4 t) (iblk m c 5 t) (iblk m c 6 t) y
    = REF m c (((cfg0.win 7).blk t).view.emb y) := by
  have hN : t.val < 32 := t.isLt
  idx_vars y
  obtain rfl : y0 = 0 := Subsingleton.elim _ _
  have he : (((cfg0.win 7).blk t).view.emb (ix3 0 y1 y2) : S8x2048x512.Idx) = ix3 (bat t) (⟨512 * (t.val % 4) + y1.val, by omega⟩ : Fin 2048) y2 := by
    unfold bat
    blk_ext [idx t]
    all_goals omega
  rw [REF, he, body_apply, ref_out, blk5, blk6]
  rw [funext fun k => conv_eq m c t y1 k]

/-- The array after the run is the reference's. -/
theorem final (c : Dev nD) : (dats m 0 c).arrAt 7 cfg0.N = REF m c := by
  refine (dats m 0 c).arrAt_eq_of_covers 7 _ (by decide +kernel) fun t _ y => ?_
  blk_simp
  rw [after0_7, outsAt_eq]
  exact point m c t y

end Cert.Conv
end
-- ==== Proof.Claims.Conv.lean ====
module

public import proofs.«01_k».proof.Defs
public import proofs.«01_k».proof.Proof.Gen.Kernel5.Frame
public import proofs.«01_k».proof.Proof.Gen.Kernel5Ideal.Value
public import proofs.«01_k».proof.Proof.Conv.Value
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem

namespace Cert.Conv

/-- The reference of the convolution branch keeps its arguments and every counter ends at zero. -/
theorem frame_reference : Cert.quiescent_Reference5Ideal := by
  intro m g _
  refine (θ_run _ _ _).mono (fun r h => ⟨fun c => (h c).2, sem_eq_zero_of_no_sems (by decide) r.2⟩) (Cert.Reference5Ideal.Value.run (F := Ideal) m g)

/-- The kernel of the convolution branch and its reference compute the same array. -/
theorem algebraic : Cert.algebraic_Kernel5Ideal_Reference5Ideal := by
  pair_intro
  · run_from Cert.Kernel5Ideal.Value.run_blocks m g
  · run_from Cert.Reference5Ideal.Value.run m' g'
    all_goals obtain ⟨h0, h1, h2, h3, h4⟩ := hagree c
    · rw [final m c, Cert.Reference5Ideal.Read.val_main_v260_eq]
      simp only [h0, h1, h2, h3, h4]

end Cert.Conv
end
-- ==== Proof.Rw.FrameIdeal.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel6Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

abbrev r0_0 : Rect S1x512x1920 := Rect.unit (s := S1x512x1920) ![0, 0, 0] S1x512x1920.size inb_S1x512x1920_S1x512x1920_0_0_0
abbrev r0_1 : Rect S1x8x1920 := Rect.unit (s := S1x8x1920) ![0, 7, 0] S1x1x1920.size inb_S1x8x1920_S1x1x1920_0_7_0
abbrev r0_2 : Rect S1x8x1920 := Rect.unit (s := S1x8x1920) ![0, 0, 0] S1x1x1920.size inb_S1x8x1920_S1x1x1920_0_0_0
abbrev r0_3 : Rect S1x1x1920 := Rect.unit (s := S1x1x1920) ![0, 0, 0] S1x1x1920.size inb_S1x1x1920_S1x1x1920_0_0_0
abbrev r0_4 : Rect S1x1x1024 := Rect.unit (s := S1x1x1024) ![0, 0, 0] S1x1x1024.size inb_S1x1x1024_S1x1x1024_0_0_0
abbrev r0_5 : Rect S1x128x1024 := Rect.unit (s := S1x128x1024) ![0, 0, 0] S1x128x1024.size inb_S1x128x1024_S1x128x1024_0_0_0
abbrev r0_6 : Rect S1x128x512 := Rect.unit (s := S1x128x512) ![0, 0, 0] S1x128x512.size inb_S1x128x512_S1x128x512_0_0_0
abbrev r0_7 : Rect S1x1x512 := Rect.unit (s := S1x1x512) ![0, 0, 0] S1x1x512.size inb_S1x1x512_S1x1x512_0_0_0
abbrev r0_8 : Rect S512x128 := Rect.unit (s := S512x128) ![0, 0] S512x128.size inb_S512x128_S512x128_0_0
abbrev r0_9 : Rect S1x512x512 := Rect.unit (s := S1x512x512) ![0, 0, 0] S1x512x512.size inb_S1x512x512_S1x512x512_0_0_0
abbrev r0_10 : Rect S512x512 := Rect.unit (s := S512x512) ![0, 0] S512x512.size inb_S512x512_S512x512_0_0
abbrev r0_11 : Rect S1x2x512x512 := Rect.unit (s := S1x2x512x512) ![0, 0, 0, 0] S1x1x512x512.size inb_S1x2x512x512_S1x1x512x512_0_0_0_0
abbrev r0_12 : Rect S1x2x512x512 := Rect.unit (s := S1x2x512x512) ![0, 1, 0, 0] S1x1x512x512.size inb_S1x2x512x512_S1x1x512x512_0_1_0_0

/-! ## What the body leaves in each output window's buffer -/

/-! ### Values of the body that the stores' payloads, spelt out, would write more than once

    Each is a vector the body binds (often a part call's result), stated over the input windows' blocks and
    numbered on from the skeleton's payload functions (`k0_pay34` …, after `k0_pay33`), so that
    `out0_W` and the values after it name it instead of spelling it out. -/

def k0_pay34 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x1920 .f32 :=
  k0_pay6 (View.ld x0 r0_0)
def k0_pay35 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x1920 .f32 :=
  k0_pay7 i (View.ld x0 r0_0) (View.ld x1 r0_1) (View.ld x2 r0_2) (View.ld x5 r0_3)
def k0_pay36 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x512 .f32 :=
  k0_pay9 (k0_pay34 i x0 x1 x2 x3 x4 x5 x6 x7 x8 x9 x10 x11 x12 x13 x14 x15 x16) (k0_pay35 i x0 x1 x2 x3 x4 x5 x6 x7 x8 x9 x10 x11 x12 x13 x14 x15 x16)
def k0_pay37 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x512 .f32 :=
  k0_pay10 (k0_pay34 i x0 x1 x2 x3 x4 x5 x6 x7 x8 x9 x10 x11 x12 x13 x14 x15 x16) (k0_pay35 i x0 x1 x2 x3 x4 x5 x6 x7 x8 x9 x10 x11 x12 x13 x14 x15 x16)
def k0_pay38 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x1024 .f32 :=
  k0_pay13 (k0_pay34 i x0 x1 x2 x3 x4 x5 x6 x7 x8 x9 x10 x11 x12 x13 x14 x15 x16) (k0_pay35 i x0 x1 x2 x3 x4 x5 x6 x7 x8 x9 x10 x11 x12 x13 x14 x15 x16) (View.ld x7 r0_4) (View.ld x6 r0_5)
def k0_pay39 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x1024 .f32 :=
  k0_pay16 (k0_pay14 (k0_pay34 i x0 x1 x2 x3 x4 x5 x6 x7 x8 x9 x10 x11 x12 x13 x14 x15 x16) (k0_pay35 i x0 x1 x2 x3 x4 x5 x6 x7 x8 x9 x10 x11 x12 x13 x14 x15 x16) (View.ld x9 r0_4) (View.ld x8 r0_5)) (k0_pay15 (F := F))
def k0_pay40 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x512 .f32 :=
  k0_pay18 (k0_pay11 (k0_pay34 i x0 x1 x2 x3 x4 x5 x6 x7 x8 x9 x10 x11 x12 x13 x14 x15 x16) (k0_pay35 i x0 x1 x2 x3 x4 x5 x6 x7 x8 x9 x10 x11 x12 x13 x14 x15 x16)) (View.ld x15 r0_7) (View.ld x3 r0_8) (View.ld x16 r0_6) (View.ld x4 r0_9)
def k0_pay41 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x512 .bf16 :=
  k0_pay19 (View.ld x14 r0_10)
def k0_pay42 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : FVec F S512x512 .f32 :=
  k0_pay20 (k0_pay37 i x0 x1 x2 x3 x4 x5 x6 x7 x8 x9 x10 x11 x12 x13 x14 x15 x16) (k0_pay41 i x0 x1 x2 x3 x4 x5 x6 x7 x8 x9 x10 x11 x12 x13 x14 x15 x16) (View.ld x11 r0_7)

/-- Window 17's staging buffer after the body, from the input windows' blocks: its 1 store as pieces, LAST
    FIRST (Lib/Pipeline/FrameBody.lean `View.canon`; the payloads are the skeleton's and the values stated above). -/
def out0_17 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : Vec F S1x512x512 .bf16 :=
  View.canon [⟨r0_9, k0_pay27 (k0_pay36 i x0 x1 x2 x3 x4 x5 x6 x7 x8 x9 x10 x11 x12 x13 x14 x15 x16)⟩]

/-- Its stores tile the buffer (checked by evaluation), so they cover it. -/
theorem cover0_17 (p0 : Vec F S1x512x512 .bf16) (y : S1x512x512.Idx) :
    ∃ pc ∈ ([⟨r0_9, p0⟩] : List (View.Piece (Elt F) S1x512x512 .bf16)), y ∈ pc.1.set :=
  View.cover_of_tiled [⟨r0_9, p0⟩] S1x512x512.size (by rfl) y

/-- Window 18's staging buffer after the body, from the input windows' blocks: its 1 store as pieces, LAST
    FIRST (Lib/Pipeline/FrameBody.lean `View.canon`; the payloads are the skeleton's and the values stated above). -/
def out0_18 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : Vec F S1x512x512 .bf16 :=
  View.canon [⟨r0_9, k0_pay28 (k0_pay40 i x0 x1 x2 x3 x4 x5 x6 x7 x8 x9 x10 x11 x12 x13 x14 x15 x16)⟩]

/-- Its stores tile the buffer (checked by evaluation), so they cover it. -/
theorem cover0_18 (p0 : Vec F S1x512x512 .bf16) (y : S1x512x512.Idx) :
    ∃ pc ∈ ([⟨r0_9, p0⟩] : List (View.Piece (Elt F) S1x512x512 .bf16)), y ∈ pc.1.set :=
  View.cover_of_tiled [⟨r0_9, p0⟩] S1x512x512.size (by rfl) y

/-- Window 19's staging buffer after the body, from the input windows' blocks: its 1 store as pieces, LAST
    FIRST (Lib/Pipeline/FrameBody.lean `View.canon`; the payloads are the skeleton's and the values stated above). -/
def out0_19 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : Vec F S1x512x512 .bf16 :=
  View.canon [⟨r0_9, k0_pay29 (k0_pay42 i x0 x1 x2 x3 x4 x5 x6 x7 x8 x9 x10 x11 x12 x13 x14 x15 x16)⟩]

/-- Its stores tile the buffer (checked by evaluation), so they cover it. -/
theorem cover0_19 (p0 : Vec F S1x512x512 .bf16) (y : S1x512x512.Idx) :
    ∃ pc ∈ ([⟨r0_9, p0⟩] : List (View.Piece (Elt F) S1x512x512 .bf16)), y ∈ pc.1.set :=
  View.cover_of_tiled [⟨r0_9, p0⟩] S1x512x512.size (by rfl) y

/-- Window 20's staging buffer after the body, from the input windows' blocks: its 2 stores as pieces, LAST
    FIRST (Lib/Pipeline/FrameBody.lean `View.canon`; the payloads are the skeleton's and the values stated above). -/
def out0_20 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : Vec F S1x2x512x512 .f32 :=
  View.canon [⟨r0_12, k0_pay31 (k0_pay38 i x0 x1 x2 x3 x4 x5 x6 x7 x8 x9 x10 x11 x12 x13 x14 x15 x16)⟩,
    ⟨r0_11, k0_pay30 (k0_pay38 i x0 x1 x2 x3 x4 x5 x6 x7 x8 x9 x10 x11 x12 x13 x14 x15 x16)⟩]

/-- Its stores tile the buffer (checked by evaluation), so they cover it. -/
theorem cover0_20 (p0 : Vec F S1x1x512x512 .f32) (p1 : Vec F S1x1x512x512 .f32) (y : S1x2x512x512.Idx) :
    ∃ pc ∈ ([⟨r0_12, p0⟩, ⟨r0_11, p1⟩] : List (View.Piece (Elt F) S1x2x512x512 .f32)), y ∈ pc.1.set :=
  View.cover_of_tiled [⟨r0_12, p0⟩, ⟨r0_11, p1⟩] S1x1x512x512.size (by rfl) y

/-- Window 21's staging buffer after the body, from the input windows' blocks: its 2 stores as pieces, LAST
    FIRST (Lib/Pipeline/FrameBody.lean `View.canon`; the payloads are the skeleton's and the values stated above). -/
def out0_21 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : Vec F S1x2x512x512 .bf16 :=
  View.canon [⟨r0_12, k0_pay1 (k0_pay33 (k0_pay23 (k0_pay37 i x0 x1 x2 x3 x4 x5 x6 x7 x8 x9 x10 x11 x12 x13 x14 x15 x16) (k0_pay39 i x0 x1 x2 x3 x4 x5 x6 x7 x8 x9 x10 x11 x12 x13 x14 x15 x16) (View.ld x12 r0_7)))⟩,
    ⟨r0_11, k0_pay32 (k0_pay22 (k0_pay37 i x0 x1 x2 x3 x4 x5 x6 x7 x8 x9 x10 x11 x12 x13 x14 x15 x16) (k0_pay39 i x0 x1 x2 x3 x4 x5 x6 x7 x8 x9 x10 x11 x12 x13 x14 x15 x16) (View.ld x12 r0_7))⟩]

/-- Its stores tile the buffer (checked by evaluation), so they cover it. -/
theorem cover0_21 (p0 : Vec F S1x1x512x512 .bf16) (p1 : Vec F S1x1x512x512 .bf16) (y : S1x2x512x512.Idx) :
    ∃ pc ∈ ([⟨r0_12, p0⟩, ⟨r0_11, p1⟩] : List (View.Piece (Elt F) S1x2x512x512 .bf16)), y ∈ pc.1.set :=
  View.cover_of_tiled [⟨r0_12, p0⟩, ⟨r0_11, p1⟩] S1x1x512x512.size (by rfl) y

/-- Window 22's staging buffer after the body, from the input windows' blocks: its 2 stores as pieces, LAST
    FIRST (Lib/Pipeline/FrameBody.lean `View.canon`; the payloads are the skeleton's and the values stated above). -/
def out0_22 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : Vec F S1x2x512x512 .bf16 :=
  View.canon [⟨r0_12, k0_pay3 (k0_pay39 i x0 x1 x2 x3 x4 x5 x6 x7 x8 x9 x10 x11 x12 x13 x14 x15 x16) (k0_pay42 i x0 x1 x2 x3 x4 x5 x6 x7 x8 x9 x10 x11 x12 x13 x14 x15 x16)⟩,
    ⟨r0_11, k0_pay2 (k0_pay39 i x0 x1 x2 x3 x4 x5 x6 x7 x8 x9 x10 x11 x12 x13 x14 x15 x16) (k0_pay42 i x0 x1 x2 x3 x4 x5 x6 x7 x8 x9 x10 x11 x12 x13 x14 x15 x16)⟩]

/-- Its stores tile the buffer (checked by evaluation), so they cover it. -/
theorem cover0_22 (p0 : Vec F S1x1x512x512 .bf16) (p1 : Vec F S1x1x512x512 .bf16) (y : S1x2x512x512.Idx) :
    ∃ pc ∈ ([⟨r0_12, p0⟩, ⟨r0_11, p1⟩] : List (View.Piece (Elt F) S1x2x512x512 .bf16)), y ∈ pc.1.set :=
  View.cover_of_tiled [⟨r0_12, p0⟩, ⟨r0_11, p1⟩] S1x1x512x512.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : Vec F S1x512x512 .bf16 :=
  View.canon [⟨r0_9, k0_pay4 (k0_pay17 (k0_pay12 (k0_pay34 i x0 x1 x2 x3 x4 x5 x6 x7 x8 x9 x10 x11 x12 x13 x14 x15 x16) (k0_pay35 i x0 x1 x2 x3 x4 x5 x6 x7 x8 x9 x10 x11 x12 x13 x14 x15 x16)) (View.ld x10 r0_6))⟩]

/-- Its stores tile the buffer (checked by evaluation), so they cover it. -/
theorem cover0_23 (p0 : Vec F S1x512x512 .bf16) (y : S1x512x512.Idx) :
    ∃ pc ∈ ([⟨r0_9, p0⟩] : List (View.Piece (Elt F) S1x512x512 .bf16)), y ∈ pc.1.set :=
  View.cover_of_tiled [⟨r0_9, p0⟩] S1x512x512.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) : Vec F S1x512x512 .bf16 :=
  View.canon [⟨r0_9, k0_pay5 (k0_pay40 i x0 x1 x2 x3 x4 x5 x6 x7 x8 x9 x10 x11 x12 x13 x14 x15 x16) (k0_pay26 (k0_pay41 i x0 x1 x2 x3 x4 x5 x6 x7 x8 x9 x10 x11 x12 x13 x14 x15 x16) (k0_pay24 (k0_pay36 i x0 x1 x2 x3 x4 x5 x6 x7 x8 x9 x10 x11 x12 x13 x14 x15 x16) (k0_pay37 i x0 x1 x2 x3 x4 x5 x6 x7 x8 x9 x10 x11 x12 x13 x14 x15 x16) (k0_pay39 i x0 x1 x2 x3 x4 x5 x6 x7 x8 x9 x10 x11 x12 x13 x14 x15 x16) (View.ld x12 r0_7) (View.ld x13 r0_7)) (k0_pay25 (k0_pay36 i x0 x1 x2 x3 x4 x5 x6 x7 x8 x9 x10 x11 x12 x13 x14 x15 x16) (k0_pay37 i x0 x1 x2 x3 x4 x5 x6 x7 x8 x9 x10 x11 x12 x13 x14 x15 x16) (k0_pay39 i x0 x1 x2 x3 x4 x5 x6 x7 x8 x9 x10 x11 x12 x13 x14 x15 x16) (View.ld x12 r0_7) (View.ld x13 r0_7)))⟩]

/-- Its stores tile the buffer (checked by evaluation), so they cover it. -/
theorem cover0_24 (p0 : Vec F S1x512x512 .bf16) (y : S1x512x512.Idx) :
    ∃ pc ∈ ([⟨r0_9, p0⟩] : List (View.Piece (Elt F) S1x512x512 .bf16)), y ∈ pc.1.set :=
  View.cover_of_tiled [⟨r0_9, p0⟩] S1x512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1920 .f32) (harg2 : arg2.IsWhole) (arg3 : Memref sig .tc .vmem S1x8x1920 .f32) (harg3 : arg3.IsWhole) (arg4 : Memref sig .tc .vmem S1x8x1920 .f32) (harg4 : arg4.IsWhole) (arg5 : Memref sig .tc .vmem S512x128 .f32) (harg5 : arg5.IsWhole) (arg6 : Memref sig .tc .vmem S1x512x512 .bf16) (harg6 : arg6.IsWhole) (arg7 : Memref sig .tc .vmem S1x1x1920 .f32) (harg7 : arg7.IsWhole) (arg8 : Memref sig .tc .vmem S1x128x1024 .bf16) (harg8 : arg8.IsWhole) (arg9 : Memref sig .tc .vmem S1x1x1024 .f32) (harg9 : arg9.IsWhole) (arg10 : Memref sig .tc .vmem S1x128x1024 .bf16) (harg10 : arg10.IsWhole) (arg11 : Memref sig .tc .vmem S1x1x1024 .f32) (harg11 : arg11.IsWhole) (arg12 : Memref sig .tc .vmem S1x128x512 .bf16) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S1x1x512 .f32) (harg15 : arg15.IsWhole) (arg16 : Memref sig .tc .vmem S512x512 .bf16) (harg16 : arg16.IsWhole) (arg17 : Memref sig .tc .vmem S1x1x512 .f32) (harg17 : arg17.IsWhole) (arg18 : Memref sig .tc .vmem S1x128x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x512x512 .bf16) (harg21 : arg21.IsWhole) (arg22 : Memref sig .tc .vmem S1x2x512x512 .f32) (harg22 : arg22.IsWhole) (arg23 : Memref sig .tc .vmem S1x2x512x512 .bf16) (harg23 : arg23.IsWhole) (arg24 : Memref sig .tc .vmem S1x2x512x512 .bf16) (harg24 : arg24.IsWhole) (arg25 : Memref sig .tc .vmem S1x512x512 .bf16) (harg25 : arg25.IsWhole) (arg26 : Memref sig .tc .vmem S1x512x512 .bf16) (harg26 : arg26.IsWhole)
    (x0 : Vec F S1x512x1920 .f32) (x1 : Vec F S1x8x1920 .f32) (x2 : Vec F S1x8x1920 .f32) (x3 : Vec F S512x128 .f32) (x4 : Vec F S1x512x512 .bf16) (x5 : Vec F S1x1x1920 .f32) (x6 : Vec F S1x128x1024 .bf16) (x7 : Vec F S1x1x1024 .f32) (x8 : Vec F S1x128x1024 .bf16) (x9 : Vec F S1x1x1024 .f32) (x10 : Vec F S1x128x512 .bf16) (x11 : Vec F S1x1x512 .f32) (x12 : Vec F S1x1x512 .f32) (x13 : Vec F S1x1x512 .f32) (x14 : Vec F S512x512 .bf16) (x15 : Vec F S1x1x512 .f32) (x16 : Vec F S1x128x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare (out0_17 i x0 x1 x2 x3 x4 x5 x6 x7 x8 x9 x10 x11 x12 x13 x14 x15 x16) ∗ owns (c : Thread nD τ) arg20 fullShare (out0_18 i x0 x1 x2 x3 x4 x5 x6 x7 x8 x9 x10 x11 x12 x13 x14 x15 x16) ∗ owns (c : Thread nD τ) arg21 fullShare (out0_19 i x0 x1 x2 x3 x4 x5 x6 x7 x8 x9 x10 x11 x12 x13 x14 x15 x16) ∗ owns (c : Thread nD τ) arg22 fullShare (out0_20 i x0 x1 x2 x3 x4 x5 x6 x7 x8 x9 x10 x11 x12 x13 x14 x15 x16) ∗ owns (c : Thread nD τ) arg23 fullShare (out0_21 i x0 x1 x2 x3 x4 x5 x6 x7 x8 x9 x10 x11 x12 x13 x14 x15 x16) ∗ owns (c : Thread nD τ) arg24 fullShare (out0_22 i x0 x1 x2 x3 x4 x5 x6 x7 x8 x9 x10 x11 x12 x13 x14 x15 x16) ∗ owns (c : Thread nD τ) arg25 fullShare (out0_23 i x0 x1 x2 x3 x4 x5 x6 x7 x8 x9 x10 x11 x12 x13 x14 x15 x16) ∗ owns (c : Thread nD τ) arg26 fullShare (out0_24 i x0 x1 x2 x3 x4 x5 x6 x7 x8 x9 x10 x11 x12 x13 x14 x15 x16)) -∗ K ⟨⟩))
      ⊢ wp frame (wpE (defs₀ (F := F)) Variants.none c none) E (cc0_rw_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_rw_prep_eq_skeleton]; unfold cc0_rw_prep_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _ _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 25, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_Kernel6Ideal`'s statement (Defs.lean) at any `F` — Proof.lean cites it at `Bits`:
    `theorem Cert.Proof.claim : Cert.Claim := ⟨Cert.Kernel6Ideal.Gen.facts, fun m ρ _ => Cert.Kernel6Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel6Ideal.Gen

end
-- ==== Proof.Rw.Run.lean ====
module

public import proofs.«01_k».proof.Proof.Rw.FrameIdeal
public import Idealize.ShloMosaic.Lib.Pipeline.Value

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v41_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v41_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v41_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v41_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v41_4) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v41_5) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v41_6) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v41_7) = (dats m 0 c).arrAt 24 cfg0.N :=
  (h c).1 24

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v41_0) = (dats m 0 c).arrAt 17 cfg0.N
      ∧ r.2.mem ((c : Thread nD τ).loc main_v41_1) = (dats m 0 c).arrAt 18 cfg0.N
      ∧ r.2.mem ((c : Thread nD τ).loc main_v41_2) = (dats m 0 c).arrAt 19 cfg0.N
      ∧ r.2.mem ((c : Thread nD τ).loc main_v41_3) = (dats m 0 c).arrAt 20 cfg0.N
      ∧ r.2.mem ((c : Thread nD τ).loc main_v41_4) = (dats m 0 c).arrAt 21 cfg0.N
      ∧ r.2.mem ((c : Thread nD τ).loc main_v41_5) = (dats m 0 c).arrAt 22 cfg0.N
      ∧ r.2.mem ((c : Thread nD τ).loc main_v41_6) = (dats m 0 c).arrAt 23 cfg0.N
      ∧ r.2.mem ((c : Thread nD τ).loc main_v41_7) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post17 m r h c,
      post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.Kernel6Ideal.Value

end
-- ==== Proof.Rw.Math.lean ====
module

public import Idealize.ShloMosaic.Lib.Pointwise

@[expose] public section

set_option maxRecDepth 16384

noncomputable section

open Idealize.ShloMosaic

namespace Cert.Rw

/-- The logistic function. -/
def sig (x : EReal) : EReal := Ideal.div 1 (1 + Ideal.exp (-x))

/-- A low-rank gate of a direction before its activation. -/
def gate (f : Fin 128 → EReal) (d : Fin 2) (w0 : EReal) (wu : Fin 64 → EReal) : EReal :=
  w0 + ∑ x : Fin 64, f ⟨64 * d.val + x.val, by omega⟩ * wu x

/-- The sum over a place's head. -/
def headSum (f : Fin 512 → EReal) (k : Fin 512) : EReal :=
  ∑ n : Fin 64, f ⟨k.val / 64 * 64 + n.val, by omega⟩

/-- The logarithm of a direction's decay. -/
def lwRow (M : Fin 1920 → EReal) (d : Fin 2) (w0 : EReal) (wu : Fin 64 → EReal) : EReal :=
  Ideal.ofBits .f32 3206235544#32 * sig (gate (fun y => Ideal.tanh (M ⟨1536 + y.val, by omega⟩)) d w0 wu)

/-- A direction's in-context learning rate. -/
def icRow (M : Fin 1920 → EReal) (d : Fin 2) (a0 : EReal) (au : Fin 64 → EReal) : EReal :=
  sig (gate (fun y => M ⟨1664 + y.val, by omega⟩) d a0 au)

/-- The output gate. -/
def gRow (M : Fin 1920 → EReal) (gu : Fin 128 → EReal) : EReal :=
  ∑ x : Fin 128, sig (M ⟨1792 + x.val, by omega⟩) * gu x

/-- The value moved towards the first layer's value. -/
def vRow (v vf v0 : EReal) (vd vu : Fin 32 → EReal) : EReal :=
  v + (vf - v) * sig (v0 + ∑ x : Fin 32, vd x * vu x)

/-- The key over its head's norm. -/
def knRow (a : Fin 512 → EReal) (k : Fin 512) : EReal :=
  Ideal.div (a k) (max (Ideal.sqrt (headSum (fun j => a j * a j) k)) (Ideal.ofBits .f32 730643660#32))

/-- The key that a direction writes. -/
def kdRow (k ic ka : EReal) : EReal := k * (1 + (ic - 1) * ka)

/-- The product whose head sum weighs the bonus. -/
def bonusRow (r kd0 kd1 rk : EReal) : EReal := r * (Ideal.ofBits .f32 1056964608#32 * (kd0 + kd1)) * rk

/-- The exponential at minus infinity. -/
theorem exp_bot : Ideal.exp ⊥ = 0 := rfl

/-- The exponential at infinity. -/
theorem exp_top : Ideal.exp ⊤ = ⊤ := rfl

/-- The exponential of a real. -/
theorem exp_coe (x : ℝ) : Ideal.exp (x : EReal) = ((Real.exp x : ℝ) : EReal) := rfl

/-- The exponential of zero. -/
theorem exp_zero : Ideal.exp 0 = 1 := by
  rw [← EReal.coe_zero, exp_coe, Real.exp_zero, EReal.coe_one]

/-- The logarithm of one. -/
theorem log_one : Ideal.log 1 = 0 := by
  rw [← EReal.coe_one]
  change (if _ then _ else _) = _
  rw [if_neg (by norm_num), Real.log_one, EReal.coe_zero]

/-- The logarithm at infinity. -/
theorem log_top : Ideal.log ⊤ = ⊤ := rfl

/-- The greater of two reals. -/
theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The logistic function of a real is a real. -/
theorem sig_coe (x : ℝ) : sig (x : EReal) = (((1 + Real.exp (-x))⁻¹ : ℝ) : EReal) := by
  have hp : (1 + Real.exp (-x)) ≠ 0 := by positivity
  have e : (1 : EReal) + Ideal.exp (-(x : EReal)) = ((1 + Real.exp (-x) : ℝ) : EReal) := by
    rw [← EReal.coe_neg, exp_coe, EReal.coe_add, EReal.coe_one]
  have h0 : ((1 + Real.exp (-x) : ℝ) : EReal) ≠ 0 := by exact_mod_cast hp
  rw [sig, e, Ideal.div, if_neg h0, one_mul, ← EReal.coe_inv]

/-- The logistic function at minus infinity. -/
theorem sig_bot : sig ⊥ = 0 := by
  rw [sig, EReal.neg_bot, exp_top, ← EReal.coe_one, EReal.coe_add_top]
  simp [Ideal.div]

/-- The logistic function at infinity. -/
theorem sig_top : sig ⊤ = 1 := by
  rw [sig, EReal.neg_top, exp_bot, add_zero]
  simp [Ideal.div]

/-- The logistic function is always a real. -/
theorem sig_real (x : EReal) : ∃ r : ℝ, sig x = (r : EReal) := by
  induction x using EReal.rec with
  | bot => exact ⟨0, sig_bot⟩
  | top => exact ⟨1, sig_top⟩
  | coe x => exact ⟨_, sig_coe x⟩

/-- The exponential of minus the softplus of a negated number is its logistic function. -/
theorem softplus (w : EReal) :
    Ideal.exp (-(max (-w) 0 + Ideal.log1p (Ideal.exp (-(max (-w) (- -w)))))) = sig w := by
  induction w using EReal.rec with
  | bot =>
    rw [sig_bot]
    simp only [EReal.neg_bot, EReal.neg_top, Ideal.log1p]
    rw [max_eq_left bot_le, max_eq_left le_top, EReal.neg_top, exp_bot, add_zero, log_one, add_zero, EReal.neg_top, exp_bot]
  | top =>
    rw [sig_top]
    simp only [EReal.neg_bot, EReal.neg_top, Ideal.log1p]
    rw [max_eq_right bot_le, max_eq_right bot_le, EReal.neg_top, exp_bot, add_zero, log_one, add_zero, neg_zero, exp_zero]
  | coe x =>
    rw [sig_coe]
    have e1 : max (-(x : EReal)) (- -(x : EReal)) = ((max (-x) x : ℝ) : EReal) := by
      rw [neg_neg, coe_max', EReal.coe_neg]
    have e2 : max (-(x : EReal)) 0 = ((max (-x) 0 : ℝ) : EReal) := by
      rw [coe_max', EReal.coe_neg, EReal.coe_zero]
    have e3 : Ideal.log1p (Ideal.exp (-((max (-x) x : ℝ) : EReal))) = ((Real.log (1 + Real.exp (-(max (-x) x))) : ℝ) : EReal) := by
      have hp : ¬ (1 + Real.exp (-(max (-x) x)) ≤ 0) := by
        have := Real.exp_pos (-(max (-x) x)); linarith
      have : (1 : EReal) + ((Real.exp (-(max (-x) x)) : ℝ) : EReal) = ((1 + Real.exp (-(max (-x) x)) : ℝ) : EReal) := by
        rw [EReal.coe_add, EReal.coe_one]
      rw [← EReal.coe_neg, Ideal.log1p, exp_coe, this]
      change (if _ then _ else _) = _
      rw [if_neg hp]
    rw [e1, e2, e3, ← EReal.coe_add, ← EReal.coe_neg, exp_coe]
    congr 1
    rw [neg_add, Real.exp_add, Real.exp_neg (Real.log _), Real.exp_log (by positivity)]
    rcases le_total 0 x with h | h
    · rw [max_eq_right (by linarith : -x ≤ 0), max_eq_right (by linarith : -x ≤ x)]
      simp
    · rw [max_eq_left (by linarith : (0 : ℝ) ≤ -x), max_eq_left (by linarith : x ≤ -x)]
      rw [neg_neg]
      have h1 : Real.exp (-x) * Real.exp x = 1 := by rw [← Real.exp_add]; simp
      have h2 := Real.exp_pos x
      have h3 := Real.exp_pos (-x)
      field_simp
      nlinarith

/-- The floor under the norm. -/
theorem floor_val : Ideal.ofBits .f32 730643660#32 = ((2305843 / 2305843009213693952 : ℝ) : EReal) := by
  simp [Ideal.ofBits, Ideal.ieee, -EReal.coe_mul]; norm_num

/-- The square root of a real that is not negative. -/
theorem sqrt_coe (x : ℝ) (h : 0 ≤ x) : Ideal.sqrt (x : EReal) = ((Real.sqrt x : ℝ) : EReal) := by
  change (if _ then _ else _) = _
  rw [if_neg (not_lt.mpr h)]

/-- The reciprocal square root of a positive real. -/
theorem rsqrt_coe (x : ℝ) (h : 0 < x) : Ideal.rsqrt (x : EReal) = (((Real.sqrt x)⁻¹ : ℝ) : EReal) := by
  change (if _ then _ else if _ then _ else _) = _
  rw [if_neg (not_lt.mpr h.le), if_neg h.ne']

/-- Scaling by the reciprocal root of a floored square is dividing by the floored norm. -/
theorem norm_eq (x s c : ℝ) (hs : 0 ≤ s) (hc : 0 < c) :
    (x : EReal) * Ideal.rsqrt (max (s : EReal) ((c ^ 2 : ℝ) : EReal)) = Ideal.div (x : EReal) (max (Ideal.sqrt (s : EReal)) (c : EReal)) := by
  have hm : 0 < max s (c ^ 2) := lt_max_of_lt_right (by positivity)
  have hd : 0 < max (Real.sqrt s) c := lt_max_of_lt_right hc
  have e : Real.sqrt (max s (c ^ 2)) = max (Real.sqrt s) c := by
    rcases le_total s (c ^ 2) with h | h
    · rw [max_eq_right h, Real.sqrt_sq hc.le, max_eq_right (Real.sqrt_le_iff.mpr ⟨hc.le, h⟩)]
    · rw [max_eq_left h, max_eq_left (Real.le_sqrt_of_sq_le h)]
  have h0 : ((max (Real.sqrt s) c : ℝ) : EReal) ≠ 0 := by exact_mod_cast hd.ne'
  rw [← coe_max', rsqrt_coe _ hm, sqrt_coe _ hs, ← coe_max', Ideal.div, if_neg h0, e, EReal.coe_inv]

/-- A product with a matrix of two diagonal blocks takes a direction's own half. -/
theorem pick (f : Fin 128 → EReal) (d : Fin 2) (g : Fin 64 → EReal) :
    (∑ y : Fin 128, f y * (if y.val / 64 = d.val then g ⟨y.val % 64, by omega⟩ else 0)) = ∑ x : Fin 64, f ⟨64 * d.val + x.val, by omega⟩ * g x := by
  have e1 : (∑ y : Fin 128, f y * (if y.val / 64 = d.val then g ⟨y.val % 64, by omega⟩ else 0)) = ∑ y : Fin 128, if y.val / 64 = d.val then f y * g ⟨y.val % 64, by omega⟩ else 0 := by
    refine Finset.sum_congr rfl fun k _ => ?_
    split_ifs <;> simp
  rw [e1, ← Finset.sum_filter]
  refine Finset.sum_nbij' (fun y => ⟨y.val % 64, by omega⟩) (fun x => ⟨64 * d.val + x.val, by omega⟩) ?_ ?_ ?_ ?_ ?_
  · intro k _; simp
  · intro n _; simp only [Finset.mem_filter, Finset.mem_univ, true_and]; omega
  · intro k hk
    simp only [Finset.mem_filter, Finset.mem_univ, true_and] at hk
    apply Fin.ext; simp only; omega
  · intro n _; apply Fin.ext; simp only; omega
  · intro k hk
    simp only [Finset.mem_filter, Finset.mem_univ, true_and] at hk
    congr 2; apply Fin.ext; simp only; omega

/-- A product with a matrix padded by zero rows takes the rows that are not padding. -/
theorem padded (f : Fin 128 → EReal) (g : Fin 32 → EReal) :
    (∑ y : Fin 128, f y * (if h : y.val < 32 then g ⟨y.val, h⟩ else 0)) = ∑ x : Fin 32, f ⟨x.val, by omega⟩ * g x := by
  have e1 : (∑ y : Fin 128, f y * (if h : y.val < 32 then g ⟨y.val, h⟩ else 0)) = ∑ y : Fin 128, if y.val < 32 then f y * g ⟨y.val % 32, by omega⟩ else 0 := by
    refine Finset.sum_congr rfl fun k _ => ?_
    split_ifs with h
    · congr 2; apply Fin.ext; simp only; omega
    · simp
  rw [e1, ← Finset.sum_filter]
  refine Finset.sum_nbij' (fun y => ⟨y.val % 32, by omega⟩) (fun x => ⟨x.val, by omega⟩) ?_ ?_ ?_ ?_ ?_
  · intro k _; simp
  · intro n _; simp only [Finset.mem_filter, Finset.mem_univ, true_and]; omega
  · intro k hk
    simp only [Finset.mem_filter, Finset.mem_univ, true_and] at hk
    apply Fin.ext; simp only; omega
  · intro n _; apply Fin.ext; simp only; omega
  · intro k hk
    simp only [Finset.mem_filter, Finset.mem_univ, true_and] at hk
    congr 2; apply Fin.ext; simp only; omega

/-- A sum weighted by the indicator of a place's head is the head's sum. -/
theorem head_pick (f e : Fin 512 → EReal) (k : Fin 512) (he : ∀ j : Fin 512, e j = if j.val / 64 = k.val / 64 then 1 else 0) :
    (∑ j, f j * e j) = headSum f k := by
  have e1 : (∑ j, f j * e j) = ∑ j : Fin 512, if j.val / 64 = k.val / 64 then f j else 0 := by
    refine Finset.sum_congr rfl fun j _ => ?_
    rw [he]
    split_ifs <;> simp
  rw [e1, ← Finset.sum_filter, headSum]
  refine Finset.sum_nbij' (fun k => ⟨k.val % 64, by omega⟩) (fun n => ⟨k.val / 64 * 64 + n.val, by omega⟩) ?_ ?_ ?_ ?_ ?_
  · intro k _; simp
  · intro n _; simp only [Finset.mem_filter, Finset.mem_univ, true_and]; omega
  · intro j hj
    simp only [Finset.mem_filter, Finset.mem_univ, true_and] at hj
    apply Fin.ext; simp only; omega
  · intro n _; apply Fin.ext; simp only; omega
  · intro j hj
    simp only [Finset.mem_filter, Finset.mem_univ, true_and] at hj
    congr 1; apply Fin.ext; simp only; omega

/-- A head sum of real numbers split into a rounded part and the rest is the head sum. -/
theorem head_split (f e : Fin 512 → EReal) (k : Fin 512) (he : ∀ j : Fin 512, e j = if j.val / 64 = k.val / 64 then 1 else 0)
    (hf : ∀ j, ∃ r : ℝ, f j = (r : EReal)) :
    (∑ j, f j * e j) + (∑ j, (f j - f j) * e j) = headSum f k := by
  have h0 : (∑ j, (f j - f j) * e j) = 0 := by
    refine Finset.sum_eq_zero fun j _ => ?_
    obtain ⟨r, hr⟩ := hf j
    rw [hr, ← EReal.coe_sub, sub_self, EReal.coe_zero, zero_mul]
  rw [h0, add_zero, head_pick f e k he]

/-- The sum of reals, as an extended real. -/
theorem coe_sum' {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The head sum of squares of reals is a real that is not negative. -/
theorem headSum_sq (a : Fin 512 → EReal) (k : Fin 512) (ha : ∀ j, ∃ r : ℝ, a j = (r : EReal)) :
    ∃ s : ℝ, 0 ≤ s ∧ headSum (fun j => a j * a j) k = (s : EReal) := by
  choose r hr using ha
  refine ⟨∑ n : Fin 64, r ⟨k.val / 64 * 64 + n.val, by omega⟩ * r ⟨k.val / 64 * 64 + n.val, by omega⟩, Finset.sum_nonneg fun _ _ => mul_self_nonneg _, ?_⟩
  rw [headSum, coe_sum']
  exact Finset.sum_congr rfl fun n _ => by rw [hr, ← EReal.coe_mul]

/-- The kernel's normalised key is the key over its floored norm. -/
theorem kn_eq (a : Fin 512 → EReal) (k : Fin 512) (ha : ∀ j, ∃ r : ℝ, a j = (r : EReal)) :
    a k * Ideal.rsqrt (max (headSum (fun j => a j * a j) k) ((5316911940649 / 5316911983139663491615228241121378304 : ℝ) : EReal)) = knRow a k := by
  obtain ⟨s, hs, es⟩ := headSum_sq a k ha
  obtain ⟨x, hx⟩ := ha k
  have e : (5316911940649 / 5316911983139663491615228241121378304 : ℝ) = (2305843 / 2305843009213693952 : ℝ) ^ 2 := by norm_num
  rw [knRow, es, hx, floor_val, e]
  exact norm_eq x s _ hs (by norm_num)

/-- Reals stay real under sums and products. -/
theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

/-- Reals stay real under differences. -/
theorem real_sub {x y : EReal} (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩

/-- Reals stay real under products. -/
theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

/-- One half. -/
theorem half_real : ∃ r : ℝ, Ideal.ofBits .f32 1056964608#32 = (r : EReal) :=
  ⟨1 / 2, by simp [Ideal.ofBits, Ideal.ieee, -EReal.coe_mul]; norm_num⟩

/-- One is a real. -/
theorem one_real : ∃ r : ℝ, (1 : EReal) = (r : EReal) := ⟨1, EReal.coe_one.symm⟩

/-- The product under the bonus's head sum is a real when its factors are. -/
theorem bonus_real (r k ic0 ic1 ka rk : EReal) (hr : ∃ x : ℝ, r = (x : EReal)) (hk : ∃ x : ℝ, k = (x : EReal)) (h0 : ∃ x : ℝ, ic0 = (x : EReal))
    (h1 : ∃ x : ℝ, ic1 = (x : EReal)) (hka : ∃ x : ℝ, ka = (x : EReal)) (hrk : ∃ x : ℝ, rk = (x : EReal)) :
    ∃ x : ℝ, bonusRow r (kdRow k ic0 ka) (kdRow k ic1 ka) rk = (x : EReal) :=
  real_mul (real_mul hr (real_mul half_real (real_add (real_mul hk (real_add one_real (real_mul (real_sub h0 one_real) hka)))
    (real_mul hk (real_add one_real (real_mul (real_sub h1 one_real) hka)))))) hrk

end Cert.Rw
end
-- ==== Proof.Rw.Payload.lean ====
module

public import proofs.«01_k».proof.Proof.Rw.FrameIdeal
public import proofs.«01_k».proof.Proof.Rw.Math
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Rw

open Cert.Kernel6Ideal Cert.Kernel6Ideal.Gen

/-- The row before a block's row: the halo's last row before the first, or zero where the sequence begins. -/
def bprev (q : ℕ) (x0 : Vec Ideal S1x512x1920 .f32) (x1 : Vec Ideal S1x1x1920 .f32) (r : Fin 512) (j : Fin 1920) : EReal :=
  if r.val = 0 then (if 0 < q then x1 (ix3 0 0 j) else 0) else x0 (ix3 0 ⟨(r.val + 512 - 1) % 512, by omega⟩ j)

/-- The row after a block's row: the halo's first row after the last, or zero where the sequence ends. -/
def bnext (q : ℕ) (x0 : Vec Ideal S1x512x1920 .f32) (x2 : Vec Ideal S1x1x1920 .f32) (r : Fin 512) (j : Fin 1920) : EReal :=
  if r.val = 511 then (if q < 3 then x2 (ix3 0 0 j) else 0) else x0 (ix3 0 ⟨(r.val + 512 - 511) % 512, by omega⟩ j)

/-- Whether a grid point's place is not the first, as the body asks. -/
theorem sgt (q : ℕ) (hq : q < 4) : (Scalar.cmpi .sgt (BitVec.ofNat 32 q) 0#32 : BitVec 1) = if 0 < q then 1#1 else 0#1 := by
  interval_cases q <;> decide

/-- Whether a grid point's place is not the last, as the body asks. -/
theorem slt (q : ℕ) (hq : q < 4) : (Scalar.cmpi .slt (BitVec.ofNat 32 q) 3#32 : BitVec 1) = if q < 3 then 1#1 else 0#1 := by
  interval_cases q <;> decide

/-- Whether a row is a given one, as the body asks. -/
theorem eqb (r : Fin 512) (n : ℕ) (hn : n < 512) : (IntOp.cmpi .eq (BitVec.ofNat 32 r.val) (BitVec.ofNat 32 n) : BitVec 1) = if r.val = n then 1#1 else 0#1 := by
  by_cases h : r.val = n
  · rw [if_pos h, h]; simp [IntOp.cmpi]
  · have hne : BitVec.ofNat 32 r.val ≠ BitVec.ofNat 32 n := by
      intro e
      have := congrArg BitVec.toNat e
      simp only [BitVec.toNat_ofNat] at this
      have := r.isLt
      omega
    rw [if_neg h]
    simp only [IntOp.cmpi]
    rw [beq_eq_false_iff_ne.mpr hne]
    rfl

/-- A choice by a proposition's bit. -/
theorem sel (p : Prop) [Decidable p] (a b : EReal) : Scalar.select (if p then 1#1 else 0#1 : BitVec 1) a b = if p then a else b := by
  split_ifs <;> rfl

/-- The mixed row of a block. -/
theorem pay8_apply (i : grid0.Coords) (q : ℕ) (hq : q < 4) (hi : (i 1).val = q) (x0 : Vec Ideal S1x512x1920 .f32) (x1 x2 x5 : Vec Ideal S1x1x1920 .f32) (r : Fin 512) (j : Fin 1920) :
    k0_pay8 (k0_pay6 x0) (k0_pay7 i x0 x1 x2 x5) (ix2 r j) = x0 (ix3 0 r j) + (Ideal.ofBits .f32 1056964608#32 * (bprev q x0 x1 r j + bnext q x0 x2 r j) - x0 (ix3 0 r j)) * x5 (ix3 0 0 j) := by
  pointwise [k0_pay8, k0_pay6, k0_pay7]
  rw [hi, sgt q hq, slt q hq, eqb r 0 (by omega), eqb r 511 (by omega), sel, sel, sel, sel]
  rfl

/-- The log decays of a block, both directions side by side. -/
theorem pay13_apply (a b : FVec Ideal S512x1920 .f32) (x7 : Vec Ideal S1x1x1024 .f32) (x6 : Vec Ideal S1x128x1024 .bf16) (r : Fin 512) (n : Fin 1024) :
    k0_pay13 a b x7 x6 (ix2 r n) = Ideal.ofBits .f32 3206235544#32 * sig (x7 (ix3 0 0 n) + ∑ y : Fin 128, Ideal.tanh (k0_pay8 a b (ix2 r ⟨1536 + y.val, by omega⟩)) * x6 (ix3 0 y n)) := by
  pointwise [k0_pay13]
  simp only [zero_sub]
  try rfl

/-- The learning rates of a block, both directions side by side. -/
theorem pay16_apply (a b : FVec Ideal S512x1920 .f32) (x9 : Vec Ideal S1x1x1024 .f32) (x8 : Vec Ideal S1x128x1024 .bf16) (r : Fin 512) (n : Fin 1024) :
    k0_pay16 (k0_pay14 a b x9 x8) k0_pay15 (ix2 r n) = sig (x9 (ix3 0 0 n) + ∑ y : Fin 128, k0_pay8 a b (ix2 r ⟨1664 + y.val, by omega⟩) * x8 (ix3 0 y n)) := by
  pointwise [k0_pay16, k0_pay14, k0_pay15]
  simp only [zero_sub]
  try rfl

/-- The output gates of a block. -/
theorem pay17_apply (a b : FVec Ideal S512x1920 .f32) (x10 : Vec Ideal S1x128x512 .bf16) (r k : Fin 512) :
    k0_pay17 (k0_pay12 a b) x10 (ix2 r k) = gRow (fun j => k0_pay8 a b (ix2 r j)) (fun y => x10 (ix3 0 y k)) := by
  pointwise [k0_pay17, k0_pay12]
  simp only [zero_sub]
  try rfl

/-- The values of a block. -/
theorem pay18_apply (a b : FVec Ideal S512x1920 .f32) (x15 : Vec Ideal S1x1x512 .f32) (x3 : Vec Ideal S512x128 .f32) (x16 : Vec Ideal S1x128x512 .bf16) (x4 : Vec Ideal S1x512x512 .bf16) (r k : Fin 512) :
    k0_pay18 (k0_pay11 a b) x15 x3 x16 x4 (ix2 r k) = k0_pay8 a b (ix2 r ⟨1024 + k.val, by omega⟩) + (x4 (ix3 0 r k) - k0_pay8 a b (ix2 r ⟨1024 + k.val, by omega⟩)) * sig (x15 (ix3 0 0 k) + ∑ y : Fin 128, x3 (ix2 r y) * x16 (ix3 0 y k)) := by
  pointwise [k0_pay18, k0_pay11]
  simp only [zero_sub]
  try rfl

/-- The floor that the kernel holds under the squared norm. -/
theorem named_floor : Named.named (F := Ideal) (φ := .f32) κ "norm_floor_sq" 0x179ABE15#32 = ((5316911940649 / 5316911983139663491615228241121378304 : ℝ) : EReal) :=
  IdealRules.named_const.ideal_named_scalar _ _ _ _ rfl

/-- The normalised keys of a block whose keys are reals. -/
theorem pay20_apply (a b : FVec Ideal S512x1920 .f32) (x14 : Vec Ideal S512x512 .bf16) (x11 : Vec Ideal S1x1x512 .f32) (r k : Fin 512)
    (he : ∀ j k : Fin 512, x14 (ix2 j k) = if j.val / 64 = k.val / 64 then (1 : EReal) else 0)
    (hr : ∀ j : Fin 512, ∃ x : ℝ, k0_pay8 a b (ix2 r ⟨512 + j.val, by omega⟩) * x11 (ix3 0 0 j) = (x : EReal)) :
    k0_pay20 (k0_pay10 a b) (k0_pay19 x14) x11 (ix2 r k) = knRow (fun j => k0_pay8 a b (ix2 r ⟨512 + j.val, by omega⟩) * x11 (ix3 0 0 j)) k := by
  rw [← kn_eq _ k hr, ← named_floor]
  pointwise [k0_pay20, k0_pay10, k0_pay19]
  have h := head_split (fun j => (k0_pay8 a b (ix2 r ⟨512 + j.val, by omega⟩) * x11 (ix3 0 0 j)) * (k0_pay8 a b (ix2 r ⟨512 + j.val, by omega⟩) * x11 (ix3 0 0 j))) (fun j => x14 (ix2 j k)) k (fun j => he j k) (fun j => real_mul (hr j) (hr j))
  rw [← h]

/-- The keys that the first direction writes. -/
theorem pay22_apply (a b : FVec Ideal S512x1920 .f32) (ic : FVec Ideal S512x1024 .f32) (x12 : Vec Ideal S1x1x512 .f32) (r k : Fin 512) :
    k0_pay22 (k0_pay10 a b) ic x12 (ix2 r k) = kdRow (k0_pay8 a b (ix2 r ⟨512 + k.val, by omega⟩)) (ic (ix2 r ⟨k.val, by omega⟩)) (x12 (ix3 0 0 k)) := by
  pointwise [k0_pay22, k0_pay10, k0_pay21]
  try rfl

/-- The keys that the second direction writes. -/
theorem pay23_apply (a b : FVec Ideal S512x1920 .f32) (ic : FVec Ideal S512x1024 .f32) (x12 : Vec Ideal S1x1x512 .f32) (r k : Fin 512) :
    k0_pay23 (k0_pay10 a b) ic x12 (ix2 r k) = kdRow (k0_pay8 a b (ix2 r ⟨512 + k.val, by omega⟩)) (ic (ix2 r ⟨512 + k.val, by omega⟩)) (x12 (ix3 0 0 k)) := by
  pointwise [k0_pay23, k0_pay10, k0_pay21]
  try rfl

/-- The products whose head sums weigh the bonus. -/
theorem pay24_apply (a b : FVec Ideal S512x1920 .f32) (ic : FVec Ideal S512x1024 .f32) (x12 x13 : Vec Ideal S1x1x512 .f32) (r k : Fin 512) :
    k0_pay24 (k0_pay9 a b) (k0_pay10 a b) ic x12 x13 (ix2 r k) = bonusRow (k0_pay8 a b (ix2 r ⟨k.val, by omega⟩)) (kdRow (k0_pay8 a b (ix2 r ⟨512 + k.val, by omega⟩)) (ic (ix2 r ⟨k.val, by omega⟩)) (x12 (ix3 0 0 k)))
      (kdRow (k0_pay8 a b (ix2 r ⟨512 + k.val, by omega⟩)) (ic (ix2 r ⟨512 + k.val, by omega⟩)) (x12 (ix3 0 0 k))) (x13 (ix3 0 0 k)) := by
  pointwise [k0_pay24, k0_pay9]
  try rw [pay22_apply, pay23_apply]
  try rfl

/-- The head sums of the bonus, when the products are reals. -/
theorem pay26_apply (f : FVec Ideal S512x512 .f32) (x14 : Vec Ideal S512x512 .bf16) (r k : Fin 512)
    (he : ∀ j k : Fin 512, x14 (ix2 j k) = if j.val / 64 = k.val / 64 then (1 : EReal) else 0)
    (hr : ∀ j : Fin 512, ∃ x : ℝ, f (ix2 r j) = (x : EReal)) :
    k0_pay26 (k0_pay19 x14) f (truncf .bf16 f bitsLt_bf16_f32) (ix2 r k) = headSum (fun j => f (ix2 r j)) k := by
  rw [← head_split (fun j => f (ix2 r j)) (fun j => x14 (ix2 j k)) k (fun j => he j k) hr]
  pointwise [k0_pay26, k0_pay19]

end Cert.Rw
end
-- ==== Proof.Rw.Out.lean ====
module

public import proofs.«01_k».proof.Proof.Rw.Payload
public import Idealize.ShloMosaic.Lib.Pipeline.Value

@[expose] public section

set_option maxRecDepth 16384

noncomputable section

open Idealize.ShloMosaic Idealize.ShloMosaic.TcCoe Idealize.SL.Sem

namespace Cert.Rw

open Cert.Kernel6Ideal Cert.Kernel6Ideal.Gen

/-- Loading a whole S1x512x1920 buffer gives the buffer. -/
theorem ld_r0_0 (x : Vec Ideal S1x512x1920 .f32) : View.ld x r0_0 = x := View.ld_unit_lit (S := S1x512x1920) _ _ (by decide)

/-- Loading a whole S1x1x1920 buffer gives the buffer. -/
theorem ld_r0_3 (x : Vec Ideal S1x1x1920 .f32) : View.ld x r0_3 = x := View.ld_unit_lit (S := S1x1x1920) _ _ (by decide)

/-- Loading a whole S1x1x1024 buffer gives the buffer. -/
theorem ld_r0_4 (x : Vec Ideal S1x1x1024 .f32) : View.ld x r0_4 = x := View.ld_unit_lit (S := S1x1x1024) _ _ (by decide)

/-- Loading a whole S1x128x1024 buffer gives the buffer. -/
theorem ld_r0_5 (x : Vec Ideal S1x128x1024 .bf16) : View.ld x r0_5 = x := View.ld_unit_lit (S := S1x128x1024) _ _ (by decide)

/-- Loading a whole S1x128x512 buffer gives the buffer. -/
theorem ld_r0_6 (x : Vec Ideal S1x128x512 .bf16) : View.ld x r0_6 = x := View.ld_unit_lit (S := S1x128x512) _ _ (by decide)

/-- Loading a whole S1x1x512 buffer gives the buffer. -/
theorem ld_r0_7 (x : Vec Ideal S1x1x512 .f32) : View.ld x r0_7 = x := View.ld_unit_lit (S := S1x1x512) _ _ (by decide)

/-- Loading a whole S512x128 buffer gives the buffer. -/
theorem ld_r0_8 (x : Vec Ideal S512x128 .f32) : View.ld x r0_8 = x := View.ld_unit_lit (S := S512x128) _ _ (by decide)

/-- Loading a whole S1x512x512 buffer gives the buffer. -/
theorem ld_r0_9 (x : Vec Ideal S1x512x512 .bf16) : View.ld x r0_9 = x := View.ld_unit_lit (S := S1x512x512) _ _ (by decide)

/-- Loading a whole S512x512 buffer gives the buffer. -/
theorem ld_r0_10 (x : Vec Ideal S512x512 .bf16) : View.ld x r0_10 = x := View.ld_unit_lit (S := S512x512) _ _ (by decide)

/-- A block's mixed row from the blocks that the body reads. -/
def bmix (i : grid0.Coords) (x0 : Vec Ideal S1x512x1920 .f32) (x1 x2 : Vec Ideal S1x8x1920 .f32) (x5 : Vec Ideal S1x1x1920 .f32) (r : Fin 512) (j : Fin 1920) : EReal :=
  k0_pay8 (k0_pay6 x0) (k0_pay7 i x0 (View.ld x1 r0_1) (View.ld x2 r0_2) x5) (ix2 r j)

/-- A block's learning rates from its mixed row, both directions side by side. -/
def bic (M : Fin 1920 → EReal) (x8 : Vec Ideal S1x128x1024 .bf16) (x9 : Vec Ideal S1x1x1024 .f32) (n : Fin 1024) : EReal :=
  sig (x9 (ix3 0 0 n) + ∑ y : Fin 128, M ⟨1664 + y.val, by omega⟩ * x8 (ix3 0 y n))

/-- A block's log decays from its mixed row, both directions side by side. -/
def blw (M : Fin 1920 → EReal) (x6 : Vec Ideal S1x128x1024 .bf16) (x7 : Vec Ideal S1x1x1024 .f32) (n : Fin 1024) : EReal :=
  Ideal.ofBits .f32 3206235544#32 * sig (x7 (ix3 0 0 n) + ∑ y : Fin 128, Ideal.tanh (M ⟨1536 + y.val, by omega⟩) * x6 (ix3 0 y n))

/-- A block's values from its mixed row. -/
def bv (M : Fin 1920 → EReal) (x3 : Vec Ideal S512x128 .f32) (x4 : Vec Ideal S1x512x512 .bf16) (x15 : Vec Ideal S1x1x512 .f32) (x16 : Vec Ideal S1x128x512 .bf16) (r k : Fin 512) : EReal :=
  M ⟨1024 + k.val, by omega⟩ + (x4 (ix3 0 r k) - M ⟨1024 + k.val, by omega⟩) * sig (x15 (ix3 0 0 k) + ∑ y : Fin 128, x3 (ix2 r y) * x16 (ix3 0 y k))

/-- A block's head keys before their scaling. -/
def bk (M : Fin 1920 → EReal) (x11 : Vec Ideal S1x1x512 .f32) (j : Fin 512) : EReal :=
  M ⟨512 + j.val, by omega⟩ * x11 (ix3 0 0 j)

/-- The receptance that a block writes. -/
theorem out17 (i : grid0.Coords) (x0 : Vec Ideal S1x512x1920 .f32) (x1 x2 : Vec Ideal S1x8x1920 .f32) (x3 : Vec Ideal S512x128 .f32) (x4 : Vec Ideal S1x512x512 .bf16) (x5 : Vec Ideal S1x1x1920 .f32) (x6 : Vec Ideal S1x128x1024 .bf16) (x7 : Vec Ideal S1x1x1024 .f32) (x8 : Vec Ideal S1x128x1024 .bf16) (x9 : Vec Ideal S1x1x1024 .f32) (x10 : Vec Ideal S1x128x512 .bf16) (x11 x12 x13 : Vec Ideal S1x1x512 .f32) (x14 : Vec Ideal S512x512 .bf16) (x15 : Vec Ideal S1x1x512 .f32) (x16 : Vec Ideal S1x128x512 .bf16) (r k : Fin 512) :
    out0_17 i x0 x1 x2 x3 x4 x5 x6 x7 x8 x9 x10 x11 x12 x13 x14 x15 x16 (ix3 0 r k) = bmix i x0 x1 x2 x5 r ⟨k.val, by omega⟩ := by
  unfold out0_17 k0_pay36 k0_pay35 k0_pay34
  rw [View.canon_cons_unit_lit (S := S1x512x512) _ _ _ (by decide)]
  rw [ld_r0_0, ld_r0_3]
  pointwise [k0_pay27, k0_pay9]
  rfl

/-- The values that a block writes. -/
theorem out18 (i : grid0.Coords) (x0 : Vec Ideal S1x512x1920 .f32) (x1 x2 : Vec Ideal S1x8x1920 .f32) (x3 : Vec Ideal S512x128 .f32) (x4 : Vec Ideal S1x512x512 .bf16) (x5 : Vec Ideal S1x1x1920 .f32) (x6 : Vec Ideal S1x128x1024 .bf16) (x7 : Vec Ideal S1x1x1024 .f32) (x8 : Vec Ideal S1x128x1024 .bf16) (x9 : Vec Ideal S1x1x1024 .f32) (x10 : Vec Ideal S1x128x512 .bf16) (x11 x12 x13 : Vec Ideal S1x1x512 .f32) (x14 : Vec Ideal S512x512 .bf16) (x15 : Vec Ideal S1x1x512 .f32) (x16 : Vec Ideal S1x128x512 .bf16) (r k : Fin 512) :
    out0_18 i x0 x1 x2 x3 x4 x5 x6 x7 x8 x9 x10 x11 x12 x13 x14 x15 x16 (ix3 0 r k) = bv (bmix i x0 x1 x2 x5 r) x3 x4 x15 x16 r k := by
  unfold out0_18 k0_pay40 k0_pay35 k0_pay34
  rw [View.canon_cons_unit_lit (S := S1x512x512) _ _ _ (by decide)]
  rw [ld_r0_0, ld_r0_3, ld_r0_7, ld_r0_8, ld_r0_6, ld_r0_9]
  pointwise [k0_pay28]
  exact pay18_apply _ _ _ _ _ _ _ _

/-- The normalised keys that a block writes. -/
theorem out19 (i : grid0.Coords) (x0 : Vec Ideal S1x512x1920 .f32) (x1 x2 : Vec Ideal S1x8x1920 .f32) (x3 : Vec Ideal S512x128 .f32) (x4 : Vec Ideal S1x512x512 .bf16) (x5 : Vec Ideal S1x1x1920 .f32) (x6 : Vec Ideal S1x128x1024 .bf16) (x7 : Vec Ideal S1x1x1024 .f32) (x8 : Vec Ideal S1x128x1024 .bf16) (x9 : Vec Ideal S1x1x1024 .f32) (x10 : Vec Ideal S1x128x512 .bf16) (x11 x12 x13 : Vec Ideal S1x1x512 .f32) (x14 : Vec Ideal S512x512 .bf16) (x15 : Vec Ideal S1x1x512 .f32) (x16 : Vec Ideal S1x128x512 .bf16) (r k : Fin 512)
    (he : ∀ j k : Fin 512, x14 (ix2 j k) = if j.val / 64 = k.val / 64 then (1 : EReal) else 0) (hk : ∀ j : Fin 512, ∃ x : ℝ, bk (bmix i x0 x1 x2 x5 r) x11 j = (x : EReal)) :
    out0_19 i x0 x1 x2 x3 x4 x5 x6 x7 x8 x9 x10 x11 x12 x13 x14 x15 x16 (ix3 0 r k) = knRow (bk (bmix i x0 x1 x2 x5 r) x11) k := by
  unfold out0_19 k0_pay42 k0_pay41 k0_pay37 k0_pay35 k0_pay34
  rw [View.canon_cons_unit_lit (S := S1x512x512) _ _ _ (by decide)]
  rw [ld_r0_0, ld_r0_3, ld_r0_10, ld_r0_7]
  pointwise [k0_pay29]
  exact pay20_apply _ _ _ _ _ _ he hk

/-- The output gates that a block writes. -/
theorem out23 (i : grid0.Coords) (x0 : Vec Ideal S1x512x1920 .f32) (x1 x2 : Vec Ideal S1x8x1920 .f32) (x3 : Vec Ideal S512x128 .f32) (x4 : Vec Ideal S1x512x512 .bf16) (x5 : Vec Ideal S1x1x1920 .f32) (x6 : Vec Ideal S1x128x1024 .bf16) (x7 : Vec Ideal S1x1x1024 .f32) (x8 : Vec Ideal S1x128x1024 .bf16) (x9 : Vec Ideal S1x1x1024 .f32) (x10 : Vec Ideal S1x128x512 .bf16) (x11 x12 x13 : Vec Ideal S1x1x512 .f32) (x14 : Vec Ideal S512x512 .bf16) (x15 : Vec Ideal S1x1x512 .f32) (x16 : Vec Ideal S1x128x512 .bf16) (r k : Fin 512) :
    out0_23 i x0 x1 x2 x3 x4 x5 x6 x7 x8 x9 x10 x11 x12 x13 x14 x15 x16 (ix3 0 r k) = gRow (bmix i x0 x1 x2 x5 r) (fun y => x10 (ix3 0 y k)) := by
  unfold out0_23 k0_pay35 k0_pay34
  rw [View.canon_cons_unit_lit (S := S1x512x512) _ _ _ (by decide)]
  rw [ld_r0_0, ld_r0_3, ld_r0_6]
  pointwise [k0_pay4]
  exact pay17_apply _ _ _ _ _

/-- The bonus that a block writes. -/
theorem out24 (i : grid0.Coords) (x0 : Vec Ideal S1x512x1920 .f32) (x1 x2 : Vec Ideal S1x8x1920 .f32) (x3 : Vec Ideal S512x128 .f32) (x4 : Vec Ideal S1x512x512 .bf16) (x5 : Vec Ideal S1x1x1920 .f32) (x6 : Vec Ideal S1x128x1024 .bf16) (x7 : Vec Ideal S1x1x1024 .f32) (x8 : Vec Ideal S1x128x1024 .bf16) (x9 : Vec Ideal S1x1x1024 .f32) (x10 : Vec Ideal S1x128x512 .bf16) (x11 x12 x13 : Vec Ideal S1x1x512 .f32) (x14 : Vec Ideal S512x512 .bf16) (x15 : Vec Ideal S1x1x512 .f32) (x16 : Vec Ideal S1x128x512 .bf16) (r k : Fin 512)
    (he : ∀ j k : Fin 512, x14 (ix2 j k) = if j.val / 64 = k.val / 64 then (1 : EReal) else 0)
    (hb : ∀ j : Fin 512, ∃ x : ℝ, bonusRow (bmix i x0 x1 x2 x5 r ⟨j.val, by omega⟩) (kdRow (bmix i x0 x1 x2 x5 r ⟨512 + j.val, by omega⟩) (bic (bmix i x0 x1 x2 x5 r) x8 x9 ⟨j.val, by omega⟩) (x12 (ix3 0 0 j)))
      (kdRow (bmix i x0 x1 x2 x5 r ⟨512 + j.val, by omega⟩) (bic (bmix i x0 x1 x2 x5 r) x8 x9 ⟨512 + j.val, by omega⟩) (x12 (ix3 0 0 j))) (x13 (ix3 0 0 j)) = (x : EReal)) :
    out0_24 i x0 x1 x2 x3 x4 x5 x6 x7 x8 x9 x10 x11 x12 x13 x14 x15 x16 (ix3 0 r k) = headSum (fun j => bonusRow (bmix i x0 x1 x2 x5 r ⟨j.val, by omega⟩) (kdRow (bmix i x0 x1 x2 x5 r ⟨512 + j.val, by omega⟩) (bic (bmix i x0 x1 x2 x5 r) x8 x9 ⟨j.val, by omega⟩) (x12 (ix3 0 0 j)))
      (kdRow (bmix i x0 x1 x2 x5 r ⟨512 + j.val, by omega⟩) (bic (bmix i x0 x1 x2 x5 r) x8 x9 ⟨512 + j.val, by omega⟩) (x12 (ix3 0 0 j))) (x13 (ix3 0 0 j))) k * bv (bmix i x0 x1 x2 x5 r) x3 x4 x15 x16 r k := by
  unfold out0_24 k0_pay41 k0_pay40 k0_pay39 k0_pay37 k0_pay36 k0_pay35 k0_pay34 k0_pay25
  rw [View.canon_cons_unit_lit (S := S1x512x512) _ _ _ (by decide)]
  rw [ld_r0_0, ld_r0_3, ld_r0_10, ld_r0_4, ld_r0_5, ld_r0_6, ld_r0_8, ld_r0_9]
  rw [ld_r0_7, ld_r0_7, ld_r0_7]
  have e : ∀ j : Fin 512, k0_pay24 (k0_pay9 (k0_pay6 x0) (k0_pay7 i x0 (View.ld x1 r0_1) (View.ld x2 r0_2) x5)) (k0_pay10 (k0_pay6 x0) (k0_pay7 i x0 (View.ld x1 r0_1) (View.ld x2 r0_2) x5))
      (k0_pay16 (k0_pay14 (k0_pay6 x0) (k0_pay7 i x0 (View.ld x1 r0_1) (View.ld x2 r0_2) x5) x9 x8) k0_pay15) x12 x13 (ix2 r j) = bonusRow (bmix i x0 x1 x2 x5 r ⟨j.val, by omega⟩) (kdRow (bmix i x0 x1 x2 x5 r ⟨512 + j.val, by omega⟩) (bic (bmix i x0 x1 x2 x5 r) x8 x9 ⟨j.val, by omega⟩) (x12 (ix3 0 0 j)))
      (kdRow (bmix i x0 x1 x2 x5 r ⟨512 + j.val, by omega⟩) (bic (bmix i x0 x1 x2 x5 r) x8 x9 ⟨512 + j.val, by omega⟩) (x12 (ix3 0 0 j))) (x13 (ix3 0 0 j)) := by
    intro j
    rw [pay24_apply, pay16_apply, pay16_apply]
    rfl
  have h := pay26_apply _ x14 r k he (fun j => (hb j).imp fun x hx => (e j).trans hx)
  have hv := pay18_apply (k0_pay6 x0) (k0_pay7 i x0 (View.ld x1 r0_1) (View.ld x2 r0_2) x5) x15 x3 x16 x4 r k
  rw [funext e] at h
  pointwise [k0_pay5]
  rw [h, hv]
  rfl

/-- The log decays that a block writes. -/
theorem out20 (i : grid0.Coords) (x0 : Vec Ideal S1x512x1920 .f32) (x1 x2 : Vec Ideal S1x8x1920 .f32) (x3 : Vec Ideal S512x128 .f32) (x4 : Vec Ideal S1x512x512 .bf16) (x5 : Vec Ideal S1x1x1920 .f32) (x6 : Vec Ideal S1x128x1024 .bf16) (x7 : Vec Ideal S1x1x1024 .f32) (x8 : Vec Ideal S1x128x1024 .bf16) (x9 : Vec Ideal S1x1x1024 .f32) (x10 : Vec Ideal S1x128x512 .bf16) (x11 x12 x13 : Vec Ideal S1x1x512 .f32) (x14 : Vec Ideal S512x512 .bf16) (x15 : Vec Ideal S1x1x512 .f32) (x16 : Vec Ideal S1x128x512 .bf16) (d : Fin 2) (r k : Fin 512) :
    out0_20 i x0 x1 x2 x3 x4 x5 x6 x7 x8 x9 x10 x11 x12 x13 x14 x15 x16 (ix4 0 d r k) = blw (bmix i x0 x1 x2 x5 r) x6 x7 ⟨512 * d.val + k.val, by omega⟩ := by
  unfold out0_20 k0_pay38 k0_pay35 k0_pay34
  rw [ld_r0_0, ld_r0_3, ld_r0_4, ld_r0_5]
  canon_tiles x hx
  all_goals
    obtain ⟨dv, dl⟩ := d
    have hx : x = ix4 0 0 r k := by
      refine funext fun a => Fin.ext ?_
      fin_cases a
      · change (x 0).val = 0; omega
      · change (x 1).val = 0; omega
      · exact hx2.symm
      · exact hx3.symm
    have hv1 : (x 1).val = 0 := by omega
    rw [hv1] at hx1
    subst hx
    replace hx1 : dv = _ := hx1
    subst hx1
  · pointwise [k0_pay31]
    exact pay13_apply _ _ _ _ _ _
  · pointwise [k0_pay30]
    exact pay13_apply _ _ _ _ _ _

/-- The keys that a block writes. -/
theorem out21 (i : grid0.Coords) (x0 : Vec Ideal S1x512x1920 .f32) (x1 x2 : Vec Ideal S1x8x1920 .f32) (x3 : Vec Ideal S512x128 .f32) (x4 : Vec Ideal S1x512x512 .bf16) (x5 : Vec Ideal S1x1x1920 .f32) (x6 : Vec Ideal S1x128x1024 .bf16) (x7 : Vec Ideal S1x1x1024 .f32) (x8 : Vec Ideal S1x128x1024 .bf16) (x9 : Vec Ideal S1x1x1024 .f32) (x10 : Vec Ideal S1x128x512 .bf16) (x11 x12 x13 : Vec Ideal S1x1x512 .f32) (x14 : Vec Ideal S512x512 .bf16) (x15 : Vec Ideal S1x1x512 .f32) (x16 : Vec Ideal S1x128x512 .bf16) (d : Fin 2) (r k : Fin 512) :
    out0_21 i x0 x1 x2 x3 x4 x5 x6 x7 x8 x9 x10 x11 x12 x13 x14 x15 x16 (ix4 0 d r k) = kdRow (bmix i x0 x1 x2 x5 r ⟨512 + k.val, by omega⟩) (bic (bmix i x0 x1 x2 x5 r) x8 x9 ⟨512 * d.val + k.val, by omega⟩) (x12 (ix3 0 0 k)) := by
  unfold out0_21 k0_pay39 k0_pay37 k0_pay35 k0_pay34
  simp only [ld_r0_7]
  rw [ld_r0_0, ld_r0_3, ld_r0_4, ld_r0_5]
  canon_tiles x hx
  all_goals
    obtain ⟨dv, dl⟩ := d
    have hx : x = ix4 0 0 r k := by
      refine funext fun a => Fin.ext ?_
      fin_cases a
      · change (x 0).val = 0; omega
      · change (x 1).val = 0; omega
      · exact hx2.symm
      · exact hx3.symm
    have hv1 : (x 1).val = 0 := by omega
    rw [hv1] at hx1
    subst hx
    replace hx1 : dv = _ := hx1
    subst hx1
  · pointwise [k0_pay1, k0_pay33]
    rw [pay23_apply, pay16_apply]
    rfl
  · pointwise [k0_pay32]
    rw [pay22_apply, pay16_apply]
    rfl

/-- The gated normalised keys that a block writes. -/
theorem out22 (i : grid0.Coords) (x0 : Vec Ideal S1x512x1920 .f32) (x1 x2 : Vec Ideal S1x8x1920 .f32) (x3 : Vec Ideal S512x128 .f32) (x4 : Vec Ideal S1x512x512 .bf16) (x5 : Vec Ideal S1x1x1920 .f32) (x6 : Vec Ideal S1x128x1024 .bf16) (x7 : Vec Ideal S1x1x1024 .f32) (x8 : Vec Ideal S1x128x1024 .bf16) (x9 : Vec Ideal S1x1x1024 .f32) (x10 : Vec Ideal S1x128x512 .bf16) (x11 x12 x13 : Vec Ideal S1x1x512 .f32) (x14 : Vec Ideal S512x512 .bf16) (x15 : Vec Ideal S1x1x512 .f32) (x16 : Vec Ideal S1x128x512 .bf16) (d : Fin 2) (r k : Fin 512)
    (he : ∀ j k : Fin 512, x14 (ix2 j k) = if j.val / 64 = k.val / 64 then (1 : EReal) else 0) (hk : ∀ j : Fin 512, ∃ x : ℝ, bk (bmix i x0 x1 x2 x5 r) x11 j = (x : EReal)) :
    out0_22 i x0 x1 x2 x3 x4 x5 x6 x7 x8 x9 x10 x11 x12 x13 x14 x15 x16 (ix4 0 d r k) = knRow (bk (bmix i x0 x1 x2 x5 r) x11) k * bic (bmix i x0 x1 x2 x5 r) x8 x9 ⟨512 * d.val + k.val, by omega⟩ := by
  unfold out0_22 k0_pay42 k0_pay41 k0_pay39 k0_pay37 k0_pay35 k0_pay34
  simp only [ld_r0_7]
  rw [ld_r0_0, ld_r0_3, ld_r0_10, ld_r0_4, ld_r0_5]
  canon_tiles x hx
  all_goals
    obtain ⟨dv, dl⟩ := d
    have hx : x = ix4 0 0 r k := by
      refine funext fun a => Fin.ext ?_
      fin_cases a
      · change (x 0).val = 0; omega
      · change (x 1).val = 0; omega
      · exact hx2.symm
      · exact hx3.symm
    have hv1 : (x 1).val = 0 := by omega
    rw [hv1] at hx1
    subst hx
    replace hx1 : dv = _ := hx1
    subst hx1
  · pointwise [k0_pay3]
    rw [pay20_apply _ _ _ _ _ _ he hk, pay16_apply]
    rfl
  · pointwise [k0_pay2]
    rw [pay20_apply _ _ _ _ _ _ he hk, pay16_apply]
    rfl

end Cert.Rw
end
-- ==== Proof.Rw.Host.lean ====
module

public import proofs.«01_k».proof.Proof.Rw.FrameIdeal
public import proofs.«01_k».proof.Proof.Merge.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Rw

open Cert.Kernel6Ideal Cert.Kernel6Ideal.Gen

variable (m : (ℓ : Loc nD τ sig) → Buf (Elt Ideal) ℓ)

/-- What every buffer of a device holds. -/
abbrev Val := Valuation τ sig (Elt Ideal)

/-- A direction's weight as the host cuts it out. -/
abbrev half0 (x : FVec Ideal S4x2x64x512 .f32) : FVec Ideal S4x64x512 .f32 :=
  shapeCast S4x64x512 (extractStridedSlice S4x1x64x512 ![0, 0, 0, 0] x slices_S4x2x64x512_S4x1x64x512_0_0_0_0 : FVec Ideal S4x1x64x512 .f32) shapeCasts_S4x1x64x512_S4x64x512

/-- The other direction's weight as the host cuts it out. -/
abbrev half1 (x : FVec Ideal S4x2x64x512 .f32) : FVec Ideal S4x64x512 .f32 :=
  shapeCast S4x64x512 (extractStridedSlice S4x1x64x512 ![0, 1, 0, 0] x slices_S4x2x64x512_S4x1x64x512_0_1_0_0 : FVec Ideal S4x1x64x512 .f32) shapeCasts_S4x1x64x512_S4x64x512

/-- Zeros beside a direction's weight. -/
abbrev zeros : FVec Ideal S4x64x512 .f32 := broadcastInDim S4x64x512 ![] bcast_S_S4x64x512 (constant S_ .f32 0x00000000#32 : FVec Ideal S_ .f32)

/-- The matrix whose two diagonal blocks are the two directions' weights. -/
def diag (x : FVec Ideal S4x2x64x512 .f32) : FVec Ideal S4x128x1024 .bf16 :=
  truncf .bf16 (concatenate S4x128x1024 1 [⟨S4x64x1024, (concatenate S4x64x1024 2 [⟨S4x64x512, half0 x⟩, ⟨S4x64x512, zeros⟩] concatenates_S4x64x512_S4x64x512_S4x64x1024_d2 : FVec Ideal S4x64x1024 .f32)⟩,
    ⟨S4x64x1024, (concatenate S4x64x1024 2 [⟨S4x64x512, zeros⟩, ⟨S4x64x512, half1 x⟩] concatenates_S4x64x512_S4x64x512_S4x64x1024_d2 : FVec Ideal S4x64x1024 .f32)⟩] concatenates_S4x64x1024_S4x64x1024_S4x128x1024_d1 : FVec Ideal S4x128x1024 .f32) bitsLt_bf16_f32

/-- The block matrix holds a direction's weight in its own block and zero elsewhere. -/
theorem diag_apply (x : FVec Ideal S4x2x64x512 .f32) (y : Fin 128) (n : Fin 1024) (d : Fin 2) (k : Fin 512) (hn : n.val = 512 * d.val + k.val) :
    diag x (ix3 3 y n) = if y.val / 64 = d.val then x (ix4 3 d ⟨y.val % 64, by omega⟩ k) else 0 := by
  pointwise [diag, half0, half1, zeros]
  have hk := k.isLt
  have hy := y.isLt
  obtain rfl | rfl : d = 0 ∨ d = 1 := by omega
  · have hn' : n.val = k.val := by simpa using hn
    by_cases h : y.val < 64
    · rw [dif_pos h, dif_pos (by omega), if_pos (by simp only [Fin.val_zero]; omega)]
      exact congrArg₂ (fun a b => x (ix4 3 0 a b)) (Fin.ext (by dsimp only; omega)) (Fin.ext (by dsimp only; omega))
    · rw [dif_neg h, dif_pos (by omega), if_neg (by simp only [Fin.val_zero]; omega)]
  · have hn' : n.val = 512 + k.val := by simpa using hn
    simp only [Fin.val_one]
    split_ifs
    all_goals first
      | (exfalso; omega)
      | exact (congrArg₂ (fun a b => x (ix4 3 1 a b)) (Fin.ext (show y.val - 64 = y.val % 64 by omega)) (Fin.ext (show n.val - 512 = k.val by omega))).trans (if_pos (show y.val / 64 = 1 by omega)).symm
      | exact congrArg₂ (fun a b => x (ix4 3 1 a b)) (Fin.ext (show y.val - 64 = y.val % 64 by omega)) (Fin.ext (show n.val - 512 = k.val by omega))
      | exact (if_neg (show ¬ y.val / 64 = 1 by omega)).symm
      | rfl

/-- The value gate's weight padded to the lanes. -/
def padUp (x : FVec Ideal S3x32x512 .f32) : FVec Ideal S3x128x512 .bf16 :=
  truncf .bf16 (pad S3x128x512 ![0, 0, 0] ![0, 96, 0] ![0, 0, 0] x (sitofp .f32 (constantI S_ 32 0#32 : IVec S_ 32) : FVec Ideal S_ .f32) pads_S3x32x512_S3x128x512_000_0960_000 h_S_ : FVec Ideal S3x128x512 .f32) bitsLt_bf16_f32

/-- The padded weight is zero past the rank. -/
theorem padUp_apply (x : FVec Ideal S3x32x512 .f32) (y : Fin 128) (k : Fin 512) :
    padUp x (ix3 2 y k) = if h : y.val < 32 then x (ix3 2 ⟨y.val, h⟩ k) else 0 := by
  pointwise [padUp]
  have e : (FloatOps.sitofp .f32 (0#32 : BitVec 32) : Ideal .f32) = (0 : EReal) := by simp [FloatOps.sitofp]
  rw [e]

/-- What the first stretch of host operations leaves untouched. -/
theorem keep0 (s : Val) :
    StableHlo.after (hostOps0 (F := Ideal)) s (Proc.tc.devRef main_arg13) = s (Proc.tc.devRef main_arg13)
    ∧ StableHlo.after (hostOps0 (F := Ideal)) s (Proc.tc.devRef main_arg2) = s (Proc.tc.devRef main_arg2) := by
  refine ⟨?_, ?_⟩
  all_goals
    simp only [StableHlo.after_cons, StableHlo.after_nil, StableHlo.TRef.binary, StableHlo.TRef.ternary, StableHlo.TRef.nullary, StableHlo.TRef.unary, StableHlo.TRef.toBuf, StableHlo.TRef.ofBuf, cast_eq]
    try after_results_simp
    try rfl

/-- What the second stretch of host operations leaves untouched. -/
theorem keep1 (s : Val) :
    StableHlo.after (hostOps0_1 (F := Ideal)) s (Proc.tc.devRef main_v0) = s (Proc.tc.devRef main_v0)
    ∧ StableHlo.after (hostOps0_1 (F := Ideal)) s (Proc.tc.devRef main_v11) = s (Proc.tc.devRef main_v11)
    ∧ StableHlo.after (hostOps0_1 (F := Ideal)) s (Proc.tc.devRef main_v12) = s (Proc.tc.devRef main_v12)
    ∧ StableHlo.after (hostOps0_1 (F := Ideal)) s (Proc.tc.devRef main_v23) = s (Proc.tc.devRef main_v23)
    ∧ StableHlo.after (hostOps0_1 (F := Ideal)) s (Proc.tc.devRef main_v24) = s (Proc.tc.devRef main_v24)
    ∧ StableHlo.after (hostOps0_1 (F := Ideal)) s (Proc.tc.devRef main_v25) = s (Proc.tc.devRef main_v25)
    ∧ StableHlo.after (hostOps0_1 (F := Ideal)) s (Proc.tc.devRef main_v26) = s (Proc.tc.devRef main_v26)
    ∧ StableHlo.after (hostOps0_1 (F := Ideal)) s (Proc.tc.devRef main_v27) = s (Proc.tc.devRef main_v27)
    ∧ StableHlo.after (hostOps0_1 (F := Ideal)) s (Proc.tc.devRef main_v28) = s (Proc.tc.devRef main_v28)
    ∧ StableHlo.after (hostOps0_1 (F := Ideal)) s (Proc.tc.devRef main_v29) = s (Proc.tc.devRef main_v29)
    ∧ StableHlo.after (hostOps0_1 (F := Ideal)) s (Proc.tc.devRef main_arg2) = s (Proc.tc.devRef main_arg2) := by
  refine ⟨?_, ?_, ?_, ?_, ?_, ?_, ?_, ?_, ?_, ?_, ?_⟩
  all_goals
    simp only [StableHlo.after_cons, StableHlo.after_nil, StableHlo.TRef.binary, StableHlo.TRef.ternary, StableHlo.TRef.nullary, StableHlo.TRef.unary, StableHlo.TRef.toBuf, StableHlo.TRef.ofBuf, cast_eq]
    try after_results_simp
    try rfl

/-- What the third stretch of host operations leaves untouched. -/
theorem keep2 (s : Val) :
    StableHlo.after (hostOps0_2 (F := Ideal)) s (Proc.tc.devRef main_v0) = s (Proc.tc.devRef main_v0)
    ∧ StableHlo.after (hostOps0_2 (F := Ideal)) s (Proc.tc.devRef main_v11) = s (Proc.tc.devRef main_v11)
    ∧ StableHlo.after (hostOps0_2 (F := Ideal)) s (Proc.tc.devRef main_v12) = s (Proc.tc.devRef main_v12)
    ∧ StableHlo.after (hostOps0_2 (F := Ideal)) s (Proc.tc.devRef main_v23) = s (Proc.tc.devRef main_v23)
    ∧ StableHlo.after (hostOps0_2 (F := Ideal)) s (Proc.tc.devRef main_v24) = s (Proc.tc.devRef main_v24)
    ∧ StableHlo.after (hostOps0_2 (F := Ideal)) s (Proc.tc.devRef main_v25) = s (Proc.tc.devRef main_v25)
    ∧ StableHlo.after (hostOps0_2 (F := Ideal)) s (Proc.tc.devRef main_v26) = s (Proc.tc.devRef main_v26)
    ∧ StableHlo.after (hostOps0_2 (F := Ideal)) s (Proc.tc.devRef main_v27) = s (Proc.tc.devRef main_v27)
    ∧ StableHlo.after (hostOps0_2 (F := Ideal)) s (Proc.tc.devRef main_v28) = s (Proc.tc.devRef main_v28)
    ∧ StableHlo.after (hostOps0_2 (F := Ideal)) s (Proc.tc.devRef main_v29) = s (Proc.tc.devRef main_v29)
    ∧ StableHlo.after (hostOps0_2 (F := Ideal)) s (Proc.tc.devRef main_arg2) = s (Proc.tc.devRef main_arg2) := by
  refine ⟨?_, ?_, ?_, ?_, ?_, ?_, ?_, ?_, ?_, ?_, ?_⟩
  all_goals
    simp only [StableHlo.after_cons, StableHlo.after_nil, StableHlo.TRef.binary, StableHlo.TRef.ternary, StableHlo.TRef.nullary, StableHlo.TRef.unary, StableHlo.TRef.toBuf, StableHlo.TRef.ofBuf, cast_eq]
    try after_results_simp
    try rfl

/-- What the fourth stretch of host operations leaves untouched. -/
theorem keep3 (s : Val) :
    StableHlo.after (hostOps0_3 (F := Ideal)) s (Proc.tc.devRef main_v0) = s (Proc.tc.devRef main_v0)
    ∧ StableHlo.after (hostOps0_3 (F := Ideal)) s (Proc.tc.devRef main_v11) = s (Proc.tc.devRef main_v11)
    ∧ StableHlo.after (hostOps0_3 (F := Ideal)) s (Proc.tc.devRef main_v12) = s (Proc.tc.devRef main_v12)
    ∧ StableHlo.after (hostOps0_3 (F := Ideal)) s (Proc.tc.devRef main_v23) = s (Proc.tc.devRef main_v23)
    ∧ StableHlo.after (hostOps0_3 (F := Ideal)) s (Proc.tc.devRef main_v24) = s (Proc.tc.devRef main_v24)
    ∧ StableHlo.after (hostOps0_3 (F := Ideal)) s (Proc.tc.devRef main_v25) = s (Proc.tc.devRef main_v25)
    ∧ StableHlo.after (hostOps0_3 (F := Ideal)) s (Proc.tc.devRef main_v26) = s (Proc.tc.devRef main_v26)
    ∧ StableHlo.after (hostOps0_3 (F := Ideal)) s (Proc.tc.devRef main_v27) = s (Proc.tc.devRef main_v27)
    ∧ StableHlo.after (hostOps0_3 (F := Ideal)) s (Proc.tc.devRef main_v28) = s (Proc.tc.devRef main_v28)
    ∧ StableHlo.after (hostOps0_3 (F := Ideal)) s (Proc.tc.devRef main_v29) = s (Proc.tc.devRef main_v29)
    ∧ StableHlo.after (hostOps0_3 (F := Ideal)) s (Proc.tc.devRef main_v31) = s (Proc.tc.devRef main_v31)
    ∧ StableHlo.after (hostOps0_3 (F := Ideal)) s (Proc.tc.devRef main_arg2) = s (Proc.tc.devRef main_arg2) := by
  refine ⟨?_, ?_, ?_, ?_, ?_, ?_, ?_, ?_, ?_, ?_, ?_, ?_⟩
  all_goals
    simp only [StableHlo.after_cons, StableHlo.after_nil, StableHlo.TRef.binary, StableHlo.TRef.ternary, StableHlo.TRef.nullary, StableHlo.TRef.unary, StableHlo.TRef.toBuf, StableHlo.TRef.ofBuf, cast_eq]
    try after_results_simp
    try rfl

/-- What the last stretch of host operations leaves untouched. -/
theorem keep4 (s : Val) :
    StableHlo.after (hostOps0_4 (F := Ideal)) s (Proc.tc.devRef main_v0) = s (Proc.tc.devRef main_v0)
    ∧ StableHlo.after (hostOps0_4 (F := Ideal)) s (Proc.tc.devRef main_v11) = s (Proc.tc.devRef main_v11)
    ∧ StableHlo.after (hostOps0_4 (F := Ideal)) s (Proc.tc.devRef main_v12) = s (Proc.tc.devRef main_v12)
    ∧ StableHlo.after (hostOps0_4 (F := Ideal)) s (Proc.tc.devRef main_v23) = s (Proc.tc.devRef main_v23)
    ∧ StableHlo.after (hostOps0_4 (F := Ideal)) s (Proc.tc.devRef main_v24) = s (Proc.tc.devRef main_v24)
    ∧ StableHlo.after (hostOps0_4 (F := Ideal)) s (Proc.tc.devRef main_v25) = s (Proc.tc.devRef main_v25)
    ∧ StableHlo.after (hostOps0_4 (F := Ideal)) s (Proc.tc.devRef main_v26) = s (Proc.tc.devRef main_v26)
    ∧ StableHlo.after (hostOps0_4 (F := Ideal)) s (Proc.tc.devRef main_v27) = s (Proc.tc.devRef main_v27)
    ∧ StableHlo.after (hostOps0_4 (F := Ideal)) s (Proc.tc.devRef main_v28) = s (Proc.tc.devRef main_v28)
    ∧ StableHlo.after (hostOps0_4 (F := Ideal)) s (Proc.tc.devRef main_v29) = s (Proc.tc.devRef main_v29)
    ∧ StableHlo.after (hostOps0_4 (F := Ideal)) s (Proc.tc.devRef main_v31) = s (Proc.tc.devRef main_v31) := by
  refine ⟨?_, ?_, ?_, ?_, ?_, ?_, ?_, ?_, ?_, ?_, ?_⟩
  all_goals
    simp only [StableHlo.after_cons, StableHlo.after_nil, StableHlo.TRef.binary, StableHlo.TRef.ternary, StableHlo.TRef.nullary, StableHlo.TRef.unary, StableHlo.TRef.toBuf, StableHlo.TRef.ofBuf, cast_eq]
    try after_results_simp
    try rfl

/-- A buffer when the region is entered, after the five stretches of host operations one by one. -/
theorem V_eq (c : Dev nD) (b : Ref sig .tc) : V m c b = (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (fun b => m (c, b))))))) (Proc.tc.devRef b) := rfl

/-- The mixing weights that the first stretch of host operations leaves. -/
theorem ops0_v0 (s : Val) : StableHlo.after (hostOps0 (F := Ideal)) s (Proc.tc.devRef main_v0) = (shapeCast S4x1x1920 (s (Proc.tc.devRef main_arg3) : FVec Ideal S4x1920 .f32) shapeCasts_S4x1920_S4x1x1920 : FVec Ideal S4x1x1920 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The mixing weights when the region is entered. -/
theorem V_v0 (c : Dev nD) : (V m c main_v0 : FVec Ideal S4x1x1920 .f32) = (shapeCast S4x1x1920 (m ((c : Thread nD τ).loc main_arg3) : FVec Ideal S4x1920 .f32) shapeCasts_S4x1920_S4x1x1920 : FVec Ideal S4x1x1920 .f32) := by
  rw [V_eq, (keep4 _).1, (keep3 _).1, (keep2 _).1, (keep1 _).1, ops0_v0]

/-- The two blocks of the decay gate that the first stretch of host operations leaves. -/
theorem ops0_v11 (s : Val) : StableHlo.after (hostOps0 (F := Ideal)) s (Proc.tc.devRef main_v11) = diag (s (Proc.tc.devRef main_arg5) : FVec Ideal S4x2x64x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The two blocks of the decay gate when the region is entered. -/
theorem V_v11 (c : Dev nD) : (V m c main_v11 : FVec Ideal S4x128x1024 .bf16) = diag (m ((c : Thread nD τ).loc main_arg5) : FVec Ideal S4x2x64x512 .f32) := by
  rw [V_eq, (keep4 _).2.1, (keep3 _).2.1, (keep2 _).2.1, (keep1 _).2.1, ops0_v11]

/-- The decay gate's bias that the first stretch of host operations leaves. -/
theorem ops0_v12 (s : Val) : StableHlo.after (hostOps0 (F := Ideal)) s (Proc.tc.devRef main_v12) = (shapeCast S4x1x1024 (s (Proc.tc.devRef main_arg4) : FVec Ideal S4x2x512 .f32) shapeCasts_S4x2x512_S4x1x1024 : FVec Ideal S4x1x1024 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The decay gate's bias when the region is entered. -/
theorem V_v12 (c : Dev nD) : (V m c main_v12 : FVec Ideal S4x1x1024 .f32) = (shapeCast S4x1x1024 (m ((c : Thread nD τ).loc main_arg4) : FVec Ideal S4x2x512 .f32) shapeCasts_S4x2x512_S4x1x1024 : FVec Ideal S4x1x1024 .f32) := by
  rw [V_eq, (keep4 _).2.2.1, (keep3 _).2.2.1, (keep2 _).2.2.1, (keep1 _).2.2.1, ops0_v12]

/-- The two blocks of the learning rate's gate that the first stretch of host operations leaves. -/
theorem ops0_v23 (s : Val) : StableHlo.after (hostOps0 (F := Ideal)) s (Proc.tc.devRef main_v23) = diag (s (Proc.tc.devRef main_arg7) : FVec Ideal S4x2x64x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The two blocks of the learning rate's gate when the region is entered. -/
theorem V_v23 (c : Dev nD) : (V m c main_v23 : FVec Ideal S4x128x1024 .bf16) = diag (m ((c : Thread nD τ).loc main_arg7) : FVec Ideal S4x2x64x512 .f32) := by
  rw [V_eq, (keep4 _).2.2.2.1, (keep3 _).2.2.2.1, (keep2 _).2.2.2.1, (keep1 _).2.2.2.1, ops0_v23]

/-- The learning rate's bias that the first stretch of host operations leaves. -/
theorem ops0_v24 (s : Val) : StableHlo.after (hostOps0 (F := Ideal)) s (Proc.tc.devRef main_v24) = (shapeCast S4x1x1024 (s (Proc.tc.devRef main_arg6) : FVec Ideal S4x2x512 .f32) shapeCasts_S4x2x512_S4x1x1024 : FVec Ideal S4x1x1024 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The learning rate's bias when the region is entered. -/
theorem V_v24 (c : Dev nD) : (V m c main_v24 : FVec Ideal S4x1x1024 .f32) = (shapeCast S4x1x1024 (m ((c : Thread nD τ).loc main_arg6) : FVec Ideal S4x2x512 .f32) shapeCasts_S4x2x512_S4x1x1024 : FVec Ideal S4x1x1024 .f32) := by
  rw [V_eq, (keep4 _).2.2.2.2.1, (keep3 _).2.2.2.2.1, (keep2 _).2.2.2.2.1, (keep1 _).2.2.2.2.1, ops0_v24]

/-- The output gate's weight that the first stretch of host operations leaves. -/
theorem ops0_v25 (s : Val) : StableHlo.after (hostOps0 (F := Ideal)) s (Proc.tc.devRef main_v25) = (truncf .bf16 (s (Proc.tc.devRef main_arg8) : FVec Ideal S4x128x512 .f32) bitsLt_bf16_f32 : FVec Ideal S4x128x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The output gate's weight when the region is entered. -/
theorem V_v25 (c : Dev nD) : (V m c main_v25 : FVec Ideal S4x128x512 .bf16) = (truncf .bf16 (m ((c : Thread nD τ).loc main_arg8) : FVec Ideal S4x128x512 .f32) bitsLt_bf16_f32 : FVec Ideal S4x128x512 .bf16) := by
  rw [V_eq, (keep4 _).2.2.2.2.2.1, (keep3 _).2.2.2.2.2.1, (keep2 _).2.2.2.2.2.1, (keep1 _).2.2.2.2.2.1, ops0_v25]

/-- The key's scale that the first stretch of host operations leaves. -/
theorem ops0_v26 (s : Val) : StableHlo.after (hostOps0 (F := Ideal)) s (Proc.tc.devRef main_v26) = (shapeCast S4x1x512 (s (Proc.tc.devRef main_arg9) : FVec Ideal S4x512 .f32) shapeCasts_S4x512_S4x1x512 : FVec Ideal S4x1x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The key's scale when the region is entered. -/
theorem V_v26 (c : Dev nD) : (V m c main_v26 : FVec Ideal S4x1x512 .f32) = (shapeCast S4x1x512 (m ((c : Thread nD τ).loc main_arg9) : FVec Ideal S4x512 .f32) shapeCasts_S4x512_S4x1x512 : FVec Ideal S4x1x512 .f32) := by
  rw [V_eq, (keep4 _).2.2.2.2.2.2.1, (keep3 _).2.2.2.2.2.2.1, (keep2 _).2.2.2.2.2.2.1, (keep1 _).2.2.2.2.2.2.1, ops0_v26]

/-- The written key's weight that the first stretch of host operations leaves. -/
theorem ops0_v27 (s : Val) : StableHlo.after (hostOps0 (F := Ideal)) s (Proc.tc.devRef main_v27) = (shapeCast S4x1x512 (s (Proc.tc.devRef main_arg10) : FVec Ideal S4x512 .f32) shapeCasts_S4x512_S4x1x512 : FVec Ideal S4x1x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The written key's weight when the region is entered. -/
theorem V_v27 (c : Dev nD) : (V m c main_v27 : FVec Ideal S4x1x512 .f32) = (shapeCast S4x1x512 (m ((c : Thread nD τ).loc main_arg10) : FVec Ideal S4x512 .f32) shapeCasts_S4x512_S4x1x512 : FVec Ideal S4x1x512 .f32) := by
  rw [V_eq, (keep4 _).2.2.2.2.2.2.2.1, (keep3 _).2.2.2.2.2.2.2.1, (keep2 _).2.2.2.2.2.2.2.1, (keep1 _).2.2.2.2.2.2.2.1, ops0_v27]

/-- The bonus's weight that the first stretch of host operations leaves. -/
theorem ops0_v28 (s : Val) : StableHlo.after (hostOps0 (F := Ideal)) s (Proc.tc.devRef main_v28) = (shapeCast S4x1x512 (s (Proc.tc.devRef main_arg11) : FVec Ideal S4x8x64 .f32) shapeCasts_S4x8x64_S4x1x512 : FVec Ideal S4x1x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The bonus's weight when the region is entered. -/
theorem V_v28 (c : Dev nD) : (V m c main_v28 : FVec Ideal S4x1x512 .f32) = (shapeCast S4x1x512 (m ((c : Thread nD τ).loc main_arg11) : FVec Ideal S4x8x64 .f32) shapeCasts_S4x8x64_S4x1x512 : FVec Ideal S4x1x512 .f32) := by
  rw [V_eq, (keep4 _).2.2.2.2.2.2.2.2.1, (keep3 _).2.2.2.2.2.2.2.2.1, (keep2 _).2.2.2.2.2.2.2.2.1, (keep1 _).2.2.2.2.2.2.2.2.1, ops0_v28]

/-- The value gate's bias that the first stretch of host operations leaves. -/
theorem ops0_v29 (s : Val) : StableHlo.after (hostOps0 (F := Ideal)) s (Proc.tc.devRef main_v29) = (shapeCast S3x1x512 (s (Proc.tc.devRef main_arg12) : FVec Ideal S3x512 .f32) shapeCasts_S3x512_S3x1x512 : FVec Ideal S3x1x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The value gate's bias when the region is entered. -/
theorem V_v29 (c : Dev nD) : (V m c main_v29 : FVec Ideal S3x1x512 .f32) = (shapeCast S3x1x512 (m ((c : Thread nD τ).loc main_arg12) : FVec Ideal S3x512 .f32) shapeCasts_S3x512_S3x1x512 : FVec Ideal S3x1x512 .f32) := by
  rw [V_eq, (keep4 _).2.2.2.2.2.2.2.2.2.1, (keep3 _).2.2.2.2.2.2.2.2.2.1, (keep2 _).2.2.2.2.2.2.2.2.2.1, (keep1 _).2.2.2.2.2.2.2.2.2.1, ops0_v29]

/-- The padding integer. -/
theorem ops0_c (s : Val) : StableHlo.after (hostOps0 (F := Ideal)) s (Proc.tc.devRef main_c) = (constantI S_ 32 0#32 : IVec S_ 32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The padded weight. -/
theorem ops1_v30 (s : Val) : StableHlo.after (hostOps0_1 (F := Ideal)) s (Proc.tc.devRef main_v30) = (pad S3x128x512 ![0, 0, 0] ![0, 96, 0] ![0, 0, 0] (s (Proc.tc.devRef main_arg13) : FVec Ideal S3x32x512 .f32) (sitofp .f32 (s (Proc.tc.devRef main_c) : IVec S_ 32) : FVec Ideal S_ .f32) pads_S3x32x512_S3x128x512_000_0960_000 h_S_ : FVec Ideal S3x128x512 .f32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The padded weight, cast. -/
theorem ops2_v31 (s : Val) : StableHlo.after (hostOps0_2 (F := Ideal)) s (Proc.tc.devRef main_v31) = (truncf .bf16 (s (Proc.tc.devRef main_v30) : FVec Ideal S3x128x512 .f32) bitsLt_bf16_f32 : FVec Ideal S3x128x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The value gate's weight when the region is entered. -/
theorem V_v31 (c : Dev nD) : (V m c main_v31 : FVec Ideal S3x128x512 .bf16) = padUp (m ((c : Thread nD τ).loc main_arg13) : FVec Ideal S3x32x512 .f32) := by
  rw [V_eq, (keep4 _).2.2.2.2.2.2.2.2.2.2, (keep3 _).2.2.2.2.2.2.2.2.2.2.1, ops2_v31, ops1_v30, ops0_c, (keep0 _).1]
  rfl

/-- The first layer's value, cast. -/
theorem ops4_v40 (s : Val) : StableHlo.after (hostOps0_4 (F := Ideal)) s (Proc.tc.devRef main_v40) = (truncf .bf16 (s (Proc.tc.devRef main_arg2) : FVec Ideal S8x2048x512 .f32) bitsLt_bf16_f32 : FVec Ideal S8x2048x512 .bf16) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The first layer's value when the region is entered. -/
theorem V_v40 (c : Dev nD) : (V m c main_v40 : FVec Ideal S8x2048x512 .bf16) = (truncf .bf16 (m ((c : Thread nD τ).loc main_arg2) : FVec Ideal S8x2048x512 .f32) bitsLt_bf16_f32 : FVec Ideal S8x2048x512 .bf16) := by
  rw [V_eq, ops4_v40, (keep3 _).2.2.2.2.2.2.2.2.2.2.2, (keep2 _).2.2.2.2.2.2.2.2.2.2, (keep1 _).2.2.2.2.2.2.2.2.2.2, (keep0 _).2]

/-- The places, counted. -/
theorem ops2_v32 (s : Val) : StableHlo.after (hostOps0_2 (F := Ideal)) s (Proc.tc.devRef main_v32) = (iotaInDim S512 32 0 : IVec S512 32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The head's width. -/
theorem ops2_c1 (s : Val) : StableHlo.after (hostOps0_2 (F := Ideal)) s (Proc.tc.devRef main_c_1) = (constantI S_ 32 64#32 : IVec S_ 32) := by
  simp only [StableHlo.after_cons, StableHlo.after_nil, StableHlo.TRef.binary, StableHlo.TRef.ternary, StableHlo.TRef.nullary, StableHlo.TRef.unary, StableHlo.TRef.toBuf, StableHlo.TRef.ofBuf, cast_eq]
  try after_results_simp
  try rfl

/-- The quotient by the head's width. -/
theorem ops3_v33 (s : Val) (h0 : s (Proc.tc.devRef main_v32) = (iotaInDim S512 32 0 : IVec S512 32)) (hc : s (Proc.tc.devRef main_c_1) = (constantI S_ 32 64#32 : IVec S_ 32)) :
    StableHlo.after (hostOps0_3 (F := Ideal)) s (Proc.tc.devRef main_v33) = Cert.Merge.headOf := by
  simp only [StableHlo.after_cons, StableHlo.after_nil, StableHlo.TRef.binary, StableHlo.TRef.ternary, StableHlo.TRef.nullary, StableHlo.TRef.unary, StableHlo.TRef.toBuf, StableHlo.TRef.ofBuf, cast_eq]
  after_results_simp
  try rw [h0, hc]
  try rfl

/-- The matrix of heads from the quotients. -/
theorem ops4_v39 (s : Val) (h : s (Proc.tc.devRef main_v33) = Cert.Merge.headOf) : StableHlo.after (hostOps0_4 (F := Ideal)) s (Proc.tc.devRef main_v39) = Cert.Merge.ones := by
  simp only [StableHlo.after_cons, StableHlo.after_nil, StableHlo.TRef.binary, StableHlo.TRef.nullary, StableHlo.TRef.unary, StableHlo.TRef.toBuf, StableHlo.TRef.ofBuf, cast_eq]
  after_results_simp
  try rw [h]
  try rfl

/-- The matrix of heads when the region is entered. -/
theorem V_v39 (c : Dev nD) : (V m c main_v39 : FVec Ideal S512x512 .bf16) = Cert.Merge.ones := by
  rw [V_eq]
  exact ops4_v39 _ (ops3_v33 _ (ops2_v32 _) (ops2_c1 _))

end Cert.Rw
end
-- ==== Proof.Rw.Ref.lean ====
module

public import proofs.«01_k».proof.Proof.Gen.Reference6Ideal.Read
public import proofs.«01_k».proof.Proof.Rw.Math
public import Idealize.ShloMosaic.Lib.Pointwise

@[expose] public section

set_option maxRecDepth 16384

noncomputable section

open Idealize.ShloMosaic Idealize.ShloMosaic.TcCoe Idealize.SL.Sem

namespace Cert.Rw

open Cert.Reference6Ideal Cert.Reference6Ideal.Read

/-- The row before a row, zero before the first. -/
def prev (x0 : FVec Ideal S8x2048x1920 .f32) (b : Fin 8) (s : Fin 2048) (j : Fin 1920) : EReal :=
  if h : 1 ≤ s.val then x0 (ix3 b ⟨s.val - 1, by omega⟩ j) else 0

/-- The row after a row, zero after the last. -/
def next (x0 : FVec Ideal S8x2048x1920 .f32) (b : Fin 8) (s : Fin 2048) (j : Fin 1920) : EReal :=
  if h : s.val < 2047 then x0 (ix3 b ⟨1 + s.val, by omega⟩ j) else 0

/-- A row moved towards the mean of its two neighbours. -/
def mix (x0 : FVec Ideal S8x2048x1920 .f32) (x3 : FVec Ideal S4x1920 .f32) (b : Fin 8) (s : Fin 2048) (j : Fin 1920) : EReal :=
  x0 (ix3 b s j) + (Ideal.ofBits .f32 1056964608#32 * (prev x0 b s j + next x0 b s j) - x0 (ix3 b s j)) * x3 (ix2 3 j)

/-- The integer zero as a float is zero. -/
theorem sitofp_zero : (FloatOps.sitofp .f32 (0#32 : BitVec 32) : Ideal .f32) = (0 : EReal) := by
  simp [FloatOps.sitofp]

/-- The reference mixes every row with its neighbours. -/
theorem ref_mix (x0 : FVec Ideal S8x2048x1920 .f32) (x3 : FVec Ideal S4x1920 .f32) (b : Fin 8) (s : Fin 2048) (j : Fin 1920) :
    val_main_v13 (F := Ideal) x0 x3 (ix3 b s j) = mix x0 x3 b s j := by
  have hs := s.isLt
  pointwise [val_main_v0, val_main_c, val_main_call0_v0, val_main_v1, val_main_v2, val_main_c_0, val_main_call1_v0, val_main_v3, val_main_v4, val_main_cst, val_main_v5, val_main_v6, val_main_v7, val_main_v8, val_main_v9, val_main_v10, val_main_v11, val_main_v12, val_main_v13]
  rw [sitofp_zero, mix, prev, next]
  have e : (1 ≤ s.val ∧ s.val - 1 < 2047) ↔ 1 ≤ s.val := by omega
  simp only [e]
  try rfl

/-- The first direction's log decay. -/
theorem ref_lw0 (x0 : FVec Ideal S8x2048x1920 .f32) (x3 : FVec Ideal S4x1920 .f32) (x4 : FVec Ideal S4x2x512 .f32) (x5 : FVec Ideal S4x2x64x512 .f32) (b : Fin 8) (s : Fin 2048) (k : Fin 512) :
    val_main_v35 (F := Ideal) x0 x3 x4 x5 (ix3 b s k) = lwRow (mix x0 x3 b s) 0 (x4 (ix3 3 0 k)) (fun x => x5 (ix4 3 0 x k)) := by
  pointwise [val_main_v17, val_main_v20, val_main_v21, val_main_v22, val_main_v23, val_main_v24, val_main_v25, val_main_v26, val_main_v27, val_main_v28, val_main_v29, val_main_v30, val_main_call2_cst, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_v31, val_main_v32, val_main_v33, val_main_cst_1, val_main_v34, val_main_v35]
  simp only [ref_mix]
  simp only [ne_eq, not_true_eq_false, if_false]
  exact congrArg (Ideal.ofBits .f32 3206235544#32 * ·) (softplus _)

/-- The second direction's log decay. -/
theorem ref_lw1 (x0 : FVec Ideal S8x2048x1920 .f32) (x3 : FVec Ideal S4x1920 .f32) (x4 : FVec Ideal S4x2x512 .f32) (x5 : FVec Ideal S4x2x64x512 .f32) (b : Fin 8) (s : Fin 2048) (k : Fin 512) :
    val_main_v50 (F := Ideal) x0 x3 x4 x5 (ix3 b s k) = lwRow (mix x0 x3 b s) 1 (x4 (ix3 3 1 k)) (fun x => x5 (ix4 3 1 x k)) := by
  pointwise [val_main_v17, val_main_v20, val_main_v36, val_main_v37, val_main_v38, val_main_v39, val_main_v40, val_main_v41, val_main_v42, val_main_v43, val_main_v44, val_main_v45, val_main_call3_cst, val_main_call3_v0, val_main_call3_v1, val_main_call3_v2, val_main_call3_v3, val_main_call3_v4, val_main_call3_v5, val_main_call3_v6, val_main_call3_v7, val_main_call3_v8, val_main_call3_v9, val_main_call3_v10, val_main_call3_v11, val_main_v46, val_main_v47, val_main_v48, val_main_cst_2, val_main_v49, val_main_v50]
  simp only [ref_mix]
  simp only [ne_eq, not_true_eq_false, if_false]
  exact congrArg (Ideal.ofBits .f32 3206235544#32 * ·) (softplus _)

/-- The first direction's learning rate. -/
theorem ref_ic0 (x0 : FVec Ideal S8x2048x1920 .f32) (x3 : FVec Ideal S4x1920 .f32) (x6 : FVec Ideal S4x2x512 .f32) (x7 : FVec Ideal S4x2x64x512 .f32) (b : Fin 8) (s : Fin 2048) (k : Fin 512) :
    val_main_v65 (F := Ideal) x0 x3 x6 x7 (ix3 b s k) = icRow (mix x0 x3 b s) 0 (x6 (ix3 3 0 k)) (fun x => x7 (ix4 3 0 x k)) := by
  pointwise [val_main_v18, val_main_v51, val_main_v52, val_main_v53, val_main_v54, val_main_v55, val_main_v56, val_main_v57, val_main_v58, val_main_v59, val_main_v60, val_main_v61, val_main_cst_3, val_main_v62, val_main_v63, val_main_cst_4, val_main_v64, val_main_v65]
  simp only [ref_mix]
  try rfl

/-- The second direction's learning rate. -/
theorem ref_ic1 (x0 : FVec Ideal S8x2048x1920 .f32) (x3 : FVec Ideal S4x1920 .f32) (x6 : FVec Ideal S4x2x512 .f32) (x7 : FVec Ideal S4x2x64x512 .f32) (b : Fin 8) (s : Fin 2048) (k : Fin 512) :
    val_main_v80 (F := Ideal) x0 x3 x6 x7 (ix3 b s k) = icRow (mix x0 x3 b s) 1 (x6 (ix3 3 1 k)) (fun x => x7 (ix4 3 1 x k)) := by
  pointwise [val_main_v18, val_main_v66, val_main_v67, val_main_v68, val_main_v69, val_main_v70, val_main_v71, val_main_v72, val_main_v73, val_main_v74, val_main_v75, val_main_v76, val_main_cst_5, val_main_v77, val_main_v78, val_main_cst_6, val_main_v79, val_main_v80]
  simp only [ref_mix]
  try rfl

/-- The output gate. -/
theorem ref_g (x0 : FVec Ideal S8x2048x1920 .f32) (x3 : FVec Ideal S4x1920 .f32) (x8 : FVec Ideal S4x128x512 .f32) (b : Fin 8) (s : Fin 2048) (k : Fin 512) :
    val_main_v176 (F := Ideal) x0 x3 x8 (ix3 b s k) = gRow (mix x0 x3 b s) (fun x => x8 (ix3 3 x k)) := by
  pointwise [val_main_v19, val_main_v81, val_main_v82, val_main_cst_7, val_main_v83, val_main_v84, val_main_cst_8, val_main_v85, val_main_v86, val_main_v87, val_main_v88, val_main_v89, val_main_v176]
  simp only [ref_mix]
  try rfl

/-- The value. -/
theorem ref_v (x0 : FVec Ideal S8x2048x1920 .f32) (x1 : FVec Ideal S16384x128 .f32) (x2 : FVec Ideal S8x2048x512 .f32) (x3 : FVec Ideal S4x1920 .f32) (x12 : FVec Ideal S3x512 .f32) (x13 : FVec Ideal S3x32x512 .f32) (b : Fin 8) (s : Fin 2048) (k : Fin 512) :
    val_main_v108 (F := Ideal) x0 x1 x2 x3 x12 x13 (ix3 b s k) = vRow (mix x0 x3 b s ⟨1024 + k.val, by omega⟩) (x2 (ix3 b s k)) (x12 (ix2 2 k)) (fun x => x1 (ix2 ⟨b.val * 2048 + s.val, by omega⟩ ⟨x.val, by omega⟩)) (fun x => x13 (ix3 2 x k)) := by
  pointwise [val_main_v16, val_main_v90, val_main_v91, val_main_v92, val_main_v93, val_main_v94, val_main_v95, val_main_v96, val_main_v97, val_main_v98, val_main_v99, val_main_v100, val_main_v101, val_main_cst_9, val_main_v102, val_main_v103, val_main_cst_10, val_main_v104, val_main_v105, val_main_v106, val_main_v107, val_main_v108]
  simp only [ref_mix]
  try rfl

/-- The normalised key. -/
theorem ref_kn (x0 : FVec Ideal S8x2048x1920 .f32) (x3 : FVec Ideal S4x1920 .f32) (x9 : FVec Ideal S4x512 .f32) (b : Fin 8) (s : Fin 2048) (k : Fin 512) :
    val_main_v123 (F := Ideal) x0 x3 x9 (ix3 b s k) = knRow (fun j : Fin 512 => mix x0 x3 b s ⟨512 + j.val, by omega⟩ * x9 (ix2 3 j)) k := by
  pointwise [val_main_v15, val_main_v109, val_main_v110, val_main_v111, val_main_v112, val_main_v113, val_main_v114, val_main_v115, val_main_cst_11, val_main_v116, val_main_v117, val_main_v118, val_main_cst_12, val_main_v119, val_main_v120, val_main_v121, val_main_v122, val_main_v123]
  simp only [ref_mix]
  try rfl

/-- The key that the first direction writes. -/
theorem ref_kd0 (x0 : FVec Ideal S8x2048x1920 .f32) (x3 : FVec Ideal S4x1920 .f32) (x6 : FVec Ideal S4x2x512 .f32) (x7 : FVec Ideal S4x2x64x512 .f32) (x10 : FVec Ideal S4x512 .f32) (b : Fin 8) (s : Fin 2048) (k : Fin 512) :
    val_main_v133 (F := Ideal) x0 x3 x6 x7 x10 (ix3 b s k) = kdRow (mix x0 x3 b s ⟨512 + k.val, by omega⟩) (icRow (mix x0 x3 b s) 0 (x6 (ix3 3 0 k)) (fun x => x7 (ix4 3 0 x k))) (x10 (ix2 3 k)) := by
  pointwise [val_main_v15, val_main_cst_13, val_main_v124, val_main_v125, val_main_v126, val_main_v127, val_main_v128, val_main_v129, val_main_v130, val_main_cst_14, val_main_v131, val_main_v132, val_main_v133]
  simp only [ref_mix, ref_ic0]
  try rfl

/-- The key that the second direction writes. -/
theorem ref_kd1 (x0 : FVec Ideal S8x2048x1920 .f32) (x3 : FVec Ideal S4x1920 .f32) (x6 : FVec Ideal S4x2x512 .f32) (x7 : FVec Ideal S4x2x64x512 .f32) (x10 : FVec Ideal S4x512 .f32) (b : Fin 8) (s : Fin 2048) (k : Fin 512) :
    val_main_v143 (F := Ideal) x0 x3 x6 x7 x10 (ix3 b s k) = kdRow (mix x0 x3 b s ⟨512 + k.val, by omega⟩) (icRow (mix x0 x3 b s) 1 (x6 (ix3 3 1 k)) (fun x => x7 (ix4 3 1 x k))) (x10 (ix2 3 k)) := by
  pointwise [val_main_v15, val_main_cst_15, val_main_v134, val_main_v135, val_main_v136, val_main_v137, val_main_v138, val_main_v139, val_main_v140, val_main_cst_16, val_main_v141, val_main_v142, val_main_v143]
  simp only [ref_mix, ref_ic1]
  try rfl

/-- The receptance result. -/
theorem ref_r (x0 : FVec Ideal S8x2048x1920 .f32) (x3 : FVec Ideal S4x1920 .f32) (b : Fin 8) (s : Fin 2048) (k : Fin 512) :
    val_main_v160 (F := Ideal) x0 x3 (ix3 b s k) = mix x0 x3 b s ⟨k.val, by omega⟩ := by
  pointwise [val_main_v14, val_main_v160]
  simp only [ref_mix]
  try rfl

/-- The value result. -/
theorem ref_vo (x0 : FVec Ideal S8x2048x1920 .f32) (x1 : FVec Ideal S16384x128 .f32) (x2 : FVec Ideal S8x2048x512 .f32) (x3 : FVec Ideal S4x1920 .f32) (x12 : FVec Ideal S3x512 .f32) (x13 : FVec Ideal S3x32x512 .f32) (b : Fin 8) (s : Fin 2048) (k : Fin 512) :
    val_main_v161 (F := Ideal) x0 x1 x2 x3 x12 x13 (ix3 b s k) = vRow (mix x0 x3 b s ⟨1024 + k.val, by omega⟩) (x2 (ix3 b s k)) (x12 (ix2 2 k)) (fun x => x1 (ix2 ⟨b.val * 2048 + s.val, by omega⟩ ⟨x.val, by omega⟩)) (fun x => x13 (ix3 2 x k)) := by
  pointwise [val_main_v161]
  exact ref_v x0 x1 x2 x3 x12 x13 b s k

/-- The normalised key result. -/
theorem ref_kno (x0 : FVec Ideal S8x2048x1920 .f32) (x3 : FVec Ideal S4x1920 .f32) (x9 : FVec Ideal S4x512 .f32) (b : Fin 8) (s : Fin 2048) (k : Fin 512) :
    val_main_v162 (F := Ideal) x0 x3 x9 (ix3 b s k) = knRow (fun j : Fin 512 => mix x0 x3 b s ⟨512 + j.val, by omega⟩ * x9 (ix2 3 j)) k := by
  pointwise [val_main_v162]
  exact ref_kn x0 x3 x9 b s k

/-- The bonus result. -/
theorem ref_bonus (x0 : FVec Ideal S8x2048x1920 .f32) (x1 : FVec Ideal S16384x128 .f32) (x2 : FVec Ideal S8x2048x512 .f32) (x3 : FVec Ideal S4x1920 .f32) (x6 : FVec Ideal S4x2x512 .f32) (x7 : FVec Ideal S4x2x64x512 .f32) (x10 : FVec Ideal S4x512 .f32) (x11 : FVec Ideal S4x8x64 .f32) (x12 : FVec Ideal S3x512 .f32) (x13 : FVec Ideal S3x32x512 .f32) (b : Fin 8) (s : Fin 2048) (k : Fin 512) :
    val_main_v178 (F := Ideal) x0 x1 x2 x3 x6 x7 x10 x11 x12 x13 (ix3 b s k) = headSum (fun j => bonusRow (mix x0 x3 b s ⟨j.val, by omega⟩) (kdRow (mix x0 x3 b s ⟨512 + j.val, by omega⟩) (icRow (mix x0 x3 b s) 0 (x6 (ix3 3 0 j)) (fun x => x7 (ix4 3 0 x j))) (x10 (ix2 3 j))) (kdRow (mix x0 x3 b s ⟨512 + j.val, by omega⟩) (icRow (mix x0 x3 b s) 1 (x6 (ix3 3 1 j)) (fun x => x7 (ix4 3 1 x j))) (x10 (ix2 3 j))) (x11 (ix3 3 ⟨j.val / 64, by omega⟩ ⟨j.val % 64, by omega⟩))) k * (vRow (mix x0 x3 b s ⟨1024 + k.val, by omega⟩) (x2 (ix3 b s k)) (x12 (ix2 2 k)) (fun x => x1 (ix2 ⟨b.val * 2048 + s.val, by omega⟩ ⟨x.val, by omega⟩)) (fun x => x13 (ix3 2 x k))) := by
  pointwise [val_main_v14, val_main_v144, val_main_cst_17, val_main_v145, val_main_v146, val_main_v147, val_main_v148, val_main_v149, val_main_v150, val_main_v151, val_main_v152, val_main_v153, val_main_v154, val_main_cst_18, val_main_v155, val_main_v156, val_main_v157, val_main_v158, val_main_v159, val_main_v177, val_main_v178]
  simp only [ref_mix, ref_kd0, ref_kd1, ref_v]
  refine congrArg (· * _) (Finset.sum_congr rfl fun n _ => ?_)
  have e1 : (k.val / 64 * 64 + n.val) / 64 = k.val / 64 := by omega
  have e2 : (k.val / 64 * 64 + n.val) % 64 = n.val := by omega
  simp only [bonusRow, e1, e2]

/-- The log decay result of a direction. -/
theorem ref_lwo0 (x0 : FVec Ideal S8x2048x1920 .f32) (x3 : FVec Ideal S4x1920 .f32) (x4 : FVec Ideal S4x2x512 .f32) (x5 : FVec Ideal S4x2x64x512 .f32) (b : Fin 8) (s : Fin 2048) (k : Fin 512) :
    val_main_v165 (F := Ideal) x0 x3 x4 x5 (ix4 b 0 s k) = lwRow (mix x0 x3 b s) 0 (x4 (ix3 3 0 k)) (fun x => x5 (ix4 3 0 x k)) := by
  pointwise [val_main_v163, val_main_v164, val_main_v165]
  simp only [ref_mix, ref_lw0]
  try rfl

/-- The written key result of a direction. -/
theorem ref_kdo0 (x0 : FVec Ideal S8x2048x1920 .f32) (x3 : FVec Ideal S4x1920 .f32) (x6 : FVec Ideal S4x2x512 .f32) (x7 : FVec Ideal S4x2x64x512 .f32) (x10 : FVec Ideal S4x512 .f32) (b : Fin 8) (s : Fin 2048) (k : Fin 512) :
    val_main_v169 (F := Ideal) x0 x3 x6 x7 x10 (ix4 b 0 s k) = kdRow (mix x0 x3 b s ⟨512 + k.val, by omega⟩) (icRow (mix x0 x3 b s) 0 (x6 (ix3 3 0 k)) (fun x => x7 (ix4 3 0 x k))) (x10 (ix2 3 k)) := by
  pointwise [val_main_v166, val_main_v167, val_main_v168, val_main_v169]
  simp only [ref_mix, ref_kd0]
  try rfl

/-- The key times the learning rate, of a direction. -/
theorem ref_ico0 (x0 : FVec Ideal S8x2048x1920 .f32) (x3 : FVec Ideal S4x1920 .f32) (x6 : FVec Ideal S4x2x512 .f32) (x7 : FVec Ideal S4x2x64x512 .f32) (x9 : FVec Ideal S4x512 .f32) (b : Fin 8) (s : Fin 2048) (k : Fin 512) :
    val_main_v175 (F := Ideal) x0 x3 x6 x7 x9 (ix4 b 0 s k) = knRow (fun j : Fin 512 => mix x0 x3 b s ⟨512 + j.val, by omega⟩ * x9 (ix2 3 j)) k * icRow (mix x0 x3 b s) 0 (x6 (ix3 3 0 k)) (fun x => x7 (ix4 3 0 x k)) := by
  pointwise [val_main_v170, val_main_v171, val_main_v172, val_main_v173, val_main_v174, val_main_v175]
  simp only [ref_mix, ref_kn, ref_ic0]
  try rfl

/-- The log decay result of a direction. -/
theorem ref_lwo1 (x0 : FVec Ideal S8x2048x1920 .f32) (x3 : FVec Ideal S4x1920 .f32) (x4 : FVec Ideal S4x2x512 .f32) (x5 : FVec Ideal S4x2x64x512 .f32) (b : Fin 8) (s : Fin 2048) (k : Fin 512) :
    val_main_v165 (F := Ideal) x0 x3 x4 x5 (ix4 b 1 s k) = lwRow (mix x0 x3 b s) 1 (x4 (ix3 3 1 k)) (fun x => x5 (ix4 3 1 x k)) := by
  pointwise [val_main_v163, val_main_v164, val_main_v165]
  simp only [ref_mix, ref_lw1]
  try rfl

/-- The written key result of a direction. -/
theorem ref_kdo1 (x0 : FVec Ideal S8x2048x1920 .f32) (x3 : FVec Ideal S4x1920 .f32) (x6 : FVec Ideal S4x2x512 .f32) (x7 : FVec Ideal S4x2x64x512 .f32) (x10 : FVec Ideal S4x512 .f32) (b : Fin 8) (s : Fin 2048) (k : Fin 512) :
    val_main_v169 (F := Ideal) x0 x3 x6 x7 x10 (ix4 b 1 s k) = kdRow (mix x0 x3 b s ⟨512 + k.val, by omega⟩) (icRow (mix x0 x3 b s) 1 (x6 (ix3 3 1 k)) (fun x => x7 (ix4 3 1 x k))) (x10 (ix2 3 k)) := by
  pointwise [val_main_v166, val_main_v167, val_main_v168, val_main_v169]
  simp only [ref_mix, ref_kd1]
  try rfl

/-- The key times the learning rate, of a direction. -/
theorem ref_ico1 (x0 : FVec Ideal S8x2048x1920 .f32) (x3 : FVec Ideal S4x1920 .f32) (x6 : FVec Ideal S4x2x512 .f32) (x7 : FVec Ideal S4x2x64x512 .f32) (x9 : FVec Ideal S4x512 .f32) (b : Fin 8) (s : Fin 2048) (k : Fin 512) :
    val_main_v175 (F := Ideal) x0 x3 x6 x7 x9 (ix4 b 1 s k) = knRow (fun j : Fin 512 => mix x0 x3 b s ⟨512 + j.val, by omega⟩ * x9 (ix2 3 j)) k * icRow (mix x0 x3 b s) 1 (x6 (ix3 3 1 k)) (fun x => x7 (ix4 3 1 x k)) := by
  pointwise [val_main_v170, val_main_v171, val_main_v172, val_main_v173, val_main_v174, val_main_v175]
  simp only [ref_mix, ref_kn, ref_ic1]
  try rfl

end Cert.Rw
end
-- ==== Proof.Rw.Blocks.lean ====
module

public import proofs.«01_k».proof.Proof.Rw.Out
public import proofs.«01_k».proof.Proof.Rw.Host
public import proofs.«01_k».proof.Proof.Rw.Ref

@[expose] public section

set_option maxRecDepth 16384

noncomputable section

open Idealize.ShloMosaic Idealize.ShloMosaic.TcCoe Idealize.SL.Sem

namespace Cert.Rw

open Cert.Kernel6Ideal Cert.Kernel6Ideal.Gen

/-- A block's learning rates are the reference's. -/
theorem bic_eq (M : Fin 1920 → EReal) (x8 : Vec Ideal S1x128x1024 .bf16) (x9 : Vec Ideal S1x1x1024 .f32) (a0 : FVec Ideal S4x2x512 .f32) (au : FVec Ideal S4x2x64x512 .f32)
    (h8 : ∀ (y : Fin 128) (n : Fin 1024), x8 (ix3 0 y n) = diag au (ix3 3 y n))
    (h9 : ∀ (n : Fin 1024) (d : Fin 2) (k : Fin 512), n.val = 512 * d.val + k.val → x9 (ix3 0 0 n) = a0 (ix3 3 d k))
    (n : Fin 1024) (d : Fin 2) (k : Fin 512) (hn : n.val = 512 * d.val + k.val) :
    bic M x8 x9 n = icRow M d (a0 (ix3 3 d k)) (fun x => au (ix4 3 d x k)) := by
  rw [bic, icRow, gate, h9 n d k hn]
  refine congrArg (fun z => sig (_ + z)) ?_
  rw [← pick (fun y => M ⟨1664 + y.val, by omega⟩) d (fun x => au (ix4 3 d x k))]
  refine Finset.sum_congr rfl fun y _ => ?_
  rw [h8, diag_apply au y n d k hn]

/-- A block's log decays are the reference's. -/
theorem blw_eq (M : Fin 1920 → EReal) (x6 : Vec Ideal S1x128x1024 .bf16) (x7 : Vec Ideal S1x1x1024 .f32) (w0 : FVec Ideal S4x2x512 .f32) (wu : FVec Ideal S4x2x64x512 .f32)
    (h6 : ∀ (y : Fin 128) (n : Fin 1024), x6 (ix3 0 y n) = diag wu (ix3 3 y n))
    (h7 : ∀ (n : Fin 1024) (d : Fin 2) (k : Fin 512), n.val = 512 * d.val + k.val → x7 (ix3 0 0 n) = w0 (ix3 3 d k))
    (n : Fin 1024) (d : Fin 2) (k : Fin 512) (hn : n.val = 512 * d.val + k.val) :
    blw M x6 x7 n = lwRow M d (w0 (ix3 3 d k)) (fun x => wu (ix4 3 d x k)) := by
  rw [blw, lwRow, gate, h7 n d k hn]
  refine congrArg (fun z => _ * sig (_ + z)) ?_
  rw [← pick (fun y => Ideal.tanh (M ⟨1536 + y.val, by omega⟩)) d (fun x => wu (ix4 3 d x k))]
  refine Finset.sum_congr rfl fun y _ => ?_
  rw [h6, diag_apply wu y n d k hn]

/-- A block's values are the reference's. -/
theorem bv_eq (M : Fin 1920 → EReal) (x3 : Vec Ideal S512x128 .f32) (x4 : Vec Ideal S1x512x512 .bf16) (x15 : Vec Ideal S1x1x512 .f32) (x16 : Vec Ideal S1x128x512 .bf16)
    (vd : Fin 128 → EReal) (vf v0 : EReal) (vu : FVec Ideal S3x32x512 .f32) (r k : Fin 512)
    (h3 : ∀ y, x3 (ix2 r y) = vd y) (h4 : x4 (ix3 0 r k) = vf) (h15 : x15 (ix3 0 0 k) = v0) (h16 : ∀ (y : Fin 128), x16 (ix3 0 y k) = padUp vu (ix3 2 y k)) :
    bv M x3 x4 x15 x16 r k = vRow (M ⟨1024 + k.val, by omega⟩) vf v0 (fun x => vd ⟨x.val, by omega⟩) (fun x => vu (ix3 2 x k)) := by
  rw [bv, vRow, h4, h15]
  have e : ∑ y : Fin 128, x3 (ix2 r y) * x16 (ix3 0 y k) = ∑ x : Fin 32, vd ⟨x.val, by omega⟩ * vu (ix3 2 x k) := by
    refine Eq.trans (Finset.sum_congr rfl fun y _ => ?_) (padded vd (fun x => vu (ix3 2 x k)))
    rw [h3, h16, padUp_apply]
  rw [e]

variable (m : (ℓ : Loc nD τ Cert.Kernel6Ideal.sig) → Buf (Elt Ideal) ℓ)

/-- Which block every window holds at every grid point, and the point's place along the sequence. -/
theorem idx : ∀ t : Fin cfg0.N, win0_0.index t = ![t.val / 4, t.val % 4, 0]
    ∧ win0_1.index t = ![t.val / 4, 64 * (t.val % 4) - 1, 0]
    ∧ win0_2.index t = ![t.val / 4, min (64 * (t.val % 4 + 1)) 255, 0]
    ∧ win0_3.index t = ![t.val, 0]
    ∧ win0_4.index t = ![t.val / 4, t.val % 4, 0]
    ∧ win0_5.index t = ![3, 0, 0]
    ∧ win0_6.index t = ![3, 0, 0]
    ∧ win0_7.index t = ![3, 0, 0]
    ∧ win0_8.index t = ![3, 0, 0]
    ∧ win0_9.index t = ![3, 0, 0]
    ∧ win0_10.index t = ![3, 0, 0]
    ∧ win0_11.index t = ![3, 0, 0]
    ∧ win0_12.index t = ![3, 0, 0]
    ∧ win0_13.index t = ![3, 0, 0]
    ∧ win0_14.index t = ![0, 0]
    ∧ win0_15.index t = ![2, 0, 0]
    ∧ win0_16.index t = ![2, 0, 0]
    ∧ win0_17.index t = ![t.val / 4, t.val % 4, 0]
    ∧ win0_18.index t = ![t.val / 4, t.val % 4, 0]
    ∧ win0_19.index t = ![t.val / 4, t.val % 4, 0]
    ∧ win0_20.index t = ![t.val / 4, 0, t.val % 4, 0]
    ∧ win0_21.index t = ![t.val / 4, 0, t.val % 4, 0]
    ∧ win0_22.index t = ![t.val / 4, 0, t.val % 4, 0]
    ∧ win0_23.index t = ![t.val / 4, t.val % 4, 0]
    ∧ win0_24.index t = ![t.val / 4, t.val % 4, 0]
    ∧ (grid0.coords t 1).val = t.val % 4 :=
  (by decide +kernel : ∀ t : Fin grid0.N, _)

/-- The batch entry of a point. -/
def bat (t : Fin cfg0.N) : Fin 8 := ⟨t.val / 4, by have : t.val < 32 := t.isLt; omega⟩

/-- A point's place along the sequence, as its body reads it. -/
theorem place (t : Fin cfg0.N) : (grid0.coords t 1).val = t.val % 4 := (idx t).2.2.2.2.2.2.2.2.2.2.2.2.2.2.2.2.2.2.2.2.2.2.2.2.2

/-- A vector with a unit axis between, read back. -/
theorem flat1920 (x : FVec Ideal S4x1920 .f32) (k : Fin 1920) : shapeCast S4x1x1920 x shapeCasts_S4x1920_S4x1x1920 (ix3 3 0 k) = x (ix2 3 k) := by
  pointwise

/-- A vector with a unit axis between, read back. -/
theorem flat512 (x : FVec Ideal S4x512 .f32) (k : Fin 512) : shapeCast S4x1x512 x shapeCasts_S4x512_S4x1x512 (ix3 3 0 k) = x (ix2 3 k) := by
  pointwise

/-- A vector with a unit axis between, read back. -/
theorem flat3 (x : FVec Ideal S3x512 .f32) (k : Fin 512) : shapeCast S3x1x512 x shapeCasts_S3x512_S3x1x512 (ix3 2 0 k) = x (ix2 2 k) := by
  pointwise

/-- Both directions side by side, read back. -/
theorem flat2 (x : FVec Ideal S4x2x512 .f32) (n : Fin 1024) (d : Fin 2) (k : Fin 512) (hn : n.val = 512 * d.val + k.val) : shapeCast S4x1x1024 x shapeCasts_S4x2x512_S4x1x1024 (ix3 3 0 n) = x (ix3 3 d k) := by
  pointwise
  refine congrArg₂ (fun a b => x (ix3 3 a b)) (Fin.ext (by dsimp only; omega)) (Fin.ext (by dsimp only; omega))

/-- The heads side by side, read back. -/
theorem flat8 (x : FVec Ideal S4x8x64 .f32) (k : Fin 512) : shapeCast S4x1x512 x shapeCasts_S4x8x64_S4x1x512 (ix3 3 0 k) = x (ix3 3 ⟨k.val / 64, by omega⟩ ⟨k.val % 64, by omega⟩) := by
  pointwise

/-- A point's own rows, read back. -/
theorem blk0 (c : Dev nD) (t : Fin cfg0.N) (r : Fin 512) (e : Fin 1920) :
    (iblk m c 0 t : Vec Ideal S1x512x1920 .f32) (ix3 0 r e) = (m ((c : Thread nD τ).loc main_arg0) : FVec Ideal S8x2048x1920 .f32) (ix3 (bat t) ⟨(512 * (t.val % 4) + r.val) % 2048, by omega⟩ e) := by
  have e : (iblk m c 0 t : Vec Ideal S1x512x1920 .f32) (ix3 0 r e) = (V m c main_arg0 : FVec Ideal S8x2048x1920 .f32) (ix3 (bat t) ⟨(512 * (t.val % 4) + r.val) % 2048, by omega⟩ e) := by
    unfold bat
    have hN : t.val < 32 := t.isLt
    blk_point [iblk, idx t]
  exact e.trans (congrFun (V_main_arg0 m c) _)

/-- The rows before a point's, read back. -/
theorem blk1 (c : Dev nD) (t : Fin cfg0.N) (h : 0 < t.val % 4) (r : Fin 8) (e : Fin 1920) :
    (iblk m c 1 t : Vec Ideal S1x8x1920 .f32) (ix3 0 r e) = (m ((c : Thread nD τ).loc main_arg0) : FVec Ideal S8x2048x1920 .f32) (ix3 (bat t) ⟨(512 * (t.val % 4) - 8 + r.val) % 2048, by omega⟩ e) := by
  have e : (iblk m c 1 t : Vec Ideal S1x8x1920 .f32) (ix3 0 r e) = (V m c main_arg0 : FVec Ideal S8x2048x1920 .f32) (ix3 (bat t) ⟨(512 * (t.val % 4) - 8 + r.val) % 2048, by omega⟩ e) := by
    unfold bat
    have hN : t.val < 32 := t.isLt
    blk_point [iblk, idx t]
  exact e.trans (congrFun (V_main_arg0 m c) _)

/-- The rows after a point's, read back. -/
theorem blk2 (c : Dev nD) (t : Fin cfg0.N) (h : t.val % 4 < 3) (r : Fin 8) (e : Fin 1920) :
    (iblk m c 2 t : Vec Ideal S1x8x1920 .f32) (ix3 0 r e) = (m ((c : Thread nD τ).loc main_arg0) : FVec Ideal S8x2048x1920 .f32) (ix3 (bat t) ⟨(512 * (t.val % 4) + 512 + r.val) % 2048, by omega⟩ e) := by
  have e : (iblk m c 2 t : Vec Ideal S1x8x1920 .f32) (ix3 0 r e) = (V m c main_arg0 : FVec Ideal S8x2048x1920 .f32) (ix3 (bat t) ⟨(512 * (t.val % 4) + 512 + r.val) % 2048, by omega⟩ e) := by
    unfold bat
    have hN : t.val < 32 := t.isLt
    blk_point [iblk, idx t]
  exact e.trans (congrFun (V_main_arg0 m c) _)

/-- The low-rank values' rows, read back. -/
theorem blk3 (c : Dev nD) (t : Fin cfg0.N) (r : Fin 512) (y : Fin 128) :
    (iblk m c 3 t : Vec Ideal S512x128 .f32) (ix2 r y) = (m ((c : Thread nD τ).loc main_arg1) : FVec Ideal S16384x128 .f32) (ix2 ⟨(bat t).val * 2048 + (512 * (t.val % 4) + r.val), by have := (bat t).isLt; omega⟩ y) := by
  have e : (iblk m c 3 t : Vec Ideal S512x128 .f32) (ix2 r y) = (V m c main_arg1 : FVec Ideal S16384x128 .f32) (ix2 ⟨(bat t).val * 2048 + (512 * (t.val % 4) + r.val), by have := (bat t).isLt; omega⟩ y) := by
    unfold bat
    have hN : t.val < 32 := t.isLt
    blk_point [iblk, idx t]
  exact e.trans (congrFun (V_main_arg1 m c) _)

/-- The first layer's values, read back. -/
theorem blk4 (c : Dev nD) (t : Fin cfg0.N) (r k : Fin 512) :
    (iblk m c 4 t : Vec Ideal S1x512x512 .bf16) (ix3 0 r k) = (m ((c : Thread nD τ).loc main_arg2) : FVec Ideal S8x2048x512 .f32) (ix3 (bat t) ⟨512 * (t.val % 4) + r.val, by omega⟩ k) := by
  have e : (iblk m c 4 t : Vec Ideal S1x512x512 .bf16) (ix3 0 r k) = (V m c main_v40 : FVec Ideal S8x2048x512 .bf16) (ix3 (bat t) ⟨512 * (t.val % 4) + r.val, by omega⟩ k) := by
    unfold bat
    have hN : t.val < 32 := t.isLt
    blk_point [iblk, idx t]
  exact e.trans (congrFun (V_v40 m c) _)

/-- The mixing weights, read back. -/
theorem blk5 (c : Dev nD) (t : Fin cfg0.N) (k : Fin 1920) :
    (iblk m c 5 t : Vec Ideal S1x1x1920 .f32) (ix3 0 0 k) = (m ((c : Thread nD τ).loc main_arg3) : FVec Ideal S4x1920 .f32) (ix2 3 k) := by
  have e : (iblk m c 5 t : Vec Ideal S1x1x1920 .f32) (ix3 0 0 k) = (V m c main_v0 : FVec Ideal S4x1x1920 .f32) (ix3 3 0 k) := by
    have hN : t.val < 32 := t.isLt
    blk_point [iblk, idx t]
  exact e.trans ((congrFun (V_v0 m c) _).trans (flat1920 _ k))

/-- The decay's low-rank weights, read back. -/
theorem blk6 (c : Dev nD) (t : Fin cfg0.N) (y : Fin 128) (k : Fin 1024) :
    (iblk m c 6 t : Vec Ideal S1x128x1024 .bf16) (ix3 0 y k) = diag (m ((c : Thread nD τ).loc main_arg5) : FVec Ideal S4x2x64x512 .f32) (ix3 3 y k) := by
  have e : (iblk m c 6 t : Vec Ideal S1x128x1024 .bf16) (ix3 0 y k) = (V m c main_v11 : FVec Ideal S4x128x1024 .bf16) (ix3 3 y k) := by
    have hN : t.val < 32 := t.isLt
    blk_point [iblk, idx t]
  exact e.trans (congrFun (V_v11 m c) _)

/-- The decay's bias, read back. -/
theorem blk7 (c : Dev nD) (t : Fin cfg0.N) (n : Fin 1024) (d : Fin 2) (k : Fin 512) (hn : n.val = 512 * d.val + k.val) :
    (iblk m c 7 t : Vec Ideal S1x1x1024 .f32) (ix3 0 0 n) = (m ((c : Thread nD τ).loc main_arg4) : FVec Ideal S4x2x512 .f32) (ix3 3 d k) := by
  have e : (iblk m c 7 t : Vec Ideal S1x1x1024 .f32) (ix3 0 0 n) = (V m c main_v12 : FVec Ideal S4x1x1024 .f32) (ix3 3 0 n) := by
    blk_point [iblk, idx t]
  exact e.trans ((congrFun (V_v12 m c) _).trans (flat2 _ n d k hn))

/-- The learning rate's low-rank weights, read back. -/
theorem blk8 (c : Dev nD) (t : Fin cfg0.N) (y : Fin 128) (k : Fin 1024) :
    (iblk m c 8 t : Vec Ideal S1x128x1024 .bf16) (ix3 0 y k) = diag (m ((c : Thread nD τ).loc main_arg7) : FVec Ideal S4x2x64x512 .f32) (ix3 3 y k) := by
  have e : (iblk m c 8 t : Vec Ideal S1x128x1024 .bf16) (ix3 0 y k) = (V m c main_v23 : FVec Ideal S4x128x1024 .bf16) (ix3 3 y k) := by
    have hN : t.val < 32 := t.isLt
    blk_point [iblk, idx t]
  exact e.trans (congrFun (V_v23 m c) _)

/-- The learning rate's bias, read back. -/
theorem blk9 (c : Dev nD) (t : Fin cfg0.N) (n : Fin 1024) (d : Fin 2) (k : Fin 512) (hn : n.val = 512 * d.val + k.val) :
    (iblk m c 9 t : Vec Ideal S1x1x1024 .f32) (ix3 0 0 n) = (m ((c : Thread nD τ).loc main_arg6) : FVec Ideal S4x2x512 .f32) (ix3 3 d k) := by
  have e : (iblk m c 9 t : Vec Ideal S1x1x1024 .f32) (ix3 0 0 n) = (V m c main_v24 : FVec Ideal S4x1x1024 .f32) (ix3 3 0 n) := by
    blk_point [iblk, idx t]
  exact e.trans ((congrFun (V_v24 m c) _).trans (flat2 _ n d k hn))

/-- The output gate's weights, read back. -/
theorem blk10 (c : Dev nD) (t : Fin cfg0.N) (y : Fin 128) (k : Fin 512) :
    (iblk m c 10 t : Vec Ideal S1x128x512 .bf16) (ix3 0 y k) = (m ((c : Thread nD τ).loc main_arg8) : FVec Ideal S4x128x512 .f32) (ix3 3 y k) := by
  have e : (iblk m c 10 t : Vec Ideal S1x128x512 .bf16) (ix3 0 y k) = (V m c main_v25 : FVec Ideal S4x128x512 .bf16) (ix3 3 y k) := by
    have hN : t.val < 32 := t.isLt
    blk_point [iblk, idx t]
  exact e.trans (congrFun (V_v25 m c) _)

/-- The head keys' scale, read back. -/
theorem blk11 (c : Dev nD) (t : Fin cfg0.N) (k : Fin 512) :
    (iblk m c 11 t : Vec Ideal S1x1x512 .f32) (ix3 0 0 k) = (m ((c : Thread nD τ).loc main_arg9) : FVec Ideal S4x512 .f32) (ix2 3 k) := by
  have e : (iblk m c 11 t : Vec Ideal S1x1x512 .f32) (ix3 0 0 k) = (V m c main_v26 : FVec Ideal S4x1x512 .f32) (ix3 3 0 k) := by
    have hN : t.val < 32 := t.isLt
    blk_point [iblk, idx t]
  exact e.trans ((congrFun (V_v26 m c) _).trans (flat512 _ k))

/-- The written keys' scale, read back. -/
theorem blk12 (c : Dev nD) (t : Fin cfg0.N) (k : Fin 512) :
    (iblk m c 12 t : Vec Ideal S1x1x512 .f32) (ix3 0 0 k) = (m ((c : Thread nD τ).loc main_arg10) : FVec Ideal S4x512 .f32) (ix2 3 k) := by
  have e : (iblk m c 12 t : Vec Ideal S1x1x512 .f32) (ix3 0 0 k) = (V m c main_v27 : FVec Ideal S4x1x512 .f32) (ix3 3 0 k) := by
    have hN : t.val < 32 := t.isLt
    blk_point [iblk, idx t]
  exact e.trans ((congrFun (V_v27 m c) _).trans (flat512 _ k))

/-- The bonus's scale, read back. -/
theorem blk13 (c : Dev nD) (t : Fin cfg0.N) (k : Fin 512) :
    (iblk m c 13 t : Vec Ideal S1x1x512 .f32) (ix3 0 0 k) = (m ((c : Thread nD τ).loc main_arg11) : FVec Ideal S4x8x64 .f32) (ix3 3 ⟨k.val / 64, by omega⟩ ⟨k.val % 64, by omega⟩) := by
  have e : (iblk m c 13 t : Vec Ideal S1x1x512 .f32) (ix3 0 0 k) = (V m c main_v28 : FVec Ideal S4x1x512 .f32) (ix3 3 0 k) := by
    have hN : t.val < 32 := t.isLt
    blk_point [iblk, idx t]
  exact e.trans ((congrFun (V_v28 m c) _).trans (flat8 _ k))

/-- The indicator of a shared head, read back. -/
theorem blk14 (c : Dev nD) (t : Fin cfg0.N) (j k : Fin 512) :
    (iblk m c 14 t : Vec Ideal S512x512 .bf16) (ix2 j k) = if j.val / 64 = k.val / 64 then (1 : EReal) else 0 := by
  have e : (iblk m c 14 t : Vec Ideal S512x512 .bf16) (ix2 j k) = (V m c main_v39 : FVec Ideal S512x512 .bf16) (ix2 j k) := by
    blk_point [iblk, idx t]
  exact e.trans ((congrFun (V_v39 m c) _).trans (Cert.Merge.ones_apply j k))

/-- The values' bias, read back. -/
theorem blk15 (c : Dev nD) (t : Fin cfg0.N) (k : Fin 512) :
    (iblk m c 15 t : Vec Ideal S1x1x512 .f32) (ix3 0 0 k) = (m ((c : Thread nD τ).loc main_arg12) : FVec Ideal S3x512 .f32) (ix2 2 k) := by
  have e : (iblk m c 15 t : Vec Ideal S1x1x512 .f32) (ix3 0 0 k) = (V m c main_v29 : FVec Ideal S3x1x512 .f32) (ix3 2 0 k) := by
    have hN : t.val < 32 := t.isLt
    blk_point [iblk, idx t]
  exact e.trans ((congrFun (V_v29 m c) _).trans (flat3 _ k))

/-- The values' low-rank weights, read back. -/
theorem blk16 (c : Dev nD) (t : Fin cfg0.N) (y : Fin 128) (k : Fin 512) :
    (iblk m c 16 t : Vec Ideal S1x128x512 .bf16) (ix3 0 y k) = padUp (m ((c : Thread nD τ).loc main_arg13) : FVec Ideal S3x32x512 .f32) (ix3 2 y k) := by
  have e : (iblk m c 16 t : Vec Ideal S1x128x512 .bf16) (ix3 0 y k) = (V m c main_v31 : FVec Ideal S3x128x512 .bf16) (ix3 2 y k) := by
    have hN : t.val < 32 := t.isLt
    blk_point [iblk, idx t]
  exact e.trans (congrFun (V_v31 m c) _)

/-- The last of the eight rows before a block. -/
theorem ld_r0_1 (x : Vec Ideal S1x8x1920 .f32) (j : Fin 1920) : View.ld x r0_1 (ix3 0 0 j) = x (ix3 0 7 j) := by
  pointwise

/-- The first of the eight rows after a block. -/
theorem ld_r0_2 (x : Vec Ideal S1x8x1920 .f32) (j : Fin 1920) : View.ld x r0_2 (ix3 0 0 j) = x (ix3 0 0 j) := by
  pointwise

/-- A block's mixed row is the reference's. -/
theorem bmix_eq (c : Dev nD) (t : Fin cfg0.N) (r : Fin 512) :
    bmix (grid0.coords t) (iblk m c 0 t) (iblk m c 1 t) (iblk m c 2 t) (iblk m c 5 t) r
    = mix (m ((c : Thread nD τ).loc main_arg0) : FVec Ideal S8x2048x1920 .f32) (m ((c : Thread nD τ).loc main_arg3) : FVec Ideal S4x1920 .f32) (bat t) ⟨512 * (t.val % 4) + r.val, by omega⟩ := by
  funext j
  have hr := r.isLt
  rw [bmix, pay8_apply _ (t.val % 4) (by omega) (place t), blk0, blk5, mix]
  have e0 : (⟨(512 * (t.val % 4) + r.val) % 2048, by omega⟩ : Fin 2048) = ⟨512 * (t.val % 4) + r.val, by omega⟩ := Fin.ext (by dsimp only; omega)
  have ep : bprev (t.val % 4) (iblk m c 0 t) (View.ld (iblk m c 1 t : Vec Ideal S1x8x1920 .f32) r0_1) r j = prev (m ((c : Thread nD τ).loc main_arg0) : FVec Ideal S8x2048x1920 .f32) (bat t) ⟨512 * (t.val % 4) + r.val, by omega⟩ j := by
    rw [bprev, prev]
    by_cases h0 : r.val = 0
    · rw [if_pos h0]
      by_cases hq : 0 < t.val % 4
      · rw [if_pos hq, dif_pos (by dsimp only; omega), ld_r0_1, blk1 m c t hq]
        exact congrArg (fun s => (m ((c : Thread nD τ).loc main_arg0) : FVec Ideal S8x2048x1920 .f32) (ix3 (bat t) s j)) (Fin.ext (by change (512 * (t.val % 4) - 8 + 7) % 2048 = 512 * (t.val % 4) + r.val - 1; omega))
      · rw [if_neg hq, dif_neg (by dsimp only; omega)]
    · rw [if_neg h0, dif_pos (by dsimp only; omega), blk0]
      exact congrArg (fun s => (m ((c : Thread nD τ).loc main_arg0) : FVec Ideal S8x2048x1920 .f32) (ix3 (bat t) s j)) (Fin.ext (by dsimp only; omega))
  have en : bnext (t.val % 4) (iblk m c 0 t) (View.ld (iblk m c 2 t : Vec Ideal S1x8x1920 .f32) r0_2) r j = next (m ((c : Thread nD τ).loc main_arg0) : FVec Ideal S8x2048x1920 .f32) (bat t) ⟨512 * (t.val % 4) + r.val, by omega⟩ j := by
    rw [bnext, next]
    by_cases h0 : r.val = 511
    · rw [if_pos h0]
      by_cases hq : t.val % 4 < 3
      · rw [if_pos hq, dif_pos (by dsimp only; omega), ld_r0_2, blk2 m c t hq]
        exact congrArg (fun s => (m ((c : Thread nD τ).loc main_arg0) : FVec Ideal S8x2048x1920 .f32) (ix3 (bat t) s j)) (Fin.ext (by change (512 * (t.val % 4) + 512 + 0) % 2048 = 1 + (512 * (t.val % 4) + r.val); omega))
      · rw [if_neg hq, dif_neg (by dsimp only; omega)]
    · rw [if_neg h0, dif_pos (by dsimp only; omega), blk0]
      exact congrArg (fun s => (m ((c : Thread nD τ).loc main_arg0) : FVec Ideal S8x2048x1920 .f32) (ix3 (bat t) s j)) (Fin.ext (by dsimp only; omega))
  rw [e0]
  exact congrArg₂ (fun a b : EReal => _ + (_ * (a + b) - _) * _) ep en

end Cert.Rw
end
-- ==== Proof.Rw.Point.lean ====
module

public import proofs.«01_k».proof.Proof.Rw.Blocks

@[expose] public section

set_option maxRecDepth 16384
set_option maxHeartbeats 2000000

noncomputable section

open Idealize.ShloMosaic Idealize.ShloMosaic.TcCoe Idealize.SL.Sem

namespace Cert.Rw

open Cert.Kernel6Ideal Cert.Kernel6Ideal.Gen

variable (m : (ℓ : Loc nD τ Cert.Kernel6Ideal.sig) → Buf (Elt Ideal) ℓ)

/-- A mixed column is real where the sequence's column and its weight are. -/
theorem mix_real (x0 : FVec Ideal S8x2048x1920 .f32) (x3 : FVec Ideal S4x1920 .f32) (b : Fin 8) (s : Fin 2048) (j : Fin 1920)
    (h0 : ∀ s : Fin 2048, ∃ x : ℝ, x0 (ix3 b s j) = (x : EReal)) (h3 : ∃ x : ℝ, x3 (ix2 3 j) = (x : EReal)) : ∃ x : ℝ, mix x0 x3 b s j = (x : EReal) := by
  have hz : ∃ x : ℝ, (0 : EReal) = (x : EReal) := ⟨0, EReal.coe_zero.symm⟩
  have hp : ∃ x : ℝ, prev x0 b s j = (x : EReal) := by
    rw [prev]
    split_ifs
    · exact h0 _
    · exact hz
  have hn : ∃ x : ℝ, next x0 b s j = (x : EReal) := by
    rw [next]
    split_ifs
    · exact h0 _
    · exact hz
  exact real_add (h0 s) (real_mul (real_sub (real_mul half_real (real_add hp hn)) (h0 s)) h3)

/-- The numbers that the kernel splits before it sums a head's are real. -/
def Reals (c : Dev nD) : Prop :=
  ∀ (b : Fin 8) (s : Fin 2048) (k : Fin 512),
    (∃ x : ℝ, (m ((c : Thread nD τ).loc main_arg0) : FVec Ideal S8x2048x1920 .f32) (ix3 b s ⟨k.val, by omega⟩) = (x : EReal)) ∧ (∃ x : ℝ, (m ((c : Thread nD τ).loc main_arg0) : FVec Ideal S8x2048x1920 .f32) (ix3 b s ⟨512 + k.val, by omega⟩) = (x : EReal))
    ∧ (∃ x : ℝ, (m ((c : Thread nD τ).loc main_arg3) : FVec Ideal S4x1920 .f32) (ix2 3 ⟨k.val, by omega⟩) = (x : EReal)) ∧ (∃ x : ℝ, (m ((c : Thread nD τ).loc main_arg3) : FVec Ideal S4x1920 .f32) (ix2 3 ⟨512 + k.val, by omega⟩) = (x : EReal))
    ∧ (∃ x : ℝ, (m ((c : Thread nD τ).loc main_arg9) : FVec Ideal S4x512 .f32) (ix2 3 k) = (x : EReal)) ∧ (∃ x : ℝ, (m ((c : Thread nD τ).loc main_arg10) : FVec Ideal S4x512 .f32) (ix2 3 k) = (x : EReal))
    ∧ (∃ x : ℝ, (m ((c : Thread nD τ).loc main_arg11) : FVec Ideal S4x8x64 .f32) (ix3 3 ⟨k.val / 64, by omega⟩ ⟨k.val % 64, by omega⟩) = (x : EReal))

/-- A point's mixed row of the reference. -/
abbrev row (c : Dev nD) (t : Fin cfg0.N) (r : Fin 512) : Fin 1920 → EReal :=
  mix (m ((c : Thread nD τ).loc main_arg0) : FVec Ideal S8x2048x1920 .f32) (m ((c : Thread nD τ).loc main_arg3) : FVec Ideal S4x1920 .f32) (bat t) ⟨512 * (t.val % 4) + r.val, by omega⟩

variable {m} in
/-- The receptance columns are real. -/
theorem row_r {c : Dev nD} (hR : Reals m c) (t : Fin cfg0.N) (r k : Fin 512) : ∃ x : ℝ, row m c t r ⟨k.val, by omega⟩ = (x : EReal) :=
  mix_real _ _ _ _ _ (fun s => (hR (bat t) s k).1) (hR 0 0 k).2.2.1

variable {m} in
/-- The key columns are real. -/
theorem row_k {c : Dev nD} (hR : Reals m c) (t : Fin cfg0.N) (r k : Fin 512) : ∃ x : ℝ, row m c t r ⟨512 + k.val, by omega⟩ = (x : EReal) :=
  mix_real _ _ _ _ _ (fun s => (hR (bat t) s k).2.1) (hR 0 0 k).2.2.2.1

/-- A point's learning rates. -/
theorem ic_at (c : Dev nD) (t : Fin cfg0.N) (r : Fin 512) (n : Fin 1024) (d : Fin 2) (k : Fin 512) (hn : n.val = 512 * d.val + k.val) :
    bic (row m c t r) (iblk m c 8 t) (iblk m c 9 t) n = icRow (row m c t r) d ((m ((c : Thread nD τ).loc main_arg6) : FVec Ideal S4x2x512 .f32) (ix3 3 d k)) (fun x => (m ((c : Thread nD τ).loc main_arg7) : FVec Ideal S4x2x64x512 .f32) (ix4 3 d x k)) :=
  bic_eq _ _ _ _ _ (fun y n => blk8 m c t y n) (fun n d k h => blk9 m c t n d k h) n d k hn

/-- A point's log decays. -/
theorem lw_at (c : Dev nD) (t : Fin cfg0.N) (r : Fin 512) (n : Fin 1024) (d : Fin 2) (k : Fin 512) (hn : n.val = 512 * d.val + k.val) :
    blw (row m c t r) (iblk m c 6 t) (iblk m c 7 t) n = lwRow (row m c t r) d ((m ((c : Thread nD τ).loc main_arg4) : FVec Ideal S4x2x512 .f32) (ix3 3 d k)) (fun x => (m ((c : Thread nD τ).loc main_arg5) : FVec Ideal S4x2x64x512 .f32) (ix4 3 d x k)) :=
  blw_eq _ _ _ _ _ (fun y n => blk6 m c t y n) (fun n d k h => blk7 m c t n d k h) n d k hn

/-- A point's values. -/
theorem v_at (c : Dev nD) (t : Fin cfg0.N) (r k : Fin 512) :
    bv (row m c t r) (iblk m c 3 t) (iblk m c 4 t) (iblk m c 15 t) (iblk m c 16 t) r k
    = vRow (row m c t r ⟨1024 + k.val, by omega⟩) ((m ((c : Thread nD τ).loc main_arg2) : FVec Ideal S8x2048x512 .f32) (ix3 (bat t) ⟨512 * (t.val % 4) + r.val, by omega⟩ k)) ((m ((c : Thread nD τ).loc main_arg12) : FVec Ideal S3x512 .f32) (ix2 2 k))
      (fun x => (m ((c : Thread nD τ).loc main_arg1) : FVec Ideal S16384x128 .f32) (ix2 ⟨(bat t).val * 2048 + (512 * (t.val % 4) + r.val), by have := (bat t).isLt; omega⟩ ⟨x.val, by omega⟩)) (fun x => (m ((c : Thread nD τ).loc main_arg13) : FVec Ideal S3x32x512 .f32) (ix3 2 x k)) :=
  bv_eq _ _ _ _ _ (fun y => (m ((c : Thread nD τ).loc main_arg1) : FVec Ideal S16384x128 .f32) (ix2 ⟨(bat t).val * 2048 + (512 * (t.val % 4) + r.val), by have := (bat t).isLt; omega⟩ y)) _ _ _ r k
    (fun y => blk3 m c t r y) (blk4 m c t r k) (blk15 m c t k) (fun y => blk16 m c t y k)

/-- A point's head keys. -/
theorem bk_at (c : Dev nD) (t : Fin cfg0.N) (r : Fin 512) :
    bk (row m c t r) (iblk m c 11 t) = fun j : Fin 512 => row m c t r ⟨512 + j.val, by omega⟩ * (m ((c : Thread nD τ).loc main_arg9) : FVec Ideal S4x512 .f32) (ix2 3 j) := by
  funext j
  rw [bk, blk11]

variable {m} in
/-- A point's head keys are real. -/
theorem bk_real {c : Dev nD} (hR : Reals m c) (t : Fin cfg0.N) (r : Fin 512) (j : Fin 512) : ∃ x : ℝ, bk (row m c t r) (iblk m c 11 t) j = (x : EReal) := by
  rw [bk_at]
  exact real_mul (row_k hR t r j) (hR 0 0 j).2.2.2.2.1

variable {m} in
/-- The products under a point's bonus are real. -/
theorem bonus_at {c : Dev nD} (hR : Reals m c) (t : Fin cfg0.N) (r : Fin 512) (j : Fin 512) :
    ∃ x : ℝ, bonusRow (row m c t r ⟨j.val, by omega⟩) (kdRow (row m c t r ⟨512 + j.val, by omega⟩) (bic (row m c t r) (iblk m c 8 t) (iblk m c 9 t) ⟨j.val, by omega⟩) ((iblk m c 12 t : Vec Ideal S1x1x512 .f32) (ix3 0 0 j)))
      (kdRow (row m c t r ⟨512 + j.val, by omega⟩) (bic (row m c t r) (iblk m c 8 t) (iblk m c 9 t) ⟨512 + j.val, by omega⟩) ((iblk m c 12 t : Vec Ideal S1x1x512 .f32) (ix3 0 0 j))) ((iblk m c 13 t : Vec Ideal S1x1x512 .f32) (ix3 0 0 j)) = (x : EReal) :=
  bonus_real _ _ _ _ _ _ (row_r hR t r j) (row_k hR t r j) (sig_real _) (sig_real _) (by rw [blk12]; exact (hR 0 0 j).2.2.2.2.2.1) (by rw [blk13]; exact (hR 0 0 j).2.2.2.2.2.2)

/-- Written keys of equal rates and scales are equal. -/
theorem kd_congr {k ic ic' ka ka' : EReal} (h : ic = ic') (h' : ka = ka') : kdRow k ic ka = kdRow k ic' ka' := by
  rw [h, h']

/-- Gated normalised keys of equal keys and rates are equal. -/
theorem kn_congr {f f' : Fin 512 → EReal} {a a' : EReal} {k : Fin 512} (h : f = f') (h' : a = a') : knRow f k * a = knRow f' k * a' := by
  rw [h, h']

/-- Products under the bonus of equal rates and scales are equal. -/
theorem bonus_congr {r k i j i' j' ka ka' rk rk' : EReal} (hi : i = i') (hj : j = j') (hka : ka = ka') (hrk : rk = rk') :
    bonusRow r (kdRow k i ka) (kdRow k j ka) rk = bonusRow r (kdRow k i' ka') (kdRow k j' ka') rk' := by
  rw [hi, hj, hka, hrk]

/-- Weighted values of equal weights and values are equal. -/
theorem sum_congr {f f' : Fin 512 → EReal} {k : Fin 512} {v v' : EReal} (h : ∀ j, f j = f' j) (h' : v = v') : headSum f k * v = headSum f' k * v' := by
  rw [funext h, h']

end Cert.Rw
end
-- ==== Proof.Rw.Value.lean ====
module

public import proofs.«01_k».proof.Proof.Rw.Point

@[expose] public section

set_option maxRecDepth 16384
set_option maxHeartbeats 2000000

noncomputable section

open Idealize.ShloMosaic Idealize.ShloMosaic.TcCoe Idealize.SL.Sem

namespace Cert.Rw

open Cert.Kernel6Ideal Cert.Kernel6Ideal.Gen

variable (m : (ℓ : Loc nD τ Cert.Kernel6Ideal.sig) → Buf (Elt Ideal) ℓ)

/-- The receptance after the run are the reference's. -/
theorem final17 (c : Dev nD) : (dats m 0 c).arrAt 17 cfg0.N = Cert.Reference6Ideal.Read.val_main_v160 (F := Ideal) (m ((c : Thread nD τ).loc main_arg0) : FVec Ideal S8x2048x1920 .f32) (m ((c : Thread nD τ).loc main_arg3) : FVec Ideal S4x1920 .f32) := by
  refine (dats m 0 c).arrAt_eq_of_covers 17 _ (by decide +kernel) fun t _ y => ?_
  blk_simp
  rw [after0_17]
  have hN : t.val < 32 := t.isLt
  idx_vars y
  obtain rfl : y0 = 0 := Subsingleton.elim _ _
  have he : (((cfg0.win 17).blk t).view.emb (ix3 0 y1 y2) : S8x2048x512.Idx) = ix3 (bat t) (⟨512 * (t.val % 4) + y1.val, by omega⟩ : Fin 2048) y2 := by
    unfold bat
    blk_ext [idx t]
    all_goals omega
  rw [he]
  refine (out17 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y1 y2).trans ?_
  rw [bmix_eq, ref_r]

/-- The values after the run are the reference's. -/
theorem final18 (c : Dev nD) : (dats m 0 c).arrAt 18 cfg0.N = Cert.Reference6Ideal.Read.val_main_v161 (F := Ideal) (m ((c : Thread nD τ).loc main_arg0) : FVec Ideal S8x2048x1920 .f32) (m ((c : Thread nD τ).loc main_arg1) : FVec Ideal S16384x128 .f32) (m ((c : Thread nD τ).loc main_arg2) : FVec Ideal S8x2048x512 .f32) (m ((c : Thread nD τ).loc main_arg3) : FVec Ideal S4x1920 .f32) (m ((c : Thread nD τ).loc main_arg12) : FVec Ideal S3x512 .f32) (m ((c : Thread nD τ).loc main_arg13) : FVec Ideal S3x32x512 .f32) := by
  refine (dats m 0 c).arrAt_eq_of_covers 18 _ (by decide +kernel) fun t _ y => ?_
  blk_simp
  rw [after0_18]
  have hN : t.val < 32 := t.isLt
  idx_vars y
  obtain rfl : y0 = 0 := Subsingleton.elim _ _
  have he : (((cfg0.win 18).blk t).view.emb (ix3 0 y1 y2) : S8x2048x512.Idx) = ix3 (bat t) (⟨512 * (t.val % 4) + y1.val, by omega⟩ : Fin 2048) y2 := by
    unfold bat
    blk_ext [idx t]
    all_goals omega
  rw [he]
  refine (out18 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y1 y2).trans ?_
  rw [bmix_eq, ref_vo]
  exact v_at m c t y1 y2

/-- The normalised keys after the run are the reference's. -/
theorem final19 (c : Dev nD) (hR : Reals m c) : (dats m 0 c).arrAt 19 cfg0.N = Cert.Reference6Ideal.Read.val_main_v162 (F := Ideal) (m ((c : Thread nD τ).loc main_arg0) : FVec Ideal S8x2048x1920 .f32) (m ((c : Thread nD τ).loc main_arg3) : FVec Ideal S4x1920 .f32) (m ((c : Thread nD τ).loc main_arg9) : FVec Ideal S4x512 .f32) := by
  refine (dats m 0 c).arrAt_eq_of_covers 19 _ (by decide +kernel) fun t _ y => ?_
  blk_simp
  rw [after0_19]
  have hN : t.val < 32 := t.isLt
  idx_vars y
  obtain rfl : y0 = 0 := Subsingleton.elim _ _
  have he : (((cfg0.win 19).blk t).view.emb (ix3 0 y1 y2) : S8x2048x512.Idx) = ix3 (bat t) (⟨512 * (t.val % 4) + y1.val, by omega⟩ : Fin 2048) y2 := by
    unfold bat
    blk_ext [idx t]
    all_goals omega
  rw [he]
  refine (out19 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y1 y2 (blk14 m c t) (by rw [bmix_eq]; exact bk_real hR t y1)).trans ?_
  rw [bmix_eq, ref_kno]
  exact congrArg (fun f => knRow f y2) (bk_at m c t y1)

/-- The log decays after the run are the reference's. -/
theorem final20 (c : Dev nD) : (dats m 0 c).arrAt 20 cfg0.N = Cert.Reference6Ideal.Read.val_main_v165 (F := Ideal) (m ((c : Thread nD τ).loc main_arg0) : FVec Ideal S8x2048x1920 .f32) (m ((c : Thread nD τ).loc main_arg3) : FVec Ideal S4x1920 .f32) (m ((c : Thread nD τ).loc main_arg4) : FVec Ideal S4x2x512 .f32) (m ((c : Thread nD τ).loc main_arg5) : FVec Ideal S4x2x64x512 .f32) := by
  refine (dats m 0 c).arrAt_eq_of_covers 20 _ (by decide +kernel) fun t _ y => ?_
  blk_simp
  rw [after0_20]
  have hN : t.val < 32 := t.isLt
  idx_vars y
  obtain rfl : y0 = 0 := Subsingleton.elim _ _
  have he : (((cfg0.win 20).blk t).view.emb (ix4 0 y1 y2 y3) : S8x2x2048x512.Idx) = ix4 (bat t) y1 (⟨512 * (t.val % 4) + y2.val, by omega⟩ : Fin 2048) y3 := by
    unfold bat
    blk_ext [idx t]
    all_goals omega
  rw [he]
  refine (out20 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y1 y2 y3).trans ?_
  rw [bmix_eq]
  obtain rfl | rfl : y1 = 0 ∨ y1 = 1 := by omega
  · rw [ref_lwo0]
    exact lw_at m c t y2 _ 0 y3 (by simp)
  · rw [ref_lwo1]
    exact lw_at m c t y2 _ 1 y3 (by simp)

/-- The gated normalised keys after the run are the reference's. -/
theorem final22 (c : Dev nD) (hR : Reals m c) : (dats m 0 c).arrAt 22 cfg0.N = Cert.Reference6Ideal.Read.val_main_v175 (F := Ideal) (m ((c : Thread nD τ).loc main_arg0) : FVec Ideal S8x2048x1920 .f32) (m ((c : Thread nD τ).loc main_arg3) : FVec Ideal S4x1920 .f32) (m ((c : Thread nD τ).loc main_arg6) : FVec Ideal S4x2x512 .f32) (m ((c : Thread nD τ).loc main_arg7) : FVec Ideal S4x2x64x512 .f32) (m ((c : Thread nD τ).loc main_arg9) : FVec Ideal S4x512 .f32) := by
  refine (dats m 0 c).arrAt_eq_of_covers 22 _ (by decide +kernel) fun t _ y => ?_
  blk_simp
  rw [after0_22]
  have hN : t.val < 32 := t.isLt
  idx_vars y
  obtain rfl : y0 = 0 := Subsingleton.elim _ _
  have he : (((cfg0.win 22).blk t).view.emb (ix4 0 y1 y2 y3) : S8x2x2048x512.Idx) = ix4 (bat t) y1 (⟨512 * (t.val % 4) + y2.val, by omega⟩ : Fin 2048) y3 := by
    unfold bat
    blk_ext [idx t]
    all_goals omega
  rw [he]
  refine (out22 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y1 y2 y3 (blk14 m c t) (by rw [bmix_eq]; exact bk_real hR t y2)).trans ?_
  rw [bmix_eq]
  obtain rfl | rfl : y1 = 0 ∨ y1 = 1 := by omega
  · rw [ref_ico0]
    exact kn_congr (bk_at m c t y2) (ic_at m c t y2 _ 0 y3 (by simp))
  · rw [ref_ico1]
    exact kn_congr (bk_at m c t y2) (ic_at m c t y2 _ 1 y3 (by simp))

/-- The output gates after the run are the reference's. -/
theorem final23 (c : Dev nD) : (dats m 0 c).arrAt 23 cfg0.N = Cert.Reference6Ideal.Read.val_main_v176 (F := Ideal) (m ((c : Thread nD τ).loc main_arg0) : FVec Ideal S8x2048x1920 .f32) (m ((c : Thread nD τ).loc main_arg3) : FVec Ideal S4x1920 .f32) (m ((c : Thread nD τ).loc main_arg8) : FVec Ideal S4x128x512 .f32) := by
  refine (dats m 0 c).arrAt_eq_of_covers 23 _ (by decide +kernel) fun t _ y => ?_
  blk_simp
  rw [after0_23]
  have hN : t.val < 32 := t.isLt
  idx_vars y
  obtain rfl : y0 = 0 := Subsingleton.elim _ _
  have he : (((cfg0.win 23).blk t).view.emb (ix3 0 y1 y2) : S8x2048x512.Idx) = ix3 (bat t) (⟨512 * (t.val % 4) + y1.val, by omega⟩ : Fin 2048) y2 := by
    unfold bat
    blk_ext [idx t]
    all_goals omega
  rw [he]
  refine (out23 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y1 y2).trans ?_
  rw [bmix_eq, ref_g]
  exact congrArg (gRow _) (funext fun x => blk10 m c t x y2)

end Cert.Rw
end
-- ==== Proof.Rw.Value2.lean ====
module

public import proofs.«01_k».proof.Proof.Rw.Point

@[expose] public section

set_option maxRecDepth 16384
set_option maxHeartbeats 2000000

noncomputable section

open Idealize.ShloMosaic Idealize.ShloMosaic.TcCoe Idealize.SL.Sem

namespace Cert.Rw

open Cert.Kernel6Ideal Cert.Kernel6Ideal.Gen

variable (m : (ℓ : Loc nD τ Cert.Kernel6Ideal.sig) → Buf (Elt Ideal) ℓ)

/-- The written keys after the run are the reference's. -/
theorem final21 (c : Dev nD) : (dats m 0 c).arrAt 21 cfg0.N = Cert.Reference6Ideal.Read.val_main_v169 (F := Ideal) (m ((c : Thread nD τ).loc main_arg0) : FVec Ideal S8x2048x1920 .f32) (m ((c : Thread nD τ).loc main_arg3) : FVec Ideal S4x1920 .f32) (m ((c : Thread nD τ).loc main_arg6) : FVec Ideal S4x2x512 .f32) (m ((c : Thread nD τ).loc main_arg7) : FVec Ideal S4x2x64x512 .f32) (m ((c : Thread nD τ).loc main_arg10) : FVec Ideal S4x512 .f32) := by
  refine (dats m 0 c).arrAt_eq_of_covers 21 _ (by decide +kernel) fun t _ y => ?_
  blk_simp
  rw [after0_21]
  have hN : t.val < 32 := t.isLt
  idx_vars y
  obtain rfl : y0 = 0 := Subsingleton.elim _ _
  have he : (((cfg0.win 21).blk t).view.emb (ix4 0 y1 y2 y3) : S8x2x2048x512.Idx) = ix4 (bat t) y1 (⟨512 * (t.val % 4) + y2.val, by omega⟩ : Fin 2048) y3 := by
    unfold bat
    blk_ext [idx t]
    all_goals omega
  rw [he]
  refine (out21 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y1 y2 y3).trans ?_
  rw [bmix_eq]
  obtain rfl | rfl : y1 = 0 ∨ y1 = 1 := by omega
  · rw [ref_kdo0]
    exact kd_congr (ic_at m c t y2 _ 0 y3 (by simp)) (blk12 m c t y3)
  · rw [ref_kdo1]
    exact kd_congr (ic_at m c t y2 _ 1 y3 (by simp)) (blk12 m c t y3)

end Cert.Rw
end
-- ==== Proof.Rw.Value3.lean ====
module

public import proofs.«01_k».proof.Proof.Rw.Point

@[expose] public section

set_option maxRecDepth 16384
set_option maxHeartbeats 2000000

noncomputable section

open Idealize.ShloMosaic Idealize.ShloMosaic.TcCoe Idealize.SL.Sem

namespace Cert.Rw

open Cert.Kernel6Ideal Cert.Kernel6Ideal.Gen

variable (m : (ℓ : Loc nD τ Cert.Kernel6Ideal.sig) → Buf (Elt Ideal) ℓ)

/-- The bonus after the run are the reference's. -/
theorem final24 (c : Dev nD) (hR : Reals m c) : (dats m 0 c).arrAt 24 cfg0.N = Cert.Reference6Ideal.Read.val_main_v178 (F := Ideal) (m ((c : Thread nD τ).loc main_arg0) : FVec Ideal S8x2048x1920 .f32) (m ((c : Thread nD τ).loc main_arg1) : FVec Ideal S16384x128 .f32) (m ((c : Thread nD τ).loc main_arg2) : FVec Ideal S8x2048x512 .f32) (m ((c : Thread nD τ).loc main_arg3) : FVec Ideal S4x1920 .f32) (m ((c : Thread nD τ).loc main_arg6) : FVec Ideal S4x2x512 .f32) (m ((c : Thread nD τ).loc main_arg7) : FVec Ideal S4x2x64x512 .f32) (m ((c : Thread nD τ).loc main_arg10) : FVec Ideal S4x512 .f32) (m ((c : Thread nD τ).loc main_arg11) : FVec Ideal S4x8x64 .f32) (m ((c : Thread nD τ).loc main_arg12) : FVec Ideal S3x512 .f32) (m ((c : Thread nD τ).loc main_arg13) : FVec Ideal S3x32x512 .f32) := by
  refine (dats m 0 c).arrAt_eq_of_covers 24 _ (by decide +kernel) fun t _ y => ?_
  blk_simp
  rw [after0_24]
  have hN : t.val < 32 := t.isLt
  idx_vars y
  obtain rfl : y0 = 0 := Subsingleton.elim _ _
  have he : (((cfg0.win 24).blk t).view.emb (ix3 0 y1 y2) : S8x2048x512.Idx) = ix3 (bat t) (⟨512 * (t.val % 4) + y1.val, by omega⟩ : Fin 2048) y2 := by
    unfold bat
    blk_ext [idx t]
    all_goals omega
  rw [he]
  refine (out24 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y1 y2 (blk14 m c t) (by rw [bmix_eq]; exact bonus_at hR t y1)).trans ?_
  rw [bmix_eq, ref_bonus]
  exact sum_congr (fun j => bonus_congr (ic_at m c t y1 _ 0 j (by simp)) (ic_at m c t y1 _ 1 j (by simp)) (blk12 m c t j) (blk13 m c t j)) (v_at m c t y1 y2)

end Cert.Rw
end
-- ==== Proof.Claims.Rw.lean ====
module

public import proofs.«01_k».proof.Defs
public import proofs.«01_k».proof.Proof.Rw.Frame
public import proofs.«01_k».proof.Proof.Rw.Run
public import proofs.«01_k».proof.Proof.Rw.Value
public import proofs.«01_k».proof.Proof.Rw.Value2
public import proofs.«01_k».proof.Proof.Rw.Value3
public import proofs.«01_k».proof.Proof.Gen.Reference6Ideal.Read
public import proofs.«01_k».proof.Proof.Gen.Reference6Ideal.Run
public import Idealize.ShloMosaic.Lib.Claim

@[expose] public section

set_option maxRecDepth 16384

noncomputable section

open Idealize.ShloMosaic Idealize.ShloMosaic.TcCoe Idealize.SL.Sem

namespace Cert.Rw

/-- The reference of the time mix's preparation keeps its arguments and every counter ends at zero. -/
theorem frame_reference : Cert.quiescent_Reference6Ideal := by
  intro m g _
  refine (θ_run _ _ _).mono (fun r h => ⟨fun c => (h c).2.2.2.2.2.2.2.2, sem_eq_zero_of_no_sems (by decide) r.2⟩) (Cert.Reference6Ideal.Value.run (F := Ideal) m g)

/-- The floor under the squared norm that the kernel holds is the rounding of the named real. -/
theorem preserves : Cert.preserves_Kernel6_Kernel6Ideal :=
  IdealRules.named_const.statement Cert.Kernel6Ideal.κ "norm_floor_sq" .f32 0x179ABE15#32 _ rfl

/-- The precondition's side conditions. -/
theorem facts : Cert.Pre_finite_keys.Facts :=
  ⟨by decide, by decide, by decide, by decide, by decide, by decide, by decide, by decide, by decide, by decide, by decide, by decide, by decide⟩

/-- A number whose absolute value lies below infinity is a real. -/
theorem finite_real (x : Ideal .f32) (h : FloatOps.absf x < Ideal.ofBits .f32 2139095040#32) : ∃ r : ℝ, x = (r : EReal) := by
  have e : Ideal.ofBits .f32 2139095040#32 = (⊤ : EReal) := by simp [Ideal.ofBits, Ideal.ieee]
  rw [e] at h
  change max (x : EReal) (-x) < ⊤ at h
  rw [max_lt_iff] at h
  cases x using EReal.rec with
  | bot => simp at h
  | top => simp at h
  | coe r => exact ⟨r, rfl⟩

/-- A conjunction of four bits is set only when all are. -/
theorem all_four (p q r s : Bool) : IntOp.andi (IntOp.andi (IntOp.andi (BitVec.ofBool p) (BitVec.ofBool q)) (BitVec.ofBool r)) (BitVec.ofBool s) = 1#1 → p = true ∧ q = true ∧ r = true ∧ s = true := by
  revert p q r s
  decide

/-- What the precondition says of a first column: the sequence, its weight, the head keys' scale and the bonus's. -/
theorem first_half [Cert.Pre_finite_keys.Facts] (x0 : FVec Ideal Cert.Pre_finite_keys.S8x2048x1920 .f32) (x1 : FVec Ideal Cert.Pre_finite_keys.S16384x128 .f32) (x2 : FVec Ideal Cert.Pre_finite_keys.S8x2048x512 .f32) (x3 : FVec Ideal Cert.Pre_finite_keys.S4x1920 .f32) (x4 : FVec Ideal Cert.Pre_finite_keys.S4x2x512 .f32) (x5 : FVec Ideal Cert.Pre_finite_keys.S4x2x64x512 .f32) (x6 : FVec Ideal Cert.Pre_finite_keys.S4x2x512 .f32) (x7 : FVec Ideal Cert.Pre_finite_keys.S4x2x64x512 .f32) (x8 : FVec Ideal Cert.Pre_finite_keys.S4x128x512 .f32) (x9 : FVec Ideal Cert.Pre_finite_keys.S4x512 .f32) (x10 : FVec Ideal Cert.Pre_finite_keys.S4x512 .f32) (x11 : FVec Ideal Cert.Pre_finite_keys.S4x8x64 .f32) (x12 : FVec Ideal Cert.Pre_finite_keys.S3x512 .f32) (x13 : FVec Ideal Cert.Pre_finite_keys.S3x32x512 .f32)
    (h : Cert.Pre_finite_keys.fn (F := Ideal) x0 x1 x2 x3 x4 x5 x6 x7 x8 x9 x10 x11 x12 x13 = fun _ => 1#1) (b : Fin 8) (s : Fin 2048) (k : Fin 512) :
    (∃ x : ℝ, x0 (ix3 b s ⟨k.val, by omega⟩) = (x : EReal)) ∧ (∃ x : ℝ, x3 (ix2 3 ⟨k.val, by omega⟩) = (x : EReal))
    ∧ (∃ x : ℝ, x9 (ix2 3 k) = (x : EReal)) ∧ (∃ x : ℝ, x11 (ix3 3 ⟨k.val / 64, by omega⟩ ⟨k.val % 64, by omega⟩) = (x : EReal)) := by
  have e := congrFun h (ix3 b s ⟨k.val, by omega⟩)
  revert e
  pointwise [Cert.Pre_finite_keys.fn, Cert.Pre_finite_keys.fn_part1]
  intro e
  have hb := all_four _ _ _ _ e
  exact ⟨finite_real _ (of_decide_eq_true hb.1), finite_real _ (of_decide_eq_true hb.2.1), finite_real _ (of_decide_eq_true hb.2.2.1), finite_real _ (of_decide_eq_true hb.2.2.2)⟩

/-- What the precondition says of a second column: the sequence, its weight and the written keys' scale. -/
theorem second_half [Cert.Pre_finite_keys.Facts] (x0 : FVec Ideal Cert.Pre_finite_keys.S8x2048x1920 .f32) (x1 : FVec Ideal Cert.Pre_finite_keys.S16384x128 .f32) (x2 : FVec Ideal Cert.Pre_finite_keys.S8x2048x512 .f32) (x3 : FVec Ideal Cert.Pre_finite_keys.S4x1920 .f32) (x4 : FVec Ideal Cert.Pre_finite_keys.S4x2x512 .f32) (x5 : FVec Ideal Cert.Pre_finite_keys.S4x2x64x512 .f32) (x6 : FVec Ideal Cert.Pre_finite_keys.S4x2x512 .f32) (x7 : FVec Ideal Cert.Pre_finite_keys.S4x2x64x512 .f32) (x8 : FVec Ideal Cert.Pre_finite_keys.S4x128x512 .f32) (x9 : FVec Ideal Cert.Pre_finite_keys.S4x512 .f32) (x10 : FVec Ideal Cert.Pre_finite_keys.S4x512 .f32) (x11 : FVec Ideal Cert.Pre_finite_keys.S4x8x64 .f32) (x12 : FVec Ideal Cert.Pre_finite_keys.S3x512 .f32) (x13 : FVec Ideal Cert.Pre_finite_keys.S3x32x512 .f32)
    (h : Cert.Pre_finite_keys.fn (F := Ideal) x0 x1 x2 x3 x4 x5 x6 x7 x8 x9 x10 x11 x12 x13 = fun _ => 1#1) (b : Fin 8) (s : Fin 2048) (k : Fin 512) :
    (∃ x : ℝ, x0 (ix3 b s ⟨512 + k.val, by omega⟩) = (x : EReal)) ∧ (∃ x : ℝ, x3 (ix2 3 ⟨512 + k.val, by omega⟩) = (x : EReal))
    ∧ (∃ x : ℝ, x10 (ix2 3 k) = (x : EReal)) := by
  have e := congrFun h (ix3 b s ⟨512 + k.val, by omega⟩)
  revert e
  pointwise [Cert.Pre_finite_keys.fn, Cert.Pre_finite_keys.fn_part1]
  intro e
  have hb := all_four _ _ _ _ e
  exact ⟨finite_real _ (of_decide_eq_true hb.1), finite_real _ (of_decide_eq_true hb.2.1), finite_real _ (of_decide_eq_true hb.2.2.1)⟩

/-- Under the precondition the numbers that the kernel splits are reals. -/
theorem reals [Cert.Pre_finite_keys.Facts] (m : (ℓ : Loc Cert.Kernel6Ideal.nD Cert.Kernel6Ideal.τ Cert.Kernel6Ideal.sig) → Buf (Elt Ideal) ℓ)
    (hpre : Cert.Pre_Kernel6Ideal_finite_keys m) (c : Dev Cert.Kernel6Ideal.nD) : Reals m c := by
  intro b s k
  have h1 := first_half _ _ _ _ _ _ _ _ _ _ _ _ _ _ (hpre c) b s k
  have h2 := second_half _ _ _ _ _ _ _ _ _ _ _ _ _ _ (hpre c) b s k
  exact ⟨h1.1, h2.1, h1.2.1, h2.2.1, h1.2.2.1, h2.2.2, h1.2.2.2⟩

set_option maxHeartbeats 4000000 in
/-- The kernel and the reference of the time mix's preparation compute the same eight arrays, where the sequence's receptance and key columns, their mixing weights and the scales of the keys and of the bonus are finite. -/
theorem algebraic [Cert.Pre_finite_keys.Facts] : Cert.algebraic_Kernel6Ideal_Reference6Ideal_pre_finite_keys := by
  pair_intro
  · run_from Cert.Kernel6Ideal.Value.run_blocks m g
  · refine (θ_run _ _ _).mono (fun r h c => ?_) (Cert.Reference6Ideal.Value.run (F := Ideal) m' g')
    obtain ⟨h0, h1, h2, h3, h4, h5, h6, h7, h8, h9, h10, h11, h12, h13⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
    · refine (Cert.Reference6Ideal.Read.val_main_v160_eq _).trans (Eq.trans ?_ (final17 m c).symm)
      simp only [StableHlo.launchContents, h0, h1, h2, h3, h4, h5, h6, h7, h8, h9, h10, h11, h12, h13]
    · refine (Cert.Reference6Ideal.Read.val_main_v161_eq _).trans (Eq.trans ?_ (final18 m c).symm)
      simp only [StableHlo.launchContents, h0, h1, h2, h3, h4, h5, h6, h7, h8, h9, h10, h11, h12, h13]
    · refine (Cert.Reference6Ideal.Read.val_main_v162_eq _).trans (Eq.trans ?_ (final19 m c (reals m hpre c)).symm)
      simp only [StableHlo.launchContents, h0, h1, h2, h3, h4, h5, h6, h7, h8, h9, h10, h11, h12, h13]
    · refine (Cert.Reference6Ideal.Read.val_main_v165_eq _).trans (Eq.trans ?_ (final20 m c).symm)
      simp only [StableHlo.launchContents, h0, h1, h2, h3, h4, h5, h6, h7, h8, h9, h10, h11, h12, h13]
    · refine (Cert.Reference6Ideal.Read.val_main_v169_eq _).trans (Eq.trans ?_ (final21 m c).symm)
      simp only [StableHlo.launchContents, h0, h1, h2, h3, h4, h5, h6, h7, h8, h9, h10, h11, h12, h13]
    · refine (Cert.Reference6Ideal.Read.val_main_v175_eq _).trans (Eq.trans ?_ (final22 m c (reals m hpre c)).symm)
      simp only [StableHlo.launchContents, h0, h1, h2, h3, h4, h5, h6, h7, h8, h9, h10, h11, h12, h13]
    · refine (Cert.Reference6Ideal.Read.val_main_v176_eq _).trans (Eq.trans ?_ (final23 m c).symm)
      simp only [StableHlo.launchContents, h0, h1, h2, h3, h4, h5, h6, h7, h8, h9, h10, h11, h12, h13]
    · refine (Cert.Reference6Ideal.Read.val_main_v178_eq _).trans (Eq.trans ?_ (final24 m c (reals m hpre c)).symm)
      simp only [StableHlo.launchContents, h0, h1, h2, h3, h4, h5, h6, h7, h8, h9, h10, h11, h12, h13]

end Cert.Rw
end
-- ==== Proof.lean ====
/- Everything the certificate claims: the frames of the eighteen programs, what the idealisation keeps, and
    that every kernel whose value is claimed computes its reference. Each part is proved in a module of its own
    under Proof/Claims/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Claims.Mla
public import proofs.«01_k».proof.Proof.Claims.Ffn
public import proofs.«01_k».proof.Proof.Claims.Inproj
public import proofs.«01_k».proof.Proof.Claims.Merge
public import proofs.«01_k».proof.Proof.Claims.Conv
public import proofs.«01_k».proof.Proof.Claims.Rw
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value

@[expose] public section

noncomputable section

namespace Cert.Proof

open Idealize.ShloMosaic Idealize.SL.Sem

/-- Every claim of the certificate holds. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Mla.facts,
    Cert.Rw.facts,
    fun m ρ _ => Cert.Kernel.Gen.frame m ρ,
    fun m ρ _ => Cert.KernelIdeal.Gen.frame m ρ,
    fun m ρ _ => Cert.KernelIdeal.Gen.frame m ρ,
    Cert.Mla.frame_reference,
    fun m ρ _ => Cert.Mla.frame_reference m ρ trivial,
    fun m ρ _ => Cert.Kernel2.Gen.frame m ρ,
    fun m ρ _ => Cert.Kernel2Ideal.Gen.frame m ρ,
    Cert.Ffn.frame_reference,
    fun m ρ _ => Cert.Kernel3.Gen.frame m ρ,
    fun m ρ _ => Cert.Kernel3Ideal.Gen.frame m ρ,
    Cert.Inproj.frame_reference,
    fun m ρ _ => Cert.Kernel4.Gen.frame m ρ,
    fun m ρ _ => Cert.Kernel4Ideal.Gen.frame m ρ,
    Cert.Merge.frame_reference,
    fun m ρ _ => Cert.Kernel5.Gen.frame m ρ,
    fun m ρ _ => Cert.Kernel5Ideal.Gen.frame m ρ,
    Cert.Conv.frame_reference,
    fun m ρ _ => Cert.Kernel6.Gen.frame m ρ,
    fun m ρ _ => Cert.Kernel6Ideal.Gen.frame m ρ,
    fun m ρ _ => Cert.Kernel6Ideal.Gen.frame m ρ,
    Cert.Rw.frame_reference,
    fun m ρ _ => Cert.Rw.frame_reference m ρ trivial,
    Cert.Mla.preserves,
    @Cert.Mla.algebraic Cert.Mla.facts,
    trivial,
    Cert.Ffn.algebraic,
    trivial,
    Cert.Inproj.algebraic,
    trivial,
    Cert.Merge.algebraic,
    trivial,
    Cert.Conv.algebraic,
    Cert.Rw.preserves,
    @Cert.Rw.algebraic Cert.Rw.facts⟩

end Cert.Proof

end
